-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![1024, 128]⟩ ⟨2, ![1024, 4096]⟩ 1 32 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![128, 1024]⟩ ⟨2, ![4096, 1024]⟩ 0 32 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v83) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x1024 : Shape := ⟨3, ![2, 1024, 1024]⟩
abbrev S1024x1024 : Shape := ⟨2, ![1024, 1024]⟩
abbrev S2x128 : Shape := ⟨2, ![2, 128]⟩
abbrev S128x6144 : Shape := ⟨2, ![128, 6144]⟩
abbrev S1024x128 : Shape := ⟨2, ![1024, 128]⟩
abbrev S128x1024 : Shape := ⟨2, ![128, 1024]⟩
abbrev S2x6144 : Shape := ⟨2, ![2, 6144]⟩
abbrev S2x1024 : Shape := ⟨2, ![2, 1024]⟩
abbrev S_ : Shape := ⟨0, ![]⟩
abbrev S2x1024x1 : Shape := ⟨3, ![2, 1024, 1]⟩
abbrev S2x1x1024 : Shape := ⟨3, ![2, 1, 1024]⟩
abbrev S2x1024x8x128 : Shape := ⟨4, ![2, 1024, 8, 128]⟩
abbrev S2x8x1024x1024 : Shape := ⟨4, ![2, 8, 1024, 1024]⟩
abbrev S2x8x1024 : Shape := ⟨3, ![2, 8, 1024]⟩
abbrev S2x8x1024x1 : Shape := ⟨4, ![2, 8, 1024, 1]⟩
abbrev S2x8x128x1024 : Shape := ⟨4, ![2, 8, 128, 1024]⟩
abbrev S2048x1024 : Shape := ⟨2, ![2048, 1024]⟩
abbrev S2x7x128x1024 : Shape := ⟨4, ![2, 7, 128, 1024]⟩
abbrev S2x6x32x1024 : Shape := ⟨4, ![2, 6, 32, 1024]⟩
abbrev S2x7 : Shape := ⟨2, ![2, 7]⟩
abbrev S2x6 : Shape := ⟨2, ![2, 6]⟩
abbrev S1x1 : Shape := ⟨2, ![1, 1]⟩
abbrev S1x1x128x1024 : Shape := ⟨4, ![1, 1, 128, 1024]⟩
abbrev S1x1x32x1024 : Shape := ⟨4, ![1, 1, 32, 1024]⟩
abbrev S32x1024 : Shape := ⟨2, ![32, 1024]⟩
abbrev S2x1024x128 : Shape := ⟨3, ![2, 1024, 128]⟩

abbrev nBuf : Space → Nat
  | .hbm => 163
  | .vmem => 10
  | .smem => 0
  | _ => 0

abbrev hbmTy0_0 (i : Nat) : BufTy := match i % 128 with
  | 0 => ⟨S2x1024x1024, .f32⟩
  | 1 => ⟨S1024x1024, .f32⟩
  | 2 => ⟨S1024x1024, .f32⟩
  | 3 => ⟨S1024x1024, .f32⟩
  | 4 => ⟨S1024x1024, .f32⟩
  | 5 => ⟨S2x128, .f32⟩
  | 6 => ⟨S128x6144, .f32⟩
  | 7 => ⟨S1024x128, .f32⟩
  | 8 => ⟨S128x1024, .f32⟩
  | 9 => ⟨S2x6144, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024x1, .f32⟩
  | 19 => ⟨S_, .f32⟩
  | 20 => ⟨S2x1024x1, .f32⟩
  | 21 => ⟨S2x1024x1, .f32⟩
  | 22 => ⟨S_, .i32⟩
  | 23 => ⟨S_, .f32⟩
  | 24 => ⟨S2x1024, .f32⟩
  | 25 => ⟨S2x1024x1, .f32⟩
  | 26 => ⟨S_, .f32⟩
  | 27 => ⟨S2x1024x1, .f32⟩
  | 28 => ⟨S2x1024x1, .f32⟩
  | 29 => ⟨S2x1024x1024, .f32⟩
  | 30 => ⟨S2x1024x1024, .f32⟩
  | 31 => ⟨S2x1024x1024, .f32⟩
  | 32 => ⟨S_, .f32⟩
  | 33 => ⟨S_, .f32⟩
  | 34 => ⟨S_, .f32⟩
  | 35 => ⟨S_, .f32⟩
  | 36 => ⟨S2x1024, .f32⟩
  | 37 => ⟨S2x1024x1, .f32⟩
  | 38 => ⟨S2x1024x1, .f32⟩
  | 39 => ⟨S2x1024x1, .f32⟩
  | 40 => ⟨S_, .f32⟩
  | 41 => ⟨S_, .i1⟩
  | 42 => ⟨S_, .f32⟩
  | 43 => ⟨S_, .f32⟩
  | 44 => ⟨S2x1024x1, .f32⟩
  | 45 => ⟨S2x1024x1, .f32⟩
  | 46 => ⟨S2x1024x1024, .f32⟩
  | 47 => ⟨S2x1024x1024, .f32⟩
  | 48 => ⟨S_, .f32⟩
  | 49 => ⟨S2x1024x1, .f32⟩
  | 50 => ⟨S2x1024x1, .f32⟩
  | 51 => ⟨S2x1024x1, .f32⟩
  | 52 => ⟨S2x1024x1024, .f32⟩
  | 53 => ⟨S2x1024x1024, .f32⟩
  | 54 => ⟨S2x1x1024, .f32⟩
  | 55 => ⟨S_, .f32⟩
  | 56 => ⟨S2x1x1024, .f32⟩
  | 57 => ⟨S2x1x1024, .f32⟩
  | 58 => ⟨S2x1024x1024, .f32⟩
  | 59 => ⟨S2x1024x1024, .f32⟩
  | 60 => ⟨S2x1x1024, .f32⟩
  | 61 => ⟨S2x1024x1024, .f32⟩
  | 62 => ⟨S2x1024x1024, .f32⟩
  | 63 => ⟨S2x1024x1024, .f32⟩
  | 64 => ⟨S2x1024x8x128, .f32⟩
  | 65 => ⟨S2x1024x1024, .f32⟩
  | 66 => ⟨S2x1024x8x128, .f32⟩
  | 67 => ⟨S2x1024x1024, .f32⟩
  | 68 => ⟨S2x1024x8x128, .f32⟩
  | 69 => ⟨S2x8x1024x1024, .f32⟩
  | 70 => ⟨S_, .f32⟩
  | 71 => ⟨S2x8x1024x1024, .f32⟩
  | 72 => ⟨S2x8x1024x1024, .f32⟩
  | 73 => ⟨S_, .f32⟩
  | 74 => ⟨S2x8x1024, .f32⟩
  | 75 => ⟨S_, .f32⟩
  | 76 => ⟨S2x8x1024, .f32⟩
  | 77 => ⟨S2x8x1024, .f32⟩
  | 78 => ⟨S2x8x1024x1, .f32⟩
  | 79 => ⟨S2x8x1024x1024, .f32⟩
  | 80 => ⟨S2x8x1024x1024, .f32⟩
  | 81 => ⟨S2x8x1024x1024, .f32⟩
  | 82 => ⟨S_, .f32⟩
  | 83 => ⟨S2x8x1024, .f32⟩
  | 84 => ⟨S2x8x1024x1, .f32⟩
  | 85 => ⟨S2x8x1024x1024, .f32⟩
  | 86 => ⟨S2x8x1024x1024, .f32⟩
  | 87 => ⟨S2x8x128x1024, .f32⟩
  | 88 => ⟨S2x1024x8x128, .f32⟩
  | 89 => ⟨S2x1024x1024, .f32⟩
  | 90 => ⟨S2x1024x1024, .f32⟩
  | 91 => ⟨S2048x1024, .f32⟩
  | 92 => ⟨S2048x1024, .f32⟩
  | 93 => ⟨S2x1024x1024, .f32⟩
  | 94 => ⟨S2x1x1024, .f32⟩
  | 95 => ⟨S2x1024x1024, .f32⟩
  | 96 => ⟨S2x1024x1024, .f32⟩
  | 97 => ⟨S2x1024x1024, .f32⟩
  | 98 => ⟨S_, .f32⟩
  | 99 => ⟨S2x1024, .f32⟩
  | 100 => ⟨S2x1024x1, .f32⟩
  | 101 => ⟨S_, .f32⟩
  | 102 => ⟨S2x1024x1, .f32⟩
  | 103 => ⟨S2x1024x1, .f32⟩
  | 104 => ⟨S_, .i32⟩
  | 105 => ⟨S_, .f32⟩
  | 106 => ⟨S2x1024, .f32⟩
  | 107 => ⟨S2x1024x1, .f32⟩
  | 108 => ⟨S_, .f32⟩
  | 109 => ⟨S2x1024x1, .f32⟩
  | 110 => ⟨S2x1024x1, .f32⟩
  | 111 => ⟨S2x1024x1024, .f32⟩
  | 112 => ⟨S2x1024x1024, .f32⟩
  | 113 => ⟨S2x1024x1024, .f32⟩
  | 114 => ⟨S_, .f32⟩
  | 115 => ⟨S_, .f32⟩
  | 116 => ⟨S_, .f32⟩
  | 117 => ⟨S_, .f32⟩
  | 118 => ⟨S2x1024, .f32⟩
  | 119 => ⟨S2x1024x1, .f32⟩
  | 120 => ⟨S2x1024x1, .f32⟩
  | 121 => ⟨S2x1024x1, .f32⟩
  | 122 => ⟨S_, .f32⟩
  | 123 => ⟨S_, .i1⟩
  | 124 => ⟨S_, .f32⟩
  | 125 => ⟨S_, .f32⟩
  | 126 => ⟨S2x1024x1, .f32⟩
  | 127 => ⟨S2x1024x1, .f32⟩
  | _ => ⟨S2x1024x1024, .f32⟩

abbrev hbmTy0_1 (i : Nat) : BufTy := match i % 128 with
  | 0 => ⟨S2x1024x1024, .f32⟩
  | 1 => ⟨S2x1024x1024, .f32⟩
  | 2 => ⟨S_, .f32⟩
  | 3 => ⟨S2x1024x1, .f32⟩
  | 4 => ⟨S2x1024x1, .f32⟩
  | 5 => ⟨S2x1024x1, .f32⟩
  | 6 => ⟨S2x1024x1024, .f32⟩
  | 7 => ⟨S2x1024x1024, .f32⟩
  | 8 => ⟨S2x1x1024, .f32⟩
  | 9 => ⟨S_, .f32⟩
  | 10 => ⟨S2x1x1024, .f32⟩
  | 11 => ⟨S2x1x1024, .f32⟩
  | 12 => ⟨S2x1024x1024, .f32⟩
  | 13 => ⟨S2x1024x1024, .f32⟩
  | 14 => ⟨S2x1x1024, .f32⟩
  | 15 => ⟨S2x1024x1024, .f32⟩
  | 16 => ⟨S2x1024x1024, .f32⟩
  | 17 => ⟨S2x1024x128, .f32⟩
  | 18 => ⟨S2x1024x128, .f32⟩
  | 19 => ⟨S2x1024x128, .f32⟩
  | 20 => ⟨S_, .f32⟩
  | 21 => ⟨S2x1024x128, .f32⟩
  | 22 => ⟨S2x1024x128, .f32⟩
  | 23 => ⟨S_, .f32⟩
  | 24 => ⟨S2x1024x128, .f32⟩
  | 25 => ⟨S2x1024x128, .f32⟩
  | 26 => ⟨S2x1024x128, .f32⟩
  | 27 => ⟨S2x1024x1024, .f32⟩
  | 28 => ⟨S2048x1024, .f32⟩
  | 29 => ⟨S2048x1024, .f32⟩
  | 30 => ⟨S2x1024x1024, .f32⟩
  | 31 => ⟨S2x1x1024, .f32⟩
  | 32 => ⟨S2x1024x1024, .f32⟩
  | 33 => ⟨S2x1024x1024, .f32⟩
  | 34 => ⟨S2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S2x7x128x1024, .f32⟩
  | .local _ .vmem, ⟨3, _⟩ => ⟨S2x6x32x1024, .f32⟩
  | .local _ .vmem, ⟨4, _⟩ => ⟨S2x7x128x1024, .f32⟩
  | .local _ .vmem, ⟨5, _⟩ => ⟨S2048x1024, .f32⟩
  | .local _ .vmem, ⟨6, _⟩ => ⟨S2048x1024, .f32⟩
  | .local _ .vmem, ⟨7, _⟩ => ⟨S2x7x128x1024, .f32⟩
  | .local _ .vmem, ⟨8, _⟩ => ⟨S2x6x32x1024, .f32⟩
  | .local _ .vmem, ⟨9, _⟩ => ⟨S2x7x128x1024, .f32⟩
  | _, _ => ⟨S2x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => false
  | _ => false

abbrev dmaSemScoped : Fin 164 → Bool
  | ⟨i, _⟩ => dmaSemScopedAt i

abbrev sig : RefSig :=
  (ofTc nBuf bufTy 2 164 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_1 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_2 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_3 : Ref sig .tc := ⟨.hbm, 70, rfl⟩
abbrev main_v35 : Ref sig .tc := ⟨.hbm, 71, rfl⟩
abbrev main_v36 : Ref sig .tc := ⟨.hbm, 72, rfl⟩
abbrev main_cst_4 : Ref sig .tc := ⟨.hbm, 73, rfl⟩
abbrev main_v37 : Ref sig .tc := ⟨.hbm, 74, rfl⟩
abbrev main_cst_5 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_7 : Ref sig .tc := ⟨.hbm, 98, rfl⟩
abbrev main_v59 : Ref sig .tc := ⟨.hbm, 99, rfl⟩
abbrev main_v60 : Ref sig .tc := ⟨.hbm, 100, rfl⟩
abbrev main_cst_8 : Ref sig .tc := ⟨.hbm, 101, rfl⟩
abbrev main_v61 : Ref sig .tc := ⟨.hbm, 102, rfl⟩
abbrev main_v62 : Ref sig .tc := ⟨.hbm, 103, rfl⟩
abbrev main_c_9 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_cst_1 : Ref sig .tc := ⟨.hbm, 115, rfl⟩
abbrev main_call1_v8 : Ref sig .tc := ⟨.hbm, 116, rfl⟩
abbrev main_call1_cst_2 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_v12 : Ref sig .tc := ⟨.hbm, 121, rfl⟩
abbrev main_call1_cst_3 : Ref sig .tc := ⟨.hbm, 122, rfl⟩
abbrev main_call1_v13 : Ref sig .tc := ⟨.hbm, 123, rfl⟩
abbrev main_call1_cst_4 : Ref sig .tc := ⟨.hbm, 124, rfl⟩
abbrev main_call1_call0_v0 : Ref sig .tc := ⟨.hbm, 125, rfl⟩
abbrev main_call1_call0_v1 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_10 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_cst_11 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_cst_12 : Ref sig .tc := ⟨.hbm, 148, rfl⟩
abbrev main_v82 : Ref sig .tc := ⟨.hbm, 149, rfl⟩
abbrev main_v83 : Ref sig .tc := ⟨.hbm, 150, rfl⟩
abbrev main_cst_13 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc1_stg0_0 : Ref sig .tc := ⟨.vmem, 5, rfl⟩
abbrev cc1_stg1_0 : Ref sig .tc := ⟨.vmem, 6, rfl⟩
abbrev cc1_scratch0 : Ref sig .tc := ⟨.vmem, 7, rfl⟩
abbrev cc1_scratch1 : Ref sig .tc := ⟨.vmem, 8, rfl⟩
abbrev cc1_scratch2 : Ref sig .tc := ⟨.vmem, 9, rfl⟩
abbrev cc0_sem0_0 : DmaSem sig := 0
abbrev cc0_sem1_0 : DmaSem sig := 1
abbrev cc1_sem0_0 : DmaSem sig := 82
abbrev cc1_sem1_0 : DmaSem sig := 83
abbrev barrier0 : Sem sig := 0
abbrev barrier1 : Sem sig := 1

abbrev nD : Nat := 32
abbrev τ : Topo := Topo.v7x

variable {F : FTy → Type} [FloatOps F]

abbrev grid0 : Pipeline.Grid := .none

def k0_dev1 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_82 : BitVec 32 := 1#32
  let v124 : BitVec 32 := Scalar.muli v70 c1_i32_82
  let v125 : BitVec 32 := Scalar.addi c0_i32_83 v124
  v125.toNat
def k0_dev2 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_85 : BitVec 32 := 1#32
  let v126 : BitVec 32 := Scalar.muli v96 c1_i32_85
  let v127 : BitVec 32 := Scalar.addi c0_i32_86 v126
  v127.toNat
def k0_dev3 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_88 : BitVec 32 := 1#32
  let v128 : BitVec 32 := Scalar.muli v109 c1_i32_88
  let v129 : BitVec 32 := Scalar.addi c0_i32_89 v128
  v129.toNat
def k0_dev4 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_91 : BitVec 32 := 1#32
  let v130 : BitVec 32 := Scalar.muli v122 c1_i32_91
  let v131 : BitVec 32 := Scalar.addi c0_i32_92 v130
  v131.toNat
def k0_off1 (d0 : Dev nD) (c0_i32_97 : BitVec 32) : Fin 2 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v135 : BitVec 32 := Scalar.subi v43 c0_i32_97
  let c8_i32_98 : BitVec 32 := 8#32
  let c0_i32_99 : BitVec 32 := 0#32
  let v136 : BitVec 1 := Scalar.cmpi .eq c8_i32_98 c0_i32_99
  let c1_i32_100 : BitVec 32 := 1#32
  let v137 : BitVec 32 := Scalar.select v136 c1_i32_100 c8_i32_98
  let v138 : BitVec 32 := Scalar.remsi v135 v137
  let c0_i32_102 : BitVec 32 := 0#32
  let v140 : BitVec 1 := Scalar.cmpi .slt v138 c0_i32_102
  let c0_i32_103 : BitVec 32 := 0#32
  let v141 : BitVec 1 := Scalar.cmpi .slt v137 c0_i32_103
  let v142 : BitVec 1 := Scalar.xori v140 v141
  let c0_i32_101 : BitVec 32 := 0#32
  let v139 : BitVec 1 := Scalar.cmpi .ne v138 c0_i32_101
  let v143 : BitVec 1 := Scalar.andi v142 v139
  let v144 : BitVec 32 := Scalar.addi v138 v137
  let v145 : BitVec 32 := Scalar.select v143 v144 v138
  let c128_i32 : BitVec 32 := 128#32
  let v146 : BitVec 32 := Scalar.muli v145 c128_i32
  let v147 : BitVec 32 := Scalar.addi c0_i32_104 v146
  let c0_i32_115 : BitVec 32 := 0#32
  ![v147.toNat, 0]
def k0_dev5 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_111 : BitVec 32 := 1#32
  let v148 : BitVec 32 := Scalar.muli v70 c1_i32_111
  let v149 : BitVec 32 := Scalar.addi c0_i32_112 v148
  v149.toNat
def k0_off2 (d0 : Dev nD) (c0_i32_116 : BitVec 32) : Fin 2 → Nat :=
  let c1024_i32 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v157 : BitVec 32 := Scalar.addi v43 c0_i32_116
  let c8_i32_117 : BitVec 32 := 8#32
  let c0_i32_118 : BitVec 32 := 0#32
  let v158 : BitVec 1 := Scalar.cmpi .eq c8_i32_117 c0_i32_118
  let c1_i32_119 : BitVec 32 := 1#32
  let v159 : BitVec 32 := Scalar.select v158 c1_i32_119 c8_i32_117
  let v160 : BitVec 32 := Scalar.remsi v157 v159
  let c0_i32_121 : BitVec 32 := 0#32
  let v162 : BitVec 1 := Scalar.cmpi .slt v160 c0_i32_121
  let c0_i32_122 : BitVec 32 := 0#32
  let v163 : BitVec 1 := Scalar.cmpi .slt v159 c0_i32_122
  let v164 : BitVec 1 := Scalar.xori v162 v163
  let c0_i32_120 : BitVec 32 := 0#32
  let v161 : BitVec 1 := Scalar.cmpi .ne v160 c0_i32_120
  let v165 : BitVec 1 := Scalar.andi v164 v161
  let v166 : BitVec 32 := Scalar.addi v160 v159
  let v167 : BitVec 32 := Scalar.select v165 v166 v160
  let c128_i32_123 : BitVec 32 := 128#32
  let v168 : BitVec 32 := Scalar.muli v167 c128_i32_123
  let v169 : BitVec 32 := Scalar.addi c1024_i32 v168
  let c0_i32_134 : BitVec 32 := 0#32
  ![v169.toNat, 0]
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_130 : BitVec 32 := 1#32
  let v170 : BitVec 32 := Scalar.muli v96 c1_i32_130
  let v171 : BitVec 32 := Scalar.addi c0_i32_131 v170
  v171.toNat
def k0_off3 (d0 : Dev nD) (c0_i32_156 : BitVec 32) : Fin 2 → Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v191 : BitVec 32 := Scalar.subi v43 c0_i32_156
  let c1_i32_157 : BitVec 32 := 1#32
  let v192 : BitVec 32 := Scalar.subi v191 c1_i32_157
  let c8_i32_158 : BitVec 32 := 8#32
  let c0_i32_159 : BitVec 32 := 0#32
  let v193 : BitVec 1 := Scalar.cmpi .eq c8_i32_158 c0_i32_159
  let c1_i32_160 : BitVec 32 := 1#32
  let v194 : BitVec 32 := Scalar.select v193 c1_i32_160 c8_i32_158
  let v195 : BitVec 32 := Scalar.remsi v192 v194
  let c0_i32_162 : BitVec 32 := 0#32
  let v197 : BitVec 1 := Scalar.cmpi .slt v195 c0_i32_162
  let c0_i32_163 : BitVec 32 := 0#32
  let v198 : BitVec 1 := Scalar.cmpi .slt v194 c0_i32_163
  let v199 : BitVec 1 := Scalar.xori v197 v198
  let c0_i32_161 : BitVec 32 := 0#32
  let v196 : BitVec 1 := Scalar.cmpi .ne v195 c0_i32_161
  let v200 : BitVec 1 := Scalar.andi v199 v196
  let v201 : BitVec 32 := Scalar.addi v195 v194
  let v202 : BitVec 32 := Scalar.select v200 v201 v195
  let c128_i32_164 : BitVec 32 := 128#32
  let v203 : BitVec 32 := Scalar.muli v202 c128_i32_164
  let v204 : BitVec 32 := Scalar.addi c0_i32_165 v203
  let v205 : Index := Scalar.indexCast v204
  let c0_166 : Index := 0#32
  ![v205.toNat, 0]
def k0_off4 (d0 : Dev nD) (c0_i32_193 : BitVec 32) : Fin 2 → Nat :=
  let c1024_i32_202 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v225 : BitVec 32 := Scalar.addi v43 c0_i32_193
  let c1_i32_194 : BitVec 32 := 1#32
  let v226 : BitVec 32 := Scalar.addi v225 c1_i32_194
  let c8_i32_195 : BitVec 32 := 8#32
  let c0_i32_196 : BitVec 32 := 0#32
  let v227 : BitVec 1 := Scalar.cmpi .eq c8_i32_195 c0_i32_196
  let c1_i32_197 : BitVec 32 := 1#32
  let v228 : BitVec 32 := Scalar.select v227 c1_i32_197 c8_i32_195
  let v229 : BitVec 32 := Scalar.remsi v226 v228
  let c0_i32_199 : BitVec 32 := 0#32
  let v231 : BitVec 1 := Scalar.cmpi .slt v229 c0_i32_199
  let c0_i32_200 : BitVec 32 := 0#32
  let v232 : BitVec 1 := Scalar.cmpi .slt v228 c0_i32_200
  let v233 : BitVec 1 := Scalar.xori v231 v232
  let c0_i32_198 : BitVec 32 := 0#32
  let v230 : BitVec 1 := Scalar.cmpi .ne v229 c0_i32_198
  let v234 : BitVec 1 := Scalar.andi v233 v230
  let v235 : BitVec 32 := Scalar.addi v229 v228
  let v236 : BitVec 32 := Scalar.select v234 v235 v229
  let c128_i32_201 : BitVec 32 := 128#32
  let v237 : BitVec 32 := Scalar.muli v236 c128_i32_201
  let v238 : BitVec 32 := Scalar.addi c1024_i32_202 v237
  let v239 : Index := Scalar.indexCast v238
  let c0_203 : Index := 0#32
  ![v239.toNat, 0]
def k0_dev7 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_223 : BitVec 32 := 1#32
  let v260 : BitVec 32 := Scalar.muli v70 c1_i32_223
  let v261 : BitVec 32 := Scalar.addi c0_i32_224 v260
  v261.toNat
def k0_dev8 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_243 : BitVec 32 := 1#32
  let v282 : BitVec 32 := Scalar.muli v96 c1_i32_243
  let v283 : BitVec 32 := Scalar.addi c0_i32_244 v282
  v283.toNat
def k0_dev9 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_337 : BitVec 32 := 1#32
  let v372 : BitVec 32 := Scalar.muli v70 c1_i32_337
  let v373 : BitVec 32 := Scalar.addi c0_i32_338 v372
  v373.toNat
def k0_dev10 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_357 : BitVec 32 := 1#32
  let v394 : BitVec 32 := Scalar.muli v96 c1_i32_357
  let v395 : BitVec 32 := Scalar.addi c0_i32_358 v394
  v395.toNat
def k0_dev11 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_450 : BitVec 32 := 1#32
  let v484 : BitVec 32 := Scalar.muli v70 c1_i32_450
  let v485 : BitVec 32 := Scalar.addi c0_i32_451 v484
  v485.toNat
def k0_dev12 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_470 : BitVec 32 := 1#32
  let v506 : BitVec 32 := Scalar.muli v96 c1_i32_470
  let v507 : BitVec 32 := Scalar.addi c0_i32_471 v506
  v507.toNat
def k0_dev13 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_563 : BitVec 32 := 1#32
  let v596 : BitVec 32 := Scalar.muli v70 c1_i32_563
  let v597 : BitVec 32 := Scalar.addi c0_i32_564 v596
  v597.toNat
def k0_dev14 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_583 : BitVec 32 := 1#32
  let v618 : BitVec 32 := Scalar.muli v96 c1_i32_583
  let v619 : BitVec 32 := Scalar.addi c0_i32_584 v618
  v619.toNat
def k0_dev15 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_676 : BitVec 32 := 1#32
  let v708 : BitVec 32 := Scalar.muli v70 c1_i32_676
  let v709 : BitVec 32 := Scalar.addi c0_i32_677 v708
  v709.toNat
def k0_dev16 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_696 : BitVec 32 := 1#32
  let v730 : BitVec 32 := Scalar.muli v96 c1_i32_696
  let v731 : BitVec 32 := Scalar.addi c0_i32_697 v730
  v731.toNat
def k0_dev17 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_789 : BitVec 32 := 1#32
  let v820 : BitVec 32 := Scalar.muli v70 c1_i32_789
  let v821 : BitVec 32 := Scalar.addi c0_i32_790 v820
  v821.toNat
def k0_dev18 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_809 : BitVec 32 := 1#32
  let v842 : BitVec 32 := Scalar.muli v96 c1_i32_809
  let v843 : BitVec 32 := Scalar.addi c0_i32_810 v842
  v843.toNat
def k0_off5 (d0 : Dev nD) (c0_i32_901 : BitVec 32) : Fin 2 → Nat :=
  let c0_i32_909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_887 : BitVec 32 := 1#32
  let v919 : BitVec 32 := Scalar.addi v43 c1_i32_887
  let c8_i32_888 : BitVec 32 := 8#32
  let c0_i32_889 : BitVec 32 := 0#32
  let v920 : BitVec 1 := Scalar.cmpi .eq c8_i32_888 c0_i32_889
  let c1_i32_890 : BitVec 32 := 1#32
  let v921 : BitVec 32 := Scalar.select v920 c1_i32_890 c8_i32_888
  let v922 : BitVec 32 := Scalar.remsi v919 v921
  let c0_i32_892 : BitVec 32 := 0#32
  let v924 : BitVec 1 := Scalar.cmpi .slt v922 c0_i32_892
  let c0_i32_893 : BitVec 32 := 0#32
  let v925 : BitVec 1 := Scalar.cmpi .slt v921 c0_i32_893
  let v926 : BitVec 1 := Scalar.xori v924 v925
  let c0_i32_891 : BitVec 32 := 0#32
  let v923 : BitVec 1 := Scalar.cmpi .ne v922 c0_i32_891
  let v927 : BitVec 1 := Scalar.andi v926 v923
  let v928 : BitVec 32 := Scalar.addi v922 v921
  let v929 : BitVec 32 := Scalar.select v927 v928 v922
  let c128_i32_908 : BitVec 32 := 128#32
  let v952 : BitVec 32 := Scalar.muli v929 c128_i32_908
  let v953 : BitVec 32 := Scalar.addi c0_i32_909 v952
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v941 : BitVec 32 := Scalar.subi v19 c0_i32_901
  let c4_i32_902 : BitVec 32 := 4#32
  let c0_i32_903 : BitVec 32 := 0#32
  let v942 : BitVec 1 := Scalar.cmpi .eq c4_i32_902 c0_i32_903
  let c1_i32_904 : BitVec 32 := 1#32
  let v943 : BitVec 32 := Scalar.select v942 c1_i32_904 c4_i32_902
  let v944 : BitVec 32 := Scalar.remsi v941 v943
  let c0_i32_906 : BitVec 32 := 0#32
  let v946 : BitVec 1 := Scalar.cmpi .slt v944 c0_i32_906
  let c0_i32_907 : BitVec 32 := 0#32
  let v947 : BitVec 1 := Scalar.cmpi .slt v943 c0_i32_907
  let v948 : BitVec 1 := Scalar.xori v946 v947
  let c0_i32_905 : BitVec 32 := 0#32
  let v945 : BitVec 1 := Scalar.cmpi .ne v944 c0_i32_905
  let v949 : BitVec 1 := Scalar.andi v948 v945
  let v950 : BitVec 32 := Scalar.addi v944 v943
  let v951 : BitVec 32 := Scalar.select v949 v950 v944
  let c32_i32_910 : BitVec 32 := 32#32
  let v954 : BitVec 32 := Scalar.muli v951 c32_i32_910
  let v955 : BitVec 32 := Scalar.addi v953 v954
  let c0_i32_921 : BitVec 32 := 0#32
  ![v955.toNat, 0]
def k0_dev19 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_917 : BitVec 32 := 1#32
  let v956 : BitVec 32 := Scalar.muli v109 c1_i32_917
  let v957 : BitVec 32 := Scalar.addi c0_i32_918 v956
  v957.toNat
def k0_off6 (d0 : Dev nD) (c0_i32_922 : BitVec 32) : Fin 2 → Nat :=
  let c1024_i32_930 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_894 : BitVec 32 := 7#32
  let v930 : BitVec 32 := Scalar.addi v43 c7_i32_894
  let c8_i32_895 : BitVec 32 := 8#32
  let c0_i32_896 : BitVec 32 := 0#32
  let v931 : BitVec 1 := Scalar.cmpi .eq c8_i32_895 c0_i32_896
  let c1_i32_897 : BitVec 32 := 1#32
  let v932 : BitVec 32 := Scalar.select v931 c1_i32_897 c8_i32_895
  let v933 : BitVec 32 := Scalar.remsi v930 v932
  let c0_i32_899 : BitVec 32 := 0#32
  let v935 : BitVec 1 := Scalar.cmpi .slt v933 c0_i32_899
  let c0_i32_900 : BitVec 32 := 0#32
  let v936 : BitVec 1 := Scalar.cmpi .slt v932 c0_i32_900
  let v937 : BitVec 1 := Scalar.xori v935 v936
  let c0_i32_898 : BitVec 32 := 0#32
  let v934 : BitVec 1 := Scalar.cmpi .ne v933 c0_i32_898
  let v938 : BitVec 1 := Scalar.andi v937 v934
  let v939 : BitVec 32 := Scalar.addi v933 v932
  let v940 : BitVec 32 := Scalar.select v938 v939 v933
  let c128_i32_929 : BitVec 32 := 128#32
  let v976 : BitVec 32 := Scalar.muli v940 c128_i32_929
  let v977 : BitVec 32 := Scalar.addi c1024_i32_930 v976
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v965 : BitVec 32 := Scalar.addi v19 c0_i32_922
  let c4_i32_923 : BitVec 32 := 4#32
  let c0_i32_924 : BitVec 32 := 0#32
  let v966 : BitVec 1 := Scalar.cmpi .eq c4_i32_923 c0_i32_924
  let c1_i32_925 : BitVec 32 := 1#32
  let v967 : BitVec 32 := Scalar.select v966 c1_i32_925 c4_i32_923
  let v968 : BitVec 32 := Scalar.remsi v965 v967
  let c0_i32_927 : BitVec 32 := 0#32
  let v970 : BitVec 1 := Scalar.cmpi .slt v968 c0_i32_927
  let c0_i32_928 : BitVec 32 := 0#32
  let v971 : BitVec 1 := Scalar.cmpi .slt v967 c0_i32_928
  let v972 : BitVec 1 := Scalar.xori v970 v971
  let c0_i32_926 : BitVec 32 := 0#32
  let v969 : BitVec 1 := Scalar.cmpi .ne v968 c0_i32_926
  let v973 : BitVec 1 := Scalar.andi v972 v969
  let v974 : BitVec 32 := Scalar.addi v968 v967
  let v975 : BitVec 32 := Scalar.select v973 v974 v968
  let c32_i32_931 : BitVec 32 := 32#32
  let v978 : BitVec 32 := Scalar.muli v975 c32_i32_931
  let v979 : BitVec 32 := Scalar.addi v977 v978
  let c0_i32_942 : BitVec 32 := 0#32
  ![v979.toNat, 0]
def k0_dev20 (d0 : Dev nD) : Nat :=
  let c0_i32_939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_938 : BitVec 32 := 1#32
  let v980 : BitVec 32 := Scalar.muli v122 c1_i32_938
  let v981 : BitVec 32 := Scalar.addi c0_i32_939 v980
  v981.toNat
def k0_off7 (d0 : Dev nD) (c0_i32_964 : BitVec 32) : Fin 2 → Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_887 : BitVec 32 := 1#32
  let v919 : BitVec 32 := Scalar.addi v43 c1_i32_887
  let c8_i32_888 : BitVec 32 := 8#32
  let c0_i32_889 : BitVec 32 := 0#32
  let v920 : BitVec 1 := Scalar.cmpi .eq c8_i32_888 c0_i32_889
  let c1_i32_890 : BitVec 32 := 1#32
  let v921 : BitVec 32 := Scalar.select v920 c1_i32_890 c8_i32_888
  let v922 : BitVec 32 := Scalar.remsi v919 v921
  let c0_i32_892 : BitVec 32 := 0#32
  let v924 : BitVec 1 := Scalar.cmpi .slt v922 c0_i32_892
  let c0_i32_893 : BitVec 32 := 0#32
  let v925 : BitVec 1 := Scalar.cmpi .slt v921 c0_i32_893
  let v926 : BitVec 1 := Scalar.xori v924 v925
  let c0_i32_891 : BitVec 32 := 0#32
  let v923 : BitVec 1 := Scalar.cmpi .ne v922 c0_i32_891
  let v927 : BitVec 1 := Scalar.andi v926 v923
  let v928 : BitVec 32 := Scalar.addi v922 v921
  let v929 : BitVec 32 := Scalar.select v927 v928 v922
  let c128_i32_972 : BitVec 32 := 128#32
  let v1013 : BitVec 32 := Scalar.muli v929 c128_i32_972
  let v1014 : BitVec 32 := Scalar.addi c0_i32_973 v1013
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1001 : BitVec 32 := Scalar.subi v19 c0_i32_964
  let c1_i32_965 : BitVec 32 := 1#32
  let v1002 : BitVec 32 := Scalar.subi v1001 c1_i32_965
  let c4_i32_966 : BitVec 32 := 4#32
  let c0_i32_967 : BitVec 32 := 0#32
  let v1003 : BitVec 1 := Scalar.cmpi .eq c4_i32_966 c0_i32_967
  let c1_i32_968 : BitVec 32 := 1#32
  let v1004 : BitVec 32 := Scalar.select v1003 c1_i32_968 c4_i32_966
  let v1005 : BitVec 32 := Scalar.remsi v1002 v1004
  let c0_i32_970 : BitVec 32 := 0#32
  let v1007 : BitVec 1 := Scalar.cmpi .slt v1005 c0_i32_970
  let c0_i32_971 : BitVec 32 := 0#32
  let v1008 : BitVec 1 := Scalar.cmpi .slt v1004 c0_i32_971
  let v1009 : BitVec 1 := Scalar.xori v1007 v1008
  let c0_i32_969 : BitVec 32 := 0#32
  let v1006 : BitVec 1 := Scalar.cmpi .ne v1005 c0_i32_969
  let v1010 : BitVec 1 := Scalar.andi v1009 v1006
  let v1011 : BitVec 32 := Scalar.addi v1005 v1004
  let v1012 : BitVec 32 := Scalar.select v1010 v1011 v1005
  let c32_i32_974 : BitVec 32 := 32#32
  let v1015 : BitVec 32 := Scalar.muli v1012 c32_i32_974
  let v1016 : BitVec 32 := Scalar.addi v1014 v1015
  let v1017 : Index := Scalar.indexCast v1016
  let c0_975 : Index := 0#32
  ![v1017.toNat, 0]
def k0_off8 (d0 : Dev nD) (c0_i32_1002 : BitVec 32) : Fin 2 → Nat :=
  let c1024_i32_1011 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_894 : BitVec 32 := 7#32
  let v930 : BitVec 32 := Scalar.addi v43 c7_i32_894
  let c8_i32_895 : BitVec 32 := 8#32
  let c0_i32_896 : BitVec 32 := 0#32
  let v931 : BitVec 1 := Scalar.cmpi .eq c8_i32_895 c0_i32_896
  let c1_i32_897 : BitVec 32 := 1#32
  let v932 : BitVec 32 := Scalar.select v931 c1_i32_897 c8_i32_895
  let v933 : BitVec 32 := Scalar.remsi v930 v932
  let c0_i32_899 : BitVec 32 := 0#32
  let v935 : BitVec 1 := Scalar.cmpi .slt v933 c0_i32_899
  let c0_i32_900 : BitVec 32 := 0#32
  let v936 : BitVec 1 := Scalar.cmpi .slt v932 c0_i32_900
  let v937 : BitVec 1 := Scalar.xori v935 v936
  let c0_i32_898 : BitVec 32 := 0#32
  let v934 : BitVec 1 := Scalar.cmpi .ne v933 c0_i32_898
  let v938 : BitVec 1 := Scalar.andi v937 v934
  let v939 : BitVec 32 := Scalar.addi v933 v932
  let v940 : BitVec 32 := Scalar.select v938 v939 v933
  let c128_i32_1010 : BitVec 32 := 128#32
  let v1049 : BitVec 32 := Scalar.muli v940 c128_i32_1010
  let v1050 : BitVec 32 := Scalar.addi c1024_i32_1011 v1049
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1037 : BitVec 32 := Scalar.addi v19 c0_i32_1002
  let c1_i32_1003 : BitVec 32 := 1#32
  let v1038 : BitVec 32 := Scalar.addi v1037 c1_i32_1003
  let c4_i32_1004 : BitVec 32 := 4#32
  let c0_i32_1005 : BitVec 32 := 0#32
  let v1039 : BitVec 1 := Scalar.cmpi .eq c4_i32_1004 c0_i32_1005
  let c1_i32_1006 : BitVec 32 := 1#32
  let v1040 : BitVec 32 := Scalar.select v1039 c1_i32_1006 c4_i32_1004
  let v1041 : BitVec 32 := Scalar.remsi v1038 v1040
  let c0_i32_1008 : BitVec 32 := 0#32
  let v1043 : BitVec 1 := Scalar.cmpi .slt v1041 c0_i32_1008
  let c0_i32_1009 : BitVec 32 := 0#32
  let v1044 : BitVec 1 := Scalar.cmpi .slt v1040 c0_i32_1009
  let v1045 : BitVec 1 := Scalar.xori v1043 v1044
  let c0_i32_1007 : BitVec 32 := 0#32
  let v1042 : BitVec 1 := Scalar.cmpi .ne v1041 c0_i32_1007
  let v1046 : BitVec 1 := Scalar.andi v1045 v1042
  let v1047 : BitVec 32 := Scalar.addi v1041 v1040
  let v1048 : BitVec 32 := Scalar.select v1046 v1047 v1041
  let c32_i32_1012 : BitVec 32 := 32#32
  let v1051 : BitVec 32 := Scalar.muli v1048 c32_i32_1012
  let v1052 : BitVec 32 := Scalar.addi v1050 v1051
  let v1053 : Index := Scalar.indexCast v1052
  let c0_1013 : Index := 0#32
  ![v1053.toNat, 0]
def k0_dev21 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_1035 : BitVec 32 := 1#32
  let v1076 : BitVec 32 := Scalar.muli v109 c1_i32_1035
  let v1077 : BitVec 32 := Scalar.addi c0_i32_1036 v1076
  v1077.toNat
def k0_dev22 (d0 : Dev nD) : Nat :=
  let c0_i32_1057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_1056 : BitVec 32 := 1#32
  let v1100 : BitVec 32 := Scalar.muli v122 c1_i32_1056
  let v1101 : BitVec 32 := Scalar.addi c0_i32_1057 v1100
  v1101.toNat
def k0_dev23 (d0 : Dev nD) : Nat :=
  let c0_i32_1154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_1153 : BitVec 32 := 1#32
  let v1196 : BitVec 32 := Scalar.muli v109 c1_i32_1153
  let v1197 : BitVec 32 := Scalar.addi c0_i32_1154 v1196
  v1197.toNat
def k0_dev24 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_1174 : BitVec 32 := 1#32
  let v1220 : BitVec 32 := Scalar.muli v122 c1_i32_1174
  let v1221 : BitVec 32 := Scalar.addi c0_i32_1175 v1220
  v1221.toNat
def k0_off9 (d0 : Dev nD) (c0_i32_1256 : BitVec 32) : Fin 2 → Nat :=
  let c0_i32_1264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_887 : BitVec 32 := 1#32
  let v919 : BitVec 32 := Scalar.addi v43 c1_i32_887
  let c8_i32_888 : BitVec 32 := 8#32
  let c0_i32_889 : BitVec 32 := 0#32
  let v920 : BitVec 1 := Scalar.cmpi .eq c8_i32_888 c0_i32_889
  let c1_i32_890 : BitVec 32 := 1#32
  let v921 : BitVec 32 := Scalar.select v920 c1_i32_890 c8_i32_888
  let v922 : BitVec 32 := Scalar.remsi v919 v921
  let c0_i32_892 : BitVec 32 := 0#32
  let v924 : BitVec 1 := Scalar.cmpi .slt v922 c0_i32_892
  let c0_i32_893 : BitVec 32 := 0#32
  let v925 : BitVec 1 := Scalar.cmpi .slt v921 c0_i32_893
  let v926 : BitVec 1 := Scalar.xori v924 v925
  let c0_i32_891 : BitVec 32 := 0#32
  let v923 : BitVec 1 := Scalar.cmpi .ne v922 c0_i32_891
  let v927 : BitVec 1 := Scalar.andi v926 v923
  let v928 : BitVec 32 := Scalar.addi v922 v921
  let v929 : BitVec 32 := Scalar.select v927 v928 v922
  let c128_i32_1263 : BitVec 32 := 128#32
  let v1313 : BitVec 32 := Scalar.muli v929 c128_i32_1263
  let v1314 : BitVec 32 := Scalar.addi c0_i32_1264 v1313
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1255 : BitVec 32 := 1#32
  let v1301 : BitVec 32 := Scalar.addi v19 c1_i32_1255
  let v1302 : BitVec 32 := Scalar.subi v1301 c0_i32_1256
  let c4_i32_1257 : BitVec 32 := 4#32
  let c0_i32_1258 : BitVec 32 := 0#32
  let v1303 : BitVec 1 := Scalar.cmpi .eq c4_i32_1257 c0_i32_1258
  let c1_i32_1259 : BitVec 32 := 1#32
  let v1304 : BitVec 32 := Scalar.select v1303 c1_i32_1259 c4_i32_1257
  let v1305 : BitVec 32 := Scalar.remsi v1302 v1304
  let c0_i32_1261 : BitVec 32 := 0#32
  let v1307 : BitVec 1 := Scalar.cmpi .slt v1305 c0_i32_1261
  let c0_i32_1262 : BitVec 32 := 0#32
  let v1308 : BitVec 1 := Scalar.cmpi .slt v1304 c0_i32_1262
  let v1309 : BitVec 1 := Scalar.xori v1307 v1308
  let c0_i32_1260 : BitVec 32 := 0#32
  let v1306 : BitVec 1 := Scalar.cmpi .ne v1305 c0_i32_1260
  let v1310 : BitVec 1 := Scalar.andi v1309 v1306
  let v1311 : BitVec 32 := Scalar.addi v1305 v1304
  let v1312 : BitVec 32 := Scalar.select v1310 v1311 v1305
  let c32_i32_1265 : BitVec 32 := 32#32
  let v1315 : BitVec 32 := Scalar.muli v1312 c32_i32_1265
  let v1316 : BitVec 32 := Scalar.addi v1314 v1315
  let c0_i32_1276 : BitVec 32 := 0#32
  ![v1316.toNat, 0]
def k0_dev25 (d0 : Dev nD) : Nat :=
  let c0_i32_1273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_1272 : BitVec 32 := 1#32
  let v1317 : BitVec 32 := Scalar.muli v109 c1_i32_1272
  let v1318 : BitVec 32 := Scalar.addi c0_i32_1273 v1317
  v1318.toNat
def k0_off10 (d0 : Dev nD) (c0_i32_1278 : BitVec 32) : Fin 2 → Nat :=
  let c1024_i32_1286 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_894 : BitVec 32 := 7#32
  let v930 : BitVec 32 := Scalar.addi v43 c7_i32_894
  let c8_i32_895 : BitVec 32 := 8#32
  let c0_i32_896 : BitVec 32 := 0#32
  let v931 : BitVec 1 := Scalar.cmpi .eq c8_i32_895 c0_i32_896
  let c1_i32_897 : BitVec 32 := 1#32
  let v932 : BitVec 32 := Scalar.select v931 c1_i32_897 c8_i32_895
  let v933 : BitVec 32 := Scalar.remsi v930 v932
  let c0_i32_899 : BitVec 32 := 0#32
  let v935 : BitVec 1 := Scalar.cmpi .slt v933 c0_i32_899
  let c0_i32_900 : BitVec 32 := 0#32
  let v936 : BitVec 1 := Scalar.cmpi .slt v932 c0_i32_900
  let v937 : BitVec 1 := Scalar.xori v935 v936
  let c0_i32_898 : BitVec 32 := 0#32
  let v934 : BitVec 1 := Scalar.cmpi .ne v933 c0_i32_898
  let v938 : BitVec 1 := Scalar.andi v937 v934
  let v939 : BitVec 32 := Scalar.addi v933 v932
  let v940 : BitVec 32 := Scalar.select v938 v939 v933
  let c128_i32_1285 : BitVec 32 := 128#32
  let v1338 : BitVec 32 := Scalar.muli v940 c128_i32_1285
  let v1339 : BitVec 32 := Scalar.addi c1024_i32_1286 v1338
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1277 : BitVec 32 := 1#32
  let v1326 : BitVec 32 := Scalar.subi v19 c1_i32_1277
  let v1327 : BitVec 32 := Scalar.addi v1326 c0_i32_1278
  let c4_i32_1279 : BitVec 32 := 4#32
  let c0_i32_1280 : BitVec 32 := 0#32
  let v1328 : BitVec 1 := Scalar.cmpi .eq c4_i32_1279 c0_i32_1280
  let c1_i32_1281 : BitVec 32 := 1#32
  let v1329 : BitVec 32 := Scalar.select v1328 c1_i32_1281 c4_i32_1279
  let v1330 : BitVec 32 := Scalar.remsi v1327 v1329
  let c0_i32_1283 : BitVec 32 := 0#32
  let v1332 : BitVec 1 := Scalar.cmpi .slt v1330 c0_i32_1283
  let c0_i32_1284 : BitVec 32 := 0#32
  let v1333 : BitVec 1 := Scalar.cmpi .slt v1329 c0_i32_1284
  let v1334 : BitVec 1 := Scalar.xori v1332 v1333
  let c0_i32_1282 : BitVec 32 := 0#32
  let v1331 : BitVec 1 := Scalar.cmpi .ne v1330 c0_i32_1282
  let v1335 : BitVec 1 := Scalar.andi v1334 v1331
  let v1336 : BitVec 32 := Scalar.addi v1330 v1329
  let v1337 : BitVec 32 := Scalar.select v1335 v1336 v1330
  let c32_i32_1287 : BitVec 32 := 32#32
  let v1340 : BitVec 32 := Scalar.muli v1337 c32_i32_1287
  let v1341 : BitVec 32 := Scalar.addi v1339 v1340
  let c0_i32_1298 : BitVec 32 := 0#32
  ![v1341.toNat, 0]
def k0_dev26 (d0 : Dev nD) : Nat :=
  let c0_i32_1295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_1294 : BitVec 32 := 1#32
  let v1342 : BitVec 32 := Scalar.muli v122 c1_i32_1294
  let v1343 : BitVec 32 := Scalar.addi c0_i32_1295 v1342
  v1343.toNat
def k0_off11 (d0 : Dev nD) (c0_i32_1320 : BitVec 32) : Fin 2 → Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_887 : BitVec 32 := 1#32
  let v919 : BitVec 32 := Scalar.addi v43 c1_i32_887
  let c8_i32_888 : BitVec 32 := 8#32
  let c0_i32_889 : BitVec 32 := 0#32
  let v920 : BitVec 1 := Scalar.cmpi .eq c8_i32_888 c0_i32_889
  let c1_i32_890 : BitVec 32 := 1#32
  let v921 : BitVec 32 := Scalar.select v920 c1_i32_890 c8_i32_888
  let v922 : BitVec 32 := Scalar.remsi v919 v921
  let c0_i32_892 : BitVec 32 := 0#32
  let v924 : BitVec 1 := Scalar.cmpi .slt v922 c0_i32_892
  let c0_i32_893 : BitVec 32 := 0#32
  let v925 : BitVec 1 := Scalar.cmpi .slt v921 c0_i32_893
  let v926 : BitVec 1 := Scalar.xori v924 v925
  let c0_i32_891 : BitVec 32 := 0#32
  let v923 : BitVec 1 := Scalar.cmpi .ne v922 c0_i32_891
  let v927 : BitVec 1 := Scalar.andi v926 v923
  let v928 : BitVec 32 := Scalar.addi v922 v921
  let v929 : BitVec 32 := Scalar.select v927 v928 v922
  let c128_i32_1327 : BitVec 32 := 128#32
  let v1374 : BitVec 32 := Scalar.muli v929 c128_i32_1327
  let v1375 : BitVec 32 := Scalar.addi c0_i32_1328 v1374
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1363 : BitVec 32 := Scalar.subi v19 c0_i32_1320
  let c4_i32_1321 : BitVec 32 := 4#32
  let c0_i32_1322 : BitVec 32 := 0#32
  let v1364 : BitVec 1 := Scalar.cmpi .eq c4_i32_1321 c0_i32_1322
  let c1_i32_1323 : BitVec 32 := 1#32
  let v1365 : BitVec 32 := Scalar.select v1364 c1_i32_1323 c4_i32_1321
  let v1366 : BitVec 32 := Scalar.remsi v1363 v1365
  let c0_i32_1325 : BitVec 32 := 0#32
  let v1368 : BitVec 1 := Scalar.cmpi .slt v1366 c0_i32_1325
  let c0_i32_1326 : BitVec 32 := 0#32
  let v1369 : BitVec 1 := Scalar.cmpi .slt v1365 c0_i32_1326
  let v1370 : BitVec 1 := Scalar.xori v1368 v1369
  let c0_i32_1324 : BitVec 32 := 0#32
  let v1367 : BitVec 1 := Scalar.cmpi .ne v1366 c0_i32_1324
  let v1371 : BitVec 1 := Scalar.andi v1370 v1367
  let v1372 : BitVec 32 := Scalar.addi v1366 v1365
  let v1373 : BitVec 32 := Scalar.select v1371 v1372 v1366
  let c32_i32_1329 : BitVec 32 := 32#32
  let v1376 : BitVec 32 := Scalar.muli v1373 c32_i32_1329
  let v1377 : BitVec 32 := Scalar.addi v1375 v1376
  let v1380 : Index := Scalar.indexCast v1377
  let c0_1334 : Index := 0#32
  ![v1380.toNat, 0]
def k0_off12 (d0 : Dev nD) (c0_i32_1356 : BitVec 32) : Fin 2 → Nat :=
  let c1024_i32_1364 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_894 : BitVec 32 := 7#32
  let v930 : BitVec 32 := Scalar.addi v43 c7_i32_894
  let c8_i32_895 : BitVec 32 := 8#32
  let c0_i32_896 : BitVec 32 := 0#32
  let v931 : BitVec 1 := Scalar.cmpi .eq c8_i32_895 c0_i32_896
  let c1_i32_897 : BitVec 32 := 1#32
  let v932 : BitVec 32 := Scalar.select v931 c1_i32_897 c8_i32_895
  let v933 : BitVec 32 := Scalar.remsi v930 v932
  let c0_i32_899 : BitVec 32 := 0#32
  let v935 : BitVec 1 := Scalar.cmpi .slt v933 c0_i32_899
  let c0_i32_900 : BitVec 32 := 0#32
  let v936 : BitVec 1 := Scalar.cmpi .slt v932 c0_i32_900
  let v937 : BitVec 1 := Scalar.xori v935 v936
  let c0_i32_898 : BitVec 32 := 0#32
  let v934 : BitVec 1 := Scalar.cmpi .ne v933 c0_i32_898
  let v938 : BitVec 1 := Scalar.andi v937 v934
  let v939 : BitVec 32 := Scalar.addi v933 v932
  let v940 : BitVec 32 := Scalar.select v938 v939 v933
  let c128_i32_1363 : BitVec 32 := 128#32
  let v1405 : BitVec 32 := Scalar.muli v940 c128_i32_1363
  let v1406 : BitVec 32 := Scalar.addi c1024_i32_1364 v1405
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1394 : BitVec 32 := Scalar.addi v19 c0_i32_1356
  let c4_i32_1357 : BitVec 32 := 4#32
  let c0_i32_1358 : BitVec 32 := 0#32
  let v1395 : BitVec 1 := Scalar.cmpi .eq c4_i32_1357 c0_i32_1358
  let c1_i32_1359 : BitVec 32 := 1#32
  let v1396 : BitVec 32 := Scalar.select v1395 c1_i32_1359 c4_i32_1357
  let v1397 : BitVec 32 := Scalar.remsi v1394 v1396
  let c0_i32_1361 : BitVec 32 := 0#32
  let v1399 : BitVec 1 := Scalar.cmpi .slt v1397 c0_i32_1361
  let c0_i32_1362 : BitVec 32 := 0#32
  let v1400 : BitVec 1 := Scalar.cmpi .slt v1396 c0_i32_1362
  let v1401 : BitVec 1 := Scalar.xori v1399 v1400
  let c0_i32_1360 : BitVec 32 := 0#32
  let v1398 : BitVec 1 := Scalar.cmpi .ne v1397 c0_i32_1360
  let v1402 : BitVec 1 := Scalar.andi v1401 v1398
  let v1403 : BitVec 32 := Scalar.addi v1397 v1396
  let v1404 : BitVec 32 := Scalar.select v1402 v1403 v1397
  let c32_i32_1365 : BitVec 32 := 32#32
  let v1407 : BitVec 32 := Scalar.muli v1404 c32_i32_1365
  let v1408 : BitVec 32 := Scalar.addi v1406 v1407
  let v1411 : Index := Scalar.indexCast v1408
  let c0_1370 : Index := 0#32
  ![v1411.toNat, 0]
def k0_dev27 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_1388 : BitVec 32 := 1#32
  let v1429 : BitVec 32 := Scalar.muli v109 c1_i32_1388
  let v1430 : BitVec 32 := Scalar.addi c0_i32_1389 v1429
  v1430.toNat
def k0_dev28 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_1410 : BitVec 32 := 1#32
  let v1454 : BitVec 32 := Scalar.muli v122 c1_i32_1410
  let v1455 : BitVec 32 := Scalar.addi c0_i32_1411 v1454
  v1455.toNat
def k0_dev29 (d0 : Dev nD) : Nat :=
  let c0_i32_1505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_1504 : BitVec 32 := 1#32
  let v1541 : BitVec 32 := Scalar.muli v109 c1_i32_1504
  let v1542 : BitVec 32 := Scalar.addi c0_i32_1505 v1541
  v1542.toNat
def k0_dev30 (d0 : Dev nD) : Nat :=
  let c0_i32_1527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_1526 : BitVec 32 := 1#32
  let v1566 : BitVec 32 := Scalar.muli v122 c1_i32_1526
  let v1567 : BitVec 32 := Scalar.addi c0_i32_1527 v1566
  v1567.toNat
def k0_off13 (d0 : Dev nD) (c0_i32_1604 : BitVec 32) : Fin 2 → Nat :=
  let c0_i32_1612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_1603 : BitVec 32 := 1#32
  let v1637 : BitVec 32 := Scalar.addi v43 c1_i32_1603
  let v1638 : BitVec 32 := Scalar.subi v1637 c0_i32_1604
  let c8_i32_1605 : BitVec 32 := 8#32
  let c0_i32_1606 : BitVec 32 := 0#32
  let v1639 : BitVec 1 := Scalar.cmpi .eq c8_i32_1605 c0_i32_1606
  let c1_i32_1607 : BitVec 32 := 1#32
  let v1640 : BitVec 32 := Scalar.select v1639 c1_i32_1607 c8_i32_1605
  let v1641 : BitVec 32 := Scalar.remsi v1638 v1640
  let c0_i32_1609 : BitVec 32 := 0#32
  let v1643 : BitVec 1 := Scalar.cmpi .slt v1641 c0_i32_1609
  let c0_i32_1610 : BitVec 32 := 0#32
  let v1644 : BitVec 1 := Scalar.cmpi .slt v1640 c0_i32_1610
  let v1645 : BitVec 1 := Scalar.xori v1643 v1644
  let c0_i32_1608 : BitVec 32 := 0#32
  let v1642 : BitVec 1 := Scalar.cmpi .ne v1641 c0_i32_1608
  let v1646 : BitVec 1 := Scalar.andi v1645 v1642
  let v1647 : BitVec 32 := Scalar.addi v1641 v1640
  let v1648 : BitVec 32 := Scalar.select v1646 v1647 v1641
  let c128_i32_1611 : BitVec 32 := 128#32
  let v1649 : BitVec 32 := Scalar.muli v1648 c128_i32_1611
  let v1650 : BitVec 32 := Scalar.addi c0_i32_1612 v1649
  let c0_i32_1623 : BitVec 32 := 0#32
  ![v1650.toNat, 0]
def k0_dev31 (d0 : Dev nD) : Nat :=
  let c0_i32_1620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_1619 : BitVec 32 := 1#32
  let v1651 : BitVec 32 := Scalar.muli v70 c1_i32_1619
  let v1652 : BitVec 32 := Scalar.addi c0_i32_1620 v1651
  v1652.toNat
def k0_off14 (d0 : Dev nD) (c0_i32_1625 : BitVec 32) : Fin 2 → Nat :=
  let c1024_i32_1633 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_1624 : BitVec 32 := 7#32
  let v1660 : BitVec 32 := Scalar.addi v43 c7_i32_1624
  let v1661 : BitVec 32 := Scalar.addi v1660 c0_i32_1625
  let c8_i32_1626 : BitVec 32 := 8#32
  let c0_i32_1627 : BitVec 32 := 0#32
  let v1662 : BitVec 1 := Scalar.cmpi .eq c8_i32_1626 c0_i32_1627
  let c1_i32_1628 : BitVec 32 := 1#32
  let v1663 : BitVec 32 := Scalar.select v1662 c1_i32_1628 c8_i32_1626
  let v1664 : BitVec 32 := Scalar.remsi v1661 v1663
  let c0_i32_1630 : BitVec 32 := 0#32
  let v1666 : BitVec 1 := Scalar.cmpi .slt v1664 c0_i32_1630
  let c0_i32_1631 : BitVec 32 := 0#32
  let v1667 : BitVec 1 := Scalar.cmpi .slt v1663 c0_i32_1631
  let v1668 : BitVec 1 := Scalar.xori v1666 v1667
  let c0_i32_1629 : BitVec 32 := 0#32
  let v1665 : BitVec 1 := Scalar.cmpi .ne v1664 c0_i32_1629
  let v1669 : BitVec 1 := Scalar.andi v1668 v1665
  let v1670 : BitVec 32 := Scalar.addi v1664 v1663
  let v1671 : BitVec 32 := Scalar.select v1669 v1670 v1664
  let c128_i32_1632 : BitVec 32 := 128#32
  let v1672 : BitVec 32 := Scalar.muli v1671 c128_i32_1632
  let v1673 : BitVec 32 := Scalar.addi c1024_i32_1633 v1672
  let c0_i32_1644 : BitVec 32 := 0#32
  ![v1673.toNat, 0]
def k0_dev32 (d0 : Dev nD) : Nat :=
  let c0_i32_1641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_1640 : BitVec 32 := 1#32
  let v1674 : BitVec 32 := Scalar.muli v96 c1_i32_1640
  let v1675 : BitVec 32 := Scalar.addi c0_i32_1641 v1674
  v1675.toNat
def k0_off15 (d0 : Dev nD) (c0_i32_1666 : BitVec 32) : Fin 2 → Nat :=
  let c0_i32_1678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v1695 : BitVec 32 := Scalar.subi v43 c0_i32_1666
  let c8_i32_1667 : BitVec 32 := 8#32
  let c0_i32_1668 : BitVec 32 := 0#32
  let v1696 : BitVec 1 := Scalar.cmpi .eq c8_i32_1667 c0_i32_1668
  let c1_i32_1669 : BitVec 32 := 1#32
  let v1697 : BitVec 32 := Scalar.select v1696 c1_i32_1669 c8_i32_1667
  let v1698 : BitVec 32 := Scalar.remsi v1695 v1697
  let c0_i32_1671 : BitVec 32 := 0#32
  let v1700 : BitVec 1 := Scalar.cmpi .slt v1698 c0_i32_1671
  let c0_i32_1672 : BitVec 32 := 0#32
  let v1701 : BitVec 1 := Scalar.cmpi .slt v1697 c0_i32_1672
  let v1702 : BitVec 1 := Scalar.xori v1700 v1701
  let c0_i32_1670 : BitVec 32 := 0#32
  let v1699 : BitVec 1 := Scalar.cmpi .ne v1698 c0_i32_1670
  let v1703 : BitVec 1 := Scalar.andi v1702 v1699
  let v1704 : BitVec 32 := Scalar.addi v1698 v1697
  let v1705 : BitVec 32 := Scalar.select v1703 v1704 v1698
  let c128_i32_1677 : BitVec 32 := 128#32
  let v1708 : BitVec 32 := Scalar.muli v1705 c128_i32_1677
  let v1709 : BitVec 32 := Scalar.addi c0_i32_1678 v1708
  let v1710 : Index := Scalar.indexCast v1709
  let c0_1679 : Index := 0#32
  ![v1710.toNat, 0]
def k0_off16 (d0 : Dev nD) (c0_i32_1701 : BitVec 32) : Fin 2 → Nat :=
  let c1024_i32_1713 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v1724 : BitVec 32 := Scalar.addi v43 c0_i32_1701
  let c8_i32_1702 : BitVec 32 := 8#32
  let c0_i32_1703 : BitVec 32 := 0#32
  let v1725 : BitVec 1 := Scalar.cmpi .eq c8_i32_1702 c0_i32_1703
  let c1_i32_1704 : BitVec 32 := 1#32
  let v1726 : BitVec 32 := Scalar.select v1725 c1_i32_1704 c8_i32_1702
  let v1727 : BitVec 32 := Scalar.remsi v1724 v1726
  let c0_i32_1706 : BitVec 32 := 0#32
  let v1729 : BitVec 1 := Scalar.cmpi .slt v1727 c0_i32_1706
  let c0_i32_1707 : BitVec 32 := 0#32
  let v1730 : BitVec 1 := Scalar.cmpi .slt v1726 c0_i32_1707
  let v1731 : BitVec 1 := Scalar.xori v1729 v1730
  let c0_i32_1705 : BitVec 32 := 0#32
  let v1728 : BitVec 1 := Scalar.cmpi .ne v1727 c0_i32_1705
  let v1732 : BitVec 1 := Scalar.andi v1731 v1728
  let v1733 : BitVec 32 := Scalar.addi v1727 v1726
  let v1734 : BitVec 32 := Scalar.select v1732 v1733 v1727
  let c128_i32_1712 : BitVec 32 := 128#32
  let v1737 : BitVec 32 := Scalar.muli v1734 c128_i32_1712
  let v1738 : BitVec 32 := Scalar.addi c1024_i32_1713 v1737
  let v1739 : Index := Scalar.indexCast v1738
  let c0_1714 : Index := 0#32
  ![v1739.toNat, 0]
def k0_dev33 (d0 : Dev nD) : Nat :=
  let c0_i32_1732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_1731 : BitVec 32 := 1#32
  let v1755 : BitVec 32 := Scalar.muli v70 c1_i32_1731
  let v1756 : BitVec 32 := Scalar.addi c0_i32_1732 v1755
  v1756.toNat
def k0_dev34 (d0 : Dev nD) : Nat :=
  let c0_i32_1753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_1752 : BitVec 32 := 1#32
  let v1778 : BitVec 32 := Scalar.muli v96 c1_i32_1752
  let v1779 : BitVec 32 := Scalar.addi c0_i32_1753 v1778
  v1779.toNat
def k0_dev35 (d0 : Dev nD) : Nat :=
  let c0_i32_1844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_1843 : BitVec 32 := 1#32
  let v1859 : BitVec 32 := Scalar.muli v70 c1_i32_1843
  let v1860 : BitVec 32 := Scalar.addi c0_i32_1844 v1859
  v1860.toNat
def k0_dev36 (d0 : Dev nD) : Nat :=
  let c0_i32_1865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_1864 : BitVec 32 := 1#32
  let v1882 : BitVec 32 := Scalar.muli v96 c1_i32_1864
  let v1883 : BitVec 32 := Scalar.addi c0_i32_1865 v1882
  v1883.toNat
def k0_dev37 (d0 : Dev nD) : Nat :=
  let c0_i32_1956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_1955 : BitVec 32 := 1#32
  let v1963 : BitVec 32 := Scalar.muli v70 c1_i32_1955
  let v1964 : BitVec 32 := Scalar.addi c0_i32_1956 v1963
  v1964.toNat
def k0_dev38 (d0 : Dev nD) : Nat :=
  let c0_i32_1977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_1976 : BitVec 32 := 1#32
  let v1986 : BitVec 32 := Scalar.muli v96 c1_i32_1976
  let v1987 : BitVec 32 := Scalar.addi c0_i32_1977 v1986
  v1987.toNat
def k0_dev39 (d0 : Dev nD) : Nat :=
  let c0_i32_2068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_2067 : BitVec 32 := 1#32
  let v2067 : BitVec 32 := Scalar.muli v70 c1_i32_2067
  let v2068 : BitVec 32 := Scalar.addi c0_i32_2068 v2067
  v2068.toNat
def k0_dev40 (d0 : Dev nD) : Nat :=
  let c0_i32_2089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_2088 : BitVec 32 := 1#32
  let v2090 : BitVec 32 := Scalar.muli v96 c1_i32_2088
  let v2091 : BitVec 32 := Scalar.addi c0_i32_2089 v2090
  v2091.toNat
def k0_dev41 (d0 : Dev nD) : Nat :=
  let c0_i32_2180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_2179 : BitVec 32 := 1#32
  let v2171 : BitVec 32 := Scalar.muli v70 c1_i32_2179
  let v2172 : BitVec 32 := Scalar.addi c0_i32_2180 v2171
  v2172.toNat
def k0_dev42 (d0 : Dev nD) : Nat :=
  let c0_i32_2201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_2200 : BitVec 32 := 1#32
  let v2194 : BitVec 32 := Scalar.muli v96 c1_i32_2200
  let v2195 : BitVec 32 := Scalar.addi c0_i32_2201 v2194
  v2195.toNat
def k0_dev43 (d0 : Dev nD) : Nat :=
  let c0_i32_2292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_2291 : BitVec 32 := 1#32
  let v2275 : BitVec 32 := Scalar.muli v70 c1_i32_2291
  let v2276 : BitVec 32 := Scalar.addi c0_i32_2292 v2275
  v2276.toNat
def k0_dev44 (d0 : Dev nD) : Nat :=
  let c0_i32_2313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_2312 : BitVec 32 := 1#32
  let v2298 : BitVec 32 := Scalar.muli v96 c1_i32_2312
  let v2299 : BitVec 32 := Scalar.addi c0_i32_2313 v2298
  v2299.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_dev1 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_82 : BitVec 32 := 1#32
  let v124 : BitVec 32 := Scalar.muli v70 c1_i32_82
  let v125 : BitVec 32 := Scalar.addi c0_i32_83 v124
  v125.toNat
def k1_dev2 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_85 : BitVec 32 := 1#32
  let v126 : BitVec 32 := Scalar.muli v96 c1_i32_85
  let v127 : BitVec 32 := Scalar.addi c0_i32_86 v126
  v127.toNat
def k1_dev3 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_88 : BitVec 32 := 1#32
  let v128 : BitVec 32 := Scalar.muli v109 c1_i32_88
  let v129 : BitVec 32 := Scalar.addi c0_i32_89 v128
  v129.toNat
def k1_dev4 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_91 : BitVec 32 := 1#32
  let v130 : BitVec 32 := Scalar.muli v122 c1_i32_91
  let v131 : BitVec 32 := Scalar.addi c0_i32_92 v130
  v131.toNat
def k1_off1 (d0 : Dev nD) (c0_i32_97 : BitVec 32) : Fin 2 → Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v135 : BitVec 32 := Scalar.subi v43 c0_i32_97
  let c8_i32_98 : BitVec 32 := 8#32
  let c0_i32_99 : BitVec 32 := 0#32
  let v136 : BitVec 1 := Scalar.cmpi .eq c8_i32_98 c0_i32_99
  let c1_i32_100 : BitVec 32 := 1#32
  let v137 : BitVec 32 := Scalar.select v136 c1_i32_100 c8_i32_98
  let v138 : BitVec 32 := Scalar.remsi v135 v137
  let c0_i32_102 : BitVec 32 := 0#32
  let v140 : BitVec 1 := Scalar.cmpi .slt v138 c0_i32_102
  let c0_i32_103 : BitVec 32 := 0#32
  let v141 : BitVec 1 := Scalar.cmpi .slt v137 c0_i32_103
  let v142 : BitVec 1 := Scalar.xori v140 v141
  let c0_i32_101 : BitVec 32 := 0#32
  let v139 : BitVec 1 := Scalar.cmpi .ne v138 c0_i32_101
  let v143 : BitVec 1 := Scalar.andi v142 v139
  let v144 : BitVec 32 := Scalar.addi v138 v137
  let v145 : BitVec 32 := Scalar.select v143 v144 v138
  let c128_i32 : BitVec 32 := 128#32
  let v146 : BitVec 32 := Scalar.muli v145 c128_i32
  let v147 : BitVec 32 := Scalar.addi c0_i32_104 v146
  let c0_i32_115 : BitVec 32 := 0#32
  ![v147.toNat, 0]
def k1_dev5 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_111 : BitVec 32 := 1#32
  let v148 : BitVec 32 := Scalar.muli v70 c1_i32_111
  let v149 : BitVec 32 := Scalar.addi c0_i32_112 v148
  v149.toNat
def k1_off2 (d0 : Dev nD) (c0_i32_116 : BitVec 32) : Fin 2 → Nat :=
  let c1024_i32 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v157 : BitVec 32 := Scalar.addi v43 c0_i32_116
  let c8_i32_117 : BitVec 32 := 8#32
  let c0_i32_118 : BitVec 32 := 0#32
  let v158 : BitVec 1 := Scalar.cmpi .eq c8_i32_117 c0_i32_118
  let c1_i32_119 : BitVec 32 := 1#32
  let v159 : BitVec 32 := Scalar.select v158 c1_i32_119 c8_i32_117
  let v160 : BitVec 32 := Scalar.remsi v157 v159
  let c0_i32_121 : BitVec 32 := 0#32
  let v162 : BitVec 1 := Scalar.cmpi .slt v160 c0_i32_121
  let c0_i32_122 : BitVec 32 := 0#32
  let v163 : BitVec 1 := Scalar.cmpi .slt v159 c0_i32_122
  let v164 : BitVec 1 := Scalar.xori v162 v163
  let c0_i32_120 : BitVec 32 := 0#32
  let v161 : BitVec 1 := Scalar.cmpi .ne v160 c0_i32_120
  let v165 : BitVec 1 := Scalar.andi v164 v161
  let v166 : BitVec 32 := Scalar.addi v160 v159
  let v167 : BitVec 32 := Scalar.select v165 v166 v160
  let c128_i32_123 : BitVec 32 := 128#32
  let v168 : BitVec 32 := Scalar.muli v167 c128_i32_123
  let v169 : BitVec 32 := Scalar.addi c1024_i32 v168
  let c0_i32_134 : BitVec 32 := 0#32
  ![v169.toNat, 0]
def k1_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_130 : BitVec 32 := 1#32
  let v170 : BitVec 32 := Scalar.muli v96 c1_i32_130
  let v171 : BitVec 32 := Scalar.addi c0_i32_131 v170
  v171.toNat
def k1_off3 (d0 : Dev nD) (c0_i32_156 : BitVec 32) : Fin 2 → Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v191 : BitVec 32 := Scalar.subi v43 c0_i32_156
  let c1_i32_157 : BitVec 32 := 1#32
  let v192 : BitVec 32 := Scalar.subi v191 c1_i32_157
  let c8_i32_158 : BitVec 32 := 8#32
  let c0_i32_159 : BitVec 32 := 0#32
  let v193 : BitVec 1 := Scalar.cmpi .eq c8_i32_158 c0_i32_159
  let c1_i32_160 : BitVec 32 := 1#32
  let v194 : BitVec 32 := Scalar.select v193 c1_i32_160 c8_i32_158
  let v195 : BitVec 32 := Scalar.remsi v192 v194
  let c0_i32_162 : BitVec 32 := 0#32
  let v197 : BitVec 1 := Scalar.cmpi .slt v195 c0_i32_162
  let c0_i32_163 : BitVec 32 := 0#32
  let v198 : BitVec 1 := Scalar.cmpi .slt v194 c0_i32_163
  let v199 : BitVec 1 := Scalar.xori v197 v198
  let c0_i32_161 : BitVec 32 := 0#32
  let v196 : BitVec 1 := Scalar.cmpi .ne v195 c0_i32_161
  let v200 : BitVec 1 := Scalar.andi v199 v196
  let v201 : BitVec 32 := Scalar.addi v195 v194
  let v202 : BitVec 32 := Scalar.select v200 v201 v195
  let c128_i32_164 : BitVec 32 := 128#32
  let v203 : BitVec 32 := Scalar.muli v202 c128_i32_164
  let v204 : BitVec 32 := Scalar.addi c0_i32_165 v203
  let v205 : Index := Scalar.indexCast v204
  let c0_166 : Index := 0#32
  ![v205.toNat, 0]
def k1_off4 (d0 : Dev nD) (c0_i32_193 : BitVec 32) : Fin 2 → Nat :=
  let c1024_i32_202 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v225 : BitVec 32 := Scalar.addi v43 c0_i32_193
  let c1_i32_194 : BitVec 32 := 1#32
  let v226 : BitVec 32 := Scalar.addi v225 c1_i32_194
  let c8_i32_195 : BitVec 32 := 8#32
  let c0_i32_196 : BitVec 32 := 0#32
  let v227 : BitVec 1 := Scalar.cmpi .eq c8_i32_195 c0_i32_196
  let c1_i32_197 : BitVec 32 := 1#32
  let v228 : BitVec 32 := Scalar.select v227 c1_i32_197 c8_i32_195
  let v229 : BitVec 32 := Scalar.remsi v226 v228
  let c0_i32_199 : BitVec 32 := 0#32
  let v231 : BitVec 1 := Scalar.cmpi .slt v229 c0_i32_199
  let c0_i32_200 : BitVec 32 := 0#32
  let v232 : BitVec 1 := Scalar.cmpi .slt v228 c0_i32_200
  let v233 : BitVec 1 := Scalar.xori v231 v232
  let c0_i32_198 : BitVec 32 := 0#32
  let v230 : BitVec 1 := Scalar.cmpi .ne v229 c0_i32_198
  let v234 : BitVec 1 := Scalar.andi v233 v230
  let v235 : BitVec 32 := Scalar.addi v229 v228
  let v236 : BitVec 32 := Scalar.select v234 v235 v229
  let c128_i32_201 : BitVec 32 := 128#32
  let v237 : BitVec 32 := Scalar.muli v236 c128_i32_201
  let v238 : BitVec 32 := Scalar.addi c1024_i32_202 v237
  let v239 : Index := Scalar.indexCast v238
  let c0_203 : Index := 0#32
  ![v239.toNat, 0]
def k1_dev7 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_223 : BitVec 32 := 1#32
  let v260 : BitVec 32 := Scalar.muli v70 c1_i32_223
  let v261 : BitVec 32 := Scalar.addi c0_i32_224 v260
  v261.toNat
def k1_dev8 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_243 : BitVec 32 := 1#32
  let v282 : BitVec 32 := Scalar.muli v96 c1_i32_243
  let v283 : BitVec 32 := Scalar.addi c0_i32_244 v282
  v283.toNat
def k1_dev9 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_337 : BitVec 32 := 1#32
  let v372 : BitVec 32 := Scalar.muli v70 c1_i32_337
  let v373 : BitVec 32 := Scalar.addi c0_i32_338 v372
  v373.toNat
def k1_dev10 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_357 : BitVec 32 := 1#32
  let v394 : BitVec 32 := Scalar.muli v96 c1_i32_357
  let v395 : BitVec 32 := Scalar.addi c0_i32_358 v394
  v395.toNat
def k1_dev11 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_450 : BitVec 32 := 1#32
  let v484 : BitVec 32 := Scalar.muli v70 c1_i32_450
  let v485 : BitVec 32 := Scalar.addi c0_i32_451 v484
  v485.toNat
def k1_dev12 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_470 : BitVec 32 := 1#32
  let v506 : BitVec 32 := Scalar.muli v96 c1_i32_470
  let v507 : BitVec 32 := Scalar.addi c0_i32_471 v506
  v507.toNat
def k1_dev13 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_563 : BitVec 32 := 1#32
  let v596 : BitVec 32 := Scalar.muli v70 c1_i32_563
  let v597 : BitVec 32 := Scalar.addi c0_i32_564 v596
  v597.toNat
def k1_dev14 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_583 : BitVec 32 := 1#32
  let v618 : BitVec 32 := Scalar.muli v96 c1_i32_583
  let v619 : BitVec 32 := Scalar.addi c0_i32_584 v618
  v619.toNat
def k1_dev15 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_676 : BitVec 32 := 1#32
  let v708 : BitVec 32 := Scalar.muli v70 c1_i32_676
  let v709 : BitVec 32 := Scalar.addi c0_i32_677 v708
  v709.toNat
def k1_dev16 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_696 : BitVec 32 := 1#32
  let v730 : BitVec 32 := Scalar.muli v96 c1_i32_696
  let v731 : BitVec 32 := Scalar.addi c0_i32_697 v730
  v731.toNat
def k1_dev17 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_789 : BitVec 32 := 1#32
  let v820 : BitVec 32 := Scalar.muli v70 c1_i32_789
  let v821 : BitVec 32 := Scalar.addi c0_i32_790 v820
  v821.toNat
def k1_dev18 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_809 : BitVec 32 := 1#32
  let v842 : BitVec 32 := Scalar.muli v96 c1_i32_809
  let v843 : BitVec 32 := Scalar.addi c0_i32_810 v842
  v843.toNat
def k1_off5 (d0 : Dev nD) (c0_i32_901 : BitVec 32) : Fin 2 → Nat :=
  let c0_i32_909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_887 : BitVec 32 := 1#32
  let v919 : BitVec 32 := Scalar.addi v43 c1_i32_887
  let c8_i32_888 : BitVec 32 := 8#32
  let c0_i32_889 : BitVec 32 := 0#32
  let v920 : BitVec 1 := Scalar.cmpi .eq c8_i32_888 c0_i32_889
  let c1_i32_890 : BitVec 32 := 1#32
  let v921 : BitVec 32 := Scalar.select v920 c1_i32_890 c8_i32_888
  let v922 : BitVec 32 := Scalar.remsi v919 v921
  let c0_i32_892 : BitVec 32 := 0#32
  let v924 : BitVec 1 := Scalar.cmpi .slt v922 c0_i32_892
  let c0_i32_893 : BitVec 32 := 0#32
  let v925 : BitVec 1 := Scalar.cmpi .slt v921 c0_i32_893
  let v926 : BitVec 1 := Scalar.xori v924 v925
  let c0_i32_891 : BitVec 32 := 0#32
  let v923 : BitVec 1 := Scalar.cmpi .ne v922 c0_i32_891
  let v927 : BitVec 1 := Scalar.andi v926 v923
  let v928 : BitVec 32 := Scalar.addi v922 v921
  let v929 : BitVec 32 := Scalar.select v927 v928 v922
  let c128_i32_908 : BitVec 32 := 128#32
  let v952 : BitVec 32 := Scalar.muli v929 c128_i32_908
  let v953 : BitVec 32 := Scalar.addi c0_i32_909 v952
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v941 : BitVec 32 := Scalar.subi v19 c0_i32_901
  let c4_i32_902 : BitVec 32 := 4#32
  let c0_i32_903 : BitVec 32 := 0#32
  let v942 : BitVec 1 := Scalar.cmpi .eq c4_i32_902 c0_i32_903
  let c1_i32_904 : BitVec 32 := 1#32
  let v943 : BitVec 32 := Scalar.select v942 c1_i32_904 c4_i32_902
  let v944 : BitVec 32 := Scalar.remsi v941 v943
  let c0_i32_906 : BitVec 32 := 0#32
  let v946 : BitVec 1 := Scalar.cmpi .slt v944 c0_i32_906
  let c0_i32_907 : BitVec 32 := 0#32
  let v947 : BitVec 1 := Scalar.cmpi .slt v943 c0_i32_907
  let v948 : BitVec 1 := Scalar.xori v946 v947
  let c0_i32_905 : BitVec 32 := 0#32
  let v945 : BitVec 1 := Scalar.cmpi .ne v944 c0_i32_905
  let v949 : BitVec 1 := Scalar.andi v948 v945
  let v950 : BitVec 32 := Scalar.addi v944 v943
  let v951 : BitVec 32 := Scalar.select v949 v950 v944
  let c32_i32_910 : BitVec 32 := 32#32
  let v954 : BitVec 32 := Scalar.muli v951 c32_i32_910
  let v955 : BitVec 32 := Scalar.addi v953 v954
  let c0_i32_921 : BitVec 32 := 0#32
  ![v955.toNat, 0]
def k1_dev19 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_917 : BitVec 32 := 1#32
  let v956 : BitVec 32 := Scalar.muli v109 c1_i32_917
  let v957 : BitVec 32 := Scalar.addi c0_i32_918 v956
  v957.toNat
def k1_off6 (d0 : Dev nD) (c0_i32_922 : BitVec 32) : Fin 2 → Nat :=
  let c1024_i32_930 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_894 : BitVec 32 := 7#32
  let v930 : BitVec 32 := Scalar.addi v43 c7_i32_894
  let c8_i32_895 : BitVec 32 := 8#32
  let c0_i32_896 : BitVec 32 := 0#32
  let v931 : BitVec 1 := Scalar.cmpi .eq c8_i32_895 c0_i32_896
  let c1_i32_897 : BitVec 32 := 1#32
  let v932 : BitVec 32 := Scalar.select v931 c1_i32_897 c8_i32_895
  let v933 : BitVec 32 := Scalar.remsi v930 v932
  let c0_i32_899 : BitVec 32 := 0#32
  let v935 : BitVec 1 := Scalar.cmpi .slt v933 c0_i32_899
  let c0_i32_900 : BitVec 32 := 0#32
  let v936 : BitVec 1 := Scalar.cmpi .slt v932 c0_i32_900
  let v937 : BitVec 1 := Scalar.xori v935 v936
  let c0_i32_898 : BitVec 32 := 0#32
  let v934 : BitVec 1 := Scalar.cmpi .ne v933 c0_i32_898
  let v938 : BitVec 1 := Scalar.andi v937 v934
  let v939 : BitVec 32 := Scalar.addi v933 v932
  let v940 : BitVec 32 := Scalar.select v938 v939 v933
  let c128_i32_929 : BitVec 32 := 128#32
  let v976 : BitVec 32 := Scalar.muli v940 c128_i32_929
  let v977 : BitVec 32 := Scalar.addi c1024_i32_930 v976
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v965 : BitVec 32 := Scalar.addi v19 c0_i32_922
  let c4_i32_923 : BitVec 32 := 4#32
  let c0_i32_924 : BitVec 32 := 0#32
  let v966 : BitVec 1 := Scalar.cmpi .eq c4_i32_923 c0_i32_924
  let c1_i32_925 : BitVec 32 := 1#32
  let v967 : BitVec 32 := Scalar.select v966 c1_i32_925 c4_i32_923
  let v968 : BitVec 32 := Scalar.remsi v965 v967
  let c0_i32_927 : BitVec 32 := 0#32
  let v970 : BitVec 1 := Scalar.cmpi .slt v968 c0_i32_927
  let c0_i32_928 : BitVec 32 := 0#32
  let v971 : BitVec 1 := Scalar.cmpi .slt v967 c0_i32_928
  let v972 : BitVec 1 := Scalar.xori v970 v971
  let c0_i32_926 : BitVec 32 := 0#32
  let v969 : BitVec 1 := Scalar.cmpi .ne v968 c0_i32_926
  let v973 : BitVec 1 := Scalar.andi v972 v969
  let v974 : BitVec 32 := Scalar.addi v968 v967
  let v975 : BitVec 32 := Scalar.select v973 v974 v968
  let c32_i32_931 : BitVec 32 := 32#32
  let v978 : BitVec 32 := Scalar.muli v975 c32_i32_931
  let v979 : BitVec 32 := Scalar.addi v977 v978
  let c0_i32_942 : BitVec 32 := 0#32
  ![v979.toNat, 0]
def k1_dev20 (d0 : Dev nD) : Nat :=
  let c0_i32_939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_938 : BitVec 32 := 1#32
  let v980 : BitVec 32 := Scalar.muli v122 c1_i32_938
  let v981 : BitVec 32 := Scalar.addi c0_i32_939 v980
  v981.toNat
def k1_off7 (d0 : Dev nD) (c0_i32_964 : BitVec 32) : Fin 2 → Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_887 : BitVec 32 := 1#32
  let v919 : BitVec 32 := Scalar.addi v43 c1_i32_887
  let c8_i32_888 : BitVec 32 := 8#32
  let c0_i32_889 : BitVec 32 := 0#32
  let v920 : BitVec 1 := Scalar.cmpi .eq c8_i32_888 c0_i32_889
  let c1_i32_890 : BitVec 32 := 1#32
  let v921 : BitVec 32 := Scalar.select v920 c1_i32_890 c8_i32_888
  let v922 : BitVec 32 := Scalar.remsi v919 v921
  let c0_i32_892 : BitVec 32 := 0#32
  let v924 : BitVec 1 := Scalar.cmpi .slt v922 c0_i32_892
  let c0_i32_893 : BitVec 32 := 0#32
  let v925 : BitVec 1 := Scalar.cmpi .slt v921 c0_i32_893
  let v926 : BitVec 1 := Scalar.xori v924 v925
  let c0_i32_891 : BitVec 32 := 0#32
  let v923 : BitVec 1 := Scalar.cmpi .ne v922 c0_i32_891
  let v927 : BitVec 1 := Scalar.andi v926 v923
  let v928 : BitVec 32 := Scalar.addi v922 v921
  let v929 : BitVec 32 := Scalar.select v927 v928 v922
  let c128_i32_972 : BitVec 32 := 128#32
  let v1013 : BitVec 32 := Scalar.muli v929 c128_i32_972
  let v1014 : BitVec 32 := Scalar.addi c0_i32_973 v1013
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1001 : BitVec 32 := Scalar.subi v19 c0_i32_964
  let c1_i32_965 : BitVec 32 := 1#32
  let v1002 : BitVec 32 := Scalar.subi v1001 c1_i32_965
  let c4_i32_966 : BitVec 32 := 4#32
  let c0_i32_967 : BitVec 32 := 0#32
  let v1003 : BitVec 1 := Scalar.cmpi .eq c4_i32_966 c0_i32_967
  let c1_i32_968 : BitVec 32 := 1#32
  let v1004 : BitVec 32 := Scalar.select v1003 c1_i32_968 c4_i32_966
  let v1005 : BitVec 32 := Scalar.remsi v1002 v1004
  let c0_i32_970 : BitVec 32 := 0#32
  let v1007 : BitVec 1 := Scalar.cmpi .slt v1005 c0_i32_970
  let c0_i32_971 : BitVec 32 := 0#32
  let v1008 : BitVec 1 := Scalar.cmpi .slt v1004 c0_i32_971
  let v1009 : BitVec 1 := Scalar.xori v1007 v1008
  let c0_i32_969 : BitVec 32 := 0#32
  let v1006 : BitVec 1 := Scalar.cmpi .ne v1005 c0_i32_969
  let v1010 : BitVec 1 := Scalar.andi v1009 v1006
  let v1011 : BitVec 32 := Scalar.addi v1005 v1004
  let v1012 : BitVec 32 := Scalar.select v1010 v1011 v1005
  let c32_i32_974 : BitVec 32 := 32#32
  let v1015 : BitVec 32 := Scalar.muli v1012 c32_i32_974
  let v1016 : BitVec 32 := Scalar.addi v1014 v1015
  let v1017 : Index := Scalar.indexCast v1016
  let c0_975 : Index := 0#32
  ![v1017.toNat, 0]
def k1_off8 (d0 : Dev nD) (c0_i32_1002 : BitVec 32) : Fin 2 → Nat :=
  let c1024_i32_1011 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_894 : BitVec 32 := 7#32
  let v930 : BitVec 32 := Scalar.addi v43 c7_i32_894
  let c8_i32_895 : BitVec 32 := 8#32
  let c0_i32_896 : BitVec 32 := 0#32
  let v931 : BitVec 1 := Scalar.cmpi .eq c8_i32_895 c0_i32_896
  let c1_i32_897 : BitVec 32 := 1#32
  let v932 : BitVec 32 := Scalar.select v931 c1_i32_897 c8_i32_895
  let v933 : BitVec 32 := Scalar.remsi v930 v932
  let c0_i32_899 : BitVec 32 := 0#32
  let v935 : BitVec 1 := Scalar.cmpi .slt v933 c0_i32_899
  let c0_i32_900 : BitVec 32 := 0#32
  let v936 : BitVec 1 := Scalar.cmpi .slt v932 c0_i32_900
  let v937 : BitVec 1 := Scalar.xori v935 v936
  let c0_i32_898 : BitVec 32 := 0#32
  let v934 : BitVec 1 := Scalar.cmpi .ne v933 c0_i32_898
  let v938 : BitVec 1 := Scalar.andi v937 v934
  let v939 : BitVec 32 := Scalar.addi v933 v932
  let v940 : BitVec 32 := Scalar.select v938 v939 v933
  let c128_i32_1010 : BitVec 32 := 128#32
  let v1049 : BitVec 32 := Scalar.muli v940 c128_i32_1010
  let v1050 : BitVec 32 := Scalar.addi c1024_i32_1011 v1049
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1037 : BitVec 32 := Scalar.addi v19 c0_i32_1002
  let c1_i32_1003 : BitVec 32 := 1#32
  let v1038 : BitVec 32 := Scalar.addi v1037 c1_i32_1003
  let c4_i32_1004 : BitVec 32 := 4#32
  let c0_i32_1005 : BitVec 32 := 0#32
  let v1039 : BitVec 1 := Scalar.cmpi .eq c4_i32_1004 c0_i32_1005
  let c1_i32_1006 : BitVec 32 := 1#32
  let v1040 : BitVec 32 := Scalar.select v1039 c1_i32_1006 c4_i32_1004
  let v1041 : BitVec 32 := Scalar.remsi v1038 v1040
  let c0_i32_1008 : BitVec 32 := 0#32
  let v1043 : BitVec 1 := Scalar.cmpi .slt v1041 c0_i32_1008
  let c0_i32_1009 : BitVec 32 := 0#32
  let v1044 : BitVec 1 := Scalar.cmpi .slt v1040 c0_i32_1009
  let v1045 : BitVec 1 := Scalar.xori v1043 v1044
  let c0_i32_1007 : BitVec 32 := 0#32
  let v1042 : BitVec 1 := Scalar.cmpi .ne v1041 c0_i32_1007
  let v1046 : BitVec 1 := Scalar.andi v1045 v1042
  let v1047 : BitVec 32 := Scalar.addi v1041 v1040
  let v1048 : BitVec 32 := Scalar.select v1046 v1047 v1041
  let c32_i32_1012 : BitVec 32 := 32#32
  let v1051 : BitVec 32 := Scalar.muli v1048 c32_i32_1012
  let v1052 : BitVec 32 := Scalar.addi v1050 v1051
  let v1053 : Index := Scalar.indexCast v1052
  let c0_1013 : Index := 0#32
  ![v1053.toNat, 0]
def k1_dev21 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_1035 : BitVec 32 := 1#32
  let v1076 : BitVec 32 := Scalar.muli v109 c1_i32_1035
  let v1077 : BitVec 32 := Scalar.addi c0_i32_1036 v1076
  v1077.toNat
def k1_dev22 (d0 : Dev nD) : Nat :=
  let c0_i32_1057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_1056 : BitVec 32 := 1#32
  let v1100 : BitVec 32 := Scalar.muli v122 c1_i32_1056
  let v1101 : BitVec 32 := Scalar.addi c0_i32_1057 v1100
  v1101.toNat
def k1_dev23 (d0 : Dev nD) : Nat :=
  let c0_i32_1154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_1153 : BitVec 32 := 1#32
  let v1196 : BitVec 32 := Scalar.muli v109 c1_i32_1153
  let v1197 : BitVec 32 := Scalar.addi c0_i32_1154 v1196
  v1197.toNat
def k1_dev24 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_1174 : BitVec 32 := 1#32
  let v1220 : BitVec 32 := Scalar.muli v122 c1_i32_1174
  let v1221 : BitVec 32 := Scalar.addi c0_i32_1175 v1220
  v1221.toNat
def k1_off9 (d0 : Dev nD) (c0_i32_1256 : BitVec 32) : Fin 2 → Nat :=
  let c0_i32_1264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_887 : BitVec 32 := 1#32
  let v919 : BitVec 32 := Scalar.addi v43 c1_i32_887
  let c8_i32_888 : BitVec 32 := 8#32
  let c0_i32_889 : BitVec 32 := 0#32
  let v920 : BitVec 1 := Scalar.cmpi .eq c8_i32_888 c0_i32_889
  let c1_i32_890 : BitVec 32 := 1#32
  let v921 : BitVec 32 := Scalar.select v920 c1_i32_890 c8_i32_888
  let v922 : BitVec 32 := Scalar.remsi v919 v921
  let c0_i32_892 : BitVec 32 := 0#32
  let v924 : BitVec 1 := Scalar.cmpi .slt v922 c0_i32_892
  let c0_i32_893 : BitVec 32 := 0#32
  let v925 : BitVec 1 := Scalar.cmpi .slt v921 c0_i32_893
  let v926 : BitVec 1 := Scalar.xori v924 v925
  let c0_i32_891 : BitVec 32 := 0#32
  let v923 : BitVec 1 := Scalar.cmpi .ne v922 c0_i32_891
  let v927 : BitVec 1 := Scalar.andi v926 v923
  let v928 : BitVec 32 := Scalar.addi v922 v921
  let v929 : BitVec 32 := Scalar.select v927 v928 v922
  let c128_i32_1263 : BitVec 32 := 128#32
  let v1313 : BitVec 32 := Scalar.muli v929 c128_i32_1263
  let v1314 : BitVec 32 := Scalar.addi c0_i32_1264 v1313
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1255 : BitVec 32 := 1#32
  let v1301 : BitVec 32 := Scalar.addi v19 c1_i32_1255
  let v1302 : BitVec 32 := Scalar.subi v1301 c0_i32_1256
  let c4_i32_1257 : BitVec 32 := 4#32
  let c0_i32_1258 : BitVec 32 := 0#32
  let v1303 : BitVec 1 := Scalar.cmpi .eq c4_i32_1257 c0_i32_1258
  let c1_i32_1259 : BitVec 32 := 1#32
  let v1304 : BitVec 32 := Scalar.select v1303 c1_i32_1259 c4_i32_1257
  let v1305 : BitVec 32 := Scalar.remsi v1302 v1304
  let c0_i32_1261 : BitVec 32 := 0#32
  let v1307 : BitVec 1 := Scalar.cmpi .slt v1305 c0_i32_1261
  let c0_i32_1262 : BitVec 32 := 0#32
  let v1308 : BitVec 1 := Scalar.cmpi .slt v1304 c0_i32_1262
  let v1309 : BitVec 1 := Scalar.xori v1307 v1308
  let c0_i32_1260 : BitVec 32 := 0#32
  let v1306 : BitVec 1 := Scalar.cmpi .ne v1305 c0_i32_1260
  let v1310 : BitVec 1 := Scalar.andi v1309 v1306
  let v1311 : BitVec 32 := Scalar.addi v1305 v1304
  let v1312 : BitVec 32 := Scalar.select v1310 v1311 v1305
  let c32_i32_1265 : BitVec 32 := 32#32
  let v1315 : BitVec 32 := Scalar.muli v1312 c32_i32_1265
  let v1316 : BitVec 32 := Scalar.addi v1314 v1315
  let c0_i32_1276 : BitVec 32 := 0#32
  ![v1316.toNat, 0]
def k1_dev25 (d0 : Dev nD) : Nat :=
  let c0_i32_1273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_1272 : BitVec 32 := 1#32
  let v1317 : BitVec 32 := Scalar.muli v109 c1_i32_1272
  let v1318 : BitVec 32 := Scalar.addi c0_i32_1273 v1317
  v1318.toNat
def k1_off10 (d0 : Dev nD) (c0_i32_1278 : BitVec 32) : Fin 2 → Nat :=
  let c1024_i32_1286 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_894 : BitVec 32 := 7#32
  let v930 : BitVec 32 := Scalar.addi v43 c7_i32_894
  let c8_i32_895 : BitVec 32 := 8#32
  let c0_i32_896 : BitVec 32 := 0#32
  let v931 : BitVec 1 := Scalar.cmpi .eq c8_i32_895 c0_i32_896
  let c1_i32_897 : BitVec 32 := 1#32
  let v932 : BitVec 32 := Scalar.select v931 c1_i32_897 c8_i32_895
  let v933 : BitVec 32 := Scalar.remsi v930 v932
  let c0_i32_899 : BitVec 32 := 0#32
  let v935 : BitVec 1 := Scalar.cmpi .slt v933 c0_i32_899
  let c0_i32_900 : BitVec 32 := 0#32
  let v936 : BitVec 1 := Scalar.cmpi .slt v932 c0_i32_900
  let v937 : BitVec 1 := Scalar.xori v935 v936
  let c0_i32_898 : BitVec 32 := 0#32
  let v934 : BitVec 1 := Scalar.cmpi .ne v933 c0_i32_898
  let v938 : BitVec 1 := Scalar.andi v937 v934
  let v939 : BitVec 32 := Scalar.addi v933 v932
  let v940 : BitVec 32 := Scalar.select v938 v939 v933
  let c128_i32_1285 : BitVec 32 := 128#32
  let v1338 : BitVec 32 := Scalar.muli v940 c128_i32_1285
  let v1339 : BitVec 32 := Scalar.addi c1024_i32_1286 v1338
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1277 : BitVec 32 := 1#32
  let v1326 : BitVec 32 := Scalar.subi v19 c1_i32_1277
  let v1327 : BitVec 32 := Scalar.addi v1326 c0_i32_1278
  let c4_i32_1279 : BitVec 32 := 4#32
  let c0_i32_1280 : BitVec 32 := 0#32
  let v1328 : BitVec 1 := Scalar.cmpi .eq c4_i32_1279 c0_i32_1280
  let c1_i32_1281 : BitVec 32 := 1#32
  let v1329 : BitVec 32 := Scalar.select v1328 c1_i32_1281 c4_i32_1279
  let v1330 : BitVec 32 := Scalar.remsi v1327 v1329
  let c0_i32_1283 : BitVec 32 := 0#32
  let v1332 : BitVec 1 := Scalar.cmpi .slt v1330 c0_i32_1283
  let c0_i32_1284 : BitVec 32 := 0#32
  let v1333 : BitVec 1 := Scalar.cmpi .slt v1329 c0_i32_1284
  let v1334 : BitVec 1 := Scalar.xori v1332 v1333
  let c0_i32_1282 : BitVec 32 := 0#32
  let v1331 : BitVec 1 := Scalar.cmpi .ne v1330 c0_i32_1282
  let v1335 : BitVec 1 := Scalar.andi v1334 v1331
  let v1336 : BitVec 32 := Scalar.addi v1330 v1329
  let v1337 : BitVec 32 := Scalar.select v1335 v1336 v1330
  let c32_i32_1287 : BitVec 32 := 32#32
  let v1340 : BitVec 32 := Scalar.muli v1337 c32_i32_1287
  let v1341 : BitVec 32 := Scalar.addi v1339 v1340
  let c0_i32_1298 : BitVec 32 := 0#32
  ![v1341.toNat, 0]
def k1_dev26 (d0 : Dev nD) : Nat :=
  let c0_i32_1295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_1294 : BitVec 32 := 1#32
  let v1342 : BitVec 32 := Scalar.muli v122 c1_i32_1294
  let v1343 : BitVec 32 := Scalar.addi c0_i32_1295 v1342
  v1343.toNat
def k1_off11 (d0 : Dev nD) (c0_i32_1320 : BitVec 32) : Fin 2 → Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_887 : BitVec 32 := 1#32
  let v919 : BitVec 32 := Scalar.addi v43 c1_i32_887
  let c8_i32_888 : BitVec 32 := 8#32
  let c0_i32_889 : BitVec 32 := 0#32
  let v920 : BitVec 1 := Scalar.cmpi .eq c8_i32_888 c0_i32_889
  let c1_i32_890 : BitVec 32 := 1#32
  let v921 : BitVec 32 := Scalar.select v920 c1_i32_890 c8_i32_888
  let v922 : BitVec 32 := Scalar.remsi v919 v921
  let c0_i32_892 : BitVec 32 := 0#32
  let v924 : BitVec 1 := Scalar.cmpi .slt v922 c0_i32_892
  let c0_i32_893 : BitVec 32 := 0#32
  let v925 : BitVec 1 := Scalar.cmpi .slt v921 c0_i32_893
  let v926 : BitVec 1 := Scalar.xori v924 v925
  let c0_i32_891 : BitVec 32 := 0#32
  let v923 : BitVec 1 := Scalar.cmpi .ne v922 c0_i32_891
  let v927 : BitVec 1 := Scalar.andi v926 v923
  let v928 : BitVec 32 := Scalar.addi v922 v921
  let v929 : BitVec 32 := Scalar.select v927 v928 v922
  let c128_i32_1327 : BitVec 32 := 128#32
  let v1374 : BitVec 32 := Scalar.muli v929 c128_i32_1327
  let v1375 : BitVec 32 := Scalar.addi c0_i32_1328 v1374
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1363 : BitVec 32 := Scalar.subi v19 c0_i32_1320
  let c4_i32_1321 : BitVec 32 := 4#32
  let c0_i32_1322 : BitVec 32 := 0#32
  let v1364 : BitVec 1 := Scalar.cmpi .eq c4_i32_1321 c0_i32_1322
  let c1_i32_1323 : BitVec 32 := 1#32
  let v1365 : BitVec 32 := Scalar.select v1364 c1_i32_1323 c4_i32_1321
  let v1366 : BitVec 32 := Scalar.remsi v1363 v1365
  let c0_i32_1325 : BitVec 32 := 0#32
  let v1368 : BitVec 1 := Scalar.cmpi .slt v1366 c0_i32_1325
  let c0_i32_1326 : BitVec 32 := 0#32
  let v1369 : BitVec 1 := Scalar.cmpi .slt v1365 c0_i32_1326
  let v1370 : BitVec 1 := Scalar.xori v1368 v1369
  let c0_i32_1324 : BitVec 32 := 0#32
  let v1367 : BitVec 1 := Scalar.cmpi .ne v1366 c0_i32_1324
  let v1371 : BitVec 1 := Scalar.andi v1370 v1367
  let v1372 : BitVec 32 := Scalar.addi v1366 v1365
  let v1373 : BitVec 32 := Scalar.select v1371 v1372 v1366
  let c32_i32_1329 : BitVec 32 := 32#32
  let v1376 : BitVec 32 := Scalar.muli v1373 c32_i32_1329
  let v1377 : BitVec 32 := Scalar.addi v1375 v1376
  let v1380 : Index := Scalar.indexCast v1377
  let c0_1334 : Index := 0#32
  ![v1380.toNat, 0]
def k1_off12 (d0 : Dev nD) (c0_i32_1356 : BitVec 32) : Fin 2 → Nat :=
  let c1024_i32_1364 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_894 : BitVec 32 := 7#32
  let v930 : BitVec 32 := Scalar.addi v43 c7_i32_894
  let c8_i32_895 : BitVec 32 := 8#32
  let c0_i32_896 : BitVec 32 := 0#32
  let v931 : BitVec 1 := Scalar.cmpi .eq c8_i32_895 c0_i32_896
  let c1_i32_897 : BitVec 32 := 1#32
  let v932 : BitVec 32 := Scalar.select v931 c1_i32_897 c8_i32_895
  let v933 : BitVec 32 := Scalar.remsi v930 v932
  let c0_i32_899 : BitVec 32 := 0#32
  let v935 : BitVec 1 := Scalar.cmpi .slt v933 c0_i32_899
  let c0_i32_900 : BitVec 32 := 0#32
  let v936 : BitVec 1 := Scalar.cmpi .slt v932 c0_i32_900
  let v937 : BitVec 1 := Scalar.xori v935 v936
  let c0_i32_898 : BitVec 32 := 0#32
  let v934 : BitVec 1 := Scalar.cmpi .ne v933 c0_i32_898
  let v938 : BitVec 1 := Scalar.andi v937 v934
  let v939 : BitVec 32 := Scalar.addi v933 v932
  let v940 : BitVec 32 := Scalar.select v938 v939 v933
  let c128_i32_1363 : BitVec 32 := 128#32
  let v1405 : BitVec 32 := Scalar.muli v940 c128_i32_1363
  let v1406 : BitVec 32 := Scalar.addi c1024_i32_1364 v1405
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1394 : BitVec 32 := Scalar.addi v19 c0_i32_1356
  let c4_i32_1357 : BitVec 32 := 4#32
  let c0_i32_1358 : BitVec 32 := 0#32
  let v1395 : BitVec 1 := Scalar.cmpi .eq c4_i32_1357 c0_i32_1358
  let c1_i32_1359 : BitVec 32 := 1#32
  let v1396 : BitVec 32 := Scalar.select v1395 c1_i32_1359 c4_i32_1357
  let v1397 : BitVec 32 := Scalar.remsi v1394 v1396
  let c0_i32_1361 : BitVec 32 := 0#32
  let v1399 : BitVec 1 := Scalar.cmpi .slt v1397 c0_i32_1361
  let c0_i32_1362 : BitVec 32 := 0#32
  let v1400 : BitVec 1 := Scalar.cmpi .slt v1396 c0_i32_1362
  let v1401 : BitVec 1 := Scalar.xori v1399 v1400
  let c0_i32_1360 : BitVec 32 := 0#32
  let v1398 : BitVec 1 := Scalar.cmpi .ne v1397 c0_i32_1360
  let v1402 : BitVec 1 := Scalar.andi v1401 v1398
  let v1403 : BitVec 32 := Scalar.addi v1397 v1396
  let v1404 : BitVec 32 := Scalar.select v1402 v1403 v1397
  let c32_i32_1365 : BitVec 32 := 32#32
  let v1407 : BitVec 32 := Scalar.muli v1404 c32_i32_1365
  let v1408 : BitVec 32 := Scalar.addi v1406 v1407
  let v1411 : Index := Scalar.indexCast v1408
  let c0_1370 : Index := 0#32
  ![v1411.toNat, 0]
def k1_dev27 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_1388 : BitVec 32 := 1#32
  let v1429 : BitVec 32 := Scalar.muli v109 c1_i32_1388
  let v1430 : BitVec 32 := Scalar.addi c0_i32_1389 v1429
  v1430.toNat
def k1_dev28 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_1410 : BitVec 32 := 1#32
  let v1454 : BitVec 32 := Scalar.muli v122 c1_i32_1410
  let v1455 : BitVec 32 := Scalar.addi c0_i32_1411 v1454
  v1455.toNat
def k1_dev29 (d0 : Dev nD) : Nat :=
  let c0_i32_1505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_65 : BitVec 32 := 1#32
  let v97 : BitVec 32 := Scalar.addi v19 c1_i32_65
  let c4_i32_66 : BitVec 32 := 4#32
  let c0_i32_67 : BitVec 32 := 0#32
  let v98 : BitVec 1 := Scalar.cmpi .eq c4_i32_66 c0_i32_67
  let c1_i32_68 : BitVec 32 := 1#32
  let v99 : BitVec 32 := Scalar.select v98 c1_i32_68 c4_i32_66
  let v100 : BitVec 32 := Scalar.remsi v97 v99
  let c0_i32_70 : BitVec 32 := 0#32
  let v102 : BitVec 1 := Scalar.cmpi .slt v100 c0_i32_70
  let c0_i32_71 : BitVec 32 := 0#32
  let v103 : BitVec 1 := Scalar.cmpi .slt v99 c0_i32_71
  let v104 : BitVec 1 := Scalar.xori v102 v103
  let c0_i32_69 : BitVec 32 := 0#32
  let v101 : BitVec 1 := Scalar.cmpi .ne v100 c0_i32_69
  let v105 : BitVec 1 := Scalar.andi v104 v101
  let v106 : BitVec 32 := Scalar.addi v100 v99
  let v107 : BitVec 32 := Scalar.select v105 v106 v100
  let c8_i32_72 : BitVec 32 := 8#32
  let v108 : BitVec 32 := Scalar.muli v107 c8_i32_72
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v109 : BitVec 32 := Scalar.addi v108 v29
  let c1_i32_1504 : BitVec 32 := 1#32
  let v1541 : BitVec 32 := Scalar.muli v109 c1_i32_1504
  let v1542 : BitVec 32 := Scalar.addi c0_i32_1505 v1541
  v1542.toNat
def k1_dev30 (d0 : Dev nD) : Nat :=
  let c0_i32_1527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_73 : BitVec 32 := 3#32
  let v110 : BitVec 32 := Scalar.addi v19 c3_i32_73
  let c4_i32_74 : BitVec 32 := 4#32
  let c0_i32_75 : BitVec 32 := 0#32
  let v111 : BitVec 1 := Scalar.cmpi .eq c4_i32_74 c0_i32_75
  let c1_i32_76 : BitVec 32 := 1#32
  let v112 : BitVec 32 := Scalar.select v111 c1_i32_76 c4_i32_74
  let v113 : BitVec 32 := Scalar.remsi v110 v112
  let c0_i32_78 : BitVec 32 := 0#32
  let v115 : BitVec 1 := Scalar.cmpi .slt v113 c0_i32_78
  let c0_i32_79 : BitVec 32 := 0#32
  let v116 : BitVec 1 := Scalar.cmpi .slt v112 c0_i32_79
  let v117 : BitVec 1 := Scalar.xori v115 v116
  let c0_i32_77 : BitVec 32 := 0#32
  let v114 : BitVec 1 := Scalar.cmpi .ne v113 c0_i32_77
  let v118 : BitVec 1 := Scalar.andi v117 v114
  let v119 : BitVec 32 := Scalar.addi v113 v112
  let v120 : BitVec 32 := Scalar.select v118 v119 v113
  let c8_i32_80 : BitVec 32 := 8#32
  let v121 : BitVec 32 := Scalar.muli v120 c8_i32_80
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v122 : BitVec 32 := Scalar.addi v121 v29
  let c1_i32_1526 : BitVec 32 := 1#32
  let v1566 : BitVec 32 := Scalar.muli v122 c1_i32_1526
  let v1567 : BitVec 32 := Scalar.addi c0_i32_1527 v1566
  v1567.toNat
def k1_off13 (d0 : Dev nD) (c0_i32_1604 : BitVec 32) : Fin 2 → Nat :=
  let c0_i32_1612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_1603 : BitVec 32 := 1#32
  let v1637 : BitVec 32 := Scalar.addi v43 c1_i32_1603
  let v1638 : BitVec 32 := Scalar.subi v1637 c0_i32_1604
  let c8_i32_1605 : BitVec 32 := 8#32
  let c0_i32_1606 : BitVec 32 := 0#32
  let v1639 : BitVec 1 := Scalar.cmpi .eq c8_i32_1605 c0_i32_1606
  let c1_i32_1607 : BitVec 32 := 1#32
  let v1640 : BitVec 32 := Scalar.select v1639 c1_i32_1607 c8_i32_1605
  let v1641 : BitVec 32 := Scalar.remsi v1638 v1640
  let c0_i32_1609 : BitVec 32 := 0#32
  let v1643 : BitVec 1 := Scalar.cmpi .slt v1641 c0_i32_1609
  let c0_i32_1610 : BitVec 32 := 0#32
  let v1644 : BitVec 1 := Scalar.cmpi .slt v1640 c0_i32_1610
  let v1645 : BitVec 1 := Scalar.xori v1643 v1644
  let c0_i32_1608 : BitVec 32 := 0#32
  let v1642 : BitVec 1 := Scalar.cmpi .ne v1641 c0_i32_1608
  let v1646 : BitVec 1 := Scalar.andi v1645 v1642
  let v1647 : BitVec 32 := Scalar.addi v1641 v1640
  let v1648 : BitVec 32 := Scalar.select v1646 v1647 v1641
  let c128_i32_1611 : BitVec 32 := 128#32
  let v1649 : BitVec 32 := Scalar.muli v1648 c128_i32_1611
  let v1650 : BitVec 32 := Scalar.addi c0_i32_1612 v1649
  let c0_i32_1623 : BitVec 32 := 0#32
  ![v1650.toNat, 0]
def k1_dev31 (d0 : Dev nD) : Nat :=
  let c0_i32_1620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_1619 : BitVec 32 := 1#32
  let v1651 : BitVec 32 := Scalar.muli v70 c1_i32_1619
  let v1652 : BitVec 32 := Scalar.addi c0_i32_1620 v1651
  v1652.toNat
def k1_off14 (d0 : Dev nD) (c0_i32_1625 : BitVec 32) : Fin 2 → Nat :=
  let c1024_i32_1633 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_1624 : BitVec 32 := 7#32
  let v1660 : BitVec 32 := Scalar.addi v43 c7_i32_1624
  let v1661 : BitVec 32 := Scalar.addi v1660 c0_i32_1625
  let c8_i32_1626 : BitVec 32 := 8#32
  let c0_i32_1627 : BitVec 32 := 0#32
  let v1662 : BitVec 1 := Scalar.cmpi .eq c8_i32_1626 c0_i32_1627
  let c1_i32_1628 : BitVec 32 := 1#32
  let v1663 : BitVec 32 := Scalar.select v1662 c1_i32_1628 c8_i32_1626
  let v1664 : BitVec 32 := Scalar.remsi v1661 v1663
  let c0_i32_1630 : BitVec 32 := 0#32
  let v1666 : BitVec 1 := Scalar.cmpi .slt v1664 c0_i32_1630
  let c0_i32_1631 : BitVec 32 := 0#32
  let v1667 : BitVec 1 := Scalar.cmpi .slt v1663 c0_i32_1631
  let v1668 : BitVec 1 := Scalar.xori v1666 v1667
  let c0_i32_1629 : BitVec 32 := 0#32
  let v1665 : BitVec 1 := Scalar.cmpi .ne v1664 c0_i32_1629
  let v1669 : BitVec 1 := Scalar.andi v1668 v1665
  let v1670 : BitVec 32 := Scalar.addi v1664 v1663
  let v1671 : BitVec 32 := Scalar.select v1669 v1670 v1664
  let c128_i32_1632 : BitVec 32 := 128#32
  let v1672 : BitVec 32 := Scalar.muli v1671 c128_i32_1632
  let v1673 : BitVec 32 := Scalar.addi c1024_i32_1633 v1672
  let c0_i32_1644 : BitVec 32 := 0#32
  ![v1673.toNat, 0]
def k1_dev32 (d0 : Dev nD) : Nat :=
  let c0_i32_1641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_1640 : BitVec 32 := 1#32
  let v1674 : BitVec 32 := Scalar.muli v96 c1_i32_1640
  let v1675 : BitVec 32 := Scalar.addi c0_i32_1641 v1674
  v1675.toNat
def k1_off15 (d0 : Dev nD) (c0_i32_1666 : BitVec 32) : Fin 2 → Nat :=
  let c0_i32_1678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v1695 : BitVec 32 := Scalar.subi v43 c0_i32_1666
  let c8_i32_1667 : BitVec 32 := 8#32
  let c0_i32_1668 : BitVec 32 := 0#32
  let v1696 : BitVec 1 := Scalar.cmpi .eq c8_i32_1667 c0_i32_1668
  let c1_i32_1669 : BitVec 32 := 1#32
  let v1697 : BitVec 32 := Scalar.select v1696 c1_i32_1669 c8_i32_1667
  let v1698 : BitVec 32 := Scalar.remsi v1695 v1697
  let c0_i32_1671 : BitVec 32 := 0#32
  let v1700 : BitVec 1 := Scalar.cmpi .slt v1698 c0_i32_1671
  let c0_i32_1672 : BitVec 32 := 0#32
  let v1701 : BitVec 1 := Scalar.cmpi .slt v1697 c0_i32_1672
  let v1702 : BitVec 1 := Scalar.xori v1700 v1701
  let c0_i32_1670 : BitVec 32 := 0#32
  let v1699 : BitVec 1 := Scalar.cmpi .ne v1698 c0_i32_1670
  let v1703 : BitVec 1 := Scalar.andi v1702 v1699
  let v1704 : BitVec 32 := Scalar.addi v1698 v1697
  let v1705 : BitVec 32 := Scalar.select v1703 v1704 v1698
  let c128_i32_1677 : BitVec 32 := 128#32
  let v1708 : BitVec 32 := Scalar.muli v1705 c128_i32_1677
  let v1709 : BitVec 32 := Scalar.addi c0_i32_1678 v1708
  let v1710 : Index := Scalar.indexCast v1709
  let c0_1679 : Index := 0#32
  ![v1710.toNat, 0]
def k1_off16 (d0 : Dev nD) (c0_i32_1701 : BitVec 32) : Fin 2 → Nat :=
  let c1024_i32_1713 : BitVec 32 := 1024#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let v1724 : BitVec 32 := Scalar.addi v43 c0_i32_1701
  let c8_i32_1702 : BitVec 32 := 8#32
  let c0_i32_1703 : BitVec 32 := 0#32
  let v1725 : BitVec 1 := Scalar.cmpi .eq c8_i32_1702 c0_i32_1703
  let c1_i32_1704 : BitVec 32 := 1#32
  let v1726 : BitVec 32 := Scalar.select v1725 c1_i32_1704 c8_i32_1702
  let v1727 : BitVec 32 := Scalar.remsi v1724 v1726
  let c0_i32_1706 : BitVec 32 := 0#32
  let v1729 : BitVec 1 := Scalar.cmpi .slt v1727 c0_i32_1706
  let c0_i32_1707 : BitVec 32 := 0#32
  let v1730 : BitVec 1 := Scalar.cmpi .slt v1726 c0_i32_1707
  let v1731 : BitVec 1 := Scalar.xori v1729 v1730
  let c0_i32_1705 : BitVec 32 := 0#32
  let v1728 : BitVec 1 := Scalar.cmpi .ne v1727 c0_i32_1705
  let v1732 : BitVec 1 := Scalar.andi v1731 v1728
  let v1733 : BitVec 32 := Scalar.addi v1727 v1726
  let v1734 : BitVec 32 := Scalar.select v1732 v1733 v1727
  let c128_i32_1712 : BitVec 32 := 128#32
  let v1737 : BitVec 32 := Scalar.muli v1734 c128_i32_1712
  let v1738 : BitVec 32 := Scalar.addi c1024_i32_1713 v1737
  let v1739 : Index := Scalar.indexCast v1738
  let c0_1714 : Index := 0#32
  ![v1739.toNat, 0]
def k1_dev33 (d0 : Dev nD) : Nat :=
  let c0_i32_1732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_1731 : BitVec 32 := 1#32
  let v1755 : BitVec 32 := Scalar.muli v70 c1_i32_1731
  let v1756 : BitVec 32 := Scalar.addi c0_i32_1732 v1755
  v1756.toNat
def k1_dev34 (d0 : Dev nD) : Nat :=
  let c0_i32_1753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_1752 : BitVec 32 := 1#32
  let v1778 : BitVec 32 := Scalar.muli v96 c1_i32_1752
  let v1779 : BitVec 32 := Scalar.addi c0_i32_1753 v1778
  v1779.toNat
def k1_dev35 (d0 : Dev nD) : Nat :=
  let c0_i32_1844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_1843 : BitVec 32 := 1#32
  let v1859 : BitVec 32 := Scalar.muli v70 c1_i32_1843
  let v1860 : BitVec 32 := Scalar.addi c0_i32_1844 v1859
  v1860.toNat
def k1_dev36 (d0 : Dev nD) : Nat :=
  let c0_i32_1865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_1864 : BitVec 32 := 1#32
  let v1882 : BitVec 32 := Scalar.muli v96 c1_i32_1864
  let v1883 : BitVec 32 := Scalar.addi c0_i32_1865 v1882
  v1883.toNat
def k1_dev37 (d0 : Dev nD) : Nat :=
  let c0_i32_1956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_1955 : BitVec 32 := 1#32
  let v1963 : BitVec 32 := Scalar.muli v70 c1_i32_1955
  let v1964 : BitVec 32 := Scalar.addi c0_i32_1956 v1963
  v1964.toNat
def k1_dev38 (d0 : Dev nD) : Nat :=
  let c0_i32_1977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_1976 : BitVec 32 := 1#32
  let v1986 : BitVec 32 := Scalar.muli v96 c1_i32_1976
  let v1987 : BitVec 32 := Scalar.addi c0_i32_1977 v1986
  v1987.toNat
def k1_dev39 (d0 : Dev nD) : Nat :=
  let c0_i32_2068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_2067 : BitVec 32 := 1#32
  let v2067 : BitVec 32 := Scalar.muli v70 c1_i32_2067
  let v2068 : BitVec 32 := Scalar.addi c0_i32_2068 v2067
  v2068.toNat
def k1_dev40 (d0 : Dev nD) : Nat :=
  let c0_i32_2089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_2088 : BitVec 32 := 1#32
  let v2090 : BitVec 32 := Scalar.muli v96 c1_i32_2088
  let v2091 : BitVec 32 := Scalar.addi c0_i32_2089 v2090
  v2091.toNat
def k1_dev41 (d0 : Dev nD) : Nat :=
  let c0_i32_2180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_2179 : BitVec 32 := 1#32
  let v2171 : BitVec 32 := Scalar.muli v70 c1_i32_2179
  let v2172 : BitVec 32 := Scalar.addi c0_i32_2180 v2171
  v2172.toNat
def k1_dev42 (d0 : Dev nD) : Nat :=
  let c0_i32_2201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_2200 : BitVec 32 := 1#32
  let v2194 : BitVec 32 := Scalar.muli v96 c1_i32_2200
  let v2195 : BitVec 32 := Scalar.addi c0_i32_2201 v2194
  v2195.toNat
def k1_dev43 (d0 : Dev nD) : Nat :=
  let c0_i32_2292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c1_i32_21 : BitVec 32 := 1#32
  let v45 : BitVec 32 := Scalar.addi v43 c1_i32_21
  let c8_i32_22 : BitVec 32 := 8#32
  let c0_i32_23 : BitVec 32 := 0#32
  let v46 : BitVec 1 := Scalar.cmpi .eq c8_i32_22 c0_i32_23
  let c1_i32_24 : BitVec 32 := 1#32
  let v47 : BitVec 32 := Scalar.select v46 c1_i32_24 c8_i32_22
  let v48 : BitVec 32 := Scalar.remsi v45 v47
  let c0_i32_26 : BitVec 32 := 0#32
  let v50 : BitVec 1 := Scalar.cmpi .slt v48 c0_i32_26
  let c0_i32_27 : BitVec 32 := 0#32
  let v51 : BitVec 1 := Scalar.cmpi .slt v47 c0_i32_27
  let v52 : BitVec 1 := Scalar.xori v50 v51
  let c0_i32_25 : BitVec 32 := 0#32
  let v49 : BitVec 1 := Scalar.cmpi .ne v48 c0_i32_25
  let v53 : BitVec 1 := Scalar.andi v52 v49
  let v54 : BitVec 32 := Scalar.addi v48 v47
  let v55 : BitVec 32 := Scalar.select v53 v54 v48
  let c7_i32_41 : BitVec 32 := 7#32
  let v68 : BitVec 1 := Scalar.cmpi .eq v55 c7_i32_41
  let c3_i32_42 : BitVec 32 := 3#32
  let c6_i32_39 : BitVec 32 := 6#32
  let v66 : BitVec 1 := Scalar.cmpi .eq v55 c6_i32_39
  let c4_i32_40 : BitVec 32 := 4#32
  let c5_i32_37 : BitVec 32 := 5#32
  let v64 : BitVec 1 := Scalar.cmpi .eq v55 c5_i32_37
  let c7_i32_38 : BitVec 32 := 7#32
  let c4_i32_35 : BitVec 32 := 4#32
  let v62 : BitVec 1 := Scalar.cmpi .eq v55 c4_i32_35
  let c6_i32_36 : BitVec 32 := 6#32
  let c3_i32_33 : BitVec 32 := 3#32
  let v60 : BitVec 1 := Scalar.cmpi .eq v55 c3_i32_33
  let c5_i32_34 : BitVec 32 := 5#32
  let c2_i32_31 : BitVec 32 := 2#32
  let v58 : BitVec 1 := Scalar.cmpi .eq v55 c2_i32_31
  let c2_i32_32 : BitVec 32 := 2#32
  let c1_i32_28 : BitVec 32 := 1#32
  let v56 : BitVec 1 := Scalar.cmpi .eq v55 c1_i32_28
  let c1_i32_29 : BitVec 32 := 1#32
  let c0_i32_30 : BitVec 32 := 0#32
  let v57 : BitVec 32 := Scalar.select v56 c1_i32_29 c0_i32_30
  let v59 : BitVec 32 := Scalar.select v58 c2_i32_32 v57
  let v61 : BitVec 32 := Scalar.select v60 c5_i32_34 v59
  let v63 : BitVec 32 := Scalar.select v62 c6_i32_36 v61
  let v65 : BitVec 32 := Scalar.select v64 c7_i32_38 v63
  let v67 : BitVec 32 := Scalar.select v66 c4_i32_40 v65
  let v69 : BitVec 32 := Scalar.select v68 c3_i32_42 v67
  let v70 : BitVec 32 := Scalar.addi v44 v69
  let c1_i32_2291 : BitVec 32 := 1#32
  let v2275 : BitVec 32 := Scalar.muli v70 c1_i32_2291
  let v2276 : BitVec 32 := Scalar.addi c0_i32_2292 v2275
  v2276.toNat
def k1_dev44 (d0 : Dev nD) : Nat :=
  let c0_i32_2313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_20 : BitVec 32 := 8#32
  let v44 : BitVec 32 := Scalar.muli v19 c8_i32_20
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_18 : BitVec 32 := 7#32
  let v42 : BitVec 1 := Scalar.cmpi .eq v29 c7_i32_18
  let c5_i32_19 : BitVec 32 := 5#32
  let c6_i32_16 : BitVec 32 := 6#32
  let v40 : BitVec 1 := Scalar.cmpi .eq v29 c6_i32_16
  let c4_i32_17 : BitVec 32 := 4#32
  let c5_i32 : BitVec 32 := 5#32
  let v38 : BitVec 1 := Scalar.cmpi .eq v29 c5_i32
  let c3_i32_15 : BitVec 32 := 3#32
  let c4_i32 : BitVec 32 := 4#32
  let v36 : BitVec 1 := Scalar.cmpi .eq v29 c4_i32
  let c6_i32 : BitVec 32 := 6#32
  let c3_i32 : BitVec 32 := 3#32
  let v34 : BitVec 1 := Scalar.cmpi .eq v29 c3_i32
  let c7_i32 : BitVec 32 := 7#32
  let c2_i32 : BitVec 32 := 2#32
  let v32 : BitVec 1 := Scalar.cmpi .eq v29 c2_i32
  let c2_i32_14 : BitVec 32 := 2#32
  let c1_i32_11 : BitVec 32 := 1#32
  let v30 : BitVec 1 := Scalar.cmpi .eq v29 c1_i32_11
  let c1_i32_12 : BitVec 32 := 1#32
  let c0_i32_13 : BitVec 32 := 0#32
  let v31 : BitVec 32 := Scalar.select v30 c1_i32_12 c0_i32_13
  let v33 : BitVec 32 := Scalar.select v32 c2_i32_14 v31
  let v35 : BitVec 32 := Scalar.select v34 c7_i32 v33
  let v37 : BitVec 32 := Scalar.select v36 c6_i32 v35
  let v39 : BitVec 32 := Scalar.select v38 c3_i32_15 v37
  let v41 : BitVec 32 := Scalar.select v40 c4_i32_17 v39
  let v43 : BitVec 32 := Scalar.select v42 c5_i32_19 v41
  let c7_i32_43 : BitVec 32 := 7#32
  let v71 : BitVec 32 := Scalar.addi v43 c7_i32_43
  let c8_i32_44 : BitVec 32 := 8#32
  let c0_i32_45 : BitVec 32 := 0#32
  let v72 : BitVec 1 := Scalar.cmpi .eq c8_i32_44 c0_i32_45
  let c1_i32_46 : BitVec 32 := 1#32
  let v73 : BitVec 32 := Scalar.select v72 c1_i32_46 c8_i32_44
  let v74 : BitVec 32 := Scalar.remsi v71 v73
  let c0_i32_48 : BitVec 32 := 0#32
  let v76 : BitVec 1 := Scalar.cmpi .slt v74 c0_i32_48
  let c0_i32_49 : BitVec 32 := 0#32
  let v77 : BitVec 1 := Scalar.cmpi .slt v73 c0_i32_49
  let v78 : BitVec 1 := Scalar.xori v76 v77
  let c0_i32_47 : BitVec 32 := 0#32
  let v75 : BitVec 1 := Scalar.cmpi .ne v74 c0_i32_47
  let v79 : BitVec 1 := Scalar.andi v78 v75
  let v80 : BitVec 32 := Scalar.addi v74 v73
  let v81 : BitVec 32 := Scalar.select v79 v80 v74
  let c7_i32_63 : BitVec 32 := 7#32
  let v94 : BitVec 1 := Scalar.cmpi .eq v81 c7_i32_63
  let c3_i32_64 : BitVec 32 := 3#32
  let c6_i32_61 : BitVec 32 := 6#32
  let v92 : BitVec 1 := Scalar.cmpi .eq v81 c6_i32_61
  let c4_i32_62 : BitVec 32 := 4#32
  let c5_i32_59 : BitVec 32 := 5#32
  let v90 : BitVec 1 := Scalar.cmpi .eq v81 c5_i32_59
  let c7_i32_60 : BitVec 32 := 7#32
  let c4_i32_57 : BitVec 32 := 4#32
  let v88 : BitVec 1 := Scalar.cmpi .eq v81 c4_i32_57
  let c6_i32_58 : BitVec 32 := 6#32
  let c3_i32_55 : BitVec 32 := 3#32
  let v86 : BitVec 1 := Scalar.cmpi .eq v81 c3_i32_55
  let c5_i32_56 : BitVec 32 := 5#32
  let c2_i32_53 : BitVec 32 := 2#32
  let v84 : BitVec 1 := Scalar.cmpi .eq v81 c2_i32_53
  let c2_i32_54 : BitVec 32 := 2#32
  let c1_i32_50 : BitVec 32 := 1#32
  let v82 : BitVec 1 := Scalar.cmpi .eq v81 c1_i32_50
  let c1_i32_51 : BitVec 32 := 1#32
  let c0_i32_52 : BitVec 32 := 0#32
  let v83 : BitVec 32 := Scalar.select v82 c1_i32_51 c0_i32_52
  let v85 : BitVec 32 := Scalar.select v84 c2_i32_54 v83
  let v87 : BitVec 32 := Scalar.select v86 c5_i32_56 v85
  let v89 : BitVec 32 := Scalar.select v88 c6_i32_58 v87
  let v91 : BitVec 32 := Scalar.select v90 c7_i32_60 v89
  let v93 : BitVec 32 := Scalar.select v92 c4_i32_62 v91
  let v95 : BitVec 32 := Scalar.select v94 c3_i32_64 v93
  let v96 : BitVec 32 := Scalar.addi v44 v95
  let c1_i32_2312 : BitVec 32 := 1#32
  let v2298 : BitVec 32 := Scalar.muli v96 c1_i32_2312
  let v2299 : BitVec 32 := Scalar.addi c0_i32_2313 v2298
  v2299.toNat
abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S2x1024x1024 : Shape := ⟨3, ![2, 1024, 1024]⟩
abbrev S1024x32768 : Shape := ⟨2, ![1024, 32768]⟩
abbrev S32768x1024 : Shape := ⟨2, ![32768, 1024]⟩
abbrev S2x128 : Shape := ⟨2, ![2, 128]⟩
abbrev S128x6144 : Shape := ⟨2, ![128, 6144]⟩
abbrev S1024x4096 : Shape := ⟨2, ![1024, 4096]⟩
abbrev S4096x1024 : Shape := ⟨2, ![4096, 1024]⟩
abbrev S2x6144 : Shape := ⟨2, ![2, 6144]⟩
abbrev S2x1024 : Shape := ⟨2, ![2, 1024]⟩
abbrev S_ : Shape := ⟨0, ![]⟩
abbrev S2x1024x1 : Shape := ⟨3, ![2, 1024, 1]⟩
abbrev S2x1x1024 : Shape := ⟨3, ![2, 1, 1024]⟩
abbrev S2x1024x32768 : Shape := ⟨3, ![2, 1024, 32768]⟩
abbrev S2x1024x256x128 : Shape := ⟨4, ![2, 1024, 256, 128]⟩
abbrev S2x256x1024x1024 : Shape := ⟨4, ![2, 256, 1024, 1024]⟩
abbrev S2x256x1024 : Shape := ⟨3, ![2, 256, 1024]⟩
abbrev S2x256x1024x1 : Shape := ⟨4, ![2, 256, 1024, 1]⟩
abbrev S2x256x128x1024 : Shape := ⟨4, ![2, 256, 128, 1024]⟩
abbrev S2x1024x4096 : Shape := ⟨3, ![2, 1024, 4096]⟩

abbrev nBuf : Space → Nat
  | .hbm => 151
  | .vmem => 0
  | .smem => 0
  | _ => 0

abbrev hbmTy0_0 (i : Nat) : BufTy := match i % 128 with
  | 0 => ⟨S2x1024x1024, .f32⟩
  | 1 => ⟨S1024x32768, .f32⟩
  | 2 => ⟨S1024x32768, .f32⟩
  | 3 => ⟨S1024x32768, .f32⟩
  | 4 => ⟨S32768x1024, .f32⟩
  | 5 => ⟨S2x128, .f32⟩
  | 6 => ⟨S128x6144, .f32⟩
  | 7 => ⟨S1024x4096, .f32⟩
  | 8 => ⟨S4096x1024, .f32⟩
  | 9 => ⟨S2x6144, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024x1, .f32⟩
  | 19 => ⟨S_, .f32⟩
  | 20 => ⟨S2x1024x1, .f32⟩
  | 21 => ⟨S2x1024x1, .f32⟩
  | 22 => ⟨S_, .i32⟩
  | 23 => ⟨S_, .f32⟩
  | 24 => ⟨S2x1024, .f32⟩
  | 25 => ⟨S2x1024x1, .f32⟩
  | 26 => ⟨S_, .f32⟩
  | 27 => ⟨S2x1024x1, .f32⟩
  | 28 => ⟨S2x1024x1, .f32⟩
  | 29 => ⟨S2x1024x1024, .f32⟩
  | 30 => ⟨S2x1024x1024, .f32⟩
  | 31 => ⟨S2x1024x1024, .f32⟩
  | 32 => ⟨S_, .f32⟩
  | 33 => ⟨S_, .f32⟩
  | 34 => ⟨S_, .f32⟩
  | 35 => ⟨S_, .f32⟩
  | 36 => ⟨S2x1024, .f32⟩
  | 37 => ⟨S2x1024x1, .f32⟩
  | 38 => ⟨S2x1024x1, .f32⟩
  | 39 => ⟨S2x1024x1, .f32⟩
  | 40 => ⟨S_, .f32⟩
  | 41 => ⟨S_, .i1⟩
  | 42 => ⟨S_, .f32⟩
  | 43 => ⟨S_, .f32⟩
  | 44 => ⟨S2x1024x1, .f32⟩
  | 45 => ⟨S2x1024x1, .f32⟩
  | 46 => ⟨S2x1024x1024, .f32⟩
  | 47 => ⟨S2x1024x1024, .f32⟩
  | 48 => ⟨S_, .f32⟩
  | 49 => ⟨S2x1024x1, .f32⟩
  | 50 => ⟨S2x1024x1, .f32⟩
  | 51 => ⟨S2x1024x1, .f32⟩
  | 52 => ⟨S2x1024x1024, .f32⟩
  | 53 => ⟨S2x1024x1024, .f32⟩
  | 54 => ⟨S2x1x1024, .f32⟩
  | 55 => ⟨S_, .f32⟩
  | 56 => ⟨S2x1x1024, .f32⟩
  | 57 => ⟨S2x1x1024, .f32⟩
  | 58 => ⟨S2x1024x1024, .f32⟩
  | 59 => ⟨S2x1024x1024, .f32⟩
  | 60 => ⟨S2x1x1024, .f32⟩
  | 61 => ⟨S2x1024x1024, .f32⟩
  | 62 => ⟨S2x1024x1024, .f32⟩
  | 63 => ⟨S2x1024x32768, .f32⟩
  | 64 => ⟨S2x1024x256x128, .f32⟩
  | 65 => ⟨S2x1024x32768, .f32⟩
  | 66 => ⟨S2x1024x256x128, .f32⟩
  | 67 => ⟨S2x1024x32768, .f32⟩
  | 68 => ⟨S2x1024x256x128, .f32⟩
  | 69 => ⟨S2x256x1024x1024, .f32⟩
  | 70 => ⟨S_, .f32⟩
  | 71 => ⟨S2x256x1024x1024, .f32⟩
  | 72 => ⟨S2x256x1024x1024, .f32⟩
  | 73 => ⟨S_, .f32⟩
  | 74 => ⟨S2x256x1024, .f32⟩
  | 75 => ⟨S2x256x1024x1, .f32⟩
  | 76 => ⟨S2x256x1024x1024, .f32⟩
  | 77 => ⟨S2x256x1024x1024, .f32⟩
  | 78 => ⟨S2x256x1024x1024, .f32⟩
  | 79 => ⟨S_, .f32⟩
  | 80 => ⟨S2x256x1024, .f32⟩
  | 81 => ⟨S2x256x1024x1, .f32⟩
  | 82 => ⟨S2x256x1024x1024, .f32⟩
  | 83 => ⟨S2x256x1024x1024, .f32⟩
  | 84 => ⟨S2x256x128x1024, .f32⟩
  | 85 => ⟨S2x1024x256x128, .f32⟩
  | 86 => ⟨S2x1024x32768, .f32⟩
  | 87 => ⟨S2x1024x1024, .f32⟩
  | 88 => ⟨S2x1x1024, .f32⟩
  | 89 => ⟨S2x1024x1024, .f32⟩
  | 90 => ⟨S2x1024x1024, .f32⟩
  | 91 => ⟨S2x1024x1024, .f32⟩
  | 92 => ⟨S_, .f32⟩
  | 93 => ⟨S2x1024, .f32⟩
  | 94 => ⟨S2x1024x1, .f32⟩
  | 95 => ⟨S_, .f32⟩
  | 96 => ⟨S2x1024x1, .f32⟩
  | 97 => ⟨S2x1024x1, .f32⟩
  | 98 => ⟨S_, .i32⟩
  | 99 => ⟨S_, .f32⟩
  | 100 => ⟨S2x1024, .f32⟩
  | 101 => ⟨S2x1024x1, .f32⟩
  | 102 => ⟨S_, .f32⟩
  | 103 => ⟨S2x1024x1, .f32⟩
  | 104 => ⟨S2x1024x1, .f32⟩
  | 105 => ⟨S2x1024x1024, .f32⟩
  | 106 => ⟨S2x1024x1024, .f32⟩
  | 107 => ⟨S2x1024x1024, .f32⟩
  | 108 => ⟨S_, .f32⟩
  | 109 => ⟨S_, .f32⟩
  | 110 => ⟨S_, .f32⟩
  | 111 => ⟨S_, .f32⟩
  | 112 => ⟨S2x1024, .f32⟩
  | 113 => ⟨S2x1024x1, .f32⟩
  | 114 => ⟨S2x1024x1, .f32⟩
  | 115 => ⟨S2x1024x1, .f32⟩
  | 116 => ⟨S_, .f32⟩
  | 117 => ⟨S_, .i1⟩
  | 118 => ⟨S_, .f32⟩
  | 119 => ⟨S_, .f32⟩
  | 120 => ⟨S2x1024x1, .f32⟩
  | 121 => ⟨S2x1024x1, .f32⟩
  | 122 => ⟨S2x1024x1024, .f32⟩
  | 123 => ⟨S2x1024x1024, .f32⟩
  | 124 => ⟨S_, .f32⟩
  | 125 => ⟨S2x1024x1, .f32⟩
  | 126 => ⟨S2x1024x1, .f32⟩
  | 127 => ⟨S2x1024x1, .f32⟩
  | _ => ⟨S2x1024x1024, .f32⟩

abbrev hbmTy0_1 (i : Nat) : BufTy := match i % 128 with
  | 0 => ⟨S2x1024x1024, .f32⟩
  | 1 => ⟨S2x1024x1024, .f32⟩
  | 2 => ⟨S2x1x1024, .f32⟩
  | 3 => ⟨S_, .f32⟩
  | 4 => ⟨S2x1x1024, .f32⟩
  | 5 => ⟨S2x1x1024, .f32⟩
  | 6 => ⟨S2x1024x1024, .f32⟩
  | 7 => ⟨S2x1024x1024, .f32⟩
  | 8 => ⟨S2x1x1024, .f32⟩
  | 9 => ⟨S2x1024x1024, .f32⟩
  | 10 => ⟨S2x1024x1024, .f32⟩
  | 11 => ⟨S2x1024x4096, .f32⟩
  | 12 => ⟨S2x1024x4096, .f32⟩
  | 13 => ⟨S2x1024x4096, .f32⟩
  | 14 => ⟨S_, .f32⟩
  | 15 => ⟨S2x1024x4096, .f32⟩
  | 16 => ⟨S2x1024x4096, .f32⟩
  | 17 => ⟨S2x1024x4096, .f32⟩
  | 18 => ⟨S2x1x1024, .f32⟩
  | 19 => ⟨S2x1024x1024, .f32⟩
  | 20 => ⟨S2x1024x1024, .f32⟩
  | 21 => ⟨S2x1024x1024, .f32⟩
  | 22 => ⟨S2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_3 : Ref sig .tc := ⟨.hbm, 70, rfl⟩
abbrev main_v34 : Ref sig .tc := ⟨.hbm, 71, rfl⟩
abbrev main_v35 : Ref sig .tc := ⟨.hbm, 72, rfl⟩
abbrev main_cst_4 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_5 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_6 : Ref sig .tc := ⟨.hbm, 92, rfl⟩
abbrev main_v53 : Ref sig .tc := ⟨.hbm, 93, rfl⟩
abbrev main_v54 : Ref sig .tc := ⟨.hbm, 94, rfl⟩
abbrev main_cst_7 : Ref sig .tc := ⟨.hbm, 95, rfl⟩
abbrev main_v55 : Ref sig .tc := ⟨.hbm, 96, rfl⟩
abbrev main_v56 : Ref sig .tc := ⟨.hbm, 97, rfl⟩
abbrev main_c_8 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_cst_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_cst_1 : Ref sig .tc := ⟨.hbm, 109, rfl⟩
abbrev main_call1_v8 : Ref sig .tc := ⟨.hbm, 110, rfl⟩
abbrev main_call1_cst_2 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_v12 : Ref sig .tc := ⟨.hbm, 115, rfl⟩
abbrev main_call1_cst_3 : Ref sig .tc := ⟨.hbm, 116, rfl⟩
abbrev main_call1_v13 : Ref sig .tc := ⟨.hbm, 117, rfl⟩
abbrev main_call1_cst_4 : Ref sig .tc := ⟨.hbm, 118, rfl⟩
abbrev main_call1_call0_v0 : Ref sig .tc := ⟨.hbm, 119, rfl⟩
abbrev main_call1_call0_v1 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_cst_9 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_10 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_11 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩

abbrev nD : Nat := 1
abbrev τ : Topo := Topo.v7x

variable {F : FTy → Type} [FloatOps F]
-- ==== Proof.Clean.lean ====
/-
# 01_k — the kernel body as twenty exchange steps

The printed body is a list of effects. Here it is put together again: the handshake with the four neighbours, the copy of the
argument into the result, and twenty exchange steps of one form (`xstep`): two remote copies started, one in each direction,
then for each direction the two waits, the loads and the store.
-/
module

public import proofs.«01_k».proof.Proof.Gen.KernelIdeal
public import proofs.«01_k».proof.Proof.Gen.KernelIdeal.Skeleton

@[expose] public section

noncomputable section

namespace Cert.KernelIdeal.Pf

open Cert.KernelIdeal Cert.KernelIdeal.Gen
open Idealize.ShloMosaic Idealize.SL.Sem

variable {F : FTy → Type} [FloatOps F]

/-- The shape of a block of rows of the result. -/
abbrev Sh2 (n : Nat) : Shape := ⟨2, ![n, 1024]⟩
/-- The shape of one slot of a landing buffer. -/
abbrev Sh4 (n : Nat) : Shape := ⟨4, ![1, 1, n, 1024]⟩
/-- The shape of a landing buffer of `k` slots for each direction. -/
abbrev ShC (k n : Nat) : Shape := ⟨4, ![2, k, n, 1024]⟩
/-- The shape of its semaphores. -/
abbrev ShS (k : Nat) : Shape := ⟨2, ![2, k]⟩

/-- A block of rows from row `o 0`. -/
abbrev rowR (n : Nat) (o : Fin 2 → Nat) (h : ∀ a, o a + (Sh2 n).size a ≤ S2048x1024.size a) : Rect S2048x1024 :=
  Rect.unit (s := S2048x1024) o (Sh2 n).size h

theorem slot_inb {k n : Nat} (d : Fin 2) (i : Fin k) : ∀ a, (![d.val, i.val, 0, 0] : Fin 4 → Nat) a + (Sh4 n).size a ≤ (ShC k n).size a := by
  intro a
  fin_cases a
  · show d.val + 1 ≤ 2; omega
  · show i.val + 1 ≤ k; omega
  · show 0 + n ≤ n; omega
  · show 0 + 1024 ≤ 1024; omega

/-- Slot `i` of direction `d`. -/
abbrev slotR {k : Nat} (n : Nat) (d : Fin 2) (i : Fin k) : Rect (ShC k n) :=
  Rect.unit (s := ShC k n) ![d.val, i.val, 0, 0] (Sh4 n).size (slot_inb d i)

theorem sem_inb {k : Nat} (d : Fin 2) (i : Fin k) : ∀ a, (![d.val, i.val] : Fin 2 → Nat) a + S1x1.size a ≤ (ShS k).size a := by
  intro a
  fin_cases a
  · show d.val + 1 ≤ 2; omega
  · show i.val + 1 ≤ k; omega

/-- The semaphore of slot `i` of direction `d`. -/
abbrev semOf {k : Nat} (S : DmaSems sig (ShS k)) (d : Fin 2) (i : Fin k) : DmaSem sig :=
  ((S.slice (Rect.unit (s := ShS k) ![d.val, i.val] S1x1.size (sem_inb d i))).squeeze S_ squeezes_S1x1_S_).sem

/-- A block of rows of the result as a memref. -/
abbrev rowM (out : Memref sig .tc .vmem S2048x1024 .f32) (n : Nat) (o : Fin 2 → Nat) (h : ∀ a, o a + (Sh2 n).size a ≤ S2048x1024.size a) :
    Memref sig .tc .vmem (Sh2 n) .f32 := out.slice (rowR n o h) (fun _ => rfl)
/-- A slot as a memref. -/
abbrev slotM {k n : Nat} (cm : Memref sig .tc .vmem (ShC k n) .f32) (hq : (Sh4 n).Squeezes (Sh2 n)) (d : Fin 2) (i : Fin k) :
    Memref sig .tc .vmem (Sh2 n) .f32 := (cm.slice (slotR n d i) (fun _ => rfl)).squeeze (Sh2 n) hq

/-- The start of the copy of direction `d` of step `i`. -/
def sendP {k n : Nat} (out : Memref sig .tc .vmem S2048x1024 .f32) (cm : Memref sig .tc .vmem (ShC k n) .f32) (hq : (Sh4 n).Squeezes (Sh2 n))
    (sS rS : DmaSems sig (ShS k)) (i : Fin k) (d : Fin 2) (o : Fin 2 → Nat) (h : ∀ a, o a + (Sh2 n).size a ≤ S2048x1024.size a) (p : Dev nD) :
    Prog (TpuEff nD τ sig (Elt F) Λ₀ .tc) PUnit :=
  Prog.lift (.enqueueDma (rowM out n o h) (.remote (Dev.tc p) (slotM cm hq d i) (.dma (semOf sS d i))) (.dma (semOf rS d i))
    (View.wordExact_bits rfl) ((View.wordExact_bits rfl).reshape _ _) ⟨⟨rfl, Or.inl rfl⟩, trivial⟩)

/-- The wait for the copy sent in direction `d` of step `i`. -/
def waitSP {k n : Nat} (out : Memref sig .tc .vmem S2048x1024 .f32) (cm : Memref sig .tc .vmem (ShC k n) .f32) (hq : (Sh4 n).Squeezes (Sh2 n))
    (sS : DmaSems sig (ShS k)) (i : Fin k) (d : Fin 2) (o : Fin 2 → Nat) (h : ∀ a, o a + (Sh2 n).size a ≤ S2048x1024.size a) :
    Prog (TpuEff nD τ sig (Elt F) Λ₀ .tc) PUnit :=
  Prog.lift (.waitDma2 (semOf sS d i) (slotM cm hq d i) (rowM out n o h) ((View.wordExact_bits rfl).reshape _ _) (View.wordExact_bits rfl))

/-- The wait for the copy received in direction `d` of step `i`. -/
def waitRP {k n : Nat} (out : Memref sig .tc .vmem S2048x1024 .f32) (cm : Memref sig .tc .vmem (ShC k n) .f32) (hq : (Sh4 n).Squeezes (Sh2 n))
    (rS : DmaSems sig (ShS k)) (i : Fin k) (d : Fin 2) (o : Fin 2 → Nat) (h : ∀ a, o a + (Sh2 n).size a ≤ S2048x1024.size a) :
    Prog (TpuEff nD τ sig (Elt F) Λ₀ .tc) PUnit :=
  Prog.lift (.waitDma2 (semOf rS d i) (rowM out n o h) (slotM cm hq d i) (View.wordExact_bits rfl) ((View.wordExact_bits rfl).reshape _ _))

/-- The load of a block of rows of the result. -/
def ldO {n : Nat} (hp : 0 < (Sh2 n).numel) (out : Memref sig .tc .vmem S2048x1024 .f32) (o : Fin 2 → Nat) (h : ∀ a, o a + (Sh2 n).size a ≤ S2048x1024.size a) :
    Prog (TpuEff nD τ sig (Elt F) Λ₀ .tc) (Vec F (Sh2 n) .f32) :=
  Prog.lift (.load out (rowR n o h).toLoadRect (View.loadsAt_vmem hp))

/-- The load of a slot. -/
def ldC {k n : Nat} (hp4 : 0 < (Sh4 n).numel) (cm : Memref sig .tc .vmem (ShC k n) .f32) (i : Fin k) (d : Fin 2) :
    Prog (TpuEff nD τ sig (Elt F) Λ₀ .tc) (Vec F (Sh4 n) .f32) :=
  Prog.lift (.load cm (slotR n d i).toLoadRect (View.loadsAt_vmem hp4))

/-- The store of a block of rows of the result. -/
def stO {n : Nat} (hp : 0 < (Sh2 n).numel) (out : Memref sig .tc .vmem S2048x1024 .f32) (o : Fin 2 → Nat) (h : ∀ a, o a + (Sh2 n).size a ≤ S2048x1024.size a)
    (v : FVec F (Sh2 n) .f32) : Prog (TpuEff nD τ sig (Elt F) Λ₀ .tc) PUnit :=
  Prog.lift (.store out (rowR n o h) v Finset.univ (View.stores_vmem_bits_univ hp rfl) (.inl rfl))

/-- The received rows added to the result's. -/
def addP {k n : Nat} (hp : 0 < (Sh2 n).numel) (hp4 : 0 < (Sh4 n).numel) (h2 : (Sh2 n).ShapeCasts (Sh2 n)) (h4 : (Sh4 n).ShapeCasts (Sh2 n))
    (out : Memref sig .tc .vmem S2048x1024 .f32) (cm : Memref sig .tc .vmem (ShC k n) .f32)
    (i : Fin k) (d : Fin 2) (o : Fin 2 → Nat) (h : ∀ a, o a + (Sh2 n).size a ≤ S2048x1024.size a) :
    Prog (TpuEff nD τ sig (Elt F) Λ₀ .tc) PUnit := do
  let v ← ldO hp out o h
  let w ← ldC hp4 cm i d
  let _ ← ldO hp out o h
  stO hp out o h (addf (shapeCast (Sh2 n) v h2 : FVec F (Sh2 n) .f32) (shapeCast (Sh2 n) w h4))

/-- The received rows put in the result's place. -/
def putP {k n : Nat} (hp : 0 < (Sh2 n).numel) (hp4 : 0 < (Sh4 n).numel) (h4 : (Sh4 n).ShapeCasts (Sh2 n))
    (out : Memref sig .tc .vmem S2048x1024 .f32) (cm : Memref sig .tc .vmem (ShC k n) .f32)
    (i : Fin k) (d : Fin 2) (o : Fin 2 → Nat) (h : ∀ a, o a + (Sh2 n).size a ≤ S2048x1024.size a) :
    Prog (TpuEff nD τ sig (Elt F) Λ₀ .tc) PUnit := do
  let w ← ldC hp4 cm i d
  let _ ← ldO hp out o h
  stO hp out o h (shapeCast (Sh2 n) w h4)

section Printed

variable (out : Memref sig .tc .vmem S2048x1024 .f32) (c1 : Memref sig .tc .vmem S2x7x128x1024 .f32) (c2 : Memref sig .tc .vmem S2x6x32x1024 .f32)
  (c3 : Memref sig .tc .vmem S2x7x128x1024 .f32) (s1 r1 : DmaSems sig S2x7) (s2 r2 : DmaSems sig S2x6) (s3 r3 : DmaSems sig S2x7) (d0 : Dev nD)

/-- Step `i` of the reduction in the plane; `p`, `p'` are the two neighbours as printed. -/
def step1 (i : Fin 7) (p p' : Dev nD) : Prog (TpuEff nD τ sig (Elt F) Λ₀ .tc) PUnit := do
  sendP out c1 squeezes_S1x1x128x1024_S128x1024 s1 r1 i 0 (k0_off1 d0 (BitVec.ofNat 32 i.val)) (k0_off1_inb d0 i) p
  sendP out c1 squeezes_S1x1x128x1024_S128x1024 s1 r1 i 1 (k0_off2 d0 (BitVec.ofNat 32 i.val)) (k0_off2_inb d0 i) p'
  waitSP out c1 squeezes_S1x1x128x1024_S128x1024 s1 i 0 (k0_off1 d0 (BitVec.ofNat 32 i.val)) (k0_off1_inb d0 i)
  waitRP out c1 squeezes_S1x1x128x1024_S128x1024 r1 i 0 (k0_off1 d0 (BitVec.ofNat 32 i.val)) (k0_off1_inb d0 i)
  addP h_S128x1024 h_S1x1x128x1024 shapeCasts_S128x1024_S128x1024 shapeCasts_S1x1x128x1024_S128x1024 out c1 i 0 (k0_off3 d0 (BitVec.ofNat 32 i.val)) (k0_off3_inb d0 i)
  waitSP out c1 squeezes_S1x1x128x1024_S128x1024 s1 i 1 (k0_off2 d0 (BitVec.ofNat 32 i.val)) (k0_off2_inb d0 i)
  waitRP out c1 squeezes_S1x1x128x1024_S128x1024 r1 i 1 (k0_off2 d0 (BitVec.ofNat 32 i.val)) (k0_off2_inb d0 i)
  addP h_S128x1024 h_S1x1x128x1024 shapeCasts_S128x1024_S128x1024 shapeCasts_S1x1x128x1024_S128x1024 out c1 i 1 (k0_off4 d0 (BitVec.ofNat 32 i.val)) (k0_off4_inb d0 i)

/-- Step `i` of the reduction across the planes. -/
def step2 (i : Fin 3) (p p' : Dev nD) : Prog (TpuEff nD τ sig (Elt F) Λ₀ .tc) PUnit := do
  sendP out c2 squeezes_S1x1x32x1024_S32x1024 s2 r2 (i.castLE (by decide) : Fin 6) 0 (k0_off5 d0 (BitVec.ofNat 32 i.val)) (k0_off5_inb d0 i) p
  sendP out c2 squeezes_S1x1x32x1024_S32x1024 s2 r2 (i.castLE (by decide) : Fin 6) 1 (k0_off6 d0 (BitVec.ofNat 32 i.val)) (k0_off6_inb d0 i) p'
  waitSP out c2 squeezes_S1x1x32x1024_S32x1024 s2 (i.castLE (by decide) : Fin 6) 0 (k0_off5 d0 (BitVec.ofNat 32 i.val)) (k0_off5_inb d0 i)
  waitRP out c2 squeezes_S1x1x32x1024_S32x1024 r2 (i.castLE (by decide) : Fin 6) 0 (k0_off5 d0 (BitVec.ofNat 32 i.val)) (k0_off5_inb d0 i)
  addP h_S32x1024 h_S1x1x32x1024 shapeCasts_S32x1024_S32x1024 shapeCasts_S1x1x32x1024_S32x1024 out c2 (i.castLE (by decide) : Fin 6) 0 (k0_off7 d0 (BitVec.ofNat 32 i.val)) (k0_off7_inb d0 i)
  waitSP out c2 squeezes_S1x1x32x1024_S32x1024 s2 (i.castLE (by decide) : Fin 6) 1 (k0_off6 d0 (BitVec.ofNat 32 i.val)) (k0_off6_inb d0 i)
  waitRP out c2 squeezes_S1x1x32x1024_S32x1024 r2 (i.castLE (by decide) : Fin 6) 1 (k0_off6 d0 (BitVec.ofNat 32 i.val)) (k0_off6_inb d0 i)
  addP h_S32x1024 h_S1x1x32x1024 shapeCasts_S32x1024_S32x1024 shapeCasts_S1x1x32x1024_S32x1024 out c2 (i.castLE (by decide) : Fin 6) 1 (k0_off8 d0 (BitVec.ofNat 32 i.val)) (k0_off8_inb d0 i)

/-- Step `i` of the gathering across the planes. -/
def step3 (i : Fin 3) (p p' : Dev nD) : Prog (TpuEff nD τ sig (Elt F) Λ₀ .tc) PUnit := do
  sendP out c2 squeezes_S1x1x32x1024_S32x1024 s2 r2 (i.natAdd 3 : Fin 6) 0 (k0_off9 d0 (BitVec.ofNat 32 i.val)) (k0_off9_inb d0 i) p
  sendP out c2 squeezes_S1x1x32x1024_S32x1024 s2 r2 (i.natAdd 3 : Fin 6) 1 (k0_off10 d0 (BitVec.ofNat 32 i.val)) (k0_off10_inb d0 i) p'
  waitSP out c2 squeezes_S1x1x32x1024_S32x1024 s2 (i.natAdd 3 : Fin 6) 0 (k0_off9 d0 (BitVec.ofNat 32 i.val)) (k0_off9_inb d0 i)
  waitRP out c2 squeezes_S1x1x32x1024_S32x1024 r2 (i.natAdd 3 : Fin 6) 0 (k0_off9 d0 (BitVec.ofNat 32 i.val)) (k0_off9_inb d0 i)
  putP h_S32x1024 h_S1x1x32x1024 shapeCasts_S1x1x32x1024_S32x1024 out c2 (i.natAdd 3 : Fin 6) 0 (k0_off11 d0 (BitVec.ofNat 32 i.val)) (k0_off11_inb d0 i)
  waitSP out c2 squeezes_S1x1x32x1024_S32x1024 s2 (i.natAdd 3 : Fin 6) 1 (k0_off10 d0 (BitVec.ofNat 32 i.val)) (k0_off10_inb d0 i)
  waitRP out c2 squeezes_S1x1x32x1024_S32x1024 r2 (i.natAdd 3 : Fin 6) 1 (k0_off10 d0 (BitVec.ofNat 32 i.val)) (k0_off10_inb d0 i)
  putP h_S32x1024 h_S1x1x32x1024 shapeCasts_S1x1x32x1024_S32x1024 out c2 (i.natAdd 3 : Fin 6) 1 (k0_off12 d0 (BitVec.ofNat 32 i.val)) (k0_off12_inb d0 i)

/-- Step `i` of the gathering in the plane. -/
def step4 (i : Fin 7) (p p' : Dev nD) : Prog (TpuEff nD τ sig (Elt F) Λ₀ .tc) PUnit := do
  sendP out c3 squeezes_S1x1x128x1024_S128x1024 s3 r3 i 0 (k0_off13 d0 (BitVec.ofNat 32 i.val)) (k0_off13_inb d0 i) p
  sendP out c3 squeezes_S1x1x128x1024_S128x1024 s3 r3 i 1 (k0_off14 d0 (BitVec.ofNat 32 i.val)) (k0_off14_inb d0 i) p'
  waitSP out c3 squeezes_S1x1x128x1024_S128x1024 s3 i 0 (k0_off13 d0 (BitVec.ofNat 32 i.val)) (k0_off13_inb d0 i)
  waitRP out c3 squeezes_S1x1x128x1024_S128x1024 r3 i 0 (k0_off13 d0 (BitVec.ofNat 32 i.val)) (k0_off13_inb d0 i)
  putP h_S128x1024 h_S1x1x128x1024 shapeCasts_S1x1x128x1024_S128x1024 out c3 i 0 (k0_off15 d0 (BitVec.ofNat 32 i.val)) (k0_off15_inb d0 i)
  waitSP out c3 squeezes_S1x1x128x1024_S128x1024 s3 i 1 (k0_off14 d0 (BitVec.ofNat 32 i.val)) (k0_off14_inb d0 i)
  waitRP out c3 squeezes_S1x1x128x1024_S128x1024 r3 i 1 (k0_off14 d0 (BitVec.ofNat 32 i.val)) (k0_off14_inb d0 i)
  putP h_S128x1024 h_S1x1x128x1024 shapeCasts_S1x1x128x1024_S128x1024 out c3 i 1 (k0_off16 d0 (BitVec.ofNat 32 i.val)) (k0_off16_inb d0 i)

/-- The handshake, over the barrier semaphore `b`, and the copy. -/
def headP (b : Sem sig) (x : Memref sig .tc .vmem S2048x1024 .f32) : Prog (TpuEff nD τ sig (Elt F) Λ₀ .tc) PUnit := do
  semSignalWord (⟨k0_dev1 d0, k0_dev1_lt d0⟩ : Dev nD) b 1#32
  semSignalWord (⟨k0_dev2 d0, k0_dev2_lt d0⟩ : Dev nD) b 1#32
  semSignalWord (⟨k0_dev3 d0, k0_dev3_lt d0⟩ : Dev nD) b 1#32
  semSignalWord (⟨k0_dev4 d0, k0_dev4_lt d0⟩ : Dev nD) b 1#32
  semWaitWord b 4#32
  let v : Vec F S2048x1024 .f32 ← Prog.lift (.load x (Rect.unit (s := S2048x1024) ![0, 0] S2048x1024.size inb_S2048x1024_S2048x1024_0_0).toLoadRect (View.loadsAt_vmem h_S2048x1024))
  let _ : Vec F S2048x1024 .f32 ← Prog.lift (.load out (Rect.unit (s := S2048x1024) ![0, 0] S2048x1024.size inb_S2048x1024_S2048x1024_0_0).toLoadRect (View.loadsAt_vmem h_S2048x1024))
  Prog.lift (.store out (Rect.unit (s := S2048x1024) ![0, 0] S2048x1024.size inb_S2048x1024_S2048x1024_0_0) (shapeCast S2048x1024 v shapeCasts_S2048x1024_S2048x1024 : FVec F S2048x1024 .f32) Finset.univ (View.stores_vmem_bits_univ h_S2048x1024 rfl) (.inl rfl))

/-- The body as a whole. -/
def cleanP (b : Sem sig) (x : Memref sig .tc .vmem S2048x1024 .f32) : Prog (TpuEff nD τ sig (Elt F) Λ₀ .tc) PUnit := do
  headP out d0 b x
  step1 out c1 s1 r1 d0 0 ⟨k0_dev5 d0, k0_dev5_lt d0⟩ ⟨k0_dev6 d0, k0_dev6_lt d0⟩
  step1 out c1 s1 r1 d0 1 ⟨k0_dev7 d0, k0_dev7_lt d0⟩ ⟨k0_dev8 d0, k0_dev8_lt d0⟩
  step1 out c1 s1 r1 d0 2 ⟨k0_dev9 d0, k0_dev9_lt d0⟩ ⟨k0_dev10 d0, k0_dev10_lt d0⟩
  step1 out c1 s1 r1 d0 3 ⟨k0_dev11 d0, k0_dev11_lt d0⟩ ⟨k0_dev12 d0, k0_dev12_lt d0⟩
  step1 out c1 s1 r1 d0 4 ⟨k0_dev13 d0, k0_dev13_lt d0⟩ ⟨k0_dev14 d0, k0_dev14_lt d0⟩
  step1 out c1 s1 r1 d0 5 ⟨k0_dev15 d0, k0_dev15_lt d0⟩ ⟨k0_dev16 d0, k0_dev16_lt d0⟩
  step1 out c1 s1 r1 d0 6 ⟨k0_dev17 d0, k0_dev17_lt d0⟩ ⟨k0_dev18 d0, k0_dev18_lt d0⟩
  step2 out c2 s2 r2 d0 0 ⟨k0_dev19 d0, k0_dev19_lt d0⟩ ⟨k0_dev20 d0, k0_dev20_lt d0⟩
  step2 out c2 s2 r2 d0 1 ⟨k0_dev21 d0, k0_dev21_lt d0⟩ ⟨k0_dev22 d0, k0_dev22_lt d0⟩
  step2 out c2 s2 r2 d0 2 ⟨k0_dev23 d0, k0_dev23_lt d0⟩ ⟨k0_dev24 d0, k0_dev24_lt d0⟩
  step3 out c2 s2 r2 d0 0 ⟨k0_dev25 d0, k0_dev25_lt d0⟩ ⟨k0_dev26 d0, k0_dev26_lt d0⟩
  step3 out c2 s2 r2 d0 1 ⟨k0_dev27 d0, k0_dev27_lt d0⟩ ⟨k0_dev28 d0, k0_dev28_lt d0⟩
  step3 out c2 s2 r2 d0 2 ⟨k0_dev29 d0, k0_dev29_lt d0⟩ ⟨k0_dev30 d0, k0_dev30_lt d0⟩
  step4 out c3 s3 r3 d0 0 ⟨k0_dev31 d0, k0_dev31_lt d0⟩ ⟨k0_dev32 d0, k0_dev32_lt d0⟩
  step4 out c3 s3 r3 d0 1 ⟨k0_dev33 d0, k0_dev33_lt d0⟩ ⟨k0_dev34 d0, k0_dev34_lt d0⟩
  step4 out c3 s3 r3 d0 2 ⟨k0_dev35 d0, k0_dev35_lt d0⟩ ⟨k0_dev36 d0, k0_dev36_lt d0⟩
  step4 out c3 s3 r3 d0 3 ⟨k0_dev37 d0, k0_dev37_lt d0⟩ ⟨k0_dev38 d0, k0_dev38_lt d0⟩
  step4 out c3 s3 r3 d0 4 ⟨k0_dev39 d0, k0_dev39_lt d0⟩ ⟨k0_dev40 d0, k0_dev40_lt d0⟩
  step4 out c3 s3 r3 d0 5 ⟨k0_dev41 d0, k0_dev41_lt d0⟩ ⟨k0_dev42 d0, k0_dev42_lt d0⟩
  step4 out c3 s3 r3 d0 6 ⟨k0_dev43 d0, k0_dev43_lt d0⟩ ⟨k0_dev44 d0, k0_dev44_lt d0⟩

end Printed

end Cert.KernelIdeal.Pf

end
-- ==== Proof.Parts.lean ====
/-
# 01_k — the printed parts as pieces

Every printed part of the body, statement by statement, in the pieces of `Clean`; then the body as a whole. The printed words
that no effect reads drop out.
-/
module

public import proofs.«01_k».proof.Proof.Clean

@[expose] public section

noncomputable section

namespace Cert.KernelIdeal.Pf

open Cert.KernelIdeal Cert.KernelIdeal.Gen
open Idealize.ShloMosaic Idealize.SL.Sem

variable {F : FTy → Type} [FloatOps F]

set_option maxRecDepth 65536 in
theorem k0_part1_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) :
    k0_part1_skel (F := F) arg0 harg0 arg1 harg1 arg2 harg2 arg3 harg3 arg4 harg4 arg5 arg6 arg7 arg8 arg9 arg10 = (do
      let d0 : Dev nD ← Prog.lift .deviceId
      let v0 : BitVec 32 := Dev.word d0
      let v1 : BitVec 32 := Scalar.divsi v0 1#32
      let v2 : BitVec 32 := Scalar.remsi v1 32#32
      let v3 : BitVec 32 := Scalar.divsi v2 8#32
      let v4 : BitVec 1 := Scalar.cmpi .sgt v2 0#32
      let v5 : BitVec 32 := Scalar.extui v4
      let v6 : BitVec 1 := Scalar.cmpi .slt v2 0#32
      let v7 : BitVec 32 := Scalar.extui v6
      let v8 : BitVec 32 := Scalar.subi v5 v7
      let v9 : BitVec 1 := Scalar.cmpi .sgt 8#32 0#32
      let v10 : BitVec 32 := Scalar.extui v9
      let v11 : BitVec 1 := Scalar.cmpi .slt 8#32 0#32
      let v12 : BitVec 32 := Scalar.extui v11
      let v13 : BitVec 32 := Scalar.subi v10 v12
      let v14 : BitVec 1 := Scalar.cmpi .ne v8 v13
      let v15 : BitVec 32 := Scalar.remsi v2 8#32
      let v16 : BitVec 1 := Scalar.cmpi .ne v15 0#32
      let v17 : BitVec 1 := Scalar.andi v14 v16
      let v18 : BitVec 32 := Scalar.subi v3 1#32
      let v19 : BitVec 32 := Scalar.select v17 v18 v3
      let v20 : BitVec 1 := Scalar.cmpi .eq 8#32 0#32
      let v21 : BitVec 32 := Scalar.select v20 1#32 8#32
      let v22 : BitVec 32 := Scalar.remsi v2 v21
      let v23 : BitVec 1 := Scalar.cmpi .ne v22 0#32
      let v24 : BitVec 1 := Scalar.cmpi .slt v22 0#32
      let v25 : BitVec 1 := Scalar.cmpi .slt v21 0#32
      let v26 : BitVec 1 := Scalar.xori v24 v25
      let v27 : BitVec 1 := Scalar.andi v26 v23
      let v28 : BitVec 32 := Scalar.addi v22 v21
      let v29 : BitVec 32 := Scalar.select v27 v28 v22
      let v30 : BitVec 1 := Scalar.cmpi .eq v29 1#32
      let v31 : BitVec 32 := Scalar.select v30 1#32 0#32
      let v32 : BitVec 1 := Scalar.cmpi .eq v29 2#32
      let v33 : BitVec 32 := Scalar.select v32 2#32 v31
      let v34 : BitVec 1 := Scalar.cmpi .eq v29 3#32
      let v35 : BitVec 32 := Scalar.select v34 7#32 v33
      pure ⟨d0, v19, v29, v35, 4#32⟩)
      := rfl

set_option maxRecDepth 65536 in
theorem k0_part2_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (v19 : BitVec 32) (v29 : BitVec 32) (v35 : BitVec 32) (c4_i32 : BitVec 32) :
    k0_part2_skel (F := F) arg0 harg0 arg1 harg1 arg2 harg2 arg3 harg3 arg4 harg4 arg5 arg6 arg7 arg8 arg9 arg10 v19 v29 v35 c4_i32 = (do
      let v36 : BitVec 1 := Scalar.cmpi .eq v29 c4_i32
      let v37 : BitVec 32 := Scalar.select v36 6#32 v35
      let v38 : BitVec 1 := Scalar.cmpi .eq v29 5#32
      let v39 : BitVec 32 := Scalar.select v38 3#32 v37
      let v40 : BitVec 1 := Scalar.cmpi .eq v29 6#32
      let v41 : BitVec 32 := Scalar.select v40 4#32 v39
      let v42 : BitVec 1 := Scalar.cmpi .eq v29 7#32
      let v43 : BitVec 32 := Scalar.select v42 5#32 v41
      let v44 : BitVec 32 := Scalar.muli v19 8#32
      let v45 : BitVec 32 := Scalar.addi v43 1#32
      let v46 : BitVec 1 := Scalar.cmpi .eq 8#32 0#32
      let v47 : BitVec 32 := Scalar.select v46 1#32 8#32
      let v48 : BitVec 32 := Scalar.remsi v45 v47
      let v49 : BitVec 1 := Scalar.cmpi .ne v48 0#32
      let v50 : BitVec 1 := Scalar.cmpi .slt v48 0#32
      let v51 : BitVec 1 := Scalar.cmpi .slt v47 0#32
      let v52 : BitVec 1 := Scalar.xori v50 v51
      let v53 : BitVec 1 := Scalar.andi v52 v49
      let v54 : BitVec 32 := Scalar.addi v48 v47
      let v55 : BitVec 32 := Scalar.select v53 v54 v48
      let v56 : BitVec 1 := Scalar.cmpi .eq v55 1#32
      let v57 : BitVec 32 := Scalar.select v56 1#32 0#32
      let v58 : BitVec 1 := Scalar.cmpi .eq v55 2#32
      let v59 : BitVec 32 := Scalar.select v58 2#32 v57
      let v60 : BitVec 1 := Scalar.cmpi .eq v55 3#32
      let v61 : BitVec 32 := Scalar.select v60 5#32 v59
      let v62 : BitVec 1 := Scalar.cmpi .eq v55 4#32
      let v63 : BitVec 32 := Scalar.select v62 6#32 v61
      let v64 : BitVec 1 := Scalar.cmpi .eq v55 5#32
      let v65 : BitVec 32 := Scalar.select v64 7#32 v63
      let v66 : BitVec 1 := Scalar.cmpi .eq v55 6#32
      let v67 : BitVec 32 := Scalar.select v66 4#32 v65
      pure ⟨v43, v44, v55, v67⟩)
      := rfl

set_option maxRecDepth 65536 in
theorem k0_part3_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (v19 : BitVec 32) (v43 : BitVec 32) (v44 : BitVec 32) (v55 : BitVec 32) (v67 : BitVec 32) :
    k0_part3_skel (F := F) arg0 harg0 arg1 harg1 arg2 harg2 arg3 harg3 arg4 harg4 arg5 arg6 arg7 arg8 arg9 arg10 v19 v43 v44 v55 v67 = (do
      let v68 : BitVec 1 := Scalar.cmpi .eq v55 7#32
      let v69 : BitVec 32 := Scalar.select v68 3#32 v67
      let v70 : BitVec 32 := Scalar.addi v44 v69
      let v71 : BitVec 32 := Scalar.addi v43 7#32
      let v72 : BitVec 1 := Scalar.cmpi .eq 8#32 0#32
      let v73 : BitVec 32 := Scalar.select v72 1#32 8#32
      let v74 : BitVec 32 := Scalar.remsi v71 v73
      let v75 : BitVec 1 := Scalar.cmpi .ne v74 0#32
      let v76 : BitVec 1 := Scalar.cmpi .slt v74 0#32
      let v77 : BitVec 1 := Scalar.cmpi .slt v73 0#32
      let v78 : BitVec 1 := Scalar.xori v76 v77
      let v79 : BitVec 1 := Scalar.andi v78 v75
      let v80 : BitVec 32 := Scalar.addi v74 v73
      let v81 : BitVec 32 := Scalar.select v79 v80 v74
      let v82 : BitVec 1 := Scalar.cmpi .eq v81 1#32
      let v83 : BitVec 32 := Scalar.select v82 1#32 0#32
      let v84 : BitVec 1 := Scalar.cmpi .eq v81 2#32
      let v85 : BitVec 32 := Scalar.select v84 2#32 v83
      let v86 : BitVec 1 := Scalar.cmpi .eq v81 3#32
      let v87 : BitVec 32 := Scalar.select v86 5#32 v85
      let v88 : BitVec 1 := Scalar.cmpi .eq v81 4#32
      let v89 : BitVec 32 := Scalar.select v88 6#32 v87
      let v90 : BitVec 1 := Scalar.cmpi .eq v81 5#32
      let v91 : BitVec 32 := Scalar.select v90 7#32 v89
      let v92 : BitVec 1 := Scalar.cmpi .eq v81 6#32
      let v93 : BitVec 32 := Scalar.select v92 4#32 v91
      let v94 : BitVec 1 := Scalar.cmpi .eq v81 7#32
      let v95 : BitVec 32 := Scalar.select v94 3#32 v93
      let v96 : BitVec 32 := Scalar.addi v44 v95
      let v97 : BitVec 32 := Scalar.addi v19 1#32
      let v98 : BitVec 1 := Scalar.cmpi .eq 4#32 0#32
      let v99 : BitVec 32 := Scalar.select v98 1#32 4#32
      pure ⟨v70, v96, v97, v99⟩)
      := rfl

set_option maxRecDepth 65536 in
theorem k0_part4_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v29 : BitVec 32) (v70 : BitVec 32) (v96 : BitVec 32) (v97 : BitVec 32) (v99 : BitVec 32) :
    k0_part4_skel (F := F) arg0 harg0 arg1 harg1 arg2 harg2 arg3 harg3 arg4 harg4 arg5 arg6 arg7 arg8 arg9 arg10 d0 v19 v29 v70 v96 v97 v99 = (do
      let v100 : BitVec 32 := Scalar.remsi v97 v99
      let v101 : BitVec 1 := Scalar.cmpi .ne v100 0#32
      let v102 : BitVec 1 := Scalar.cmpi .slt v100 0#32
      let v103 : BitVec 1 := Scalar.cmpi .slt v99 0#32
      let v104 : BitVec 1 := Scalar.xori v102 v103
      let v105 : BitVec 1 := Scalar.andi v104 v101
      let v106 : BitVec 32 := Scalar.addi v100 v99
      let v107 : BitVec 32 := Scalar.select v105 v106 v100
      let v108 : BitVec 32 := Scalar.muli v107 8#32
      let v109 : BitVec 32 := Scalar.addi v108 v29
      let v110 : BitVec 32 := Scalar.addi v19 3#32
      let v111 : BitVec 1 := Scalar.cmpi .eq 4#32 0#32
      let v112 : BitVec 32 := Scalar.select v111 1#32 4#32
      let v113 : BitVec 32 := Scalar.remsi v110 v112
      let v114 : BitVec 1 := Scalar.cmpi .ne v113 0#32
      let v115 : BitVec 1 := Scalar.cmpi .slt v113 0#32
      let v116 : BitVec 1 := Scalar.cmpi .slt v112 0#32
      let v117 : BitVec 1 := Scalar.xori v115 v116
      let v118 : BitVec 1 := Scalar.andi v117 v114
      let v119 : BitVec 32 := Scalar.addi v113 v112
      let v120 : BitVec 32 := Scalar.select v118 v119 v113
      let v121 : BitVec 32 := Scalar.muli v120 8#32
      let v122 : BitVec 32 := Scalar.addi v121 v29
      let v123 : Sems sig S_ := SemArray.scalar (sig.barrier 0 rfl)
      semSignalWord (⟨k0_dev1 d0, k0_dev1_lt d0⟩ : Dev nD) v123.sem 1#32
      semSignalWord (⟨k0_dev2 d0, k0_dev2_lt d0⟩ : Dev nD) v123.sem 1#32
      semSignalWord (⟨k0_dev3 d0, k0_dev3_lt d0⟩ : Dev nD) v123.sem 1#32
      semSignalWord (⟨k0_dev4 d0, k0_dev4_lt d0⟩ : Dev nD) v123.sem 1#32
      pure ⟨v109, v122, v123⟩)
      := rfl

set_option maxRecDepth 65536 in
theorem k0_part5_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v123 : Sems sig S_) :
    k0_part5_skel (F := F) arg0 harg0 arg1 harg1 arg2 harg2 arg3 harg3 arg4 harg4 arg5 arg6 arg7 arg8 arg9 arg10 d0 v43 v70 v123 = (do
      semWaitWord v123.sem 4#32
      let v132 : Vec F S2048x1024 .f32 ← Prog.lift (.load arg0 (Rect.unit (s := S2048x1024) ![0, 0] S2048x1024.size inb_S2048x1024_S2048x1024_0_0).toLoadRect (View.loadsAt_vmem h_S2048x1024))
      let v134 : Vec F S2048x1024 .f32 ← Prog.lift (.load arg1 (Rect.unit (s := S2048x1024) ![0, 0] S2048x1024.size inb_S2048x1024_S2048x1024_0_0).toLoadRect (View.loadsAt_vmem h_S2048x1024))
      Prog.lift (.store arg1 (Rect.unit (s := S2048x1024) ![0, 0] S2048x1024.size inb_S2048x1024_S2048x1024_0_0) (k0_pay2 v132) Finset.univ (View.stores_vmem_bits_univ h_S2048x1024 rfl) (.inl rfl))
      sendP arg1 arg2 squeezes_S1x1x128x1024_S128x1024 arg5 arg6 0 0 (k0_off1 d0 (BitVec.ofNat 32 0)) (k0_off1_inb d0 0) (⟨k0_dev5 d0, k0_dev5_lt d0⟩ : Dev nD)
      let v157 : BitVec 32 := Scalar.addi v43 0#32
      let v158 : BitVec 1 := Scalar.cmpi .eq 8#32 0#32
      pure ⟨v157, 8#32, v158, 1#32⟩)
      := rfl

set_option maxRecDepth 65536 in
theorem k0_part6_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v96 : BitVec 32) (v157 : BitVec 32) (c8_i32_117 : BitVec 32) (v158 : BitVec 1) (c1_i32_119 : BitVec 32) :
    k0_part6_skel (F := F) arg0 harg0 arg1 harg1 arg2 harg2 arg3 harg3 arg4 harg4 arg5 arg6 arg7 arg8 arg9 arg10 d0 v96 v157 c8_i32_117 v158 c1_i32_119 = (do
      sendP arg1 arg2 squeezes_S1x1x128x1024_S128x1024 arg5 arg6 0 1 (k0_off2 d0 (BitVec.ofNat 32 0)) (k0_off2_inb d0 0) (⟨k0_dev6 d0, k0_dev6_lt d0⟩ : Dev nD)
      waitSP arg1 arg2 squeezes_S1x1x128x1024_S128x1024 arg5 0 0 (k0_off1 d0 (BitVec.ofNat 32 0)) (k0_off1_inb d0 0)
      pure 1#32)
      := rfl

set_option maxRecDepth 65536 in
theorem k0_part7_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (c1_i32_151 : BitVec 32) :
    k0_part7_skel (F := F) arg0 harg0 arg1 harg1 arg2 harg2 arg3 harg3 arg4 harg4 arg5 arg6 arg7 arg8 arg9 arg10 d0 v43 v70 c1_i32_151 = (do
      waitRP arg1 arg2 squeezes_S1x1x128x1024_S128x1024 arg6 0 0 (k0_off1 d0 (BitVec.ofNat 32 0)) (k0_off1_inb d0 0)
      let v206 : Vec F S128x1024 .f32 ← ldO h_S128x1024 arg1 (k0_off3 d0 (BitVec.ofNat 32 0)) (k0_off3_inb d0 0)
      let v208 : Vec F S1x1x128x1024 .f32 ← ldC h_S1x1x128x1024 arg2 0 0
      let v212 : Vec F S128x1024 .f32 ← ldO h_S128x1024 arg1 (k0_off3 d0 (BitVec.ofNat 32 0)) (k0_off3_inb d0 0)
      stO h_S128x1024 arg1 (k0_off3 d0 (BitVec.ofNat 32 0)) (k0_off3_inb d0 0) (k0_pay3 v206 v208)
      pure ⟨⟩)
      := rfl

set_option maxRecDepth 65536 in
theorem k0_part8_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) :
    k0_part8_skel (F := F) arg0 harg0 arg1 harg1 arg2 harg2 arg3 harg3 arg4 harg4 arg5 arg6 arg7 arg8 arg9 arg10 d0 v43 v96 = (do
      waitSP arg1 arg2 squeezes_S1x1x128x1024_S128x1024 arg5 0 1 (k0_off2 d0 (BitVec.ofNat 32 0)) (k0_off2_inb d0 0)
      waitRP arg1 arg2 squeezes_S1x1x128x1024_S128x1024 arg6 0 1 (k0_off2 d0 (BitVec.ofNat 32 0)) (k0_off2_inb d0 0)
      let v225 : BitVec 32 := Scalar.addi v43 0#32
      let v226 : BitVec 32 := Scalar.addi v225 1#32
      let v227 : BitVec 1 := Scalar.cmpi .eq 8#32 0#32
      let v228 : BitVec 32 := Scalar.select v227 1#32 8#32
      let v229 : BitVec 32 := Scalar.remsi v226 v228
      let v230 : BitVec 1 := Scalar.cmpi .ne v229 0#32
      let v231 : BitVec 1 := Scalar.cmpi .slt v229 0#32
      let v232 : BitVec 1 := Scalar.cmpi .slt v228 0#32
      let v233 : BitVec 1 := Scalar.xori v231 v232
      let v234 : BitVec 1 := Scalar.andi v233 v230
      let v235 : BitVec 32 := Scalar.addi v229 v228
      let v236 : BitVec 32 := Scalar.select v234 v235 v229
      let v237 : BitVec 32 := Scalar.muli v236 128#32
      let v238 : BitVec 32 := Scalar.addi 1024#32 v237
      let v240 : Vec F S128x1024 .f32 ← ldO h_S128x1024 arg1 (k0_off4 d0 (BitVec.ofNat 32 0)) (k0_off4_inb d0 0)
      let v242 : Vec F S1x1x128x1024 .f32 ← ldC h_S1x1x128x1024 arg2 0 1
      pure ⟨v238, k0_pay4 v240, k0_pay5 v242⟩)
      := rfl

set_option maxRecDepth 65536 in
theorem k0_part9_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v238 : BitVec 32) (v241 : FVec F S128x1024 .f32) (v243 : FVec F S128x1024 .f32) :
    k0_part9_skel (F := F) arg0 harg0 arg1 harg1 arg2 harg2 arg3 harg3 arg4 harg4 arg5 arg6 arg7 arg8 arg9 arg10 d0 v43 v70 v238 v241 v243 = (do
      let v246 : Vec F S128x1024 .f32 ← ldO h_S128x1024 arg1 (k0_off4 d0 (BitVec.ofNat 32 0)) (k0_off4_inb d0 0)
      stO h_S128x1024 arg1 (k0_off4 d0 (BitVec.ofNat 32 0)) (k0_off4_inb d0 0) (k0_pay6 v241 v243)
      sendP arg1 arg2 squeezes_S1x1x128x1024_S128x1024 arg5 arg6 1 0 (k0_off1 d0 (BitVec.ofNat 32 1)) (k0_off1_inb d0 1) (⟨k0_dev7 d0, k0_dev7_lt d0⟩ : Dev nD)
      let v269 : BitVec 32 := Scalar.addi v43 1#32
      let v270 : BitVec 1 := Scalar.cmpi .eq 8#32 0#32
      let v271 : BitVec 32 := Scalar.select v270 1#32 8#32
      let v272 : BitVec 32 := Scalar.remsi v269 v271
      let v273 : BitVec 1 := Scalar.cmpi .ne v272 0#32
      let v274 : BitVec 1 := Scalar.cmpi .slt v272 0#32
      pure ⟨v271, v272, v273, v274⟩)
      := rfl

set_option maxRecDepth 65536 in
theorem k0_part10_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v70 : BitVec 32) (v96 : BitVec 32) (v271 : BitVec 32) (v272 : BitVec 32) (v273 : BitVec 1) (v274 : BitVec 1) :
    k0_part10_skel (F := F) arg0 harg0 arg1 harg1 arg2 harg2 arg3 harg3 arg4 harg4 arg5 arg6 arg7 arg8 arg9 arg10 d0 v70 v96 v271 v272 v273 v274 = (do
      sendP arg1 arg2 squeezes_S1x1x128x1024_S128x1024 arg5 arg6 1 1 (k0_off2 d0 (BitVec.ofNat 32 1)) (k0_off2_inb d0 1) (⟨k0_dev8 d0, k0_dev8_lt d0⟩ : Dev nD)
      waitSP arg1 arg2 squeezes_S1x1x128x1024_S128x1024 arg5 1 0 (k0_off1 d0 (BitVec.ofNat 32 1)) (k0_off1_inb d0 1)
      pure ⟨⟩)
      := rfl

set_option maxRecDepth 65536 in
theorem k0_part11_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) :
    k0_part11_skel (F := F) arg0 harg0 arg1 harg1 arg2 harg2 arg3 harg3 arg4 harg4 arg5 arg6 arg7 arg8 arg9 arg10 d0 v43 = (do
      waitRP arg1 arg2 squeezes_S1x1x128x1024_S128x1024 arg6 1 0 (k0_off1 d0 (BitVec.ofNat 32 1)) (k0_off1_inb d0 1)
      let v318 : Vec F S128x1024 .f32 ← ldO h_S128x1024 arg1 (k0_off3 d0 (BitVec.ofNat 32 1)) (k0_off3_inb d0 1)
      let v320 : Vec F S1x1x128x1024 .f32 ← ldC h_S1x1x128x1024 arg2 1 0
      let v324 : Vec F S128x1024 .f32 ← ldO h_S128x1024 arg1 (k0_off3 d0 (BitVec.ofNat 32 1)) (k0_off3_inb d0 1)
      stO h_S128x1024 arg1 (k0_off3 d0 (BitVec.ofNat 32 1)) (k0_off3_inb d0 1) (k0_pay7 v318 v320)
      pure ⟨⟩)
      := rfl

set_option maxRecDepth 65536 in
theorem k0_part12_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) :
    k0_part12_skel (F := F) arg0 harg0 arg1 harg1 arg2 harg2 arg3 harg3 arg4 harg4 arg5 arg6 arg7 arg8 arg9 arg10 d0 v43 v96 = (do
      waitSP arg1 arg2 squeezes_S1x1x128x1024_S128x1024 arg5 1 1 (k0_off2 d0 (BitVec.ofNat 32 1)) (k0_off2_inb d0 1)
      waitRP arg1 arg2 squeezes_S1x1x128x1024_S128x1024 arg6 1 1 (k0_off2 d0 (BitVec.ofNat 32 1)) (k0_off2_inb d0 1)
      let v352 : Vec F S128x1024 .f32 ← ldO h_S128x1024 arg1 (k0_off4 d0 (BitVec.ofNat 32 1)) (k0_off4_inb d0 1)
      let v354 : Vec F S1x1x128x1024 .f32 ← ldC h_S1x1x128x1024 arg2 1 1
      let v358 : Vec F S128x1024 .f32 ← ldO h_S128x1024 arg1 (k0_off4 d0 (BitVec.ofNat 32 1)) (k0_off4_inb d0 1)
      stO h_S128x1024 arg1 (k0_off4 d0 (BitVec.ofNat 32 1)) (k0_off4_inb d0 1) (k0_pay8 v352 v354)
      pure 2#32)
      := rfl

set_option maxRecDepth 65536 in
theorem k0_part13_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (c2_i32_322 : BitVec 32) :
    k0_part13_skel (F := F) arg0 harg0 arg1 harg1 arg2 harg2 arg3 harg3 arg4 harg4 arg5 arg6 arg7 arg8 arg9 arg10 d0 v43 v70 c2_i32_322 = (do
      sendP arg1 arg2 squeezes_S1x1x128x1024_S128x1024 arg5 arg6 2 0 (k0_off1 d0 (BitVec.ofNat 32 2)) (k0_off1_inb d0 2) (⟨k0_dev9 d0, k0_dev9_lt d0⟩ : Dev nD)
      let v381 : BitVec 32 := Scalar.addi v43 2#32
      let v382 : BitVec 1 := Scalar.cmpi .eq 8#32 0#32
      let v383 : BitVec 32 := Scalar.select v382 1#32 8#32
      let v384 : BitVec 32 := Scalar.remsi v381 v383
      let v385 : BitVec 1 := Scalar.cmpi .ne v384 0#32
      let v386 : BitVec 1 := Scalar.cmpi .slt v384 0#32
      let v387 : BitVec 1 := Scalar.cmpi .slt v383 0#32
      let v388 : BitVec 1 := Scalar.xori v386 v387
      let v389 : BitVec 1 := Scalar.andi v388 v385
      let v390 : BitVec 32 := Scalar.addi v384 v383
      let v391 : BitVec 32 := Scalar.select v389 v390 v384
      pure v391)
      := rfl

set_option maxRecDepth 65536 in
theorem k0_part14_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v70 : BitVec 32) (v96 : BitVec 32) (v391 : BitVec 32) :
    k0_part14_skel (F := F) arg0 harg0 arg1 harg1 arg2 harg2 arg3 harg3 arg4 harg4 arg5 arg6 arg7 arg8 arg9 arg10 d0 v70 v96 v391 = (do
      sendP arg1 arg2 squeezes_S1x1x128x1024_S128x1024 arg5 arg6 2 1 (k0_off2 d0 (BitVec.ofNat 32 2)) (k0_off2_inb d0 2) (⟨k0_dev10 d0, k0_dev10_lt d0⟩ : Dev nD)
      waitSP arg1 arg2 squeezes_S1x1x128x1024_S128x1024 arg5 2 0 (k0_off1 d0 (BitVec.ofNat 32 2)) (k0_off1_inb d0 2)
      waitRP arg1 arg2 squeezes_S1x1x128x1024_S128x1024 arg6 2 0 (k0_off1 d0 (BitVec.ofNat 32 2)) (k0_off1_inb d0 2)
      pure ⟨⟩)
      := rfl

set_option maxRecDepth 65536 in
theorem k0_part15_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) :
    k0_part15_skel (F := F) arg0 harg0 arg1 harg1 arg2 harg2 arg3 harg3 arg4 harg4 arg5 arg6 arg7 arg8 arg9 arg10 d0 v43 = (do
      let v430 : Vec F S128x1024 .f32 ← ldO h_S128x1024 arg1 (k0_off3 d0 (BitVec.ofNat 32 2)) (k0_off3_inb d0 2)
      let v432 : Vec F S1x1x128x1024 .f32 ← ldC h_S1x1x128x1024 arg2 2 0
      let v436 : Vec F S128x1024 .f32 ← ldO h_S128x1024 arg1 (k0_off3 d0 (BitVec.ofNat 32 2)) (k0_off3_inb d0 2)
      stO h_S128x1024 arg1 (k0_off3 d0 (BitVec.ofNat 32 2)) (k0_off3_inb d0 2) (k0_pay9 v430 v432)
      waitSP arg1 arg2 squeezes_S1x1x128x1024_S128x1024 arg5 2 1 (k0_off2 d0 (BitVec.ofNat 32 2)) (k0_off2_inb d0 2)
      pure ⟨⟩)
      := rfl

set_option maxRecDepth 65536 in
theorem k0_part16_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) :
    k0_part16_skel (F := F) arg0 harg0 arg1 harg1 arg2 harg2 arg3 harg3 arg4 harg4 arg5 arg6 arg7 arg8 arg9 arg10 d0 v43 v96 = (do
      waitRP arg1 arg2 squeezes_S1x1x128x1024_S128x1024 arg6 2 1 (k0_off2 d0 (BitVec.ofNat 32 2)) (k0_off2_inb d0 2)
      let v464 : Vec F S128x1024 .f32 ← ldO h_S128x1024 arg1 (k0_off4 d0 (BitVec.ofNat 32 2)) (k0_off4_inb d0 2)
      let v466 : Vec F S1x1x128x1024 .f32 ← ldC h_S1x1x128x1024 arg2 2 1
      let v470 : Vec F S128x1024 .f32 ← ldO h_S128x1024 arg1 (k0_off4 d0 (BitVec.ofNat 32 2)) (k0_off4_inb d0 2)
      stO h_S128x1024 arg1 (k0_off4 d0 (BitVec.ofNat 32 2)) (k0_off4_inb d0 2) (k0_pay10 v464 v466)
      let v471 : BitVec 32 := Scalar.subi v43 3#32
      let v472 : BitVec 1 := Scalar.cmpi .eq 8#32 0#32
      let v473 : BitVec 32 := Scalar.select v472 1#32 8#32
      pure ⟨v471, v473⟩)
      := rfl

set_option maxRecDepth 65536 in
theorem k0_part17_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v471 : BitVec 32) (v473 : BitVec 32) :
    k0_part17_skel (F := F) arg0 harg0 arg1 harg1 arg2 harg2 arg3 harg3 arg4 harg4 arg5 arg6 arg7 arg8 arg9 arg10 d0 v43 v70 v471 v473 = (do
      sendP arg1 arg2 squeezes_S1x1x128x1024_S128x1024 arg5 arg6 3 0 (k0_off1 d0 (BitVec.ofNat 32 3)) (k0_off1_inb d0 3) (⟨k0_dev11 d0, k0_dev11_lt d0⟩ : Dev nD)
      pure ⟨⟩)
      := rfl

set_option maxRecDepth 65536 in
theorem k0_part18_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v96 : BitVec 32) :
    k0_part18_skel (F := F) arg0 harg0 arg1 harg1 arg2 harg2 arg3 harg3 arg4 harg4 arg5 arg6 arg7 arg8 arg9 arg10 d0 v43 v70 v96 = (do
      sendP arg1 arg2 squeezes_S1x1x128x1024_S128x1024 arg5 arg6 3 1 (k0_off2 d0 (BitVec.ofNat 32 3)) (k0_off2_inb d0 3) (⟨k0_dev12 d0, k0_dev12_lt d0⟩ : Dev nD)
      waitSP arg1 arg2 squeezes_S1x1x128x1024_S128x1024 arg5 3 0 (k0_off1 d0 (BitVec.ofNat 32 3)) (k0_off1_inb d0 3)
      waitRP arg1 arg2 squeezes_S1x1x128x1024_S128x1024 arg6 3 0 (k0_off1 d0 (BitVec.ofNat 32 3)) (k0_off1_inb d0 3)
      let v527 : BitVec 32 := Scalar.subi v43 3#32
      let v528 : BitVec 32 := Scalar.subi v527 1#32
      pure ⟨v528, 8#32, 0#32⟩)
      := rfl

set_option maxRecDepth 65536 in
theorem k0_part19_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v96 : BitVec 32) (v528 : BitVec 32) (c8_i32_498 : BitVec 32) (c0_i32_499 : BitVec 32) :
    k0_part19_skel (F := F) arg0 harg0 arg1 harg1 arg2 harg2 arg3 harg3 arg4 harg4 arg5 arg6 arg7 arg8 arg9 arg10 d0 v96 v528 c8_i32_498 c0_i32_499 = (do
      let v542 : Vec F S128x1024 .f32 ← ldO h_S128x1024 arg1 (k0_off3 d0 (BitVec.ofNat 32 3)) (k0_off3_inb d0 3)
      let v544 : Vec F S1x1x128x1024 .f32 ← ldC h_S1x1x128x1024 arg2 3 0
      let v548 : Vec F S128x1024 .f32 ← ldO h_S128x1024 arg1 (k0_off3 d0 (BitVec.ofNat 32 3)) (k0_off3_inb d0 3)
      stO h_S128x1024 arg1 (k0_off3 d0 (BitVec.ofNat 32 3)) (k0_off3_inb d0 3) (k0_pay11 v542 v544)
      waitSP arg1 arg2 squeezes_S1x1x128x1024_S128x1024 arg5 3 1 (k0_off2 d0 (BitVec.ofNat 32 3)) (k0_off2_inb d0 3)
      pure ⟨⟩)
      := rfl

set_option maxRecDepth 65536 in
theorem k0_part20_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) :
    k0_part20_skel (F := F) arg0 harg0 arg1 harg1 arg2 harg2 arg3 harg3 arg4 harg4 arg5 arg6 arg7 arg8 arg9 arg10 d0 v43 = (do
      waitRP arg1 arg2 squeezes_S1x1x128x1024_S128x1024 arg6 3 1 (k0_off2 d0 (BitVec.ofNat 32 3)) (k0_off2_inb d0 3)
      let v576 : Vec F S128x1024 .f32 ← ldO h_S128x1024 arg1 (k0_off4 d0 (BitVec.ofNat 32 3)) (k0_off4_inb d0 3)
      let v578 : Vec F S1x1x128x1024 .f32 ← ldC h_S1x1x128x1024 arg2 3 1
      let v582 : Vec F S128x1024 .f32 ← ldO h_S128x1024 arg1 (k0_off4 d0 (BitVec.ofNat 32 3)) (k0_off4_inb d0 3)
      stO h_S128x1024 arg1 (k0_off4 d0 (BitVec.ofNat 32 3)) (k0_off4_inb d0 3) (k0_pay12 v576 v578)
      let v583 : BitVec 32 := Scalar.subi v43 4#32
      let v584 : BitVec 1 := Scalar.cmpi .eq 8#32 0#32
      let v585 : BitVec 32 := Scalar.select v584 1#32 8#32
      let v586 : BitVec 32 := Scalar.remsi v583 v585
      let v587 : BitVec 1 := Scalar.cmpi .ne v586 0#32
      let v588 : BitVec 1 := Scalar.cmpi .slt v586 0#32
      pure ⟨v585, v586, v587, v588, 0#32⟩)
      := rfl

set_option maxRecDepth 65536 in
theorem k0_part21_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v96 : BitVec 32) (v585 : BitVec 32) (v586 : BitVec 32) (v587 : BitVec 1) (v588 : BitVec 1) (c0_i32_554 : BitVec 32) :
    k0_part21_skel (F := F) arg0 harg0 arg1 harg1 arg2 harg2 arg3 harg3 arg4 harg4 arg5 arg6 arg7 arg8 arg9 arg10 d0 v43 v70 v96 v585 v586 v587 v588 c0_i32_554 = (do
      sendP arg1 arg2 squeezes_S1x1x128x1024_S128x1024 arg5 arg6 4 0 (k0_off1 d0 (BitVec.ofNat 32 4)) (k0_off1_inb d0 4) (⟨k0_dev13 d0, k0_dev13_lt d0⟩ : Dev nD)
      let v618 : BitVec 32 := Scalar.muli v96 1#32
      pure v618)
      := rfl

set_option maxRecDepth 65536 in
theorem k0_part22_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v618 : BitVec 32) :
    k0_part22_skel (F := F) arg0 harg0 arg1 harg1 arg2 harg2 arg3 harg3 arg4 harg4 arg5 arg6 arg7 arg8 arg9 arg10 d0 v43 v70 v618 = (do
      sendP arg1 arg2 squeezes_S1x1x128x1024_S128x1024 arg5 arg6 4 1 (k0_off2 d0 (BitVec.ofNat 32 4)) (k0_off2_inb d0 4) (⟨k0_dev14 d0, k0_dev14_lt d0⟩ : Dev nD)
      waitSP arg1 arg2 squeezes_S1x1x128x1024_S128x1024 arg5 4 0 (k0_off1 d0 (BitVec.ofNat 32 4)) (k0_off1_inb d0 4)
      waitRP arg1 arg2 squeezes_S1x1x128x1024_S128x1024 arg6 4 0 (k0_off1 d0 (BitVec.ofNat 32 4)) (k0_off1_inb d0 4)
      let v639 : BitVec 32 := Scalar.subi v43 4#32
      let v640 : BitVec 32 := Scalar.subi v639 1#32
      let v641 : BitVec 1 := Scalar.cmpi .eq 8#32 0#32
      let v642 : BitVec 32 := Scalar.select v641 1#32 8#32
      let v643 : BitVec 32 := Scalar.remsi v640 v642
      let v644 : BitVec 1 := Scalar.cmpi .ne v643 0#32
      pure ⟨v642, v643, v644⟩)
      := rfl

set_option maxRecDepth 65536 in
theorem k0_part23_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v96 : BitVec 32) (v642 : BitVec 32) (v643 : BitVec 32) (v644 : BitVec 1) :
    k0_part23_skel (F := F) arg0 harg0 arg1 harg1 arg2 harg2 arg3 harg3 arg4 harg4 arg5 arg6 arg7 arg8 arg9 arg10 d0 v96 v642 v643 v644 = (do
      let v654 : Vec F S128x1024 .f32 ← ldO h_S128x1024 arg1 (k0_off3 d0 (BitVec.ofNat 32 4)) (k0_off3_inb d0 4)
      let v656 : Vec F S1x1x128x1024 .f32 ← ldC h_S1x1x128x1024 arg2 4 0
      let v660 : Vec F S128x1024 .f32 ← ldO h_S128x1024 arg1 (k0_off3 d0 (BitVec.ofNat 32 4)) (k0_off3_inb d0 4)
      stO h_S128x1024 arg1 (k0_off3 d0 (BitVec.ofNat 32 4)) (k0_off3_inb d0 4) (k0_pay13 v654 v656)
      waitSP arg1 arg2 squeezes_S1x1x128x1024_S128x1024 arg5 4 1 (k0_off2 d0 (BitVec.ofNat 32 4)) (k0_off2_inb d0 4)
      pure ⟨⟩)
      := rfl

set_option maxRecDepth 65536 in
theorem k0_part24_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) :
    k0_part24_skel (F := F) arg0 harg0 arg1 harg1 arg2 harg2 arg3 harg3 arg4 harg4 arg5 arg6 arg7 arg8 arg9 arg10 d0 v43 = (do
      waitRP arg1 arg2 squeezes_S1x1x128x1024_S128x1024 arg6 4 1 (k0_off2 d0 (BitVec.ofNat 32 4)) (k0_off2_inb d0 4)
      let v688 : Vec F S128x1024 .f32 ← ldO h_S128x1024 arg1 (k0_off4 d0 (BitVec.ofNat 32 4)) (k0_off4_inb d0 4)
      let v690 : Vec F S1x1x128x1024 .f32 ← ldC h_S1x1x128x1024 arg2 4 1
      let v694 : Vec F S128x1024 .f32 ← ldO h_S128x1024 arg1 (k0_off4 d0 (BitVec.ofNat 32 4)) (k0_off4_inb d0 4)
      stO h_S128x1024 arg1 (k0_off4 d0 (BitVec.ofNat 32 4)) (k0_off4_inb d0 4) (k0_pay14 v688 v690)
      let v695 : BitVec 32 := Scalar.subi v43 5#32
      let v696 : BitVec 1 := Scalar.cmpi .eq 8#32 0#32
      let v697 : BitVec 32 := Scalar.select v696 1#32 8#32
      let v698 : BitVec 32 := Scalar.remsi v695 v697
      let v699 : BitVec 1 := Scalar.cmpi .ne v698 0#32
      let v700 : BitVec 1 := Scalar.cmpi .slt v698 0#32
      let v701 : BitVec 1 := Scalar.cmpi .slt v697 0#32
      let v702 : BitVec 1 := Scalar.xori v700 v701
      let v703 : BitVec 1 := Scalar.andi v702 v699
      let v704 : BitVec 32 := Scalar.addi v698 v697
      let v705 : BitVec 32 := Scalar.select v703 v704 v698
      pure ⟨v705, 128#32⟩)
      := rfl

set_option maxRecDepth 65536 in
theorem k0_part25_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v96 : BitVec 32) (v705 : BitVec 32) (c128_i32_668 : BitVec 32) :
    k0_part25_skel (F := F) arg0 harg0 arg1 harg1 arg2 harg2 arg3 harg3 arg4 harg4 arg5 arg6 arg7 arg8 arg9 arg10 d0 v43 v70 v96 v705 c128_i32_668 = (do
      sendP arg1 arg2 squeezes_S1x1x128x1024_S128x1024 arg5 arg6 5 0 (k0_off1 d0 (BitVec.ofNat 32 5)) (k0_off1_inb d0 5) (⟨k0_dev15 d0, k0_dev15_lt d0⟩ : Dev nD)
      pure ⟨⟩)
      := rfl

set_option maxRecDepth 65536 in
theorem k0_part26_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) :
    k0_part26_skel (F := F) arg0 harg0 arg1 harg1 arg2 harg2 arg3 harg3 arg4 harg4 arg5 arg6 arg7 arg8 arg9 arg10 d0 v43 v70 = (do
      sendP arg1 arg2 squeezes_S1x1x128x1024_S128x1024 arg5 arg6 5 1 (k0_off2 d0 (BitVec.ofNat 32 5)) (k0_off2_inb d0 5) (⟨k0_dev16 d0, k0_dev16_lt d0⟩ : Dev nD)
      waitSP arg1 arg2 squeezes_S1x1x128x1024_S128x1024 arg5 5 0 (k0_off1 d0 (BitVec.ofNat 32 5)) (k0_off1_inb d0 5)
      waitRP arg1 arg2 squeezes_S1x1x128x1024_S128x1024 arg6 5 0 (k0_off1 d0 (BitVec.ofNat 32 5)) (k0_off1_inb d0 5)
      let v751 : BitVec 32 := Scalar.subi v43 5#32
      let v752 : BitVec 32 := Scalar.subi v751 1#32
      let v753 : BitVec 1 := Scalar.cmpi .eq 8#32 0#32
      let v754 : BitVec 32 := Scalar.select v753 1#32 8#32
      let v755 : BitVec 32 := Scalar.remsi v752 v754
      let v756 : BitVec 1 := Scalar.cmpi .ne v755 0#32
      let v757 : BitVec 1 := Scalar.cmpi .slt v755 0#32
      let v758 : BitVec 1 := Scalar.cmpi .slt v754 0#32
      let v759 : BitVec 1 := Scalar.xori v757 v758
      let v760 : BitVec 1 := Scalar.andi v759 v756
      pure ⟨v754, v755, v760⟩)
      := rfl

set_option maxRecDepth 65536 in
theorem k0_part27_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) (v754 : BitVec 32) (v755 : BitVec 32) (v760 : BitVec 1) :
    k0_part27_skel (F := F) arg0 harg0 arg1 harg1 arg2 harg2 arg3 harg3 arg4 harg4 arg5 arg6 arg7 arg8 arg9 arg10 d0 v43 v96 v754 v755 v760 = (do
      let v766 : Vec F S128x1024 .f32 ← ldO h_S128x1024 arg1 (k0_off3 d0 (BitVec.ofNat 32 5)) (k0_off3_inb d0 5)
      let v768 : Vec F S1x1x128x1024 .f32 ← ldC h_S1x1x128x1024 arg2 5 0
      let v772 : Vec F S128x1024 .f32 ← ldO h_S128x1024 arg1 (k0_off3 d0 (BitVec.ofNat 32 5)) (k0_off3_inb d0 5)
      stO h_S128x1024 arg1 (k0_off3 d0 (BitVec.ofNat 32 5)) (k0_off3_inb d0 5) (k0_pay15 v766 v768)
      waitSP arg1 arg2 squeezes_S1x1x128x1024_S128x1024 arg5 5 1 (k0_off2 d0 (BitVec.ofNat 32 5)) (k0_off2_inb d0 5)
      waitRP arg1 arg2 squeezes_S1x1x128x1024_S128x1024 arg6 5 1 (k0_off2 d0 (BitVec.ofNat 32 5)) (k0_off2_inb d0 5)
      let v785 : BitVec 32 := Scalar.addi v43 5#32
      let v786 : BitVec 32 := Scalar.addi v785 1#32
      pure v786)
      := rfl

set_option maxRecDepth 65536 in
theorem k0_part28_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v786 : BitVec 32) :
    k0_part28_skel (F := F) arg0 harg0 arg1 harg1 arg2 harg2 arg3 harg3 arg4 harg4 arg5 arg6 arg7 arg8 arg9 arg10 d0 v43 v786 = (do
      let v800 : Vec F S128x1024 .f32 ← ldO h_S128x1024 arg1 (k0_off4 d0 (BitVec.ofNat 32 5)) (k0_off4_inb d0 5)
      let v802 : Vec F S1x1x128x1024 .f32 ← ldC h_S1x1x128x1024 arg2 5 1
      let v806 : Vec F S128x1024 .f32 ← ldO h_S128x1024 arg1 (k0_off4 d0 (BitVec.ofNat 32 5)) (k0_off4_inb d0 5)
      stO h_S128x1024 arg1 (k0_off4 d0 (BitVec.ofNat 32 5)) (k0_off4_inb d0 5) (k0_pay16 v800 v802)
      pure ⟨⟩)
      := rfl

set_option maxRecDepth 65536 in
theorem k0_part29_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v96 : BitVec 32) :
    k0_part29_skel (F := F) arg0 harg0 arg1 harg1 arg2 harg2 arg3 harg3 arg4 harg4 arg5 arg6 arg7 arg8 arg9 arg10 d0 v43 v70 v96 = (do
      sendP arg1 arg2 squeezes_S1x1x128x1024_S128x1024 arg5 arg6 6 0 (k0_off1 d0 (BitVec.ofNat 32 6)) (k0_off1_inb d0 6) (⟨k0_dev17 d0, k0_dev17_lt d0⟩ : Dev nD)
      pure ⟨⟩)
      := rfl

set_option maxRecDepth 65536 in
theorem k0_part30_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) :
    k0_part30_skel (F := F) arg0 harg0 arg1 harg1 arg2 harg2 arg3 harg3 arg4 harg4 arg5 arg6 arg7 arg8 arg9 arg10 d0 v43 v70 = (do
      sendP arg1 arg2 squeezes_S1x1x128x1024_S128x1024 arg5 arg6 6 1 (k0_off2 d0 (BitVec.ofNat 32 6)) (k0_off2_inb d0 6) (⟨k0_dev18 d0, k0_dev18_lt d0⟩ : Dev nD)
      waitSP arg1 arg2 squeezes_S1x1x128x1024_S128x1024 arg5 6 0 (k0_off1 d0 (BitVec.ofNat 32 6)) (k0_off1_inb d0 6)
      waitRP arg1 arg2 squeezes_S1x1x128x1024_S128x1024 arg6 6 0 (k0_off1 d0 (BitVec.ofNat 32 6)) (k0_off1_inb d0 6)
      let v863 : BitVec 32 := Scalar.subi v43 6#32
      let v864 : BitVec 32 := Scalar.subi v863 1#32
      let v865 : BitVec 1 := Scalar.cmpi .eq 8#32 0#32
      let v866 : BitVec 32 := Scalar.select v865 1#32 8#32
      let v867 : BitVec 32 := Scalar.remsi v864 v866
      let v868 : BitVec 1 := Scalar.cmpi .ne v867 0#32
      let v869 : BitVec 1 := Scalar.cmpi .slt v867 0#32
      let v870 : BitVec 1 := Scalar.cmpi .slt v866 0#32
      let v871 : BitVec 1 := Scalar.xori v869 v870
      let v872 : BitVec 1 := Scalar.andi v871 v868
      let v873 : BitVec 32 := Scalar.addi v867 v866
      let v874 : BitVec 32 := Scalar.select v872 v873 v867
      let v875 : BitVec 32 := Scalar.muli v874 128#32
      let v876 : BitVec 32 := Scalar.addi 0#32 v875
      pure v876)
      := rfl

set_option maxRecDepth 65536 in
theorem k0_part31_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) (v876 : BitVec 32) :
    k0_part31_skel (F := F) arg0 harg0 arg1 harg1 arg2 harg2 arg3 harg3 arg4 harg4 arg5 arg6 arg7 arg8 arg9 arg10 d0 v43 v96 v876 = (do
      let v878 : Vec F S128x1024 .f32 ← ldO h_S128x1024 arg1 (k0_off3 d0 (BitVec.ofNat 32 6)) (k0_off3_inb d0 6)
      let v880 : Vec F S1x1x128x1024 .f32 ← ldC h_S1x1x128x1024 arg2 6 0
      let v884 : Vec F S128x1024 .f32 ← ldO h_S128x1024 arg1 (k0_off3 d0 (BitVec.ofNat 32 6)) (k0_off3_inb d0 6)
      stO h_S128x1024 arg1 (k0_off3 d0 (BitVec.ofNat 32 6)) (k0_off3_inb d0 6) (k0_pay17 v878 v880)
      waitSP arg1 arg2 squeezes_S1x1x128x1024_S128x1024 arg5 6 1 (k0_off2 d0 (BitVec.ofNat 32 6)) (k0_off2_inb d0 6)
      waitRP arg1 arg2 squeezes_S1x1x128x1024_S128x1024 arg6 6 1 (k0_off2 d0 (BitVec.ofNat 32 6)) (k0_off2_inb d0 6)
      let v897 : BitVec 32 := Scalar.addi v43 6#32
      let v898 : BitVec 32 := Scalar.addi v897 1#32
      let v899 : BitVec 1 := Scalar.cmpi .eq 8#32 0#32
      let v900 : BitVec 32 := Scalar.select v899 1#32 8#32
      let v901 : BitVec 32 := Scalar.remsi v898 v900
      pure ⟨v900, v901⟩)
      := rfl

set_option maxRecDepth 65536 in
theorem k0_part32_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v900 : BitVec 32) (v901 : BitVec 32) :
    k0_part32_skel (F := F) arg0 harg0 arg1 harg1 arg2 harg2 arg3 harg3 arg4 harg4 arg5 arg6 arg7 arg8 arg9 arg10 d0 v43 v900 v901 = (do
      let v912 : Vec F S128x1024 .f32 ← ldO h_S128x1024 arg1 (k0_off4 d0 (BitVec.ofNat 32 6)) (k0_off4_inb d0 6)
      let v914 : Vec F S1x1x128x1024 .f32 ← ldC h_S1x1x128x1024 arg2 6 1
      let v918 : Vec F S128x1024 .f32 ← ldO h_S128x1024 arg1 (k0_off4 d0 (BitVec.ofNat 32 6)) (k0_off4_inb d0 6)
      stO h_S128x1024 arg1 (k0_off4 d0 (BitVec.ofNat 32 6)) (k0_off4_inb d0 6) (k0_pay18 v912 v914)
      let v919 : BitVec 32 := Scalar.addi v43 1#32
      let v920 : BitVec 1 := Scalar.cmpi .eq 8#32 0#32
      let v921 : BitVec 32 := Scalar.select v920 1#32 8#32
      let v922 : BitVec 32 := Scalar.remsi v919 v921
      let v923 : BitVec 1 := Scalar.cmpi .ne v922 0#32
      let v924 : BitVec 1 := Scalar.cmpi .slt v922 0#32
      let v925 : BitVec 1 := Scalar.cmpi .slt v921 0#32
      let v926 : BitVec 1 := Scalar.xori v924 v925
      let v927 : BitVec 1 := Scalar.andi v926 v923
      let v928 : BitVec 32 := Scalar.addi v922 v921
      let v929 : BitVec 32 := Scalar.select v927 v928 v922
      let v930 : BitVec 32 := Scalar.addi v43 7#32
      let v931 : BitVec 1 := Scalar.cmpi .eq 8#32 0#32
      let v932 : BitVec 32 := Scalar.select v931 1#32 8#32
      let v933 : BitVec 32 := Scalar.remsi v930 v932
      let v934 : BitVec 1 := Scalar.cmpi .ne v933 0#32
      let v935 : BitVec 1 := Scalar.cmpi .slt v933 0#32
      pure ⟨v929, v932, v933, v934, v935, 0#32⟩)
      := rfl

set_option maxRecDepth 65536 in
theorem k0_part33_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) (v932 : BitVec 32) (v933 : BitVec 32) (v934 : BitVec 1) (v935 : BitVec 1) (c0_i32_900 : BitVec 32) :
    k0_part33_skel (F := F) arg0 harg0 arg1 harg1 arg2 harg2 arg3 harg3 arg4 harg4 arg5 arg6 arg7 arg8 arg9 arg10 d0 v19 v109 v929 v932 v933 v934 v935 c0_i32_900 = (do
      let v936 : BitVec 1 := Scalar.cmpi .slt v932 c0_i32_900
      let v937 : BitVec 1 := Scalar.xori v935 v936
      let v938 : BitVec 1 := Scalar.andi v937 v934
      let v939 : BitVec 32 := Scalar.addi v933 v932
      let v940 : BitVec 32 := Scalar.select v938 v939 v933
      sendP arg1 arg3 squeezes_S1x1x32x1024_S32x1024 arg7 arg8 0 0 (k0_off5 d0 (BitVec.ofNat 32 0)) (k0_off5_inb d0 0) (⟨k0_dev19 d0, k0_dev19_lt d0⟩ : Dev nD)
      let v965 : BitVec 32 := Scalar.addi v19 0#32
      let v966 : BitVec 1 := Scalar.cmpi .eq 4#32 0#32
      let v967 : BitVec 32 := Scalar.select v966 1#32 4#32
      let v968 : BitVec 32 := Scalar.remsi v965 v967
      pure ⟨v940, v967, v968, 0#32⟩)
      := rfl

set_option maxRecDepth 65536 in
theorem k0_part34_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v122 : BitVec 32) (v940 : BitVec 32) (v967 : BitVec 32) (v968 : BitVec 32) (c0_i32_926 : BitVec 32) :
    k0_part34_skel (F := F) arg0 harg0 arg1 harg1 arg2 harg2 arg3 harg3 arg4 harg4 arg5 arg6 arg7 arg8 arg9 arg10 d0 v122 v940 v967 v968 c0_i32_926 = (do
      sendP arg1 arg3 squeezes_S1x1x32x1024_S32x1024 arg7 arg8 0 1 (k0_off6 d0 (BitVec.ofNat 32 0)) (k0_off6_inb d0 0) (⟨k0_dev20 d0, k0_dev20_lt d0⟩ : Dev nD)
      waitSP arg1 arg3 squeezes_S1x1x32x1024_S32x1024 arg7 0 0 (k0_off5 d0 (BitVec.ofNat 32 0)) (k0_off5_inb d0 0)
      pure 1#32)
      := rfl

set_option maxRecDepth 65536 in
theorem k0_part35_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) (c1_i32_959 : BitVec 32) :
    k0_part35_skel (F := F) arg0 harg0 arg1 harg1 arg2 harg2 arg3 harg3 arg4 harg4 arg5 arg6 arg7 arg8 arg9 arg10 d0 v19 v109 v929 c1_i32_959 = (do
      waitRP arg1 arg3 squeezes_S1x1x32x1024_S32x1024 arg8 0 0 (k0_off5 d0 (BitVec.ofNat 32 0)) (k0_off5_inb d0 0)
      let v1018 : Vec F S32x1024 .f32 ← ldO h_S32x1024 arg1 (k0_off7 d0 (BitVec.ofNat 32 0)) (k0_off7_inb d0 0)
      let v1020 : Vec F S1x1x32x1024 .f32 ← ldC h_S1x1x32x1024 arg3 0 0
      let v1024 : Vec F S32x1024 .f32 ← ldO h_S32x1024 arg1 (k0_off7 d0 (BitVec.ofNat 32 0)) (k0_off7_inb d0 0)
      stO h_S32x1024 arg1 (k0_off7 d0 (BitVec.ofNat 32 0)) (k0_off7_inb d0 0) (k0_pay19 v1018 v1020)
      pure ⟨⟩)
      := rfl

set_option maxRecDepth 65536 in
theorem k0_part36_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v122 : BitVec 32) (v940 : BitVec 32) :
    k0_part36_skel (F := F) arg0 harg0 arg1 harg1 arg2 harg2 arg3 harg3 arg4 harg4 arg5 arg6 arg7 arg8 arg9 arg10 d0 v19 v122 v940 = (do
      waitSP arg1 arg3 squeezes_S1x1x32x1024_S32x1024 arg7 0 1 (k0_off6 d0 (BitVec.ofNat 32 0)) (k0_off6_inb d0 0)
      waitRP arg1 arg3 squeezes_S1x1x32x1024_S32x1024 arg8 0 1 (k0_off6 d0 (BitVec.ofNat 32 0)) (k0_off6_inb d0 0)
      let v1037 : BitVec 32 := Scalar.addi v19 0#32
      let v1038 : BitVec 32 := Scalar.addi v1037 1#32
      let v1039 : BitVec 1 := Scalar.cmpi .eq 4#32 0#32
      let v1040 : BitVec 32 := Scalar.select v1039 1#32 4#32
      let v1041 : BitVec 32 := Scalar.remsi v1038 v1040
      let v1042 : BitVec 1 := Scalar.cmpi .ne v1041 0#32
      let v1043 : BitVec 1 := Scalar.cmpi .slt v1041 0#32
      let v1044 : BitVec 1 := Scalar.cmpi .slt v1040 0#32
      let v1045 : BitVec 1 := Scalar.xori v1043 v1044
      let v1046 : BitVec 1 := Scalar.andi v1045 v1042
      let v1047 : BitVec 32 := Scalar.addi v1041 v1040
      let v1048 : BitVec 32 := Scalar.select v1046 v1047 v1041
      let v1049 : BitVec 32 := Scalar.muli v940 128#32
      let v1050 : BitVec 32 := Scalar.addi 1024#32 v1049
      let v1051 : BitVec 32 := Scalar.muli v1048 32#32
      let v1052 : BitVec 32 := Scalar.addi v1050 v1051
      let v1054 : Vec F S32x1024 .f32 ← ldO h_S32x1024 arg1 (k0_off8 d0 (BitVec.ofNat 32 0)) (k0_off8_inb d0 0)
      pure ⟨v1052, k0_pay20 v1054⟩)
      := rfl

set_option maxRecDepth 65536 in
theorem k0_part37_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) (v1052 : BitVec 32) (v1055 : FVec F S32x1024 .f32) :
    k0_part37_skel (F := F) arg0 harg0 arg1 harg1 arg2 harg2 arg3 harg3 arg4 harg4 arg5 arg6 arg7 arg8 arg9 arg10 d0 v19 v109 v929 v1052 v1055 = (do
      let v1056 : Vec F S1x1x32x1024 .f32 ← ldC h_S1x1x32x1024 arg3 0 1
      let v1060 : Vec F S32x1024 .f32 ← ldO h_S32x1024 arg1 (k0_off8 d0 (BitVec.ofNat 32 0)) (k0_off8_inb d0 0)
      stO h_S32x1024 arg1 (k0_off8 d0 (BitVec.ofNat 32 0)) (k0_off8_inb d0 0) (k0_pay21 v1055 v1056)
      sendP arg1 arg3 squeezes_S1x1x32x1024_S32x1024 arg7 arg8 1 0 (k0_off5 d0 (BitVec.ofNat 32 1)) (k0_off5_inb d0 1) (⟨k0_dev21 d0, k0_dev21_lt d0⟩ : Dev nD)
      let v1085 : BitVec 32 := Scalar.addi v19 1#32
      pure ⟨v1085, 4#32⟩)
      := rfl

set_option maxRecDepth 65536 in
theorem k0_part38_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v122 : BitVec 32) (v940 : BitVec 32) (v1085 : BitVec 32) (c4_i32_1041 : BitVec 32) :
    k0_part38_skel (F := F) arg0 harg0 arg1 harg1 arg2 harg2 arg3 harg3 arg4 harg4 arg5 arg6 arg7 arg8 arg9 arg10 d0 v122 v940 v1085 c4_i32_1041 = (do
      sendP arg1 arg3 squeezes_S1x1x32x1024_S32x1024 arg7 arg8 1 1 (k0_off6 d0 (BitVec.ofNat 32 1)) (k0_off6_inb d0 1) (⟨k0_dev22 d0, k0_dev22_lt d0⟩ : Dev nD)
      waitSP arg1 arg3 squeezes_S1x1x32x1024_S32x1024 arg7 1 0 (k0_off5 d0 (BitVec.ofNat 32 1)) (k0_off5_inb d0 1)
      pure ⟨⟩)
      := rfl

set_option maxRecDepth 65536 in
theorem k0_part39_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) :
    k0_part39_skel (F := F) arg0 harg0 arg1 harg1 arg2 harg2 arg3 harg3 arg4 harg4 arg5 arg6 arg7 arg8 arg9 arg10 d0 v19 v109 v929 = (do
      waitRP arg1 arg3 squeezes_S1x1x32x1024_S32x1024 arg8 1 0 (k0_off5 d0 (BitVec.ofNat 32 1)) (k0_off5_inb d0 1)
      let v1138 : Vec F S32x1024 .f32 ← ldO h_S32x1024 arg1 (k0_off7 d0 (BitVec.ofNat 32 1)) (k0_off7_inb d0 1)
      let v1140 : Vec F S1x1x32x1024 .f32 ← ldC h_S1x1x32x1024 arg3 1 0
      let v1144 : Vec F S32x1024 .f32 ← ldO h_S32x1024 arg1 (k0_off7 d0 (BitVec.ofNat 32 1)) (k0_off7_inb d0 1)
      stO h_S32x1024 arg1 (k0_off7 d0 (BitVec.ofNat 32 1)) (k0_off7_inb d0 1) (k0_pay22 v1138 v1140)
      pure ⟨⟩)
      := rfl

set_option maxRecDepth 65536 in
theorem k0_part40_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v122 : BitVec 32) (v940 : BitVec 32) :
    k0_part40_skel (F := F) arg0 harg0 arg1 harg1 arg2 harg2 arg3 harg3 arg4 harg4 arg5 arg6 arg7 arg8 arg9 arg10 d0 v19 v122 v940 = (do
      waitSP arg1 arg3 squeezes_S1x1x32x1024_S32x1024 arg7 1 1 (k0_off6 d0 (BitVec.ofNat 32 1)) (k0_off6_inb d0 1)
      waitRP arg1 arg3 squeezes_S1x1x32x1024_S32x1024 arg8 1 1 (k0_off6 d0 (BitVec.ofNat 32 1)) (k0_off6_inb d0 1)
      let v1157 : BitVec 32 := Scalar.addi v19 1#32
      let v1158 : BitVec 32 := Scalar.addi v1157 1#32
      let v1159 : BitVec 1 := Scalar.cmpi .eq 4#32 0#32
      let v1160 : BitVec 32 := Scalar.select v1159 1#32 4#32
      let v1161 : BitVec 32 := Scalar.remsi v1158 v1160
      let v1162 : BitVec 1 := Scalar.cmpi .ne v1161 0#32
      let v1163 : BitVec 1 := Scalar.cmpi .slt v1161 0#32
      let v1164 : BitVec 1 := Scalar.cmpi .slt v1160 0#32
      let v1165 : BitVec 1 := Scalar.xori v1163 v1164
      let v1166 : BitVec 1 := Scalar.andi v1165 v1162
      let v1167 : BitVec 32 := Scalar.addi v1161 v1160
      let v1168 : BitVec 32 := Scalar.select v1166 v1167 v1161
      let v1169 : BitVec 32 := Scalar.muli v940 128#32
      let v1170 : BitVec 32 := Scalar.addi 1024#32 v1169
      pure ⟨v1168, v1170, 32#32⟩)
      := rfl

set_option maxRecDepth 65536 in
theorem k0_part41_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) (v1168 : BitVec 32) (v1170 : BitVec 32) (c32_i32_1130 : BitVec 32) :
    k0_part41_skel (F := F) arg0 harg0 arg1 harg1 arg2 harg2 arg3 harg3 arg4 harg4 arg5 arg6 arg7 arg8 arg9 arg10 d0 v19 v109 v929 v1168 v1170 c32_i32_1130 = (do
      let v1174 : Vec F S32x1024 .f32 ← ldO h_S32x1024 arg1 (k0_off8 d0 (BitVec.ofNat 32 1)) (k0_off8_inb d0 1)
      let v1176 : Vec F S1x1x32x1024 .f32 ← ldC h_S1x1x32x1024 arg3 1 1
      let v1180 : Vec F S32x1024 .f32 ← ldO h_S32x1024 arg1 (k0_off8 d0 (BitVec.ofNat 32 1)) (k0_off8_inb d0 1)
      stO h_S32x1024 arg1 (k0_off8 d0 (BitVec.ofNat 32 1)) (k0_off8_inb d0 1) (k0_pay23 v1174 v1176)
      pure ⟨⟩)
      := rfl

set_option maxRecDepth 65536 in
theorem k0_part42_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v122 : BitVec 32) (v940 : BitVec 32) :
    k0_part42_skel (F := F) arg0 harg0 arg1 harg1 arg2 harg2 arg3 harg3 arg4 harg4 arg5 arg6 arg7 arg8 arg9 arg10 d0 v19 v122 v940 = (do
      sendP arg1 arg3 squeezes_S1x1x32x1024_S32x1024 arg7 arg8 2 0 (k0_off5 d0 (BitVec.ofNat 32 2)) (k0_off5_inb d0 2) (⟨k0_dev23 d0, k0_dev23_lt d0⟩ : Dev nD)
      sendP arg1 arg3 squeezes_S1x1x32x1024_S32x1024 arg7 arg8 2 1 (k0_off6 d0 (BitVec.ofNat 32 2)) (k0_off6_inb d0 2) (⟨k0_dev24 d0, k0_dev24_lt d0⟩ : Dev nD)
      pure ⟨⟩)
      := rfl

set_option maxRecDepth 65536 in
theorem k0_part43_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) :
    k0_part43_skel (F := F) arg0 harg0 arg1 harg1 arg2 harg2 arg3 harg3 arg4 harg4 arg5 arg6 arg7 arg8 arg9 arg10 d0 v19 v109 v929 = (do
      waitSP arg1 arg3 squeezes_S1x1x32x1024_S32x1024 arg7 2 0 (k0_off5 d0 (BitVec.ofNat 32 2)) (k0_off5_inb d0 2)
      waitRP arg1 arg3 squeezes_S1x1x32x1024_S32x1024 arg8 2 0 (k0_off5 d0 (BitVec.ofNat 32 2)) (k0_off5_inb d0 2)
      let v1241 : BitVec 32 := Scalar.subi v19 2#32
      let v1242 : BitVec 32 := Scalar.subi v1241 1#32
      let v1243 : BitVec 1 := Scalar.cmpi .eq 4#32 0#32
      let v1244 : BitVec 32 := Scalar.select v1243 1#32 4#32
      let v1245 : BitVec 32 := Scalar.remsi v1242 v1244
      let v1246 : BitVec 1 := Scalar.cmpi .ne v1245 0#32
      let v1247 : BitVec 1 := Scalar.cmpi .slt v1245 0#32
      let v1248 : BitVec 1 := Scalar.cmpi .slt v1244 0#32
      let v1249 : BitVec 1 := Scalar.xori v1247 v1248
      let v1250 : BitVec 1 := Scalar.andi v1249 v1246
      let v1251 : BitVec 32 := Scalar.addi v1245 v1244
      let v1252 : BitVec 32 := Scalar.select v1250 v1251 v1245
      let v1253 : BitVec 32 := Scalar.muli v929 128#32
      let v1254 : BitVec 32 := Scalar.addi 0#32 v1253
      let v1255 : BitVec 32 := Scalar.muli v1252 32#32
      let v1256 : BitVec 32 := Scalar.addi v1254 v1255
      let v1258 : Vec F S32x1024 .f32 ← ldO h_S32x1024 arg1 (k0_off7 d0 (BitVec.ofNat 32 2)) (k0_off7_inb d0 2)
      let v1260 : Vec F S1x1x32x1024 .f32 ← ldC h_S1x1x32x1024 arg3 2 0
      pure ⟨v1256, k0_pay24 v1258, v1260⟩)
      := rfl

set_option maxRecDepth 65536 in
theorem k0_part44_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v122 : BitVec 32) (v1256 : BitVec 32) (v1259 : FVec F S32x1024 .f32) (v1260 : Vec F S1x1x32x1024 .f32) :
    k0_part44_skel (F := F) arg0 harg0 arg1 harg1 arg2 harg2 arg3 harg3 arg4 harg4 arg5 arg6 arg7 arg8 arg9 arg10 d0 v19 v122 v1256 v1259 v1260 = (do
      let v1264 : Vec F S32x1024 .f32 ← ldO h_S32x1024 arg1 (k0_off7 d0 (BitVec.ofNat 32 2)) (k0_off7_inb d0 2)
      stO h_S32x1024 arg1 (k0_off7 d0 (BitVec.ofNat 32 2)) (k0_off7_inb d0 2) (k0_pay25 v1259 v1260)
      waitSP arg1 arg3 squeezes_S1x1x32x1024_S32x1024 arg7 2 1 (k0_off6 d0 (BitVec.ofNat 32 2)) (k0_off6_inb d0 2)
      waitRP arg1 arg3 squeezes_S1x1x32x1024_S32x1024 arg8 2 1 (k0_off6 d0 (BitVec.ofNat 32 2)) (k0_off6_inb d0 2)
      let v1277 : BitVec 32 := Scalar.addi v19 2#32
      let v1278 : BitVec 32 := Scalar.addi v1277 1#32
      let v1279 : BitVec 1 := Scalar.cmpi .eq 4#32 0#32
      let v1280 : BitVec 32 := Scalar.select v1279 1#32 4#32
      let v1281 : BitVec 32 := Scalar.remsi v1278 v1280
      let v1282 : BitVec 1 := Scalar.cmpi .ne v1281 0#32
      let v1283 : BitVec 1 := Scalar.cmpi .slt v1281 0#32
      let v1284 : BitVec 1 := Scalar.cmpi .slt v1280 0#32
      let v1285 : BitVec 1 := Scalar.xori v1283 v1284
      let v1286 : BitVec 1 := Scalar.andi v1285 v1282
      let v1287 : BitVec 32 := Scalar.addi v1281 v1280
      pure ⟨v1281, v1286, v1287⟩)
      := rfl

set_option maxRecDepth 65536 in
theorem k0_part45_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) (v940 : BitVec 32) (v1281 : BitVec 32) (v1286 : BitVec 1) (v1287 : BitVec 32) :
    k0_part45_skel (F := F) arg0 harg0 arg1 harg1 arg2 harg2 arg3 harg3 arg4 harg4 arg5 arg6 arg7 arg8 arg9 arg10 d0 v19 v109 v929 v940 v1281 v1286 v1287 = (do
      let v1294 : Vec F S32x1024 .f32 ← ldO h_S32x1024 arg1 (k0_off8 d0 (BitVec.ofNat 32 2)) (k0_off8_inb d0 2)
      let v1296 : Vec F S1x1x32x1024 .f32 ← ldC h_S1x1x32x1024 arg3 2 1
      let v1300 : Vec F S32x1024 .f32 ← ldO h_S32x1024 arg1 (k0_off8 d0 (BitVec.ofNat 32 2)) (k0_off8_inb d0 2)
      stO h_S32x1024 arg1 (k0_off8 d0 (BitVec.ofNat 32 2)) (k0_off8_inb d0 2) (k0_pay26 v1294 v1296)
      pure ⟨⟩)
      := rfl

set_option maxRecDepth 65536 in
theorem k0_part46_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v122 : BitVec 32) (v940 : BitVec 32) :
    k0_part46_skel (F := F) arg0 harg0 arg1 harg1 arg2 harg2 arg3 harg3 arg4 harg4 arg5 arg6 arg7 arg8 arg9 arg10 d0 v19 v122 v940 = (do
      sendP arg1 arg3 squeezes_S1x1x32x1024_S32x1024 arg7 arg8 3 0 (k0_off9 d0 (BitVec.ofNat 32 0)) (k0_off9_inb d0 0) (⟨k0_dev25 d0, k0_dev25_lt d0⟩ : Dev nD)
      sendP arg1 arg3 squeezes_S1x1x32x1024_S32x1024 arg7 arg8 3 1 (k0_off10 d0 (BitVec.ofNat 32 0)) (k0_off10_inb d0 0) (⟨k0_dev26 d0, k0_dev26_lt d0⟩ : Dev nD)
      pure ⟨⟩)
      := rfl

set_option maxRecDepth 65536 in
theorem k0_part47_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) :
    k0_part47_skel (F := F) arg0 harg0 arg1 harg1 arg2 harg2 arg3 harg3 arg4 harg4 arg5 arg6 arg7 arg8 arg9 arg10 d0 v19 v109 v929 = (do
      waitSP arg1 arg3 squeezes_S1x1x32x1024_S32x1024 arg7 3 0 (k0_off9 d0 (BitVec.ofNat 32 0)) (k0_off9_inb d0 0)
      waitRP arg1 arg3 squeezes_S1x1x32x1024_S32x1024 arg8 3 0 (k0_off9 d0 (BitVec.ofNat 32 0)) (k0_off9_inb d0 0)
      let v1363 : BitVec 32 := Scalar.subi v19 0#32
      let v1364 : BitVec 1 := Scalar.cmpi .eq 4#32 0#32
      let v1365 : BitVec 32 := Scalar.select v1364 1#32 4#32
      let v1366 : BitVec 32 := Scalar.remsi v1363 v1365
      let v1367 : BitVec 1 := Scalar.cmpi .ne v1366 0#32
      let v1368 : BitVec 1 := Scalar.cmpi .slt v1366 0#32
      let v1369 : BitVec 1 := Scalar.cmpi .slt v1365 0#32
      let v1370 : BitVec 1 := Scalar.xori v1368 v1369
      let v1371 : BitVec 1 := Scalar.andi v1370 v1367
      let v1372 : BitVec 32 := Scalar.addi v1366 v1365
      let v1373 : BitVec 32 := Scalar.select v1371 v1372 v1366
      let v1374 : BitVec 32 := Scalar.muli v929 128#32
      let v1375 : BitVec 32 := Scalar.addi 0#32 v1374
      let v1376 : BitVec 32 := Scalar.muli v1373 32#32
      let v1377 : BitVec 32 := Scalar.addi v1375 v1376
      pure v1377)
      := rfl

set_option maxRecDepth 65536 in
theorem k0_part48_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v122 : BitVec 32) (v1377 : BitVec 32) :
    k0_part48_skel (F := F) arg0 harg0 arg1 harg1 arg2 harg2 arg3 harg3 arg4 harg4 arg5 arg6 arg7 arg8 arg9 arg10 d0 v19 v122 v1377 = (do
      let v1378 : Vec F S1x1x32x1024 .f32 ← ldC h_S1x1x32x1024 arg3 3 0
      let v1381 : Vec F S32x1024 .f32 ← ldO h_S32x1024 arg1 (k0_off11 d0 (BitVec.ofNat 32 0)) (k0_off11_inb d0 0)
      stO h_S32x1024 arg1 (k0_off11 d0 (BitVec.ofNat 32 0)) (k0_off11_inb d0 0) (k0_pay27 v1378)
      waitSP arg1 arg3 squeezes_S1x1x32x1024_S32x1024 arg7 3 1 (k0_off10 d0 (BitVec.ofNat 32 0)) (k0_off10_inb d0 0)
      waitRP arg1 arg3 squeezes_S1x1x32x1024_S32x1024 arg8 3 1 (k0_off10 d0 (BitVec.ofNat 32 0)) (k0_off10_inb d0 0)
      let v1394 : BitVec 32 := Scalar.addi v19 0#32
      let v1395 : BitVec 1 := Scalar.cmpi .eq 4#32 0#32
      let v1396 : BitVec 32 := Scalar.select v1395 1#32 4#32
      let v1397 : BitVec 32 := Scalar.remsi v1394 v1396
      let v1398 : BitVec 1 := Scalar.cmpi .ne v1397 0#32
      let v1399 : BitVec 1 := Scalar.cmpi .slt v1397 0#32
      let v1400 : BitVec 1 := Scalar.cmpi .slt v1396 0#32
      let v1401 : BitVec 1 := Scalar.xori v1399 v1400
      let v1402 : BitVec 1 := Scalar.andi v1401 v1398
      pure ⟨v1396, v1397, v1402⟩)
      := rfl

set_option maxRecDepth 65536 in
theorem k0_part49_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) (v940 : BitVec 32) (v1396 : BitVec 32) (v1397 : BitVec 32) (v1402 : BitVec 1) :
    k0_part49_skel (F := F) arg0 harg0 arg1 harg1 arg2 harg2 arg3 harg3 arg4 harg4 arg5 arg6 arg7 arg8 arg9 arg10 d0 v19 v109 v929 v940 v1396 v1397 v1402 = (do
      let v1409 : Vec F S1x1x32x1024 .f32 ← ldC h_S1x1x32x1024 arg3 3 1
      let v1412 : Vec F S32x1024 .f32 ← ldO h_S32x1024 arg1 (k0_off12 d0 (BitVec.ofNat 32 0)) (k0_off12_inb d0 0)
      stO h_S32x1024 arg1 (k0_off12 d0 (BitVec.ofNat 32 0)) (k0_off12_inb d0 0) (k0_pay28 v1409)
      pure ⟨⟩)
      := rfl

set_option maxRecDepth 65536 in
theorem k0_part50_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v122 : BitVec 32) (v940 : BitVec 32) :
    k0_part50_skel (F := F) arg0 harg0 arg1 harg1 arg2 harg2 arg3 harg3 arg4 harg4 arg5 arg6 arg7 arg8 arg9 arg10 d0 v19 v122 v940 = (do
      sendP arg1 arg3 squeezes_S1x1x32x1024_S32x1024 arg7 arg8 4 0 (k0_off9 d0 (BitVec.ofNat 32 1)) (k0_off9_inb d0 1) (⟨k0_dev27 d0, k0_dev27_lt d0⟩ : Dev nD)
      sendP arg1 arg3 squeezes_S1x1x32x1024_S32x1024 arg7 arg8 4 1 (k0_off10 d0 (BitVec.ofNat 32 1)) (k0_off10_inb d0 1) (⟨k0_dev28 d0, k0_dev28_lt d0⟩ : Dev nD)
      pure ⟨⟩)
      := rfl

set_option maxRecDepth 65536 in
theorem k0_part51_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) :
    k0_part51_skel (F := F) arg0 harg0 arg1 harg1 arg2 harg2 arg3 harg3 arg4 harg4 arg5 arg6 arg7 arg8 arg9 arg10 d0 v19 v109 v929 = (do
      waitSP arg1 arg3 squeezes_S1x1x32x1024_S32x1024 arg7 4 0 (k0_off9 d0 (BitVec.ofNat 32 1)) (k0_off9_inb d0 1)
      waitRP arg1 arg3 squeezes_S1x1x32x1024_S32x1024 arg8 4 0 (k0_off9 d0 (BitVec.ofNat 32 1)) (k0_off9_inb d0 1)
      let v1475 : BitVec 32 := Scalar.subi v19 1#32
      let v1476 : BitVec 1 := Scalar.cmpi .eq 4#32 0#32
      let v1477 : BitVec 32 := Scalar.select v1476 1#32 4#32
      let v1478 : BitVec 32 := Scalar.remsi v1475 v1477
      let v1479 : BitVec 1 := Scalar.cmpi .ne v1478 0#32
      let v1480 : BitVec 1 := Scalar.cmpi .slt v1478 0#32
      let v1481 : BitVec 1 := Scalar.cmpi .slt v1477 0#32
      let v1482 : BitVec 1 := Scalar.xori v1480 v1481
      let v1483 : BitVec 1 := Scalar.andi v1482 v1479
      let v1484 : BitVec 32 := Scalar.addi v1478 v1477
      let v1485 : BitVec 32 := Scalar.select v1483 v1484 v1478
      let v1486 : BitVec 32 := Scalar.muli v929 128#32
      let v1487 : BitVec 32 := Scalar.addi 0#32 v1486
      let v1488 : BitVec 32 := Scalar.muli v1485 32#32
      let v1489 : BitVec 32 := Scalar.addi v1487 v1488
      let v1490 : Vec F S1x1x32x1024 .f32 ← ldC h_S1x1x32x1024 arg3 4 0
      pure ⟨v1489, v1490⟩)
      := rfl

set_option maxRecDepth 65536 in
theorem k0_part52_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v122 : BitVec 32) (v940 : BitVec 32) (v1489 : BitVec 32) (v1490 : Vec F S1x1x32x1024 .f32) :
    k0_part52_skel (F := F) arg0 harg0 arg1 harg1 arg2 harg2 arg3 harg3 arg4 harg4 arg5 arg6 arg7 arg8 arg9 arg10 d0 v19 v122 v940 v1489 v1490 = (do
      let v1493 : Vec F S32x1024 .f32 ← ldO h_S32x1024 arg1 (k0_off11 d0 (BitVec.ofNat 32 1)) (k0_off11_inb d0 1)
      stO h_S32x1024 arg1 (k0_off11 d0 (BitVec.ofNat 32 1)) (k0_off11_inb d0 1) (k0_pay29 v1490)
      waitSP arg1 arg3 squeezes_S1x1x32x1024_S32x1024 arg7 4 1 (k0_off10 d0 (BitVec.ofNat 32 1)) (k0_off10_inb d0 1)
      waitRP arg1 arg3 squeezes_S1x1x32x1024_S32x1024 arg8 4 1 (k0_off10 d0 (BitVec.ofNat 32 1)) (k0_off10_inb d0 1)
      let v1506 : BitVec 32 := Scalar.addi v19 1#32
      let v1507 : BitVec 1 := Scalar.cmpi .eq 4#32 0#32
      let v1508 : BitVec 32 := Scalar.select v1507 1#32 4#32
      let v1509 : BitVec 32 := Scalar.remsi v1506 v1508
      let v1510 : BitVec 1 := Scalar.cmpi .ne v1509 0#32
      let v1511 : BitVec 1 := Scalar.cmpi .slt v1509 0#32
      let v1512 : BitVec 1 := Scalar.cmpi .slt v1508 0#32
      let v1513 : BitVec 1 := Scalar.xori v1511 v1512
      let v1514 : BitVec 1 := Scalar.andi v1513 v1510
      let v1515 : BitVec 32 := Scalar.addi v1509 v1508
      let v1516 : BitVec 32 := Scalar.select v1514 v1515 v1509
      let v1517 : BitVec 32 := Scalar.muli v940 128#32
      pure ⟨v1516, v1517⟩)
      := rfl

set_option maxRecDepth 65536 in
theorem k0_part53_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) (v1516 : BitVec 32) (v1517 : BitVec 32) :
    k0_part53_skel (F := F) arg0 harg0 arg1 harg1 arg2 harg2 arg3 harg3 arg4 harg4 arg5 arg6 arg7 arg8 arg9 arg10 d0 v19 v109 v929 v1516 v1517 = (do
      let v1521 : Vec F S1x1x32x1024 .f32 ← ldC h_S1x1x32x1024 arg3 4 1
      let v1524 : Vec F S32x1024 .f32 ← ldO h_S32x1024 arg1 (k0_off12 d0 (BitVec.ofNat 32 1)) (k0_off12_inb d0 1)
      stO h_S32x1024 arg1 (k0_off12 d0 (BitVec.ofNat 32 1)) (k0_off12_inb d0 1) (k0_pay30 v1521)
      pure ⟨⟩)
      := rfl

set_option maxRecDepth 65536 in
theorem k0_part54_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v122 : BitVec 32) (v940 : BitVec 32) :
    k0_part54_skel (F := F) arg0 harg0 arg1 harg1 arg2 harg2 arg3 harg3 arg4 harg4 arg5 arg6 arg7 arg8 arg9 arg10 d0 v19 v122 v940 = (do
      sendP arg1 arg3 squeezes_S1x1x32x1024_S32x1024 arg7 arg8 5 0 (k0_off9 d0 (BitVec.ofNat 32 2)) (k0_off9_inb d0 2) (⟨k0_dev29 d0, k0_dev29_lt d0⟩ : Dev nD)
      sendP arg1 arg3 squeezes_S1x1x32x1024_S32x1024 arg7 arg8 5 1 (k0_off10 d0 (BitVec.ofNat 32 2)) (k0_off10_inb d0 2) (⟨k0_dev30 d0, k0_dev30_lt d0⟩ : Dev nD)
      pure ⟨⟩)
      := rfl

set_option maxRecDepth 65536 in
theorem k0_part55_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v109 : BitVec 32) (v929 : BitVec 32) :
    k0_part55_skel (F := F) arg0 harg0 arg1 harg1 arg2 harg2 arg3 harg3 arg4 harg4 arg5 arg6 arg7 arg8 arg9 arg10 d0 v19 v109 v929 = (do
      waitSP arg1 arg3 squeezes_S1x1x32x1024_S32x1024 arg7 5 0 (k0_off9 d0 (BitVec.ofNat 32 2)) (k0_off9_inb d0 2)
      waitRP arg1 arg3 squeezes_S1x1x32x1024_S32x1024 arg8 5 0 (k0_off9 d0 (BitVec.ofNat 32 2)) (k0_off9_inb d0 2)
      let v1602 : Vec F S1x1x32x1024 .f32 ← ldC h_S1x1x32x1024 arg3 5 0
      let v1605 : Vec F S32x1024 .f32 ← ldO h_S32x1024 arg1 (k0_off11 d0 (BitVec.ofNat 32 2)) (k0_off11_inb d0 2)
      pure (k0_pay31 v1602))
      := rfl

set_option maxRecDepth 65536 in
theorem k0_part56_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v19 : BitVec 32) (v122 : BitVec 32) (v940 : BitVec 32) (v1603 : FVec F S32x1024 .f32) :
    k0_part56_skel (F := F) arg0 harg0 arg1 harg1 arg2 harg2 arg3 harg3 arg4 harg4 arg5 arg6 arg7 arg8 arg9 arg10 d0 v19 v122 v940 v1603 = (do
      stO h_S32x1024 arg1 (k0_off11 d0 (BitVec.ofNat 32 2)) (k0_off11_inb d0 2) v1603
      waitSP arg1 arg3 squeezes_S1x1x32x1024_S32x1024 arg7 5 1 (k0_off10 d0 (BitVec.ofNat 32 2)) (k0_off10_inb d0 2)
      waitRP arg1 arg3 squeezes_S1x1x32x1024_S32x1024 arg8 5 1 (k0_off10 d0 (BitVec.ofNat 32 2)) (k0_off10_inb d0 2)
      let v1618 : BitVec 32 := Scalar.addi v19 2#32
      let v1619 : BitVec 1 := Scalar.cmpi .eq 4#32 0#32
      let v1620 : BitVec 32 := Scalar.select v1619 1#32 4#32
      let v1621 : BitVec 32 := Scalar.remsi v1618 v1620
      let v1622 : BitVec 1 := Scalar.cmpi .ne v1621 0#32
      let v1623 : BitVec 1 := Scalar.cmpi .slt v1621 0#32
      let v1624 : BitVec 1 := Scalar.cmpi .slt v1620 0#32
      let v1625 : BitVec 1 := Scalar.xori v1623 v1624
      let v1626 : BitVec 1 := Scalar.andi v1625 v1622
      let v1627 : BitVec 32 := Scalar.addi v1621 v1620
      let v1628 : BitVec 32 := Scalar.select v1626 v1627 v1621
      let v1629 : BitVec 32 := Scalar.muli v940 128#32
      let v1630 : BitVec 32 := Scalar.addi 1024#32 v1629
      let v1631 : BitVec 32 := Scalar.muli v1628 32#32
      pure ⟨v1630, v1631⟩)
      := rfl

set_option maxRecDepth 65536 in
theorem k0_part57_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v1630 : BitVec 32) (v1631 : BitVec 32) :
    k0_part57_skel (F := F) arg0 harg0 arg1 harg1 arg2 harg2 arg3 harg3 arg4 harg4 arg5 arg6 arg7 arg8 arg9 arg10 d0 v43 v70 v1630 v1631 = (do
      let v1633 : Vec F S1x1x32x1024 .f32 ← ldC h_S1x1x32x1024 arg3 5 1
      let v1636 : Vec F S32x1024 .f32 ← ldO h_S32x1024 arg1 (k0_off12 d0 (BitVec.ofNat 32 2)) (k0_off12_inb d0 2)
      stO h_S32x1024 arg1 (k0_off12 d0 (BitVec.ofNat 32 2)) (k0_off12_inb d0 2) (k0_pay32 v1633)
      sendP arg1 arg4 squeezes_S1x1x128x1024_S128x1024 arg9 arg10 0 0 (k0_off13 d0 (BitVec.ofNat 32 0)) (k0_off13_inb d0 0) (⟨k0_dev31 d0, k0_dev31_lt d0⟩ : Dev nD)
      let v1660 : BitVec 32 := Scalar.addi v43 7#32
      let v1661 : BitVec 32 := Scalar.addi v1660 0#32
      pure v1661)
      := rfl

set_option maxRecDepth 65536 in
theorem k0_part58_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v96 : BitVec 32) (v1661 : BitVec 32) :
    k0_part58_skel (F := F) arg0 harg0 arg1 harg1 arg2 harg2 arg3 harg3 arg4 harg4 arg5 arg6 arg7 arg8 arg9 arg10 d0 v96 v1661 = (do
      sendP arg1 arg4 squeezes_S1x1x128x1024_S128x1024 arg9 arg10 0 1 (k0_off14 d0 (BitVec.ofNat 32 0)) (k0_off14_inb d0 0) (⟨k0_dev32 d0, k0_dev32_lt d0⟩ : Dev nD)
      waitSP arg1 arg4 squeezes_S1x1x128x1024_S128x1024 arg9 0 0 (k0_off13 d0 (BitVec.ofNat 32 0)) (k0_off13_inb d0 0)
      pure ⟨⟩)
      := rfl

set_option maxRecDepth 65536 in
theorem k0_part59_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) :
    k0_part59_skel (F := F) arg0 harg0 arg1 harg1 arg2 harg2 arg3 harg3 arg4 harg4 arg5 arg6 arg7 arg8 arg9 arg10 d0 v43 v70 = (do
      waitRP arg1 arg4 squeezes_S1x1x128x1024_S128x1024 arg10 0 0 (k0_off13 d0 (BitVec.ofNat 32 0)) (k0_off13_inb d0 0)
      let v1706 : Vec F S1x1x128x1024 .f32 ← ldC h_S1x1x128x1024 arg4 0 0
      let v1711 : Vec F S128x1024 .f32 ← ldO h_S128x1024 arg1 (k0_off15 d0 (BitVec.ofNat 32 0)) (k0_off15_inb d0 0)
      stO h_S128x1024 arg1 (k0_off15 d0 (BitVec.ofNat 32 0)) (k0_off15_inb d0 0) (k0_pay33 v1706)
      pure ⟨⟩)
      := rfl

set_option maxRecDepth 65536 in
theorem k0_part60_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) :
    k0_part60_skel (F := F) arg0 harg0 arg1 harg1 arg2 harg2 arg3 harg3 arg4 harg4 arg5 arg6 arg7 arg8 arg9 arg10 d0 v43 v96 = (do
      waitSP arg1 arg4 squeezes_S1x1x128x1024_S128x1024 arg9 0 1 (k0_off14 d0 (BitVec.ofNat 32 0)) (k0_off14_inb d0 0)
      waitRP arg1 arg4 squeezes_S1x1x128x1024_S128x1024 arg10 0 1 (k0_off14 d0 (BitVec.ofNat 32 0)) (k0_off14_inb d0 0)
      let v1735 : Vec F S1x1x128x1024 .f32 ← ldC h_S1x1x128x1024 arg4 0 1
      let v1740 : Vec F S128x1024 .f32 ← ldO h_S128x1024 arg1 (k0_off16 d0 (BitVec.ofNat 32 0)) (k0_off16_inb d0 0)
      stO h_S128x1024 arg1 (k0_off16 d0 (BitVec.ofNat 32 0)) (k0_off16_inb d0 0) (k0_pay34 v1735)
      let v1741 : BitVec 32 := Scalar.addi v43 1#32
      let v1742 : BitVec 32 := Scalar.subi v1741 1#32
      pure ⟨v1742, 8#32⟩)
      := rfl

set_option maxRecDepth 65536 in
theorem k0_part61_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v1742 : BitVec 32) (c8_i32_1717 : BitVec 32) :
    k0_part61_skel (F := F) arg0 harg0 arg1 harg1 arg2 harg2 arg3 harg3 arg4 harg4 arg5 arg6 arg7 arg8 arg9 arg10 d0 v43 v70 v1742 c8_i32_1717 = (do
      sendP arg1 arg4 squeezes_S1x1x128x1024_S128x1024 arg9 arg10 1 0 (k0_off13 d0 (BitVec.ofNat 32 1)) (k0_off13_inb d0 1) (⟨k0_dev33 d0, k0_dev33_lt d0⟩ : Dev nD)
      let v1764 : BitVec 32 := Scalar.addi v43 7#32
      let v1765 : BitVec 32 := Scalar.addi v1764 1#32
      let v1766 : BitVec 1 := Scalar.cmpi .eq 8#32 0#32
      let v1767 : BitVec 32 := Scalar.select v1766 1#32 8#32
      let v1768 : BitVec 32 := Scalar.remsi v1765 v1767
      let v1769 : BitVec 1 := Scalar.cmpi .ne v1768 0#32
      let v1770 : BitVec 1 := Scalar.cmpi .slt v1768 0#32
      let v1771 : BitVec 1 := Scalar.cmpi .slt v1767 0#32
      let v1772 : BitVec 1 := Scalar.xori v1770 v1771
      let v1773 : BitVec 1 := Scalar.andi v1772 v1769
      let v1774 : BitVec 32 := Scalar.addi v1768 v1767
      let v1775 : BitVec 32 := Scalar.select v1773 v1774 v1768
      pure v1775)
      := rfl

set_option maxRecDepth 65536 in
theorem k0_part62_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v70 : BitVec 32) (v96 : BitVec 32) (v1775 : BitVec 32) :
    k0_part62_skel (F := F) arg0 harg0 arg1 harg1 arg2 harg2 arg3 harg3 arg4 harg4 arg5 arg6 arg7 arg8 arg9 arg10 d0 v70 v96 v1775 = (do
      sendP arg1 arg4 squeezes_S1x1x128x1024_S128x1024 arg9 arg10 1 1 (k0_off14 d0 (BitVec.ofNat 32 1)) (k0_off14_inb d0 1) (⟨k0_dev34 d0, k0_dev34_lt d0⟩ : Dev nD)
      waitSP arg1 arg4 squeezes_S1x1x128x1024_S128x1024 arg9 1 0 (k0_off13 d0 (BitVec.ofNat 32 1)) (k0_off13_inb d0 1)
      waitRP arg1 arg4 squeezes_S1x1x128x1024_S128x1024 arg10 1 0 (k0_off13 d0 (BitVec.ofNat 32 1)) (k0_off13_inb d0 1)
      pure ⟨⟩)
      := rfl

set_option maxRecDepth 65536 in
theorem k0_part63_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) :
    k0_part63_skel (F := F) arg0 harg0 arg1 harg1 arg2 harg2 arg3 harg3 arg4 harg4 arg5 arg6 arg7 arg8 arg9 arg10 d0 v43 v96 = (do
      let v1810 : Vec F S1x1x128x1024 .f32 ← ldC h_S1x1x128x1024 arg4 1 0
      let v1815 : Vec F S128x1024 .f32 ← ldO h_S128x1024 arg1 (k0_off15 d0 (BitVec.ofNat 32 1)) (k0_off15_inb d0 1)
      stO h_S128x1024 arg1 (k0_off15 d0 (BitVec.ofNat 32 1)) (k0_off15_inb d0 1) (k0_pay35 v1810)
      waitSP arg1 arg4 squeezes_S1x1x128x1024_S128x1024 arg9 1 1 (k0_off14 d0 (BitVec.ofNat 32 1)) (k0_off14_inb d0 1)
      pure ⟨⟩)
      := rfl

set_option maxRecDepth 65536 in
theorem k0_part64_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) :
    k0_part64_skel (F := F) arg0 harg0 arg1 harg1 arg2 harg2 arg3 harg3 arg4 harg4 arg5 arg6 arg7 arg8 arg9 arg10 d0 v43 = (do
      waitRP arg1 arg4 squeezes_S1x1x128x1024_S128x1024 arg10 1 1 (k0_off14 d0 (BitVec.ofNat 32 1)) (k0_off14_inb d0 1)
      let v1839 : Vec F S1x1x128x1024 .f32 ← ldC h_S1x1x128x1024 arg4 1 1
      let v1844 : Vec F S128x1024 .f32 ← ldO h_S128x1024 arg1 (k0_off16 d0 (BitVec.ofNat 32 1)) (k0_off16_inb d0 1)
      stO h_S128x1024 arg1 (k0_off16 d0 (BitVec.ofNat 32 1)) (k0_off16_inb d0 1) (k0_pay36 v1839)
      let v1845 : BitVec 32 := Scalar.addi v43 1#32
      let v1846 : BitVec 32 := Scalar.subi v1845 2#32
      let v1847 : BitVec 1 := Scalar.cmpi .eq 8#32 0#32
      let v1848 : BitVec 32 := Scalar.select v1847 1#32 8#32
      let v1849 : BitVec 32 := Scalar.remsi v1846 v1848
      let v1850 : BitVec 1 := Scalar.cmpi .ne v1849 0#32
      let v1851 : BitVec 1 := Scalar.cmpi .slt v1849 0#32
      let v1852 : BitVec 1 := Scalar.cmpi .slt v1848 0#32
      let v1853 : BitVec 1 := Scalar.xori v1851 v1852
      let v1854 : BitVec 1 := Scalar.andi v1853 v1850
      let v1855 : BitVec 32 := Scalar.addi v1849 v1848
      let v1856 : BitVec 32 := Scalar.select v1854 v1855 v1849
      pure ⟨v1856, 128#32⟩)
      := rfl

set_option maxRecDepth 65536 in
theorem k0_part65_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v96 : BitVec 32) (v1856 : BitVec 32) (c128_i32_1835 : BitVec 32) :
    k0_part65_skel (F := F) arg0 harg0 arg1 harg1 arg2 harg2 arg3 harg3 arg4 harg4 arg5 arg6 arg7 arg8 arg9 arg10 d0 v43 v70 v96 v1856 c128_i32_1835 = (do
      sendP arg1 arg4 squeezes_S1x1x128x1024_S128x1024 arg9 arg10 2 0 (k0_off13 d0 (BitVec.ofNat 32 2)) (k0_off13_inb d0 2) (⟨k0_dev35 d0, k0_dev35_lt d0⟩ : Dev nD)
      pure ⟨⟩)
      := rfl

set_option maxRecDepth 65536 in
theorem k0_part66_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) :
    k0_part66_skel (F := F) arg0 harg0 arg1 harg1 arg2 harg2 arg3 harg3 arg4 harg4 arg5 arg6 arg7 arg8 arg9 arg10 d0 v43 v70 = (do
      sendP arg1 arg4 squeezes_S1x1x128x1024_S128x1024 arg9 arg10 2 1 (k0_off14 d0 (BitVec.ofNat 32 2)) (k0_off14_inb d0 2) (⟨k0_dev36 d0, k0_dev36_lt d0⟩ : Dev nD)
      waitSP arg1 arg4 squeezes_S1x1x128x1024_S128x1024 arg9 2 0 (k0_off13 d0 (BitVec.ofNat 32 2)) (k0_off13_inb d0 2)
      waitRP arg1 arg4 squeezes_S1x1x128x1024_S128x1024 arg10 2 0 (k0_off13 d0 (BitVec.ofNat 32 2)) (k0_off13_inb d0 2)
      let v1903 : BitVec 32 := Scalar.subi v43 2#32
      let v1904 : BitVec 1 := Scalar.cmpi .eq 8#32 0#32
      let v1905 : BitVec 32 := Scalar.select v1904 1#32 8#32
      let v1906 : BitVec 32 := Scalar.remsi v1903 v1905
      let v1907 : BitVec 1 := Scalar.cmpi .ne v1906 0#32
      let v1908 : BitVec 1 := Scalar.cmpi .slt v1906 0#32
      let v1909 : BitVec 1 := Scalar.cmpi .slt v1905 0#32
      let v1910 : BitVec 1 := Scalar.xori v1908 v1909
      let v1911 : BitVec 1 := Scalar.andi v1910 v1907
      pure ⟨v1905, v1906, v1911⟩)
      := rfl

set_option maxRecDepth 65536 in
theorem k0_part67_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) (v1905 : BitVec 32) (v1906 : BitVec 32) (v1911 : BitVec 1) :
    k0_part67_skel (F := F) arg0 harg0 arg1 harg1 arg2 harg2 arg3 harg3 arg4 harg4 arg5 arg6 arg7 arg8 arg9 arg10 d0 v43 v96 v1905 v1906 v1911 = (do
      let v1914 : Vec F S1x1x128x1024 .f32 ← ldC h_S1x1x128x1024 arg4 2 0
      let v1919 : Vec F S128x1024 .f32 ← ldO h_S128x1024 arg1 (k0_off15 d0 (BitVec.ofNat 32 2)) (k0_off15_inb d0 2)
      stO h_S128x1024 arg1 (k0_off15 d0 (BitVec.ofNat 32 2)) (k0_off15_inb d0 2) (k0_pay37 v1914)
      waitSP arg1 arg4 squeezes_S1x1x128x1024_S128x1024 arg9 2 1 (k0_off14 d0 (BitVec.ofNat 32 2)) (k0_off14_inb d0 2)
      waitRP arg1 arg4 squeezes_S1x1x128x1024_S128x1024 arg10 2 1 (k0_off14 d0 (BitVec.ofNat 32 2)) (k0_off14_inb d0 2)
      let v1932 : BitVec 32 := Scalar.addi v43 2#32
      let v1933 : BitVec 1 := Scalar.cmpi .eq 8#32 0#32
      let v1934 : BitVec 32 := Scalar.select v1933 1#32 8#32
      let v1935 : BitVec 32 := Scalar.remsi v1932 v1934
      pure ⟨v1934, v1935, 0#32⟩)
      := rfl

set_option maxRecDepth 65536 in
theorem k0_part68_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v1934 : BitVec 32) (v1935 : BitVec 32) (c0_i32_1929 : BitVec 32) :
    k0_part68_skel (F := F) arg0 harg0 arg1 harg1 arg2 harg2 arg3 harg3 arg4 harg4 arg5 arg6 arg7 arg8 arg9 arg10 d0 v43 v70 v1934 v1935 c0_i32_1929 = (do
      let v1943 : Vec F S1x1x128x1024 .f32 ← ldC h_S1x1x128x1024 arg4 2 1
      let v1948 : Vec F S128x1024 .f32 ← ldO h_S128x1024 arg1 (k0_off16 d0 (BitVec.ofNat 32 2)) (k0_off16_inb d0 2)
      stO h_S128x1024 arg1 (k0_off16 d0 (BitVec.ofNat 32 2)) (k0_off16_inb d0 2) (k0_pay38 v1943)
      pure ⟨⟩)
      := rfl

set_option maxRecDepth 65536 in
theorem k0_part69_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) :
    k0_part69_skel (F := F) arg0 harg0 arg1 harg1 arg2 harg2 arg3 harg3 arg4 harg4 arg5 arg6 arg7 arg8 arg9 arg10 d0 v43 v96 = (do
      sendP arg1 arg4 squeezes_S1x1x128x1024_S128x1024 arg9 arg10 3 0 (k0_off13 d0 (BitVec.ofNat 32 3)) (k0_off13_inb d0 3) (⟨k0_dev37 d0, k0_dev37_lt d0⟩ : Dev nD)
      sendP arg1 arg4 squeezes_S1x1x128x1024_S128x1024 arg9 arg10 3 1 (k0_off14 d0 (BitVec.ofNat 32 3)) (k0_off14_inb d0 3) (⟨k0_dev38 d0, k0_dev38_lt d0⟩ : Dev nD)
      pure ⟨⟩)
      := rfl

set_option maxRecDepth 65536 in
theorem k0_part70_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) :
    k0_part70_skel (F := F) arg0 harg0 arg1 harg1 arg2 harg2 arg3 harg3 arg4 harg4 arg5 arg6 arg7 arg8 arg9 arg10 d0 v43 v70 = (do
      waitSP arg1 arg4 squeezes_S1x1x128x1024_S128x1024 arg9 3 0 (k0_off13 d0 (BitVec.ofNat 32 3)) (k0_off13_inb d0 3)
      waitRP arg1 arg4 squeezes_S1x1x128x1024_S128x1024 arg10 3 0 (k0_off13 d0 (BitVec.ofNat 32 3)) (k0_off13_inb d0 3)
      let v2018 : Vec F S1x1x128x1024 .f32 ← ldC h_S1x1x128x1024 arg4 3 0
      let v2023 : Vec F S128x1024 .f32 ← ldO h_S128x1024 arg1 (k0_off15 d0 (BitVec.ofNat 32 3)) (k0_off15_inb d0 3)
      stO h_S128x1024 arg1 (k0_off15 d0 (BitVec.ofNat 32 3)) (k0_off15_inb d0 3) (k0_pay39 v2018)
      pure ⟨⟩)
      := rfl

set_option maxRecDepth 65536 in
theorem k0_part71_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) :
    k0_part71_skel (F := F) arg0 harg0 arg1 harg1 arg2 harg2 arg3 harg3 arg4 harg4 arg5 arg6 arg7 arg8 arg9 arg10 d0 v43 v96 = (do
      waitSP arg1 arg4 squeezes_S1x1x128x1024_S128x1024 arg9 3 1 (k0_off14 d0 (BitVec.ofNat 32 3)) (k0_off14_inb d0 3)
      waitRP arg1 arg4 squeezes_S1x1x128x1024_S128x1024 arg10 3 1 (k0_off14 d0 (BitVec.ofNat 32 3)) (k0_off14_inb d0 3)
      let v2036 : BitVec 32 := Scalar.addi v43 3#32
      let v2037 : BitVec 1 := Scalar.cmpi .eq 8#32 0#32
      let v2038 : BitVec 32 := Scalar.select v2037 1#32 8#32
      let v2039 : BitVec 32 := Scalar.remsi v2036 v2038
      let v2040 : BitVec 1 := Scalar.cmpi .ne v2039 0#32
      let v2041 : BitVec 1 := Scalar.cmpi .slt v2039 0#32
      let v2042 : BitVec 1 := Scalar.cmpi .slt v2038 0#32
      let v2043 : BitVec 1 := Scalar.xori v2041 v2042
      let v2044 : BitVec 1 := Scalar.andi v2043 v2040
      let v2045 : BitVec 32 := Scalar.addi v2039 v2038
      let v2046 : BitVec 32 := Scalar.select v2044 v2045 v2039
      let v2047 : Vec F S1x1x128x1024 .f32 ← ldC h_S1x1x128x1024 arg4 3 1
      pure ⟨v2046, k0_pay40 v2047, 128#32⟩)
      := rfl

set_option maxRecDepth 65536 in
theorem k0_part72_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v2046 : BitVec 32) (v2048 : FVec F S128x1024 .f32) (c128_i32_2048 : BitVec 32) :
    k0_part72_skel (F := F) arg0 harg0 arg1 harg1 arg2 harg2 arg3 harg3 arg4 harg4 arg5 arg6 arg7 arg8 arg9 arg10 d0 v43 v70 v2046 v2048 c128_i32_2048 = (do
      let v2052 : Vec F S128x1024 .f32 ← ldO h_S128x1024 arg1 (k0_off16 d0 (BitVec.ofNat 32 3)) (k0_off16_inb d0 3)
      stO h_S128x1024 arg1 (k0_off16 d0 (BitVec.ofNat 32 3)) (k0_off16_inb d0 3) v2048
      sendP arg1 arg4 squeezes_S1x1x128x1024_S128x1024 arg9 arg10 4 0 (k0_off13 d0 (BitVec.ofNat 32 4)) (k0_off13_inb d0 4) (⟨k0_dev39 d0, k0_dev39_lt d0⟩ : Dev nD)
      let v2076 : BitVec 32 := Scalar.addi v43 7#32
      let v2077 : BitVec 32 := Scalar.addi v2076 4#32
      let v2078 : BitVec 1 := Scalar.cmpi .eq 8#32 0#32
      pure ⟨v2077, 8#32, v2078, 1#32⟩)
      := rfl

set_option maxRecDepth 65536 in
theorem k0_part73_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v96 : BitVec 32) (v2077 : BitVec 32) (c8_i32_2074 : BitVec 32) (v2078 : BitVec 1) (c1_i32_2076 : BitVec 32) :
    k0_part73_skel (F := F) arg0 harg0 arg1 harg1 arg2 harg2 arg3 harg3 arg4 harg4 arg5 arg6 arg7 arg8 arg9 arg10 d0 v96 v2077 c8_i32_2074 v2078 c1_i32_2076 = (do
      sendP arg1 arg4 squeezes_S1x1x128x1024_S128x1024 arg9 arg10 4 1 (k0_off14 d0 (BitVec.ofNat 32 4)) (k0_off14_inb d0 4) (⟨k0_dev40 d0, k0_dev40_lt d0⟩ : Dev nD)
      waitSP arg1 arg4 squeezes_S1x1x128x1024_S128x1024 arg9 4 0 (k0_off13 d0 (BitVec.ofNat 32 4)) (k0_off13_inb d0 4)
      pure 1#32)
      := rfl

set_option maxRecDepth 65536 in
theorem k0_part74_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (c1_i32_2109 : BitVec 32) :
    k0_part74_skel (F := F) arg0 harg0 arg1 harg1 arg2 harg2 arg3 harg3 arg4 harg4 arg5 arg6 arg7 arg8 arg9 arg10 d0 v43 v70 c1_i32_2109 = (do
      waitRP arg1 arg4 squeezes_S1x1x128x1024_S128x1024 arg10 4 0 (k0_off13 d0 (BitVec.ofNat 32 4)) (k0_off13_inb d0 4)
      let v2122 : Vec F S1x1x128x1024 .f32 ← ldC h_S1x1x128x1024 arg4 4 0
      let v2127 : Vec F S128x1024 .f32 ← ldO h_S128x1024 arg1 (k0_off15 d0 (BitVec.ofNat 32 4)) (k0_off15_inb d0 4)
      stO h_S128x1024 arg1 (k0_off15 d0 (BitVec.ofNat 32 4)) (k0_off15_inb d0 4) (k0_pay41 v2122)
      waitSP arg1 arg4 squeezes_S1x1x128x1024_S128x1024 arg9 4 1 (k0_off14 d0 (BitVec.ofNat 32 4)) (k0_off14_inb d0 4)
      pure ⟨⟩)
      := rfl

set_option maxRecDepth 65536 in
theorem k0_part75_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) :
    k0_part75_skel (F := F) arg0 harg0 arg1 harg1 arg2 harg2 arg3 harg3 arg4 harg4 arg5 arg6 arg7 arg8 arg9 arg10 d0 v43 v96 = (do
      waitRP arg1 arg4 squeezes_S1x1x128x1024_S128x1024 arg10 4 1 (k0_off14 d0 (BitVec.ofNat 32 4)) (k0_off14_inb d0 4)
      let v2151 : Vec F S1x1x128x1024 .f32 ← ldC h_S1x1x128x1024 arg4 4 1
      let v2156 : Vec F S128x1024 .f32 ← ldO h_S128x1024 arg1 (k0_off16 d0 (BitVec.ofNat 32 4)) (k0_off16_inb d0 4)
      stO h_S128x1024 arg1 (k0_off16 d0 (BitVec.ofNat 32 4)) (k0_off16_inb d0 4) (k0_pay42 v2151)
      let v2157 : BitVec 32 := Scalar.addi v43 1#32
      let v2158 : BitVec 32 := Scalar.subi v2157 5#32
      let v2159 : BitVec 1 := Scalar.cmpi .eq 8#32 0#32
      let v2160 : BitVec 32 := Scalar.select v2159 1#32 8#32
      pure ⟨v2158, v2160⟩)
      := rfl

set_option maxRecDepth 65536 in
theorem k0_part76_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v2158 : BitVec 32) (v2160 : BitVec 32) :
    k0_part76_skel (F := F) arg0 harg0 arg1 harg1 arg2 harg2 arg3 harg3 arg4 harg4 arg5 arg6 arg7 arg8 arg9 arg10 d0 v43 v70 v2158 v2160 = (do
      sendP arg1 arg4 squeezes_S1x1x128x1024_S128x1024 arg9 arg10 5 0 (k0_off13 d0 (BitVec.ofNat 32 5)) (k0_off13_inb d0 5) (⟨k0_dev41 d0, k0_dev41_lt d0⟩ : Dev nD)
      pure ⟨⟩)
      := rfl

set_option maxRecDepth 65536 in
theorem k0_part77_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v96 : BitVec 32) :
    k0_part77_skel (F := F) arg0 harg0 arg1 harg1 arg2 harg2 arg3 harg3 arg4 harg4 arg5 arg6 arg7 arg8 arg9 arg10 d0 v43 v70 v96 = (do
      sendP arg1 arg4 squeezes_S1x1x128x1024_S128x1024 arg9 arg10 5 1 (k0_off14 d0 (BitVec.ofNat 32 5)) (k0_off14_inb d0 5) (⟨k0_dev42 d0, k0_dev42_lt d0⟩ : Dev nD)
      waitSP arg1 arg4 squeezes_S1x1x128x1024_S128x1024 arg9 5 0 (k0_off13 d0 (BitVec.ofNat 32 5)) (k0_off13_inb d0 5)
      waitRP arg1 arg4 squeezes_S1x1x128x1024_S128x1024 arg10 5 0 (k0_off13 d0 (BitVec.ofNat 32 5)) (k0_off13_inb d0 5)
      let v2215 : BitVec 32 := Scalar.subi v43 5#32
      pure ⟨v2215, 8#32, 0#32⟩)
      := rfl

set_option maxRecDepth 65536 in
theorem k0_part78_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v96 : BitVec 32) (v2215 : BitVec 32) (c8_i32_2227 : BitVec 32) (c0_i32_2228 : BitVec 32) :
    k0_part78_skel (F := F) arg0 harg0 arg1 harg1 arg2 harg2 arg3 harg3 arg4 harg4 arg5 arg6 arg7 arg8 arg9 arg10 d0 v96 v2215 c8_i32_2227 c0_i32_2228 = (do
      let v2226 : Vec F S1x1x128x1024 .f32 ← ldC h_S1x1x128x1024 arg4 5 0
      let v2231 : Vec F S128x1024 .f32 ← ldO h_S128x1024 arg1 (k0_off15 d0 (BitVec.ofNat 32 5)) (k0_off15_inb d0 5)
      stO h_S128x1024 arg1 (k0_off15 d0 (BitVec.ofNat 32 5)) (k0_off15_inb d0 5) (k0_pay43 v2226)
      waitSP arg1 arg4 squeezes_S1x1x128x1024_S128x1024 arg9 5 1 (k0_off14 d0 (BitVec.ofNat 32 5)) (k0_off14_inb d0 5)
      pure ⟨⟩)
      := rfl

set_option maxRecDepth 65536 in
theorem k0_part79_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) :
    k0_part79_skel (F := F) arg0 harg0 arg1 harg1 arg2 harg2 arg3 harg3 arg4 harg4 arg5 arg6 arg7 arg8 arg9 arg10 d0 v43 = (do
      waitRP arg1 arg4 squeezes_S1x1x128x1024_S128x1024 arg10 5 1 (k0_off14 d0 (BitVec.ofNat 32 5)) (k0_off14_inb d0 5)
      let v2255 : Vec F S1x1x128x1024 .f32 ← ldC h_S1x1x128x1024 arg4 5 1
      let v2260 : Vec F S128x1024 .f32 ← ldO h_S128x1024 arg1 (k0_off16 d0 (BitVec.ofNat 32 5)) (k0_off16_inb d0 5)
      stO h_S128x1024 arg1 (k0_off16 d0 (BitVec.ofNat 32 5)) (k0_off16_inb d0 5) (k0_pay44 v2255)
      pure ⟨⟩)
      := rfl

set_option maxRecDepth 65536 in
theorem k0_part80_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) (v96 : BitVec 32) :
    k0_part80_skel (F := F) arg0 harg0 arg1 harg1 arg2 harg2 arg3 harg3 arg4 harg4 arg5 arg6 arg7 arg8 arg9 arg10 d0 v43 v70 v96 = (do
      sendP arg1 arg4 squeezes_S1x1x128x1024_S128x1024 arg9 arg10 6 0 (k0_off13 d0 (BitVec.ofNat 32 6)) (k0_off13_inb d0 6) (⟨k0_dev43 d0, k0_dev43_lt d0⟩ : Dev nD)
      pure ⟨⟩)
      := rfl

set_option maxRecDepth 65536 in
theorem k0_part81_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v70 : BitVec 32) :
    k0_part81_skel (F := F) arg0 harg0 arg1 harg1 arg2 harg2 arg3 harg3 arg4 harg4 arg5 arg6 arg7 arg8 arg9 arg10 d0 v43 v70 = (do
      sendP arg1 arg4 squeezes_S1x1x128x1024_S128x1024 arg9 arg10 6 1 (k0_off14 d0 (BitVec.ofNat 32 6)) (k0_off14_inb d0 6) (⟨k0_dev44 d0, k0_dev44_lt d0⟩ : Dev nD)
      waitSP arg1 arg4 squeezes_S1x1x128x1024_S128x1024 arg9 6 0 (k0_off13 d0 (BitVec.ofNat 32 6)) (k0_off13_inb d0 6)
      waitRP arg1 arg4 squeezes_S1x1x128x1024_S128x1024 arg10 6 0 (k0_off13 d0 (BitVec.ofNat 32 6)) (k0_off13_inb d0 6)
      let v2319 : BitVec 32 := Scalar.subi v43 6#32
      let v2320 : BitVec 1 := Scalar.cmpi .eq 8#32 0#32
      let v2321 : BitVec 32 := Scalar.select v2320 1#32 8#32
      let v2322 : BitVec 32 := Scalar.remsi v2319 v2321
      let v2323 : BitVec 1 := Scalar.cmpi .ne v2322 0#32
      let v2324 : BitVec 1 := Scalar.cmpi .slt v2322 0#32
      let v2325 : BitVec 1 := Scalar.cmpi .slt v2321 0#32
      let v2326 : BitVec 1 := Scalar.xori v2324 v2325
      let v2327 : BitVec 1 := Scalar.andi v2326 v2323
      let v2328 : BitVec 32 := Scalar.addi v2322 v2321
      let v2329 : BitVec 32 := Scalar.select v2327 v2328 v2322
      pure v2329)
      := rfl

set_option maxRecDepth 65536 in
theorem k0_part82_ops (arg0 : Memref sig .tc .vmem S2048x1024 .f32) (harg0 : arg0.IsWhole) (arg1 : Memref sig .tc .vmem S2048x1024 .f32) (harg1 : arg1.IsWhole) (arg2 : Memref sig .tc .vmem S2x7x128x1024 .f32) (harg2 : arg2.IsWhole) (arg3 : Memref sig .tc .vmem S2x6x32x1024 .f32) (harg3 : arg3.IsWhole) (arg4 : Memref sig .tc .vmem S2x7x128x1024 .f32) (harg4 : arg4.IsWhole) (arg5 : DmaSems sig S2x7) (arg6 : DmaSems sig S2x7) (arg7 : DmaSems sig S2x6) (arg8 : DmaSems sig S2x6) (arg9 : DmaSems sig S2x7) (arg10 : DmaSems sig S2x7) (d0 : Dev nD) (v43 : BitVec 32) (v96 : BitVec 32) (v2329 : BitVec 32) :
    k0_part82_skel (F := F) arg0 harg0 arg1 harg1 arg2 harg2 arg3 harg3 arg4 harg4 arg5 arg6 arg7 arg8 arg9 arg10 d0 v43 v96 v2329 = (do
      let v2330 : Vec F S1x1x128x1024 .f32 ← ldC h_S1x1x128x1024 arg4 6 0
      let v2335 : Vec F S128x1024 .f32 ← ldO h_S128x1024 arg1 (k0_off15 d0 (BitVec.ofNat 32 6)) (k0_off15_inb d0 6)
      stO h_S128x1024 arg1 (k0_off15 d0 (BitVec.ofNat 32 6)) (k0_off15_inb d0 6) (k0_pay45 v2330)
      waitSP arg1 arg4 squeezes_S1x1x128x1024_S128x1024 arg9 6 1 (k0_off14 d0 (BitVec.ofNat 32 6)) (k0_off14_inb d0 6)
      waitRP arg1 arg4 squeezes_S1x1x128x1024_S128x1024 arg10 6 1 (k0_off14 d0 (BitVec.ofNat 32 6)) (k0_off14_inb d0 6)
      let v2348 : BitVec 32 := Scalar.addi v43 6#32
      let v2349 : BitVec 1 := Scalar.cmpi .eq 8#32 0#32
      let v2350 : BitVec 32 := Scalar.select v2349 1#32 8#32
      let v2351 : BitVec 32 := Scalar.remsi v2348 v2350
      let v2352 : BitVec 1 := Scalar.cmpi .ne v2351 0#32
      let v2353 : BitVec 1 := Scalar.cmpi .slt v2351 0#32
      pure ⟨v2350, v2351, v2352, v2353, 0#32⟩)
      := rfl

set_option maxRecDepth 1000000 in
theorem cc0_body_clean (x : Memref sig .tc .vmem S2048x1024 .f32) (hx : x.IsWhole) (out : Memref sig .tc .vmem S2048x1024 .f32) (ho : out.IsWhole)
    (c1 : Memref sig .tc .vmem S2x7x128x1024 .f32) (h1 : c1.IsWhole) (c2 : Memref sig .tc .vmem S2x6x32x1024 .f32) (h2 : c2.IsWhole)
    (c3 : Memref sig .tc .vmem S2x7x128x1024 .f32) (h3 : c3.IsWhole) (s1 r1 : DmaSems sig S2x7) (s2 r2 : DmaSems sig S2x6) (s3 r3 : DmaSems sig S2x7) :
    cc0_body_skel (F := F) x hx out ho c1 h1 c2 h2 c3 h3 s1 r1 s2 r2 s3 r3
      = Prog.lift .deviceId >>= fun d0 => cleanP out c1 c2 c3 s1 r1 s2 r2 s3 r3 d0 (SemArray.scalar (sig.barrier 0 rfl) : Sems sig S_).sem x := by
  simp only [cc0_body_skel, k0_part83_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton]
  simp only [k0_part1_ops, k0_part2_ops, k0_part3_ops, k0_part4_ops, k0_part5_ops, k0_part6_ops, k0_part7_ops, k0_part8_ops, k0_part9_ops, k0_part10_ops, k0_part11_ops, k0_part12_ops, k0_part13_ops, k0_part14_ops, k0_part15_ops, k0_part16_ops, k0_part17_ops, k0_part18_ops, k0_part19_ops, k0_part20_ops, k0_part21_ops, k0_part22_ops, k0_part23_ops, k0_part24_ops, k0_part25_ops, k0_part26_ops, k0_part27_ops, k0_part28_ops, k0_part29_ops, k0_part30_ops, k0_part31_ops, k0_part32_ops, k0_part33_ops, k0_part34_ops, k0_part35_ops, k0_part36_ops, k0_part37_ops, k0_part38_ops, k0_part39_ops, k0_part40_ops, k0_part41_ops, k0_part42_ops, k0_part43_ops, k0_part44_ops, k0_part45_ops, k0_part46_ops, k0_part47_ops, k0_part48_ops, k0_part49_ops, k0_part50_ops, k0_part51_ops, k0_part52_ops, k0_part53_ops, k0_part54_ops, k0_part55_ops, k0_part56_ops, k0_part57_ops, k0_part58_ops, k0_part59_ops, k0_part60_ops, k0_part61_ops, k0_part62_ops, k0_part63_ops, k0_part64_ops, k0_part65_ops, k0_part66_ops, k0_part67_ops, k0_part68_ops, k0_part69_ops, k0_part70_ops, k0_part71_ops, k0_part72_ops, k0_part73_ops, k0_part74_ops, k0_part75_ops, k0_part76_ops, k0_part77_ops, k0_part78_ops, k0_part79_ops, k0_part80_ops, k0_part81_ops, k0_part82_ops]
  simp only [bind_assoc, pure_bind]
  simp only [cleanP, headP, step1, step2, step3, step4, addP, putP, bind_assoc]
  rfl

end Cert.KernelIdeal.Pf

end
-- ==== Proof.Mesh.lean ====
/-
# 01_k — the mesh and the exchange steps

Four planes of eight devices. In a plane the devices form a ring (`q`), across the planes another (`z`). A device has four
neighbours: after and before it in the plane's ring, after and before it in the ring of planes. There are twenty exchange
steps in four kinds, and every step has two directions.
-/
module

public import proofs.«01_k».proof.Proof.Clean

@[expose] public section

noncomputable section

namespace Cert.KernelIdeal.Pf

open Cert.KernelIdeal Cert.KernelIdeal.Gen
open Idealize.ShloMosaic Idealize.SL.Sem

variable {F : FTy → Type} [FloatOps F]

/-- The steps: summing in the plane, summing across the planes, gathering across the planes, gathering in the plane. -/
abbrev Step : Type := Fin 7 ⊕ Fin 3 ⊕ Fin 3 ⊕ Fin 7
/-- A step with a direction. -/
abbrev J : Type := Step × Fin 2

@[match_pattern] abbrev sA (i : Fin 7) : Step := .inl i
@[match_pattern] abbrev sB (i : Fin 3) : Step := .inr (.inl i)
@[match_pattern] abbrev sC (i : Fin 3) : Step := .inr (.inr (.inl i))
@[match_pattern] abbrev sD (i : Fin 7) : Step := .inr (.inr (.inr i))

/-- Which step it is in the order of the program. -/
def ix : Step → Nat
  | sA i => i.val | sB i => 7 + i.val | sC i => 10 + i.val | sD i => 13 + i.val

def stepAt (t : Nat) : Step :=
  if h : t < 7 then sA ⟨t, h⟩ else if h : t - 7 < 3 then sB ⟨t - 7, h⟩ else if h : t - 10 < 3 then sC ⟨t - 10, h⟩ else sD ⟨(t - 13) % 7, Nat.mod_lt _ (by decide)⟩

theorem stepAt_ix (s : Step) : stepAt (ix s) = s := by revert s; decide
theorem ix_lt (s : Step) : ix s < 20 := by revert s; decide
theorem ix_stepAt : ∀ t : Fin 20, ix (stepAt t) = t.val := by decide
theorem ix_inj {s s' : Step} (h : ix s = ix s') : s = s' := by rw [← stepAt_ix s, h, stepAt_ix]

/-- Place in the plane's ring of the device with number `p` in the plane, and back. -/
def qOf (p : Nat) : Nat := [0, 1, 2, 7, 6, 3, 4, 5].getD p 0
def pOf (q : Nat) : Nat := [0, 1, 2, 5, 6, 7, 4, 3].getD q 0

/-- The neighbours: 0 after, 1 before in the plane; 2 after, 3 before across the planes. -/
def nbN (k : Fin 4) (c : Nat) : Nat := match k with
  | 0 => c / 8 * 8 + pOf ((qOf (c % 8) + 1) % 8)
  | 1 => c / 8 * 8 + pOf ((qOf (c % 8) + 7) % 8)
  | 2 => (c / 8 + 1) % 4 * 8 + c % 8
  | 3 => (c / 8 + 3) % 4 * 8 + c % 8

theorem nbN_lt : ∀ (k : Fin 4) (c : Dev nD), nbN k c.val < nD := by decide +kernel
def nb (k : Fin 4) (c : Dev nD) : Dev nD := ⟨nbN k c.val, nbN_lt k c⟩

def opp (k : Fin 4) : Fin 4 := match k with | 0 => 1 | 1 => 0 | 2 => 3 | 3 => 2

theorem nb_opp : ∀ (k : Fin 4) (c : Dev nD), nb (opp k) (nb k c) = c := by decide +kernel
theorem opp_opp : ∀ k : Fin 4, opp (opp k) = k := by decide
theorem nb_opp' (k : Fin 4) (c : Dev nD) : nb k (nb (opp k) c) = c := by
  have := nb_opp (opp k) c; rwa [opp_opp] at this
theorem nb_ne : ∀ (k : Fin 4) (c : Dev nD), nb k c ≠ c := by decide +kernel

/-- Going to neighbour `k`, as a permutation of the devices. -/
def nbE (k : Fin 4) : Dev nD ≃ Dev nD := ⟨nb k, nb (opp k), nb_opp k, nb_opp' k⟩

/-- The neighbour a step's direction sends to. -/
def dir (j : J) : Fin 4 := match j with
  | (sA _, 0) => 0 | (sA _, 1) => 1 | (sB _, 0) => 2 | (sB _, 1) => 3
  | (sC _, 0) => 2 | (sC _, 1) => 3 | (sD _, 0) => 0 | (sD _, 1) => 1

def dst (j : J) (c : Dev nD) : Dev nD := nb (dir j) c
def src (j : J) (c : Dev nD) : Dev nD := nb (opp (dir j)) c
theorem src_dst (j : J) (c : Dev nD) : src j (dst j c) = c := nb_opp _ _
theorem dst_src (j : J) (c : Dev nD) : dst j (src j c) = c := nb_opp' _ _

/-- Rows of a block of a step. -/
def nn : Step → Nat | sA _ => 128 | sB _ => 32 | sC _ => 32 | sD _ => 128
/-- Slots of a landing buffer for each direction. -/
def kk : Step → Nat | sA _ => 7 | sB _ => 6 | sC _ => 6 | sD _ => 7
/-- The step's slot. -/
def ii : (s : Step) → Fin (kk s) | sA i => i | sB i => i.castLE (by decide : 3 ≤ 6) | sC i => i.natAdd 3 | sD i => i

/-- Where the sent block begins in the result. -/
def sOff (j : J) (c : Dev nD) : Fin 2 → Nat := match j with
  | (sA i, 0) => k0_off1 c (BitVec.ofNat 32 i.val) | (sA i, 1) => k0_off2 c (BitVec.ofNat 32 i.val)
  | (sB i, 0) => k0_off5 c (BitVec.ofNat 32 i.val) | (sB i, 1) => k0_off6 c (BitVec.ofNat 32 i.val)
  | (sC i, 0) => k0_off9 c (BitVec.ofNat 32 i.val) | (sC i, 1) => k0_off10 c (BitVec.ofNat 32 i.val)
  | (sD i, 0) => k0_off13 c (BitVec.ofNat 32 i.val) | (sD i, 1) => k0_off14 c (BitVec.ofNat 32 i.val)
/-- Where the received block goes in the result. -/
def rOff (j : J) (c : Dev nD) : Fin 2 → Nat := match j with
  | (sA i, 0) => k0_off3 c (BitVec.ofNat 32 i.val) | (sA i, 1) => k0_off4 c (BitVec.ofNat 32 i.val)
  | (sB i, 0) => k0_off7 c (BitVec.ofNat 32 i.val) | (sB i, 1) => k0_off8 c (BitVec.ofNat 32 i.val)
  | (sC i, 0) => k0_off11 c (BitVec.ofNat 32 i.val) | (sC i, 1) => k0_off12 c (BitVec.ofNat 32 i.val)
  | (sD i, 0) => k0_off15 c (BitVec.ofNat 32 i.val) | (sD i, 1) => k0_off16 c (BitVec.ofNat 32 i.val)

theorem sInb (j : J) (c : Dev nD) : ∀ a, sOff j c a + (Sh2 (nn j.1)).size a ≤ S2048x1024.size a := match j with
  | (sA i, 0) => k0_off1_inb c i | (sA i, 1) => k0_off2_inb c i
  | (sB i, 0) => k0_off5_inb c i | (sB i, 1) => k0_off6_inb c i
  | (sC i, 0) => k0_off9_inb c i | (sC i, 1) => k0_off10_inb c i
  | (sD i, 0) => k0_off13_inb c i | (sD i, 1) => k0_off14_inb c i
theorem rInb (j : J) (c : Dev nD) : ∀ a, rOff j c a + (Sh2 (nn j.1)).size a ≤ S2048x1024.size a := match j with
  | (sA i, 0) => k0_off3_inb c i | (sA i, 1) => k0_off4_inb c i
  | (sB i, 0) => k0_off7_inb c i | (sB i, 1) => k0_off8_inb c i
  | (sC i, 0) => k0_off11_inb c i | (sC i, 1) => k0_off12_inb c i
  | (sD i, 0) => k0_off15_inb c i | (sD i, 1) => k0_off16_inb c i

/-- Row `sOff · 0`, in closed form by plane `z`, ring place `q`. -/
def sRow (j : J) (z q : Nat) : Nat := match j with
  | (sA i, 0) => (q + 8 - i.val) % 8 * 128
  | (sA i, 1) => 1024 + (q + i.val) % 8 * 128
  | (sB i, 0) => (q + 1) % 8 * 128 + (z + 4 - i.val) % 4 * 32
  | (sB i, 1) => 1024 + (q + 7) % 8 * 128 + (z + i.val) % 4 * 32
  | (sC i, 0) => (q + 1) % 8 * 128 + (z + 5 - i.val) % 4 * 32
  | (sC i, 1) => 1024 + (q + 7) % 8 * 128 + (z + 3 + i.val) % 4 * 32
  | (sD i, 0) => (q + 9 - i.val) % 8 * 128
  | (sD i, 1) => 1024 + (q + 7 + i.val) % 8 * 128
/-- Row `rOff · 0` likewise. -/
def rRow (j : J) (z q : Nat) : Nat := match j with
  | (sA i, 0) => (q + 7 - i.val) % 8 * 128
  | (sA i, 1) => 1024 + (q + 1 + i.val) % 8 * 128
  | (sB i, 0) => (q + 1) % 8 * 128 + (z + 3 - i.val) % 4 * 32
  | (sB i, 1) => 1024 + (q + 7) % 8 * 128 + (z + 1 + i.val) % 4 * 32
  | (sC i, 0) => (q + 1) % 8 * 128 + (z + 4 - i.val) % 4 * 32
  | (sC i, 1) => 1024 + (q + 7) % 8 * 128 + (z + i.val) % 4 * 32
  | (sD i, 0) => (q + 8 - i.val) % 8 * 128
  | (sD i, 1) => 1024 + (q + i.val) % 8 * 128

theorem sOff_row : ∀ (j : J) (c : Dev nD), sOff j c 0 = sRow j (c.val / 8) (qOf (c.val % 8)) := by decide +kernel
theorem rOff_row : ∀ (j : J) (c : Dev nD), rOff j c 0 = rRow j (c.val / 8) (qOf (c.val % 8)) := by decide +kernel
theorem sOff_col : ∀ (j : J) (c : Dev nD), sOff j c 1 = 0 := by decide +kernel
theorem rOff_col : ∀ (j : J) (c : Dev nD), rOff j c 1 = 0 := by decide +kernel
/-- What is received goes where it came from. -/
theorem rOff_src : ∀ (j : J) (c : Dev nD), rOff j c = sOff j (src j c) := by
  intro j c
  have h : ∀ (j : J) (c : Dev nD), rOff j c 0 = sOff j (src j c) 0 := by decide +kernel
  funext a; fin_cases a
  · exact h j c
  · exact (rOff_col j c).trans (sOff_col j _).symm
/-- Sent and received rows of a direction are apart; both lie in the direction's half. -/
theorem apart : ∀ (j : J) (c : Dev nD), sOff j c 0 + nn j.1 ≤ rOff j c 0 ∨ rOff j c 0 + nn j.1 ≤ sOff j c 0 := by decide +kernel
theorem half_s : ∀ (j : J) (c : Dev nD), 1024 * j.2.val ≤ sOff j c 0 ∧ sOff j c 0 + nn j.1 ≤ 1024 * j.2.val + 1024 := by decide +kernel
theorem half_r : ∀ (j : J) (c : Dev nD), 1024 * j.2.val ≤ rOff j c 0 ∧ rOff j c 0 + nn j.1 ≤ 1024 * j.2.val + 1024 := by decide +kernel

/-! ## The buffers and semaphores -/

abbrev xM : Memref sig .tc .vmem S2048x1024 .f32 := Memref.whole cc0_stg0_0
abbrev oM : Memref sig .tc .vmem S2048x1024 .f32 := Memref.whole cc0_stg1_0

def cm : (s : Step) → Memref sig .tc .vmem (ShC (kk s) (nn s)) .f32
  | sA _ => (Memref.whole cc0_scratch0 : Memref sig .tc .vmem S2x7x128x1024 .f32)
  | sB _ => (Memref.whole cc0_scratch1 : Memref sig .tc .vmem S2x6x32x1024 .f32)
  | sC _ => (Memref.whole cc0_scratch1 : Memref sig .tc .vmem S2x6x32x1024 .f32)
  | sD _ => (Memref.whole cc0_scratch2 : Memref sig .tc .vmem S2x7x128x1024 .f32)
def sS : (s : Step) → DmaSems sig (ShS (kk s))
  | sA _ => (cc0_scratch3 : DmaSems sig S2x7) | sB _ => (cc0_scratch5 : DmaSems sig S2x6) | sC _ => (cc0_scratch5 : DmaSems sig S2x6) | sD _ => (cc0_scratch7 : DmaSems sig S2x7)
def rS : (s : Step) → DmaSems sig (ShS (kk s))
  | sA _ => (cc0_scratch4 : DmaSems sig S2x7) | sB _ => (cc0_scratch6 : DmaSems sig S2x6) | sC _ => (cc0_scratch6 : DmaSems sig S2x6) | sD _ => (cc0_scratch8 : DmaSems sig S2x7)

theorem hq (s : Step) : (Sh4 (nn s)).Squeezes (Sh2 (nn s)) := match s with
  | sA _ => squeezes_S1x1x128x1024_S128x1024 | sB _ => squeezes_S1x1x32x1024_S32x1024
  | sC _ => squeezes_S1x1x32x1024_S32x1024 | sD _ => squeezes_S1x1x128x1024_S128x1024
theorem hp2 (s : Step) : 0 < (Sh2 (nn s)).numel := match s with
  | sA _ => h_S128x1024 | sB _ => h_S32x1024 | sC _ => h_S32x1024 | sD _ => h_S128x1024
theorem hp4 (s : Step) : 0 < (Sh4 (nn s)).numel := match s with
  | sA _ => h_S1x1x128x1024 | sB _ => h_S1x1x32x1024 | sC _ => h_S1x1x32x1024 | sD _ => h_S1x1x128x1024
theorem hc2 (s : Step) : (Sh2 (nn s)).ShapeCasts (Sh2 (nn s)) := match s with
  | sA _ => shapeCasts_S128x1024_S128x1024 | sB _ => shapeCasts_S32x1024_S32x1024 | sC _ => shapeCasts_S32x1024_S32x1024 | sD _ => shapeCasts_S128x1024_S128x1024
theorem hc4 (s : Step) : (Sh4 (nn s)).ShapeCasts (Sh2 (nn s)) := match s with
  | sA _ => shapeCasts_S1x1x128x1024_S128x1024 | sB _ => shapeCasts_S1x1x32x1024_S32x1024
  | sC _ => shapeCasts_S1x1x32x1024_S32x1024 | sD _ => shapeCasts_S1x1x128x1024_S128x1024

/-- The sent rows, the rows received into, the landing slot. -/
abbrev sM (j : J) (c : Dev nD) : Memref sig .tc .vmem (Sh2 (nn j.1)) .f32 := rowM oM (nn j.1) (sOff j c) (sInb j c)
abbrev rR (j : J) (c : Dev nD) : Rect S2048x1024 := rowR (nn j.1) (rOff j c) (rInb j c)
def slM (j : J) : Memref sig .tc .vmem (Sh2 (nn j.1)) .f32 := slotM (cm j.1) (hq j.1) j.2 (ii j.1)
def sSem (j : J) : DmaSem sig := semOf (sS j.1) j.2 (ii j.1)
def rSem (j : J) : DmaSem sig := semOf (rS j.1) j.2 (ii j.1)

/-- The scoped semaphores: the two of every step and direction. -/
abbrev XK : Type := J × Bool
def osem (x : XK) : SemLoc sig := if x.2 then .dma (rSem x.1) else .dma (sSem x.1)

def num (x : XK) : Nat := (match x.1 with
  | (sA i, d) => d.val * 7 + i.val + (if x.2 then 16 else 2)
  | (sB i, d) => d.val * 6 + i.val + (if x.2 then 42 else 30)
  | (sC i, d) => d.val * 6 + 3 + i.val + (if x.2 then 42 else 30)
  | (sD i, d) => d.val * 7 + i.val + (if x.2 then 68 else 54))

theorem osem_num : ∀ x : XK, (osem x = .dma ⟨num x % 164, Nat.mod_lt _ (by decide)⟩) := by decide +kernel
set_option synthInstance.maxSize 100000 in
theorem num_inj : ∀ x y : XK, num x % 164 = num y % 164 → x = y := by
  have h : ∀ x : XK, ∀ y : XK, num x % 164 ≠ num y % 164 ∨ x = y := by decide +kernel
  exact fun x y e => (h x y).resolve_left (fun n => n e)
theorem osem_inj : Function.Injective osem := fun x y h => num_inj x y (by
  rw [osem_num, osem_num] at h
  injection h with h; exact congrArg Fin.val h)

theorem osem_pos (x : XK) : 2 ≤ num x % 164 := by revert x; decide +kernel
theorem osem_lt (x : XK) : num x % 164 < 82 := by revert x; decide +kernel

/-- The barrier, and which step's semaphore a semaphore is. -/
abbrev barS : Sem sig := (SemArray.scalar (sig.barrier 0 rfl) : Sems sig S_).sem

/-- Which step's semaphore it is. -/
def dec (g : SemLoc sig) : Option XK := by
  classical exact if h : ∃ x, osem x = g then some h.choose else none

theorem dec_osem (x : XK) : dec (osem x) = some x := by
  have h : ∃ y, osem y = osem x := ⟨x, rfl⟩
  unfold dec
  rw [dif_pos h]
  exact congrArg some (osem_inj h.choose_spec)
theorem dec_bar : dec (.reg barS) = none := by
  unfold dec
  refine dif_neg ?_
  rintro ⟨x, h⟩
  rw [osem_num] at h; cases h
theorem dec_s (j : J) : dec (.dma (sSem j)) = some (j, false) := dec_osem (j, false)
theorem dec_r (j : J) : dec (.dma (rSem j)) = some (j, true) := dec_osem (j, true)
theorem dma_ne_bar (q : DmaSem sig) : (SemLoc.dma q : SemLoc sig) ≠ .reg barS := fun h => by cases h
theorem osem_ne_bar (x : XK) : osem x ≠ .reg barS := by rw [osem_num]; exact fun h => by cases h

/-! ## The printed devices -/

theorem devs0 (c : Dev nD) : (⟨k0_dev1 c, k0_dev1_lt c⟩ : Dev nD) = nb 0 c ∧ (⟨k0_dev2 c, k0_dev2_lt c⟩ : Dev nD) = nb 1 c
    ∧ (⟨k0_dev3 c, k0_dev3_lt c⟩ : Dev nD) = nb 2 c ∧ (⟨k0_dev4 c, k0_dev4_lt c⟩ : Dev nD) = nb 3 c := by
  revert c; decide +kernel

/-! ## A step as a program -/

/-- What happens to the received block. -/
def recvP (j : J) (c : Dev nD) : Prog (TpuEff nD τ sig (Elt F) Λ₀ .tc) PUnit := match j with
  | (sA i, d) => addP (hp2 (sA i)) (hp4 (sA i)) (hc2 (sA i)) (hc4 (sA i)) oM (cm (sA i)) (ii (sA i)) d (rOff (sA i, d) c) (rInb (sA i, d) c)
  | (sB i, d) => addP (hp2 (sB i)) (hp4 (sB i)) (hc2 (sB i)) (hc4 (sB i)) oM (cm (sB i)) (ii (sB i)) d (rOff (sB i, d) c) (rInb (sB i, d) c)
  | (sC i, d) => putP (hp2 (sC i)) (hp4 (sC i)) (hc4 (sC i)) oM (cm (sC i)) (ii (sC i)) d (rOff (sC i, d) c) (rInb (sC i, d) c)
  | (sD i, d) => putP (hp2 (sD i)) (hp4 (sD i)) (hc4 (sD i)) oM (cm (sD i)) (ii (sD i)) d (rOff (sD i, d) c) (rInb (sD i, d) c)

def sendJ (j : J) (c : Dev nD) : Prog (TpuEff nD τ sig (Elt F) Λ₀ .tc) PUnit :=
  sendP oM (cm j.1) (hq j.1) (sS j.1) (rS j.1) (ii j.1) j.2 (sOff j c) (sInb j c) (dst j c)
def waitSJ (j : J) (c : Dev nD) : Prog (TpuEff nD τ sig (Elt F) Λ₀ .tc) PUnit :=
  waitSP oM (cm j.1) (hq j.1) (sS j.1) (ii j.1) j.2 (sOff j c) (sInb j c)
def waitRJ (j : J) (c : Dev nD) : Prog (TpuEff nD τ sig (Elt F) Λ₀ .tc) PUnit :=
  waitRP oM (cm j.1) (hq j.1) (rS j.1) (ii j.1) j.2 (sOff j c) (sInb j c)

def stepP (s : Step) (c : Dev nD) : Prog (TpuEff nD τ sig (Elt F) Λ₀ .tc) PUnit := do
  sendJ (s, 0) c
  sendJ (s, 1) c
  waitSJ (s, 0) c
  waitRJ (s, 0) c
  recvP (s, 0) c
  waitSJ (s, 1) c
  waitRJ (s, 1) c
  recvP (s, 1) c

abbrev c1M : Memref sig .tc .vmem S2x7x128x1024 .f32 := Memref.whole cc0_scratch0
abbrev c2M : Memref sig .tc .vmem S2x6x32x1024 .f32 := Memref.whole cc0_scratch1
abbrev c3M : Memref sig .tc .vmem S2x7x128x1024 .f32 := Memref.whole cc0_scratch2

theorem step1_eq (c p p' : Dev nD) (i : Fin 7) (hp : p = nb 0 c) (hp' : p' = nb 1 c) :
    step1 (F := F) oM c1M cc0_scratch3 cc0_scratch4 c i p p' = stepP (sA i) c := by subst hp; subst hp'; rfl
theorem step2_eq (c p p' : Dev nD) (i : Fin 3) (hp : p = nb 2 c) (hp' : p' = nb 3 c) :
    step2 (F := F) oM c2M cc0_scratch5 cc0_scratch6 c i p p' = stepP (sB i) c := by subst hp; subst hp'; rfl
theorem step3_eq (c p p' : Dev nD) (i : Fin 3) (hp : p = nb 2 c) (hp' : p' = nb 3 c) :
    step3 (F := F) oM c2M cc0_scratch5 cc0_scratch6 c i p p' = stepP (sC i) c := by subst hp; subst hp'; rfl
theorem step4_eq (c p p' : Dev nD) (i : Fin 7) (hp : p = nb 0 c) (hp' : p' = nb 1 c) :
    step4 (F := F) oM c3M cc0_scratch7 cc0_scratch8 c i p p' = stepP (sD i) c := by subst hp; subst hp'; rfl

/-- The printed devices of the steps. -/
theorem devs1 (c : Dev nD) :
    (⟨k0_dev5 c, k0_dev5_lt c⟩ : Dev nD) = nb 0 c ∧
    (⟨k0_dev6 c, k0_dev6_lt c⟩ : Dev nD) = nb 1 c ∧
    (⟨k0_dev7 c, k0_dev7_lt c⟩ : Dev nD) = nb 0 c ∧
    (⟨k0_dev8 c, k0_dev8_lt c⟩ : Dev nD) = nb 1 c ∧
    (⟨k0_dev9 c, k0_dev9_lt c⟩ : Dev nD) = nb 0 c ∧
    (⟨k0_dev10 c, k0_dev10_lt c⟩ : Dev nD) = nb 1 c ∧
    (⟨k0_dev11 c, k0_dev11_lt c⟩ : Dev nD) = nb 0 c ∧
    (⟨k0_dev12 c, k0_dev12_lt c⟩ : Dev nD) = nb 1 c ∧
    (⟨k0_dev13 c, k0_dev13_lt c⟩ : Dev nD) = nb 0 c ∧
    (⟨k0_dev14 c, k0_dev14_lt c⟩ : Dev nD) = nb 1 c ∧
    (⟨k0_dev15 c, k0_dev15_lt c⟩ : Dev nD) = nb 0 c ∧
    (⟨k0_dev16 c, k0_dev16_lt c⟩ : Dev nD) = nb 1 c ∧
    (⟨k0_dev17 c, k0_dev17_lt c⟩ : Dev nD) = nb 0 c ∧
    (⟨k0_dev18 c, k0_dev18_lt c⟩ : Dev nD) = nb 1 c ∧
    (⟨k0_dev19 c, k0_dev19_lt c⟩ : Dev nD) = nb 2 c ∧
    (⟨k0_dev20 c, k0_dev20_lt c⟩ : Dev nD) = nb 3 c ∧
    (⟨k0_dev21 c, k0_dev21_lt c⟩ : Dev nD) = nb 2 c ∧
    (⟨k0_dev22 c, k0_dev22_lt c⟩ : Dev nD) = nb 3 c ∧
    (⟨k0_dev23 c, k0_dev23_lt c⟩ : Dev nD) = nb 2 c ∧
    (⟨k0_dev24 c, k0_dev24_lt c⟩ : Dev nD) = nb 3 c ∧
    (⟨k0_dev25 c, k0_dev25_lt c⟩ : Dev nD) = nb 2 c ∧
    (⟨k0_dev26 c, k0_dev26_lt c⟩ : Dev nD) = nb 3 c ∧
    (⟨k0_dev27 c, k0_dev27_lt c⟩ : Dev nD) = nb 2 c ∧
    (⟨k0_dev28 c, k0_dev28_lt c⟩ : Dev nD) = nb 3 c ∧
    (⟨k0_dev29 c, k0_dev29_lt c⟩ : Dev nD) = nb 2 c ∧
    (⟨k0_dev30 c, k0_dev30_lt c⟩ : Dev nD) = nb 3 c ∧
    (⟨k0_dev31 c, k0_dev31_lt c⟩ : Dev nD) = nb 0 c ∧
    (⟨k0_dev32 c, k0_dev32_lt c⟩ : Dev nD) = nb 1 c ∧
    (⟨k0_dev33 c, k0_dev33_lt c⟩ : Dev nD) = nb 0 c ∧
    (⟨k0_dev34 c, k0_dev34_lt c⟩ : Dev nD) = nb 1 c ∧
    (⟨k0_dev35 c, k0_dev35_lt c⟩ : Dev nD) = nb 0 c ∧
    (⟨k0_dev36 c, k0_dev36_lt c⟩ : Dev nD) = nb 1 c ∧
    (⟨k0_dev37 c, k0_dev37_lt c⟩ : Dev nD) = nb 0 c ∧
    (⟨k0_dev38 c, k0_dev38_lt c⟩ : Dev nD) = nb 1 c ∧
    (⟨k0_dev39 c, k0_dev39_lt c⟩ : Dev nD) = nb 0 c ∧
    (⟨k0_dev40 c, k0_dev40_lt c⟩ : Dev nD) = nb 1 c ∧
    (⟨k0_dev41 c, k0_dev41_lt c⟩ : Dev nD) = nb 0 c ∧
    (⟨k0_dev42 c, k0_dev42_lt c⟩ : Dev nD) = nb 1 c ∧
    (⟨k0_dev43 c, k0_dev43_lt c⟩ : Dev nD) = nb 0 c ∧
    (⟨k0_dev44 c, k0_dev44_lt c⟩ : Dev nD) = nb 1 c := by
  revert c; decide +kernel

end Cert.KernelIdeal.Pf

end
-- ==== Proof.Mesh1.lean ====
/-
# 01_k — the second call's buffers, semaphores and steps

The second call runs the same steps on buffers and semaphores of its own.
-/
module

public import proofs.«01_k».proof.Proof.Mesh

@[expose] public section

noncomputable section

namespace Cert.KernelIdeal.Pf1

open Cert.KernelIdeal Cert.KernelIdeal.Gen Cert.KernelIdeal.Pf
open Idealize.ShloMosaic Idealize.SL.Sem

variable {F : FTy → Type} [FloatOps F]

/-! ## The buffers and semaphores -/

abbrev xM : Memref sig .tc .vmem S2048x1024 .f32 := Memref.whole cc1_stg0_0
abbrev oM : Memref sig .tc .vmem S2048x1024 .f32 := Memref.whole cc1_stg1_0

def cm : (s : Step) → Memref sig .tc .vmem (ShC (kk s) (nn s)) .f32
  | sA _ => (Memref.whole cc1_scratch0 : Memref sig .tc .vmem S2x7x128x1024 .f32)
  | sB _ => (Memref.whole cc1_scratch1 : Memref sig .tc .vmem S2x6x32x1024 .f32)
  | sC _ => (Memref.whole cc1_scratch1 : Memref sig .tc .vmem S2x6x32x1024 .f32)
  | sD _ => (Memref.whole cc1_scratch2 : Memref sig .tc .vmem S2x7x128x1024 .f32)
def sS : (s : Step) → DmaSems sig (ShS (kk s))
  | sA _ => (cc1_scratch3 : DmaSems sig S2x7) | sB _ => (cc1_scratch5 : DmaSems sig S2x6) | sC _ => (cc1_scratch5 : DmaSems sig S2x6) | sD _ => (cc1_scratch7 : DmaSems sig S2x7)
def rS : (s : Step) → DmaSems sig (ShS (kk s))
  | sA _ => (cc1_scratch4 : DmaSems sig S2x7) | sB _ => (cc1_scratch6 : DmaSems sig S2x6) | sC _ => (cc1_scratch6 : DmaSems sig S2x6) | sD _ => (cc1_scratch8 : DmaSems sig S2x7)

/-- The sent rows, the rows received into, the landing slot. -/
abbrev sM (j : J) (c : Dev nD) : Memref sig .tc .vmem (Sh2 (nn j.1)) .f32 := rowM oM (nn j.1) (sOff j c) (sInb j c)
abbrev rR (j : J) (c : Dev nD) : Rect S2048x1024 := rowR (nn j.1) (rOff j c) (rInb j c)
def slM (j : J) : Memref sig .tc .vmem (Sh2 (nn j.1)) .f32 := slotM (cm j.1) (hq j.1) j.2 (ii j.1)
def sSem (j : J) : DmaSem sig := semOf (sS j.1) j.2 (ii j.1)
def rSem (j : J) : DmaSem sig := semOf (rS j.1) j.2 (ii j.1)

def osem (x : XK) : SemLoc sig := if x.2 then .dma (rSem x.1) else .dma (sSem x.1)

def num (x : XK) : Nat := (match x.1 with
  | (sA i, d) => d.val * 7 + i.val + (if x.2 then 98 else 84)
  | (sB i, d) => d.val * 6 + i.val + (if x.2 then 124 else 112)
  | (sC i, d) => d.val * 6 + 3 + i.val + (if x.2 then 124 else 112)
  | (sD i, d) => d.val * 7 + i.val + (if x.2 then 150 else 136))

theorem osem_num : ∀ x : XK, (osem x = .dma ⟨num x % 164, Nat.mod_lt _ (by decide)⟩) := by decide +kernel
set_option synthInstance.maxSize 100000 in
theorem num_inj : ∀ x y : XK, num x % 164 = num y % 164 → x = y := by
  have h : ∀ x : XK, ∀ y : XK, num x % 164 ≠ num y % 164 ∨ x = y := by decide +kernel
  exact fun x y e => (h x y).resolve_left (fun n => n e)
theorem osem_inj : Function.Injective osem := fun x y h => num_inj x y (by
  rw [osem_num, osem_num] at h
  injection h with h; exact congrArg Fin.val h)

theorem osem_pos (x : XK) : 84 ≤ num x % 164 := by revert x; decide +kernel

/-- The barrier, and which step's semaphore a semaphore is. -/
abbrev barS : Sem sig := (SemArray.scalar (sig.barrier 1 rfl) : Sems sig S_).sem

/-- Which step's semaphore it is. -/
def dec (g : SemLoc sig) : Option XK := by
  classical exact if h : ∃ x, osem x = g then some h.choose else none

theorem dec_osem (x : XK) : dec (osem x) = some x := by
  have h : ∃ y, osem y = osem x := ⟨x, rfl⟩
  unfold dec
  rw [dif_pos h]
  exact congrArg some (osem_inj h.choose_spec)
theorem dec_bar : dec (.reg barS) = none := by
  unfold dec
  refine dif_neg ?_
  rintro ⟨x, h⟩
  rw [osem_num] at h; cases h
theorem dec_s (j : J) : dec (.dma (sSem j)) = some (j, false) := dec_osem (j, false)
theorem dec_r (j : J) : dec (.dma (rSem j)) = some (j, true) := dec_osem (j, true)
theorem dma_ne_bar (q : DmaSem sig) : (SemLoc.dma q : SemLoc sig) ≠ .reg barS := fun h => by cases h
theorem osem_ne_bar (x : XK) : osem x ≠ .reg barS := by rw [osem_num]; exact fun h => by cases h

/-! ## A step as a program -/

/-- What happens to the received block. -/
def recvP (j : J) (c : Dev nD) : Prog (TpuEff nD τ sig (Elt F) Λ₀ .tc) PUnit := match j with
  | (sA i, d) => addP (hp2 (sA i)) (hp4 (sA i)) (hc2 (sA i)) (hc4 (sA i)) oM (cm (sA i)) (ii (sA i)) d (rOff (sA i, d) c) (rInb (sA i, d) c)
  | (sB i, d) => addP (hp2 (sB i)) (hp4 (sB i)) (hc2 (sB i)) (hc4 (sB i)) oM (cm (sB i)) (ii (sB i)) d (rOff (sB i, d) c) (rInb (sB i, d) c)
  | (sC i, d) => putP (hp2 (sC i)) (hp4 (sC i)) (hc4 (sC i)) oM (cm (sC i)) (ii (sC i)) d (rOff (sC i, d) c) (rInb (sC i, d) c)
  | (sD i, d) => putP (hp2 (sD i)) (hp4 (sD i)) (hc4 (sD i)) oM (cm (sD i)) (ii (sD i)) d (rOff (sD i, d) c) (rInb (sD i, d) c)

def sendJ (j : J) (c : Dev nD) : Prog (TpuEff nD τ sig (Elt F) Λ₀ .tc) PUnit :=
  sendP oM (cm j.1) (hq j.1) (sS j.1) (rS j.1) (ii j.1) j.2 (sOff j c) (sInb j c) (dst j c)
def waitSJ (j : J) (c : Dev nD) : Prog (TpuEff nD τ sig (Elt F) Λ₀ .tc) PUnit :=
  waitSP oM (cm j.1) (hq j.1) (sS j.1) (ii j.1) j.2 (sOff j c) (sInb j c)
def waitRJ (j : J) (c : Dev nD) : Prog (TpuEff nD τ sig (Elt F) Λ₀ .tc) PUnit :=
  waitRP oM (cm j.1) (hq j.1) (rS j.1) (ii j.1) j.2 (sOff j c) (sInb j c)

def stepP (s : Step) (c : Dev nD) : Prog (TpuEff nD τ sig (Elt F) Λ₀ .tc) PUnit := do
  sendJ (s, 0) c
  sendJ (s, 1) c
  waitSJ (s, 0) c
  waitRJ (s, 0) c
  recvP (s, 0) c
  waitSJ (s, 1) c
  waitRJ (s, 1) c
  recvP (s, 1) c

abbrev c1M : Memref sig .tc .vmem S2x7x128x1024 .f32 := Memref.whole cc1_scratch0
abbrev c2M : Memref sig .tc .vmem S2x6x32x1024 .f32 := Memref.whole cc1_scratch1
abbrev c3M : Memref sig .tc .vmem S2x7x128x1024 .f32 := Memref.whole cc1_scratch2

theorem step1_eq (c p p' : Dev nD) (i : Fin 7) (hp : p = nb 0 c) (hp' : p' = nb 1 c) :
    step1 (F := F) oM c1M cc1_scratch3 cc1_scratch4 c i p p' = stepP (sA i) c := by subst hp; subst hp'; rfl
theorem step2_eq (c p p' : Dev nD) (i : Fin 3) (hp : p = nb 2 c) (hp' : p' = nb 3 c) :
    step2 (F := F) oM c2M cc1_scratch5 cc1_scratch6 c i p p' = stepP (sB i) c := by subst hp; subst hp'; rfl
theorem step3_eq (c p p' : Dev nD) (i : Fin 3) (hp : p = nb 2 c) (hp' : p' = nb 3 c) :
    step3 (F := F) oM c2M cc1_scratch5 cc1_scratch6 c i p p' = stepP (sC i) c := by subst hp; subst hp'; rfl
theorem step4_eq (c p p' : Dev nD) (i : Fin 7) (hp : p = nb 0 c) (hp' : p' = nb 1 c) :
    step4 (F := F) oM c3M cc1_scratch7 cc1_scratch8 c i p p' = stepP (sD i) c := by subst hp; subst hp'; rfl

end Cert.KernelIdeal.Pf1

end
-- ==== Proof.Levels.lean ====
/-
# 01_k — the algebra and the levels of both calls

Each call has rounds of its own. A wait's level lies below everything the device still owes: the first call's barrier is at 1, its
receive cells are above in the order of the steps, then come the second call's barrier and receive cells. All else is at 0.
-/
module

public import proofs.«01_k».proof.Proof.Mesh1
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Pf

variable {F : FTy → Type} [FloatOps F]

/-- One call's rounds. -/
abbrev UB : Type := URounds (GSem nD τ sig) (Fin 4)
/-- The pipeline's rounds, beside the two calls'. -/
abbrev UU : Type := UR sig nD τ × (UB × UB)

abbrev EP : Emb (UR sig nD τ) (MT nD τ sig Unit (Elt F) ℕ UU ℕ) := embL
abbrev EX : Emb (UB × UB) (MT nD τ sig Unit (Elt F) ℕ UU ℕ) := embR
abbrev ER : Emb UB (MT nD τ sig Unit (Elt F) ℕ UU ℕ) := (Emb.inl : Emb UB (UB × UB)).trans (embR : Emb (UB × UB) (MT nD τ sig Unit (Elt F) ℕ UU ℕ))

end Cert.KernelIdeal.Pf

namespace Cert.KernelIdeal.Pf1

variable {F : FTy → Type} [FloatOps F]

abbrev ER : Emb Pf.UB (MT nD τ sig Unit (Elt F) ℕ Pf.UU ℕ) := (Emb.inr : Emb Pf.UB (Pf.UB × Pf.UB)).trans (embR : Emb (Pf.UB × Pf.UB) (MT nD τ sig Unit (Elt F) ℕ Pf.UU ℕ))

end Cert.KernelIdeal.Pf1

namespace Cert.KernelIdeal.Pf

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a receive cell within its call. -/
def lvX (o : Option XK) : ℕ := match o with
  | some (j, true) => ix j.1 + 2
  | _ => 0
/-- Where a call's levels start. -/
def base : ℕ := 0
end Cert.KernelIdeal.Pf
namespace Cert.KernelIdeal.Pf1
def base : ℕ := 30
end Cert.KernelIdeal.Pf1
namespace Cert.KernelIdeal.Pf

def lvS (s : SemLoc sig) : ℕ :=
  if s = .reg barS then 1 else if s = .reg Pf1.barS then 31 else
    match dec s with
    | some x => lvX (some x)
    | none => match Pf1.dec s with
      | some (j, true) => ix j.1 + 32
      | _ => 0
def lv (g : GSem nD τ sig) (_ : Unit) : ℕ := lvS g.2

theorem bars_ne : (SemLoc.reg Pf1.barS : SemLoc sig) ≠ .reg barS := by decide
theorem dec_other (x : XK) : dec (Pf1.osem x) = none := by
  unfold dec
  refine dif_neg ?_
  rintro ⟨y, h⟩
  rw [osem_num, Pf1.osem_num] at h
  injection h with h
  have h1 := congrArg Fin.val h
  have h2 := osem_lt y
  have h3 := Pf1.osem_pos x
  simp only at h1
  omega
theorem dec_small (q : DmaSem sig) (h : q.val < 2 ∨ 82 ≤ q.val) : dec (.dma q) = none := by
  unfold dec
  refine dif_neg ?_
  rintro ⟨x, h'⟩
  rw [osem_num] at h'; injection h' with h'
  have h1 := congrArg Fin.val h'
  have h2 := osem_pos x
  have h3 := osem_lt x
  simp only at h1
  omega
theorem dec1_small (q : DmaSem sig) (h : q.val < 84) : Pf1.dec (.dma q) = none := by
  unfold Pf1.dec
  refine dif_neg ?_
  rintro ⟨x, h'⟩
  rw [Pf1.osem_num] at h'; injection h' with h'
  have h1 := congrArg Fin.val h'
  have h2 := Pf1.osem_pos x
  simp only at h1
  omega

theorem lv_stage (c : Dev nD) (q : DmaSem sig) (h : q.val < 2 ∨ 82 ≤ q.val ∧ q.val < 84) (u : Unit) : lv ((c : Thread nD τ), .dma q) u = 0 := by
  unfold lv lvS
  rw [if_neg (fun h => by cases h), if_neg (fun h => by cases h), dec_small q (by omega), dec1_small q (by omega)]

abbrev barCell (c : Dev nD) : GSem nD τ sig := ((c : Thread nD τ), .reg barS)
abbrev sCell (j : J) (c : Dev nD) : GSem nD τ sig := ((c : Thread nD τ), .dma (sSem j))
abbrev rCell (j : J) (c : Dev nD) : GSem nD τ sig := ((c : Thread nD τ), .dma (rSem j))
theorem lv_bar (c : Dev nD) (u : Unit) : lv (barCell c) u = 1 + base := by unfold lv lvS; rw [if_pos rfl]; rfl
theorem lv_s (j : J) (c : Dev nD) (u : Unit) : lv (sCell j c) u = 0 := by
  unfold lv lvS; rw [if_neg (dma_ne_bar _), if_neg (Pf1.dma_ne_bar _), dec_s]; rfl
theorem lv_r (j : J) (c : Dev nD) (u : Unit) : lv (rCell j c) u = ix j.1 + 2 + base := by
  unfold lv lvS; rw [if_neg (dma_ne_bar _), if_neg (Pf1.dma_ne_bar _), dec_r]; rfl

end Cert.KernelIdeal.Pf

namespace Cert.KernelIdeal.Pf1
open Cert.KernelIdeal.Pf

abbrev barCell (c : Dev nD) : GSem nD τ sig := ((c : Thread nD τ), .reg barS)
abbrev sCell (j : J) (c : Dev nD) : GSem nD τ sig := ((c : Thread nD τ), .dma (sSem j))
abbrev rCell (j : J) (c : Dev nD) : GSem nD τ sig := ((c : Thread nD τ), .dma (rSem j))
theorem lv_bar (c : Dev nD) (u : Unit) : lv (barCell c) u = 1 + base := by unfold lv lvS; rw [if_neg bars_ne, if_pos rfl]; rfl
theorem lv_s (j : J) (c : Dev nD) (u : Unit) : lv (sCell j c) u = 0 := by
  have e : Pf.dec (.dma (sSem j)) = none := dec_other (j, false)
  unfold lv lvS; rw [if_neg (Pf.dma_ne_bar _), if_neg (dma_ne_bar _), e, dec_s]
theorem lv_r (j : J) (c : Dev nD) (u : Unit) : lv (rCell j c) u = ix j.1 + 2 + base := by
  have e : Pf.dec (.dma (rSem j)) = none := dec_other (j, true)
  unfold lv lvS; rw [if_neg (Pf.dma_ne_bar _), if_neg (dma_ne_bar _), e, dec_r]
  show ix j.1 + 32 = ix j.1 + 2 + 30
  omega

/-- Nothing is owed beyond the second call. -/
def debt (_ : Dev nD) : CellTallies nD τ sig Unit := 0
theorem debt_ok (c : Dev nD) (g : GSem nD τ sig) (u : Unit) (h : 0 < debt c g u) : u ∈ L g ∧ base + 22 ≤ lv g u := absurd h (Nat.lt_irrefl 0)

end Cert.KernelIdeal.Pf1

end
-- ==== Proof.Sched1.lean ====
/-
# 01_k — the second call: contents, and the schedule of signals

What the result holds on every device before every step (`st`), what every semaphore's cell is paid and by whom, and what
every payment hands over.

* The barrier cell of a device is paid one unit by each of its four neighbours. A neighbour hands over those of its own
  landing slots that this device will write.
* The send cell of a step's direction is paid by the copy itself, which gives the sent rows back.
* The receive cell of a step's direction is paid by the neighbour's copy, which hands over the slot with the neighbour's rows.
-/
module

public import proofs.«01_k».proof.Proof.Levels

@[expose] public section

noncomputable section

namespace Cert.KernelIdeal.Pf1

open Cert.KernelIdeal Cert.KernelIdeal.Gen Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (main_v88 : Ref sig .tc).ty.Contents (Elt F))

/-! ## Contents -/

abbrev OB (F : FTy → Type) : Type := (cc1_stg1_0 : Ref sig .tc).ty.Contents (Elt F)

def xstg (c : Dev nD) : (cc1_stg0_0 : Ref sig .tc).ty.Contents (Elt F) :=
  (win1_0.blk (0 : Fin 1)).view.read (Elt F) (A c)

/-- The new block of the result from the old one and the received one. -/
def comb (s : Step) (old inc : FVec F (Sh2 (nn s)) .f32) : FVec F (Sh2 (nn s)) .f32 := match s with
  | sA i => addf (shapeCast (Sh2 (nn (sA i))) old (hc2 (sA i)) : FVec F (Sh2 (nn (sA i))) .f32) inc
  | sB i => addf (shapeCast (Sh2 (nn (sB i))) old (hc2 (sB i)) : FVec F (Sh2 (nn (sB i))) .f32) inc
  | sC _ => inc
  | sD _ => inc

/-- The block sent from contents `f`. -/
def inc (j : J) (p : Dev nD) (f : OB F) : FVec F (Sh2 (nn j.1)) .f32 := (sM j p).view.read (Elt F) f

/-- The result after one direction of a step. -/
def updD (j : J) (c : Dev nD) (f : OB F) (w : FVec F (Sh2 (nn j.1)) .f32) : OB F :=
  ((oM : Memref sig .tc .vmem S2048x1024 .f32).access (rR j c)).write (Elt F) f
    (comb j.1 ((oM : Memref sig .tc .vmem S2048x1024 .f32).view.readAt (Elt F) (rR j c).toLoadRect f) w) Finset.univ

/-- The result before step `t`. -/
def st : Nat → Dev nD → OB F
  | 0, c => (shapeCast S2048x1024 (xstg A c : FVec F S2048x1024 .f32) shapeCasts_S2048x1024_S2048x1024 : FVec F S2048x1024 .f32)
  | t + 1, c =>
    updD (stepAt t, 1) c
      (updD (stepAt t, 0) c (st t c) (inc (stepAt t, 0) (src (stepAt t, 0) c) (st t (src (stepAt t, 0) c))))
      (inc (stepAt t, 1) (src (stepAt t, 1) c) (st t (src (stepAt t, 1) c)))

/-- The result between a step's two directions. -/
def stM (s : Step) (c : Dev nD) : OB F :=
  updD (s, 0) c (st A (ix s) c) (inc (s, 0) (src (s, 0) c) (st A (ix s) (src (s, 0) c)))

theorem st_succ (s : Step) (c : Dev nD) :
    st A (ix s + 1) c = updD (s, 1) c (stM A s c) (inc (s, 1) (src (s, 1) c) (st A (ix s) (src (s, 1) c))) := by
  rw [st, stepAt_ix]; rfl

/-! ## What payments hand over -/

def outPts (c : Dev nD) (f : OB F) : sProp 𝕄 :=
  (oM : Memref sig .tc .vmem S2048x1024 .f32).view.loc (c : Thread nD τ) ↦{fullShare} f

def sendPay (j : J) (c : Dev nD) : sProp 𝕄 :=
  (oM : Memref sig .tc .vmem S2048x1024 .f32).view.loc (c : Thread nD τ) ↦[(sM j c).view.set]{fullShare} st A (ix j.1) c
def recvPay (j : J) (c : Dev nD) : sProp 𝕄 :=
  iprop(∃ X : Buf (Elt F) ((slM j).view.loc (c : Thread nD τ)), ⌜(slM j).view.read (Elt F) X = inc j (src j c) (st A (ix j.1) (src j c))⌝
    ∗ ((slM j).view.loc (c : Thread nD τ) ↦[(slM j).view.set]{fullShare} X))
def slotAny (j : J) (c : Dev nD) : sProp 𝕄 :=
  iprop(∃ X : Buf (Elt F) ((slM j).view.loc (c : Thread nD τ)), ((slM j).view.loc (c : Thread nD τ) ↦[(slM j).view.set]{fullShare} X))
/-- A landing slot whose receive cell is open. -/
def slotD (j : J) (c : Dev nD) : sProp 𝕄 := iprop(slotAny (F := F) j c ∗ reached ER (rCell j c) 0)
/-- Neighbour `opp k` of `c` hands over its slots that `c` writes. -/
def barPay (k : Fin 4) (c : Dev nD) : sProp 𝕄 :=
  bigSep (Finset.univ.filter fun j : J => dir j = opp k) fun j => slotD j (nb (opp k) c)

instance sendPay_storable (j : J) (c : Dev nD) : BI.Storable (upEmb : UEmb _ 𝕄) (sendPay A j c) := by unfold sendPay; infer_instance
instance recvPay_storable (j : J) (c : Dev nD) : BI.Storable (upEmb : UEmb _ 𝕄) (recvPay A j c) := by unfold recvPay; infer_instance
omit [FloatOps F] in
instance slotAny_storable (j : J) (c : Dev nD) : BI.Storable (upEmb : UEmb _ 𝕄) (slotAny (F := F) j c) := by unfold slotAny; infer_instance
omit [FloatOps F] in
instance slotD_storable (j : J) (c : Dev nD) : BI.Storable (upEmb : UEmb _ 𝕄) (slotD (F := F) j c) := by unfold slotD; infer_instance
omit [FloatOps F] in
instance barPay_storable (k : Fin 4) (c : Dev nD) : BI.Storable (upEmb : UEmb _ 𝕄) (barPay (F := F) k c) := by unfold barPay; infer_instance

/-! ## The schedule -/

/-- Credit of one of the step's copies. -/
def N (j : J) : ℕ := (slM j).view.dmaCredit
theorem N_pos (j : J) : 0 < N j := View.dmaCredit_pos _ (hp2 j.1)
theorem N_send (j : J) (c : Dev nD) : (sM j c).view.dmaCredit = N j := by
  obtain ⟨s, d⟩ := j
  rcases s with i | i | i | i <;> fin_cases d <;> rfl

def xPay (x : XK) (c : Dev nD) : sProp 𝕄 := if x.2 then recvPay A x.1 c else sendPay A x.1 c
instance xPay_storable (x : XK) (c : Dev nD) : BI.Storable (upEmb : UEmb _ 𝕄) (xPay A x c) := by unfold xPay; split <;> infer_instance

def Rd : Rounds.Schedule (GSem nD τ sig) (Fin 4) 𝕄 where
  duties g r := if r = 0 ∧ g.1.2 = .tc then (if g.2 = .reg barS then Finset.univ else if (dec g.2).isSome then {0} else ∅) else ∅
  unitless _ := False
  amount g _ _ := match dec g.2 with | some x => N x.1 | none => 1
  payload g _ k := match dec g.2 with | some x => xPay A x g.1.1 | none => barPay k g.1.1
  amount_pos g _ _ _ := by
    rcases dec g.2 with _ | x
    · exact Nat.one_pos
    · exact N_pos _

instance Rd_storable (g : GSem nD τ sig) (r : ℕ) (k : Fin 4) : BI.Storable (upEmb : UEmb _ 𝕄) ((Rd A).payload g r k) := by
  show BI.Storable upEmb (match dec g.2 with | some x => xPay A x g.1.1 | none => barPay k g.1.1)
  split <;> infer_instance

section
variable (j : J) (c : Dev nD) (k : Fin 4)

theorem duties_bar : (Rd A).duties (barCell c) 0 = Finset.univ := by dsimp only [Rd]; rw [if_pos ⟨rfl, rfl⟩, if_pos rfl]
theorem duties_s : (Rd A).duties (sCell j c) 0 = {0} := by
  dsimp only [Rd]; rw [if_pos ⟨rfl, rfl⟩, if_neg (dma_ne_bar _), dec_s]; rfl
theorem duties_r : (Rd A).duties (rCell j c) 0 = {0} := by
  dsimp only [Rd]; rw [if_pos ⟨rfl, rfl⟩, if_neg (dma_ne_bar _), dec_r]; rfl
theorem duties_later (g : GSem nD τ sig) : ∀ r, 1 ≤ r → (Rd A).duties g r = ∅ :=
  fun r hr => by dsimp only [Rd]; rw [if_neg fun h => by omega]
theorem amount_bar : (Rd A).amount (barCell c) 0 k = 1 := by dsimp only [Rd]; rw [dec_bar]
theorem amount_s : (Rd A).amount (sCell j c) 0 k = N j := by dsimp only [Rd]; rw [dec_s]
theorem amount_r : (Rd A).amount (rCell j c) 0 k = N j := by dsimp only [Rd]; rw [dec_r]
theorem expect_bar : (Rd A).expect (barCell c) 0 = 4 := by
  unfold Schedule.expect Schedule.amountOf
  rw [duties_bar, Finset.sum_congr rfl fun d _ => amount_bar A c d, Finset.sum_const, Finset.card_univ, Fintype.card_fin, smul_eq_mul]
theorem expect_s : (Rd A).expect (sCell j c) 0 = N j := by
  unfold Schedule.expect Schedule.amountOf; rw [duties_s, Finset.sum_singleton, amount_s]
theorem expect_r : (Rd A).expect (rCell j c) 0 = N j := by
  unfold Schedule.expect Schedule.amountOf; rw [duties_r, Finset.sum_singleton, amount_r]
theorem payload_bar : (Rd A).payload (barCell c) 0 k = barPay k c := by dsimp only [Rd]; rw [dec_bar]
theorem payload_s : (Rd A).payload (sCell j c) 0 k = sendPay A j c := by dsimp only [Rd]; rw [dec_s]; rfl
theorem payload_r : (Rd A).payload (rCell j c) 0 k = recvPay A j c := by dsimp only [Rd]; rw [dec_r]; rfl
theorem rest_s : bigSep ((Rd A).duties (sCell j c) 0 \ ∅) (fun k => (Rd A).payload (sCell j c) 0 k) = sendPay A j c := by
  rw [Finset.sdiff_empty, duties_s, bigSep_singleton, payload_s]
theorem rest_r : bigSep ((Rd A).duties (rCell j c) 0 \ ∅) (fun k => (Rd A).payload (rCell j c) 0 k) = recvPay A j c := by
  rw [Finset.sdiff_empty, duties_r, bigSep_singleton, payload_r]
end

/-- The whole barrier round: every slot the device will write, on the neighbour it is on. -/
theorem rest_bar (c : Dev nD) :
    bigSep ((Rd A).duties (barCell c) 0 \ ∅) (fun k => (Rd A).payload (barCell c) 0 k) ⊢ bigSep Finset.univ fun j : J => slotD (F := F) j (dst j c) := by
  rw [Finset.sdiff_empty, duties_bar, bigSep_congr fun k _ => payload_bar A c k]
  have h : (Finset.univ : Finset J) = Finset.univ.biUnion fun k : Fin 4 => Finset.univ.filter fun j : J => dir j = opp k := by decide +kernel
  rw [h]
  refine BI.Entails.trans (bigSep_mono fun k _ => ?_) (bigSep_biUnion _ _)
  unfold barPay
  refine bigSep_mono fun j hj => ?_
  rw [Finset.mem_filter] at hj
  rw [dst, hj.2]
  exact BI.Entails.refl _

/-! ## Debts and levels -/

/-- What a device still owes with the copies `l` to go: their credits. -/
def Orem (c : Dev nD) : List J → CellTallies nD τ sig Unit
  | [] => debt c
  | j :: l => Orem c l + tallyAt (rCell j (dst j c)) () (N j)

def allS : List Step := [sA 0, sA 1, sA 2, sA 3, sA 4, sA 5, sA 6, sB 0, sB 1, sB 2, sC 0, sC 1, sC 2, sD 0, sD 1, sD 2, sD 3, sD 4, sD 5, sD 6]
/-- The copies of steps `l`, in the order they are started. -/
def copies : List Step → List J
  | [] => []
  | s :: l => (s, 0) :: (s, 1) :: copies l

theorem mem_copies {j : J} : ∀ {l : List Step}, j ∈ copies l → j.1 ∈ l
  | [], h => by simp [copies] at h
  | s :: l, h => by
    simp only [copies, List.mem_cons] at h ⊢
    rcases h with rfl | rfl | h
    · exact Or.inl rfl
    · exact Or.inl rfl
    · exact Or.inr (mem_copies h)

/-- What a device owes at launch: its copies' credits and four barrier units. -/
def O₁ (c : Dev nD) : CellTallies nD τ sig Unit := Orem c (copies allS)
def O₀ (c : Dev nD) : CellTallies nD τ sig Unit :=
  O₁ c + tallyAt (barCell (nb 3 c)) () 1 + tallyAt (barCell (nb 2 c)) () 1 + tallyAt (barCell (nb 1 c)) () 1 + tallyAt (barCell (nb 0 c)) () 1

theorem Orem_pos {c : Dev nD} {g : GSem nD τ sig} {u : Unit} : ∀ {l : List J}, 0 < Orem c l g u → (∃ j ∈ l, g = rCell j (dst j c)) ∨ 0 < debt c g u
  | [], h => Or.inr h
  | j :: l, h => by
    rw [Orem, Pi.add_apply, Finsupp.add_apply, tallyAt_apply] at h
    by_cases h' : g = rCell j (dst j c) ∧ u = ()
    · exact Or.inl ⟨j, List.mem_cons_self, h'.1⟩
    · rw [if_neg h', Nat.add_zero] at h
      rcases Orem_pos h with ⟨j', h1, h2⟩ | h
      · exact Or.inl ⟨j', List.mem_cons_of_mem _ h1, h2⟩
      · exact Or.inr h

theorem O₀_pos {c : Dev nD} {g : GSem nD τ sig} {u : Unit} (h : 0 < O₀ c g u) :
    (∃ j, g = rCell j (dst j c)) ∨ (∃ k, g = barCell (nb k c)) ∨ 0 < debt c g u := by
  unfold O₀ at h
  rw [Pi.add_apply, Finsupp.add_apply, Pi.add_apply, Finsupp.add_apply, Pi.add_apply, Finsupp.add_apply, Pi.add_apply, Finsupp.add_apply,
    tallyAt_apply, tallyAt_apply, tallyAt_apply, tallyAt_apply] at h
  by_contra hn
  rw [not_or, not_or, not_exists, not_exists] at hn
  rw [if_neg (fun h' => hn.2.1 _ h'.1), if_neg (fun h' => hn.2.1 _ h'.1), if_neg (fun h' => hn.2.1 _ h'.1), if_neg (fun h' => hn.2.1 _ h'.1)] at h
  rcases Orem_pos (show 0 < Orem c (copies allS) g u from h) with ⟨j, -, hj⟩ | h
  · exact hn.1 j hj
  · exact hn.2.2 h

/-- What is owed at launch lies above the call's start. -/
theorem O₀_ok (c : Dev nD) (g : GSem nD τ sig) (u : Unit) (h : 0 < O₀ c g u) : u ∈ L g ∧ base + 1 ≤ lv g u := by
  rcases O₀_pos h with ⟨j, rfl⟩ | ⟨k, rfl⟩ | h
  · rw [L_tc, lv_r]; exact ⟨Finset.mem_singleton_self _, by omega⟩
  · rw [L_tc, lv_bar]; exact ⟨Finset.mem_singleton_self _, by omega⟩
  · obtain ⟨h1, h2⟩ := debt_ok c g u h
    exact ⟨h1, by omega⟩

/-- A wait at a cell whose level is below every receive cell still owed. -/
theorem mayWait_rem (c : Dev nD) (sm : SemLoc sig) (l : List J) (n : ℕ) (hn : lv ((c : Thread nD τ), sm) () ≤ n) (hb : n < 22 + base)
    (hl : ∀ j ∈ l, n < ix j.1 + 2 + base) :
    (levAts L lv : sProp 𝕄) ⊢ MayWait (c : Thread nD τ) sm () (Orem c l) :=
  MayOwe.of_cut (L := L) (lev := lv) n (fun p hp => by rw [Finset.mem_singleton.mp hp, L_tc]; exact Finset.mem_singleton_self _)
    (fun g u hg => by
      rcases Orem_pos hg with ⟨j, -, rfl⟩ | h
      · rw [L_tc]; exact Finset.mem_singleton_self _
      · exact (debt_ok c g u h).1)
    (fun p hp => by rw [Finset.mem_singleton.mp hp]; exact hn)
    (fun g u hg => by
      rcases Orem_pos hg with ⟨j, hj, rfl⟩ | h
      · rw [lv_r]; exact hl j hj
      · have := (debt_ok c g u h).2; omega)

end Cert.KernelIdeal.Pf1

end
-- ==== Proof.Due.lean ====
module

public import proofs.«01_k».proof.Proof.Sched1

@[expose] public section

noncomputable section

namespace Cert.KernelIdeal.Pf

open Cert.KernelIdeal Cert.KernelIdeal.Gen
open Idealize.ShloMosaic Idealize.ShloMosaic.TcCoe Idealize.SL.Sem

/-- During the first call a device also owes all of the second call's signals and copies. -/
def debt (c : Dev nD) : CellTallies nD τ sig Unit := Pf1.O₀ c
theorem debt_ok (c : Dev nD) (g : GSem nD τ sig) (u : Unit) (h : 0 < debt c g u) : u ∈ L g ∧ base + 22 ≤ lv g u := by
  obtain ⟨h1, h2⟩ := Pf1.O₀_ok c g u h
  refine ⟨h1, le_trans ?_ h2⟩
  decide

end Cert.KernelIdeal.Pf

end
-- ==== Proof.Slots.lean ====
module

public import proofs.«01_k».proof.Proof.Step

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (main_v52 : Ref sig .tc).ty.Contents (Elt F))

/-! ## The landing buffers slot by slot -/

theorem bigSep_J (Φ : J → sProp 𝕄) :
    bigSep Finset.univ Φ = iprop((bigSep Finset.univ fun x : Fin 7 × Fin 2 => Φ (sA x.1, x.2))
      ∗ (bigSep Finset.univ fun x : (Fin 3 ⊕ Fin 3) × Fin 2 => Φ (match x.1 with | .inl i => sB i | .inr i => sC i, x.2))
      ∗ bigSep Finset.univ fun x : Fin 7 × Fin 2 => Φ (sD x.1, x.2)) := by
  rw [bigSep_univ_prod, bigSep_univ_prod, bigSep_univ_prod, bigSep_univ_prod, bigSep_univ_sum, bigSep_univ_sum, bigSep_univ_sum, bigSep_univ_sum]
  exact congrArg (BI.sep _) (equiv_iff.mp ⟨BI.sep_assoc', BI.sep_assoc⟩)

theorem mem_slot {k n : Nat} (d : Fin 2) (i : Fin k) (x : (ShC k n).Idx) : Iff (x ∈ (slotR n d i).set) ((x 0).val = d.val ∧ (x 1).val = i.val) := by
  refine Rect.mem_set_unit.trans ⟨fun h => ?_, fun h a => ?_⟩
  · have h0 : d.val ≤ (x 0).val ∧ (x 0).val < d.val + 1 := h 0
    have h1 : i.val ≤ (x 1).val ∧ (x 1).val < i.val + 1 := h 1
    omega
  · fin_cases a
    · show d.val ≤ (x 0).val ∧ (x 0).val < d.val + 1; omega
    · show i.val ≤ (x 1).val ∧ (x 1).val < i.val + 1; omega
    · exact ⟨Nat.zero_le _, by have := (x 2).isLt; show (x 2).val < 0 + n; rw [Nat.zero_add]; exact this⟩
    · exact ⟨Nat.zero_le _, by have := (x 3).isLt; show (x 3).val < 0 + 1024; rw [Nat.zero_add]; exact this⟩

theorem slots_apart {k n : Nat} (x x' : Fin k × Fin 2) (h : x ≠ x') : Disjoint (slotR n x.2 x.1).set (slotR n x'.2 x'.1).set := by
  rw [Finset.disjoint_left]
  intro y h1 h2
  rw [mem_slot] at h1 h2
  exact h (Prod.ext (Fin.ext (h1.2.symm.trans h2.2)) (Fin.ext (h1.1.symm.trans h2.1)))
theorem slots_cover {k n : Nat} : (Finset.univ : Finset (Fin k × Fin 2)).biUnion (fun x => (slotR n x.2 x.1).set) = Finset.univ := by
  ext y
  simp only [Finset.mem_biUnion, Finset.mem_univ, true_and, iff_true]
  exact ⟨(⟨(y 1).val, (y 1).isLt⟩, ⟨(y 0).val, (y 0).isLt⟩), (mem_slot _ _ _).mpr ⟨rfl, rfl⟩⟩

def six : Fin 3 ⊕ Fin 3 → Fin 6 | .inl i => i.castLE (by decide) | .inr i => i.natAdd 3
theorem six_inj : Function.Injective six := by decide
theorem six_surj : Function.Surjective six := by decide

theorem set_A (i : Fin 7) (d : Fin 2) : ((slM (sA i, d)).view.set : Finset (ShC 7 128).Idx) = (slotR 128 d i).set := by
  have e : ((slM (sA i, d)).view.set : Finset (ShC 7 128).Idx) = (c1M.view.slice (slotR 128 d i)).set := View.set_reshape _ _
  rw [e]; exact View.set_slice_whole _ _
theorem set_D (i : Fin 7) (d : Fin 2) : ((slM (sD i, d)).view.set : Finset (ShC 7 128).Idx) = (slotR 128 d i).set := by
  have e : ((slM (sD i, d)).view.set : Finset (ShC 7 128).Idx) = (c3M.view.slice (slotR 128 d i)).set := View.set_reshape _ _
  rw [e]; exact View.set_slice_whole _ _
theorem set_B (i : Fin 3) (d : Fin 2) : ((slM (sB i, d)).view.set : Finset (ShC 6 32).Idx) = (slotR 32 d (six (.inl i))).set := by
  have e : ((slM (sB i, d)).view.set : Finset (ShC 6 32).Idx) = (c2M.view.slice (slotR 32 d (six (.inl i)))).set := View.set_reshape _ _
  rw [e]; exact View.set_slice_whole _ _
theorem set_C (i : Fin 3) (d : Fin 2) : ((slM (sC i, d)).view.set : Finset (ShC 6 32).Idx) = (slotR 32 d (six (.inr i))).set := by
  have e : ((slM (sC i, d)).view.set : Finset (ShC 6 32).Idx) = (c2M.view.slice (slotR 32 d (six (.inr i)))).set := View.set_reshape _ _
  rw [e]; exact View.set_slice_whole _ _

theorem six_apart (x x' : (Fin 3 ⊕ Fin 3) × Fin 2) (h : x ≠ x') : Disjoint (slotR 32 x.2 (six x.1)).set (slotR 32 x'.2 (six x'.1)).set :=
  slots_apart (six x.1, x.2) (six x'.1, x'.2) fun e => h (Prod.ext (six_inj (congrArg (fun y : Fin 6 × Fin 2 => y.1) e)) (congrArg (fun y : Fin 6 × Fin 2 => y.2) e))
theorem six_cover : (Finset.univ : Finset ((Fin 3 ⊕ Fin 3) × Fin 2)).biUnion (fun x => (slotR 32 x.2 (six x.1)).set) = Finset.univ := by
  ext y
  simp only [Finset.mem_biUnion, Finset.mem_univ, true_and, iff_true]
  obtain ⟨a, ha⟩ := six_surj ⟨(y 1).val, (y 1).isLt⟩
  exact ⟨(a, ⟨(y 0).val, (y 0).isLt⟩), (mem_slot _ _ _).mpr ⟨rfl, by rw [ha]⟩⟩

/-- An index of the result. -/
def e0 : S2048x1024.Idx := fun a => ⟨0, by fin_cases a <;> decide⟩

/-- A buffer at some contents. -/
abbrev anyBuf (c : Dev nD) (b : Ref sig .tc) : sProp 𝕄 := iprop(∃ f : Buf (Elt F) ((c : Thread nD τ).loc b), ((c : Thread nD τ).loc b) ↦{fullShare} f)

theorem any_blocks {ℓ : Loc nD τ sig} {B : Type} [Fintype B] [DecidableEq B] (I : B → Finset (Idx ℓ))
    (hd : ∀ b b', b ≠ b' → Disjoint (I b) (I b')) (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  iintro ⟨%f, H⟩
  ihave H := (Entails.of_eq (Ring.pointsTo_blocks I hd hc f)) $$ H
  iapply (show (bigSep Finset.univ fun b => (ℓ ↦[I b]{fullShare} f : sProp 𝕄)) ⊢ bigSep Finset.univ fun b => iprop(∃ f : Buf (Elt F) ℓ, ℓ ↦[I b]{fullShare} f) from
    bigSep_mono fun b _ => (show (ℓ ↦[I b]{fullShare} f : sProp 𝕄) ⊢ iprop(∃ f : Buf (Elt F) ℓ, ℓ ↦[I b]{fullShare} f) from by iintro H; iexists f; iexact H))
  iexact H

/-- The slots of the three buffers. -/
theorem slot_A (c : Dev nD) (x : Fin 7 × Fin 2) :
    slotAny (F := F) (sA x.1, x.2) c = iprop(∃ f : Buf (Elt F) ((c : Thread nD τ).loc cc0_scratch0), ((c : Thread nD τ).loc cc0_scratch0) ↦[((slotR 128 x.2 x.1).set : Finset (ShC 7 128).Idx)]{fullShare} f) := by
  rw [← set_A]; rfl
theorem slot_D (c : Dev nD) (x : Fin 7 × Fin 2) :
    slotAny (F := F) (sD x.1, x.2) c = iprop(∃ f : Buf (Elt F) ((c : Thread nD τ).loc cc0_scratch2), ((c : Thread nD τ).loc cc0_scratch2) ↦[((slotR 128 x.2 x.1).set : Finset (ShC 7 128).Idx)]{fullShare} f) := by
  rw [← set_D]; rfl
theorem slot_BC (c : Dev nD) (x : (Fin 3 ⊕ Fin 3) × Fin 2) :
    slotAny (F := F) (match x.1 with | .inl i => sB i | .inr i => sC i, x.2) c
      = iprop(∃ f : Buf (Elt F) ((c : Thread nD τ).loc cc0_scratch1), ((c : Thread nD τ).loc cc0_scratch1) ↦[((slotR 32 x.2 (six x.1)).set : Finset (ShC 6 32).Idx)]{fullShare} f) := by
  obtain ⟨i | i, d⟩ := x
  · show slotAny (F := F) (sB i, d) c = _
    rw [← set_B]; rfl
  · show slotAny (F := F) (sC i, d) c = _
    rw [← set_C]; rfl

theorem slots_of_bufs (c : Dev nD) :
    iprop(anyBuf (F := F) c cc0_scratch0 ∗ anyBuf (F := F) c cc0_scratch1 ∗ anyBuf (F := F) c cc0_scratch2) ⊢ bigSep Finset.univ fun j : J => slotAny (F := F) j c := by
  rw [bigSep_J, bigSep_congr fun x _ => slot_A c x, bigSep_congr fun x _ => slot_BC c x, bigSep_congr fun x _ => slot_D c x]
  iintro ⟨H0, H1, H2⟩
  isplitl [H0]
  · iapply (any_blocks (ℓ := (c : Thread nD τ).loc cc0_scratch0) (fun x : Fin 7 × Fin 2 => ((slotR 128 x.2 x.1).set : Finset (ShC 7 128).Idx)) slots_apart slots_cover); iexact H0
  isplitl [H1]
  · iapply (any_blocks (ℓ := (c : Thread nD τ).loc cc0_scratch1) (fun x : (Fin 3 ⊕ Fin 3) × Fin 2 => ((slotR 32 x.2 (six x.1)).set : Finset (ShC 6 32).Idx)) six_apart six_cover); iexact H1
  · iapply (any_blocks (ℓ := (c : Thread nD τ).loc cc0_scratch2) (fun x : Fin 7 × Fin 2 => ((slotR 128 x.2 x.1).set : Finset (ShC 7 128).Idx)) slots_apart slots_cover); iexact H2

include A in
theorem bufs_of_slots (c : Dev nD) :
    (bigSep Finset.univ fun j : J => slotAny (F := F) j c) ⊢ iprop(anyBuf (F := F) c cc0_scratch0 ∗ anyBuf (F := F) c cc0_scratch1 ∗ anyBuf (F := F) c cc0_scratch2) := by
  rw [bigSep_J, bigSep_congr fun x _ => slot_A c x, bigSep_congr fun x _ => slot_BC c x, bigSep_congr fun x _ => slot_D c x]
  iintro ⟨H0, H1, H2⟩
  isplitl [H0]
  · iapply (Ring.pointsTo_blocks_join_exists (ℓ := (c : Thread nD τ).loc cc0_scratch0) (fun x : Fin 7 × Fin 2 => ((slotR 128 x.2 x.1).set : Finset (ShC 7 128).Idx)) slots_apart slots_cover
      (fun _ => (A c : S2048x1024.Idx → F .f32) e0)); iexact H0
  isplitl [H1]
  · iapply (Ring.pointsTo_blocks_join_exists (ℓ := (c : Thread nD τ).loc cc0_scratch1) (fun x : (Fin 3 ⊕ Fin 3) × Fin 2 => ((slotR 32 x.2 (six x.1)).set : Finset (ShC 6 32).Idx)) six_apart six_cover
      (fun _ => (A c : S2048x1024.Idx → F .f32) e0)); iexact H1
  · iapply (Ring.pointsTo_blocks_join_exists (ℓ := (c : Thread nD τ).loc cc0_scratch2) (fun x : Fin 7 × Fin 2 => ((slotR 128 x.2 x.1).set : Finset (ShC 7 128).Idx)) slots_apart slots_cover
      (fun _ => (A c : S2048x1024.Idx → F .f32) e0)); iexact H2

end Cert.KernelIdeal.Pf

end
-- ==== Proof.Oblig.lean ====
module

public import proofs.«01_k».proof.Proof.Body
public import proofs.«01_k».proof.Proof.Slots

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (main_v52 : Ref sig .tc).ty.Contents (Elt F)) (B : Dev nD → (main_v53 : Ref sig .tc).ty.Contents (Elt F))

/-! ## What a device starts from and ends with -/

/-- What belongs to one copy and its device alone. -/
def lin (c : Dev nD) (j : J) : sProp 𝕄 :=
  iprop(atPos ER (sCell j c) 0 ∅ 0 ∗ atPos ER (rCell j c) 0 ∅ 0 ∗ dutyTok ER (sCell j c) 0 0 ∗ dutyTok ER (rCell j (dst j c)) 0 0 ∗ reached ER (sCell j c) 0)
def linear (c : Dev nD) : sProp 𝕄 := iprop(atPos ER (barCell c) 0 ∅ 0 ∗ barToks c ∗ (bigSep Finset.univ (lin c)) ∗ bigSep Finset.univ fun j : J => reached ER (rCell j c) 0)
/-- What belongs to the device and the call does not touch: the generator register and the other call's buffers. -/
def rest (c : Dev nD) : sProp 𝕄 :=
  iprop((∃ r, prngReg c r) ∗ anyBuf c cc1_stg0_0 ∗ anyBuf c cc1_stg1_0 ∗ anyBuf c cc1_scratch0 ∗ anyBuf c cc1_scratch1 ∗ anyBuf c cc1_scratch2)
def start (c : Dev nD) : sProp 𝕄 :=
  iprop((∃ K, records A K ∗ linear (F := F) c) ∗ cred (tallyAt (barCell c) () 4) ∗ (bigSep Finset.univ fun j : J => cred (tallyAt (rCell j c) () (N j))) ∗ levAts L lv)
def Φ₀ (c : Dev nD) : sProp 𝕄 := iprop(start A c ∗ (bigSep Finset.univ fun j : J => slotAny j c) ∗ rest c)
def Φ₁ (c : Dev nD) : sProp 𝕄 := iprop((bigSep Finset.univ (done c)) ∗ semVal (barCell c) 0 ∗ rest c)

theorem toks_of (c : Dev nD) :
    iprop((bigSep Finset.univ (lin (F := F) c)) ∗ (bigSep Finset.univ fun j : J => cred (tallyAt (rCell j c) () (N j))) ∗ bigSep Finset.univ fun j : J => slotD j (dst j c))
      ⊢ bigSepL (copies allS) (tok (F := F) c) := by
  rw [← bigSep_univ_eq_bigSepL (copies allS) (by decide +kernel) (by decide +kernel) (tok (F := F) c), ← bigSep_sep', ← bigSep_sep']
  refine bigSep_mono fun j _ => show iprop(lin (F := F) c j ∗ cred (tallyAt (rCell j c) () (N j)) ∗ slotD j (dst j c)) ⊢ tok c j from ?_
  unfold lin tok
  iintro ⟨⟨H1, H2, H3, H4, H7⟩, H5, H6⟩
  isplitl [H1]; · iexact H1
  isplitl [H2]; · iexact H2
  isplitl [H3]; · iexact H3
  isplitl [H4]; · iexact H4
  isplitl [H5]; · iexact H5
  isplitl [H7] <;> iassumption

def dat (c : Dev nD) : Dat τ (Elt F) Unit ℕ UU ℕ cfg0 c where
  A w := match w with
    | ⟨0, _⟩ => A c
    | ⟨1, _⟩ => B c
  after w _ := match w with
    | ⟨0, _⟩ => xstg A c
    | ⟨1, _⟩ => st A 20 c
  Φ t := match t with
    | ⟨0, _⟩ => Φ₀ A c
    | ⟨_ + 1, _⟩ => Φ₁ c
  q _ := fullShare
  owed t := match t with
    | ⟨0, _⟩ => O₀ c
    | ⟨_ + 1, _⟩ => debt c

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer's hold as the body meets it. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ A c ∗ (dat A B c).owesAt () t₀.castSucc
    ∗ (∃ d, held c cc0_stg0_0 ((dat A B c).before (0 : Fin 2) t₀ d))
    ∗ (∃ d, held c cc0_stg1_0 ((dat A B c).before (1 : Fin 2) t₀ d)))
def bodyPost (c : Dev nD) : sProp 𝕄 :=
  iprop(Φ₁ (F := F) c ∗ (dat A B c).owesAt () t₀.succ ∗ held c cc0_stg0_0 (xstg A c) ∗ held c cc0_stg1_0 (st A 20 c))

abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8

theorem sound_body (c : Dev nD) :
    bodyPre A B c ⊢ wp frame (wpE (defs₀ (F := F)) 𝒱₀ (c : Thread nD τ) none) Set.univ bodyProg (fun _ => bodyPost A B c) := by
  unfold bodyProg
  rw [cc0_body_eq_skeleton, cc0_body_clean]
  simp only [Prog.lift, Prog.bind_op, Prog.bind_ret, wp_deviceId]
  rw [cleanP_eq]
  unfold bodyPre Φ₀ start linear
  iintro ⟨⟨⟨⟨%K, ⟨#HR, HatB, HtB, Hlin, Hrr⟩⟩, HcB, HcV, #Hlev⟩, Hsl, Hrest⟩, Ho, ⟨%d0, %g0, %hg0, Hx⟩, ⟨%d1, %g1, %hg1, Hout⟩⟩
  have hx : g0 = xstg A c := by rw [hg0]; unfold Dat.before; rw [if_pos (fetch_0 t₀)]; rfl
  subst hx
  unfold Dat.owesAt Pipeline.owesWithin
  icases Ho with ⟨%W, %hW, HO⟩
  rw [show (dat A B c).owed t₀.castSucc = O₀ c from rfl]
  ihave Hsl := (show iprop((bigSep Finset.univ fun j : J => slotAny (F := F) j c) ∗ bigSep Finset.univ fun j : J => reached ER (rCell j c) 0)
      ⊢ (bigSep Finset.univ fun j : J => slotD (F := F) j c) from by rw [← bigSep_sep']; exact BI.Entails.refl _) $$ [Hsl Hrr]
  · isplitl [Hsl] <;> iassumption
  iapply (wp_head A K c g1 W) $$ [HcB HO HatB HtB Hsl Hx Hout]
  · isplitr; · iexact HR
    isplitr; · iexact Hlev
    isplitl [HcB]; · iexact HcB
    isplitl [HO]; · iexact HO
    isplitl [HatB]; · iexact HatB
    isplitl [HtB]; · iexact HtB
    isplitl [Hsl]; · iexact Hsl
    isplitl [Hx]; · iexact Hx
    iexact Hout
  iintro ⟨%W', HO⟩ Hsl HzB Hx Hout
  ihave Ht := (toks_of (F := F) c) $$ [Hlin HcV Hsl]
  · isplitl [Hlin]; · iexact Hlin
    isplitl [HcV]; · iexact HcV
    iexact Hsl
  iapply (wp_steps A K c allS 0 path_all W') $$ [Hout Ht HO]
  · isplitr; · iexact HR
    isplitr; · iexact Hlev
    isplitl [Hout]; · iexact Hout
    isplitl [Ht]; · iexact Ht
    iexact HO
  iintro Hout Hd ⟨%W'', HO⟩
  ihave Hd := (Entails.of_eq (bigSep_univ_eq_bigSepL (copies allS) (by decide +kernel) (by decide +kernel) (done (F := F) c)).symm) $$ Hd
  unfold bodyPost Φ₁ Dat.owesAt Pipeline.owesWithin
  rw [show (dat A B c).owed t₀.succ = debt c from rfl]
  isplitl [Hd HzB Hrest]
  · isplitl [Hd]; · iexact Hd
    isplitl [HzB]; · iexact HzB
    iexact Hrest
  isplitl [HO]
  · iexists W''
    isplitr; · ipureintro; exact fun _ _ => Or.inl trivial
    iexact HO
  isplitl [Hx]
  · iexists _; isplitr; · (ipureintro; rfl)
    iexact Hx
  iexists _; isplitr; · (ipureintro; rfl)
  unfold outPts
  iexact Hout

theorem defs₀_body : defs₀ (F := F) Proc.tc 0 (t₀, cfg0.slots t₀) = bodyProg := rfl

attribute [local irreducible] st cc0_body in
set_option maxRecDepth 8000 in
theorem body_obligation (c : Dev nD) : BodyObligation (dat (F := F) A B c) (defs₀ (F := F)) 𝒱₀ () Set.univ := fun t => by
  rw [fin_N t]
  rw [bigSep_W, bigSep_W]
  simp only [owns_whole_eq]
  rw [defs₀_body]
  show bodyPre A B c ⊢ wp frame (wpE (defs₀ (F := F)) 𝒱₀ (c : Thread nD τ) none) Set.univ bodyProg (fun _ => bodyPost A B c)
  exact sound_body A B c

end Cert.KernelIdeal.Pf

end
-- ==== Proof.Value.lean ====
module

public import proofs.«01_k».proof.Proof.Oblig
public import Idealize.ShloMosaic.Lib.Pipeline.Value

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (main_v52 : Ref sig .tc).ty.Contents (Elt F))

/-! ## One step at an element -/

/-- The row of the result an element lies in. -/
def rowOf (e : S2048x1024.Idx) : Nat := (e 0).val

theorem emb_congr {n : Nat} {o o' : Fin 2 → Nat} {h : ∀ a, o a + (Sh2 n).size a ≤ S2048x1024.size a} {h' : ∀ a, o' a + (Sh2 n).size a ≤ S2048x1024.size a}
    (e : o = o') (x : (Sh2 n).Idx) : (rowR n o h).emb x = (rowR n o' h').emb x := by subst e; rfl

theorem mem_rect (j : J) (c : Dev nD) (e : S2048x1024.Idx) : Iff (e ∈ (rR j c).set) (rOff j c 0 ≤ rowOf e ∧ rowOf e < rOff j c 0 + nn j.1) := by
  rw [Rect.mem_set_unit]
  constructor
  · intro h; exact h 0
  · intro h a
    fin_cases a
    · exact h
    · refine ⟨?_, ?_⟩
      · show rOff j c 1 ≤ _; rw [rOff_col]; exact Nat.zero_le _
      · show _ < rOff j c 1 + 1024; rw [rOff_col]; exact lt_of_lt_of_eq (e 1).isLt rfl

theorem updD_out (j : J) (c : Dev nD) (f : OB F) (w : FVec F (Sh2 (nn j.1)) .f32) (e : S2048x1024.Idx)
    (h : ¬ (rOff j c 0 ≤ rowOf e ∧ rowOf e < rOff j c 0 + nn j.1)) : updD j c f w e = f e := by
  unfold updD
  refine View.write_of_not_mem _ _ _ fun hm => h ((mem_rect j c e).mp ?_)
  have e2 : ((oM.access (rR j c)).setOn Finset.univ : Finset S2048x1024.Idx) = (rR j c).set := View.set_slice_whole _ _
  rw [← e2]; exact hm

/-- Whether a step adds what it receives. -/
def adds (s : Step) : Bool := match s with | sA _ => true | sB _ => true | sC _ => false | sD _ => false

theorem comb_apply (s : Step) (old w : FVec F (Sh2 (nn s)) .f32) (x : (Sh2 (nn s)).Idx) :
    comb s old w x = if adds s then (FloatOps.addf (old x) (w x) : F .f32) else w x := by
  rcases s with i | i | i | i
  · exact congrArg (fun z : F .f32 => (FloatOps.addf z (w x) : F .f32)) (congrFun (shapeCast_self old (hc2 (sA i))) x)
  · exact congrArg (fun z : F .f32 => (FloatOps.addf z (w x) : F .f32)) (congrFun (shapeCast_self old (hc2 (sB i))) x)
  · rfl
  · rfl

theorem updD_in (j : J) (c : Dev nD) (f g : OB F) (e : S2048x1024.Idx)
    (h : rOff j c 0 ≤ rowOf e ∧ rowOf e < rOff j c 0 + nn j.1) :
    updD j c f (inc j (src j c) g) e = if adds j.1 then (FloatOps.addf (f e : F .f32) (g e : F .f32) : F .f32) else g e := by
  have hm : e ∈ ((oM.access (rR j c)).set : Finset S2048x1024.Idx) := by
    rw [show ((oM.access (rR j c)).set : Finset S2048x1024.Idx) = (rR j c).set from View.set_slice_whole _ _]
    exact (mem_rect j c e).mpr h
  obtain ⟨x, -, hx⟩ := Finset.mem_map.mp hm
  replace hx : (rR j c).emb x = e := hx
  have hi : inc j (src j c) g x = g e := by
    show g ((rowR (nn j.1) (sOff j (src j c)) (sInb j (src j c))).emb x) = g e
    rw [emb_congr (rOff_src j c).symm x (h' := rInb j c), hx]
  have ho : ((oM : Memref sig .tc .vmem S2048x1024 .f32).view.readAt (Elt F) (rR j c).toLoadRect f : FVec F (Sh2 (nn j.1)) .f32) x = f e := by
    show f ((rR j c).emb x) = f e
    rw [hx]
  have hw : updD j c f (inc j (src j c) g) e
      = comb j.1 ((oM : Memref sig .tc .vmem S2048x1024 .f32).view.readAt (Elt F) (rR j c).toLoadRect f) (inc j (src j c) g) x := by
    unfold updD
    rw [← hx]
    exact View.write_emb_of_mem _ _ (Finset.mem_univ x)
  rw [hw, ← hi, ← ho]
  exact comb_apply j.1 _ _ x

/-! ## The run of the exchange on a group of 32 rows -/

/-- The direction whose half of the rows group `g` lies in. -/
def half (g : Nat) : Fin 2 := if g < 32 then 0 else 1

/-- Whether step `t` changes group `g` on device `c`. -/
def hit (t g : Nat) (c : Dev nD) : Bool :=
  Nat.ble (rRow (stepAt t, half g) (c.val / 8) (qOf (c.val % 8))) (32 * g)
    && Nat.blt (32 * g) (rRow (stepAt t, half g) (c.val / 8) (qOf (c.val % 8)) + nn (stepAt t))

theorem rRow_dvd (j : J) (z q : Nat) : 32 ∣ rRow j z q := by
  obtain ⟨s, d⟩ := j
  rcases s with i | i | i | i <;> fin_cases d <;> simp only [rRow] <;> omega
theorem nn_dvd (s : Step) : 32 ∣ nn s := by rcases s with i | i | i | i <;> first | exact (by decide : 32 ∣ 128) | exact (by decide : 32 ∣ 32)

theorem st_step (t : Nat) (c : Dev nD) (e : S2048x1024.Idx) :
    st A (t + 1) c e = if hit t (rowOf e / 32) c then
        (if adds (stepAt t) then (FloatOps.addf (st A t c e : F .f32) (st A t (src (stepAt t, half (rowOf e / 32)) c) e : F .f32) : F .f32)
          else st A t (src (stepAt t, half (rowOf e / 32)) c) e)
      else st A t c e := by
  have hlt : rowOf e < 2048 := (e 0).isLt
  have h0 : rOff (stepAt t, 0) c 0 + nn (stepAt t) ≤ 1024 := (half_r (stepAt t, 0) c).2
  have h1 : 1024 ≤ rOff (stepAt t, 1) c 0 := (half_r (stepAt t, 1) c).1
  have key (d : Fin 2) (hd : half (rowOf e / 32) = d) :
      Iff (hit t (rowOf e / 32) c = true) (rOff (stepAt t, d) c 0 ≤ rowOf e ∧ rowOf e < rOff (stepAt t, d) c 0 + nn (stepAt t)) := by
    have h1 := rRow_dvd (stepAt t, d) (c.val / 8) (qOf (c.val % 8))
    have h2 := nn_dvd (stepAt t)
    unfold hit
    rw [hd, rOff_row, Bool.and_eq_true, Nat.ble_eq, Nat.blt_eq]
    omega
  rw [st]
  by_cases hr : rowOf e < 1024
  · have hd : half (rowOf e / 32) = 0 := by unfold half; rw [if_pos (by omega)]
    rw [updD_out (stepAt t, 1) c _ _ e (fun h => absurd (h1.trans h.1) (by omega)), hd]
    by_cases hh : hit t (rowOf e / 32) c = true
    · rw [if_pos hh, updD_in (stepAt t, 0) c _ _ e ((key 0 hd).mp hh)]
    · rw [if_neg hh, updD_out (stepAt t, 0) c _ _ e (fun h => hh ((key 0 hd).mpr h))]
  · have hd : half (rowOf e / 32) = 1 := by unfold half; rw [if_neg (by omega)]
    have ho (w) : updD (stepAt t, 0) c (st A t c) w e = st A t c e :=
      updD_out (stepAt t, 0) c _ _ e (fun h => absurd (lt_of_lt_of_le h.2 h0) (by omega))
    rw [hd]
    by_cases hh : hit t (rowOf e / 32) c = true
    · rw [if_pos hh, updD_in (stepAt t, 1) c _ _ e ((key 1 hd).mp hh), ho]
    · rw [if_neg hh, updD_out (stepAt t, 1) c _ _ e (fun h => hh ((key 1 hd).mpr h)), ho]

/-- Which devices' terms a sum holds, one bit each; nothing where the sums are not known, or would overlap. -/
def join : Option Nat → Option Nat → Option Nat
  | some a, some b => if a &&& b = 0 then some (a ||| b) else none
  | _, _ => none

/-- What device `c` holds of group `g` after `i` steps from step `t₀`, from what the devices held before. -/
def ev (b : Nat → Option Nat) (t₀ g : Nat) : Nat → Dev nD → Option Nat
  | 0, c => b c.val
  | i + 1, c =>
    if hit (t₀ + i) g c then
      (if adds (stepAt (t₀ + i)) then join (ev b t₀ g i c) (ev b t₀ g i (src (stepAt (t₀ + i), half g) c)) else ev b t₀ g i (src (stepAt (t₀ + i), half g) c))
    else ev b t₀ g i c

/-- The ring place and the plane that end the first two phases holding group `g`'s whole sum. -/
def qEnd (g : Nat) : Nat := if g < 32 then (g / 4 + 7) % 8 else (g / 4 + 1) % 8
def zEnd (g : Nat) : Nat := if g < 32 then (g % 4 + 3) % 4 else (g % 4 + 1) % 4

def full : Nat := 2 ^ 32 - 1
def bA (c : Nat) : Option Nat := some (1 <<< c)
def bB (g c : Nat) : Option Nat := if c % 8 = pOf (qEnd g) then some (255 <<< (c / 8 * 8)) else none
def bC (g c : Nat) : Option Nat := if c = zEnd g * 8 + pOf (qEnd g) then some full else none
def bD (g c : Nat) : Option Nat := if c % 8 = pOf (qEnd g) then some full else none

def okA (g : Nat) (c : Dev nD) : Bool := if c.val % 8 = pOf (qEnd g) then ev bA 0 g 7 c == bB g c.val else true
def okB (g : Nat) (c : Dev nD) : Bool := if c.val = zEnd g * 8 + pOf (qEnd g) then ev (bB g) 7 g 3 c == some full else true
def okC (g : Nat) (c : Dev nD) : Bool := if c.val % 8 = pOf (qEnd g) then ev (bC g) 10 g 3 c == some full else true
def okD (g : Nat) (c : Dev nD) : Bool := ev (bD g) 13 g 7 c == some full

theorem all_okA : ∀ g : Fin 64, ∀ c : Dev nD, okA g.val c = true := by decide +kernel
theorem all_okB : ∀ g : Fin 64, ∀ c : Dev nD, okB g.val c = true := by decide +kernel
theorem all_okC : ∀ g : Fin 64, ∀ c : Dev nD, okC g.val c = true := by decide +kernel
theorem all_okD : ∀ g : Fin 64, ∀ c : Dev nD, okD g.val c = true := by decide +kernel

end Cert.KernelIdeal.Pf

end
-- ==== Proof.Parts1.lean ====
/-
# 01_k — the second call's printed parts

The second call's body is the first one's over other buffers, with one more operand that nothing reads, and with the second
barrier semaphore. So each of its parts is the first body's part, but for the one that names the barrier.
-/
module

public import proofs.«01_k».proof.Proof.Parts

@[expose] public section

noncomputable section

namespace Cert.KernelIdeal.Pf

open Cert.KernelIdeal Cert.KernelIdeal.Gen
open Idealize.ShloMosaic Idealize.SL.Sem

variable {F : FTy → Type} [FloatOps F]

theorem k1_part1_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) :
    k1_part1_skel (F := F) arg0 harg0 arg1 harg1 arg2 harg2 arg3 harg3 arg4 harg4 arg5 harg5 arg6 arg7 arg8 arg9 arg10 arg11 = k0_part1_skel (F := F) arg0 harg0 arg2 harg2 arg3 harg3 arg4 harg4 arg5 harg5 arg6 arg7 arg8 arg9 arg10 arg11 := rfl

theorem k1_part2_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (v19 : BitVec 32) (v29 : BitVec 32) (v35 : BitVec 32) (c4_i32 : BitVec 32) :
    k1_part2_skel (F := F) arg0 harg0 arg1 harg1 arg2 harg2 arg3 harg3 arg4 harg4 arg5 harg5 arg6 arg7 arg8 arg9 arg10 arg11 v19 v29 v35 c4_i32 = k0_part2_skel (F := F) arg0 harg0 arg2 harg2 arg3 harg3 arg4 harg4 arg5 harg5 arg6 arg7 arg8 arg9 arg10 arg11 v19 v29 v35 c4_i32 := rfl

theorem k1_part3_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (v19 : BitVec 32) (v43 : BitVec 32) (v44 : BitVec 32) (v55 : BitVec 32) (v67 : BitVec 32) :
    k1_part3_skel (F := F) arg0 harg0 arg1 harg1 arg2 harg2 arg3 harg3 arg4 harg4 arg5 harg5 arg6 arg7 arg8 arg9 arg10 arg11 v19 v43 v44 v55 v67 = k0_part3_skel (F := F) arg0 harg0 arg2 harg2 arg3 harg3 arg4 harg4 arg5 harg5 arg6 arg7 arg8 arg9 arg10 arg11 v19 v43 v44 v55 v67 := rfl

set_option maxRecDepth 65536 in
theorem k1_part4_ops (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v29 : BitVec 32) (v70 : BitVec 32) (v96 : BitVec 32) (v97 : BitVec 32) (v99 : BitVec 32) :
    k1_part4_skel (F := F) arg0 harg0 arg1 harg1 arg2 harg2 arg3 harg3 arg4 harg4 arg5 harg5 arg6 arg7 arg8 arg9 arg10 arg11 d0 v19 v29 v70 v96 v97 v99 = (do
      let v100 : BitVec 32 := Scalar.remsi v97 v99
      let v101 : BitVec 1 := Scalar.cmpi .ne v100 0#32
      let v102 : BitVec 1 := Scalar.cmpi .slt v100 0#32
      let v103 : BitVec 1 := Scalar.cmpi .slt v99 0#32
      let v104 : BitVec 1 := Scalar.xori v102 v103
      let v105 : BitVec 1 := Scalar.andi v104 v101
      let v106 : BitVec 32 := Scalar.addi v100 v99
      let v107 : BitVec 32 := Scalar.select v105 v106 v100
      let v108 : BitVec 32 := Scalar.muli v107 8#32
      let v109 : BitVec 32 := Scalar.addi v108 v29
      let v110 : BitVec 32 := Scalar.addi v19 3#32
      let v111 : BitVec 1 := Scalar.cmpi .eq 4#32 0#32
      let v112 : BitVec 32 := Scalar.select v111 1#32 4#32
      let v113 : BitVec 32 := Scalar.remsi v110 v112
      let v114 : BitVec 1 := Scalar.cmpi .ne v113 0#32
      let v115 : BitVec 1 := Scalar.cmpi .slt v113 0#32
      let v116 : BitVec 1 := Scalar.cmpi .slt v112 0#32
      let v117 : BitVec 1 := Scalar.xori v115 v116
      let v118 : BitVec 1 := Scalar.andi v117 v114
      let v119 : BitVec 32 := Scalar.addi v113 v112
      let v120 : BitVec 32 := Scalar.select v118 v119 v113
      let v121 : BitVec 32 := Scalar.muli v120 8#32
      let v122 : BitVec 32 := Scalar.addi v121 v29
      let v123 : Sems sig S_ := SemArray.scalar (sig.barrier 1 rfl)
      semSignalWord (⟨k0_dev1 d0, k0_dev1_lt d0⟩ : Dev nD) v123.sem 1#32
      semSignalWord (⟨k0_dev2 d0, k0_dev2_lt d0⟩ : Dev nD) v123.sem 1#32
      semSignalWord (⟨k0_dev3 d0, k0_dev3_lt d0⟩ : Dev nD) v123.sem 1#32
      semSignalWord (⟨k0_dev4 d0, k0_dev4_lt d0⟩ : Dev nD) v123.sem 1#32
      pure ⟨v109, v122, v123⟩)
      := rfl

theorem k1_part5_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v123 : Sems sig S_) :
    k1_part5_skel (F := F) arg0 harg0 arg1 harg1 arg2 harg2 arg3 harg3 arg4 harg4 arg5 harg5 arg6 arg7 arg8 arg9 arg10 arg11 d0 v43 v70 v123 = k0_part5_skel (F := F) arg0 harg0 arg2 harg2 arg3 harg3 arg4 harg4 arg5 harg5 arg6 arg7 arg8 arg9 arg10 arg11 d0 v43 v70 v123 := rfl

theorem k1_part6_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v96 : BitVec 32) (v157 : BitVec 32) (c8_i32_117 : BitVec 32) (v158 : BitVec 1) (c1_i32_119 : BitVec 32) :
    k1_part6_skel (F := F) arg0 harg0 arg1 harg1 arg2 harg2 arg3 harg3 arg4 harg4 arg5 harg5 arg6 arg7 arg8 arg9 arg10 arg11 d0 v96 v157 c8_i32_117 v158 c1_i32_119 = k0_part6_skel (F := F) arg0 harg0 arg2 harg2 arg3 harg3 arg4 harg4 arg5 harg5 arg6 arg7 arg8 arg9 arg10 arg11 d0 v96 v157 c8_i32_117 v158 c1_i32_119 := rfl

theorem k1_part7_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (c1_i32_151 : BitVec 32) :
    k1_part7_skel (F := F) arg0 harg0 arg1 harg1 arg2 harg2 arg3 harg3 arg4 harg4 arg5 harg5 arg6 arg7 arg8 arg9 arg10 arg11 d0 v43 v70 c1_i32_151 = k0_part7_skel (F := F) arg0 harg0 arg2 harg2 arg3 harg3 arg4 harg4 arg5 harg5 arg6 arg7 arg8 arg9 arg10 arg11 d0 v43 v70 c1_i32_151 := rfl

theorem k1_part8_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) :
    k1_part8_skel (F := F) arg0 harg0 arg1 harg1 arg2 harg2 arg3 harg3 arg4 harg4 arg5 harg5 arg6 arg7 arg8 arg9 arg10 arg11 d0 v43 v96 = k0_part8_skel (F := F) arg0 harg0 arg2 harg2 arg3 harg3 arg4 harg4 arg5 harg5 arg6 arg7 arg8 arg9 arg10 arg11 d0 v43 v96 := rfl

theorem k1_part9_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v238 : BitVec 32) (v241 : FVec F S128x1024 .f32) (v243 : FVec F S128x1024 .f32) :
    k1_part9_skel (F := F) arg0 harg0 arg1 harg1 arg2 harg2 arg3 harg3 arg4 harg4 arg5 harg5 arg6 arg7 arg8 arg9 arg10 arg11 d0 v43 v70 v238 v241 v243 = k0_part9_skel (F := F) arg0 harg0 arg2 harg2 arg3 harg3 arg4 harg4 arg5 harg5 arg6 arg7 arg8 arg9 arg10 arg11 d0 v43 v70 v238 v241 v243 := rfl

theorem k1_part10_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v70 : BitVec 32) (v96 : BitVec 32) (v271 : BitVec 32) (v272 : BitVec 32) (v273 : BitVec 1) (v274 : BitVec 1) :
    k1_part10_skel (F := F) arg0 harg0 arg1 harg1 arg2 harg2 arg3 harg3 arg4 harg4 arg5 harg5 arg6 arg7 arg8 arg9 arg10 arg11 d0 v70 v96 v271 v272 v273 v274 = k0_part10_skel (F := F) arg0 harg0 arg2 harg2 arg3 harg3 arg4 harg4 arg5 harg5 arg6 arg7 arg8 arg9 arg10 arg11 d0 v70 v96 v271 v272 v273 v274 := rfl

theorem k1_part11_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) :
    k1_part11_skel (F := F) arg0 harg0 arg1 harg1 arg2 harg2 arg3 harg3 arg4 harg4 arg5 harg5 arg6 arg7 arg8 arg9 arg10 arg11 d0 v43 = k0_part11_skel (F := F) arg0 harg0 arg2 harg2 arg3 harg3 arg4 harg4 arg5 harg5 arg6 arg7 arg8 arg9 arg10 arg11 d0 v43 := rfl

theorem k1_part12_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) :
    k1_part12_skel (F := F) arg0 harg0 arg1 harg1 arg2 harg2 arg3 harg3 arg4 harg4 arg5 harg5 arg6 arg7 arg8 arg9 arg10 arg11 d0 v43 v96 = k0_part12_skel (F := F) arg0 harg0 arg2 harg2 arg3 harg3 arg4 harg4 arg5 harg5 arg6 arg7 arg8 arg9 arg10 arg11 d0 v43 v96 := rfl

theorem k1_part13_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (c2_i32_322 : BitVec 32) :
    k1_part13_skel (F := F) arg0 harg0 arg1 harg1 arg2 harg2 arg3 harg3 arg4 harg4 arg5 harg5 arg6 arg7 arg8 arg9 arg10 arg11 d0 v43 v70 c2_i32_322 = k0_part13_skel (F := F) arg0 harg0 arg2 harg2 arg3 harg3 arg4 harg4 arg5 harg5 arg6 arg7 arg8 arg9 arg10 arg11 d0 v43 v70 c2_i32_322 := rfl

theorem k1_part14_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v70 : BitVec 32) (v96 : BitVec 32) (v391 : BitVec 32) :
    k1_part14_skel (F := F) arg0 harg0 arg1 harg1 arg2 harg2 arg3 harg3 arg4 harg4 arg5 harg5 arg6 arg7 arg8 arg9 arg10 arg11 d0 v70 v96 v391 = k0_part14_skel (F := F) arg0 harg0 arg2 harg2 arg3 harg3 arg4 harg4 arg5 harg5 arg6 arg7 arg8 arg9 arg10 arg11 d0 v70 v96 v391 := rfl

theorem k1_part15_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) :
    k1_part15_skel (F := F) arg0 harg0 arg1 harg1 arg2 harg2 arg3 harg3 arg4 harg4 arg5 harg5 arg6 arg7 arg8 arg9 arg10 arg11 d0 v43 = k0_part15_skel (F := F) arg0 harg0 arg2 harg2 arg3 harg3 arg4 harg4 arg5 harg5 arg6 arg7 arg8 arg9 arg10 arg11 d0 v43 := rfl

theorem k1_part16_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) :
    k1_part16_skel (F := F) arg0 harg0 arg1 harg1 arg2 harg2 arg3 harg3 arg4 harg4 arg5 harg5 arg6 arg7 arg8 arg9 arg10 arg11 d0 v43 v96 = k0_part16_skel (F := F) arg0 harg0 arg2 harg2 arg3 harg3 arg4 harg4 arg5 harg5 arg6 arg7 arg8 arg9 arg10 arg11 d0 v43 v96 := rfl

theorem k1_part17_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v471 : BitVec 32) (v473 : BitVec 32) :
    k1_part17_skel (F := F) arg0 harg0 arg1 harg1 arg2 harg2 arg3 harg3 arg4 harg4 arg5 harg5 arg6 arg7 arg8 arg9 arg10 arg11 d0 v43 v70 v471 v473 = k0_part17_skel (F := F) arg0 harg0 arg2 harg2 arg3 harg3 arg4 harg4 arg5 harg5 arg6 arg7 arg8 arg9 arg10 arg11 d0 v43 v70 v471 v473 := rfl

theorem k1_part18_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v96 : BitVec 32) :
    k1_part18_skel (F := F) arg0 harg0 arg1 harg1 arg2 harg2 arg3 harg3 arg4 harg4 arg5 harg5 arg6 arg7 arg8 arg9 arg10 arg11 d0 v43 v70 v96 = k0_part18_skel (F := F) arg0 harg0 arg2 harg2 arg3 harg3 arg4 harg4 arg5 harg5 arg6 arg7 arg8 arg9 arg10 arg11 d0 v43 v70 v96 := rfl

theorem k1_part19_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v96 : BitVec 32) (v528 : BitVec 32) (c8_i32_498 : BitVec 32) (c0_i32_499 : BitVec 32) :
    k1_part19_skel (F := F) arg0 harg0 arg1 harg1 arg2 harg2 arg3 harg3 arg4 harg4 arg5 harg5 arg6 arg7 arg8 arg9 arg10 arg11 d0 v96 v528 c8_i32_498 c0_i32_499 = k0_part19_skel (F := F) arg0 harg0 arg2 harg2 arg3 harg3 arg4 harg4 arg5 harg5 arg6 arg7 arg8 arg9 arg10 arg11 d0 v96 v528 c8_i32_498 c0_i32_499 := rfl

theorem k1_part20_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) :
    k1_part20_skel (F := F) arg0 harg0 arg1 harg1 arg2 harg2 arg3 harg3 arg4 harg4 arg5 harg5 arg6 arg7 arg8 arg9 arg10 arg11 d0 v43 = k0_part20_skel (F := F) arg0 harg0 arg2 harg2 arg3 harg3 arg4 harg4 arg5 harg5 arg6 arg7 arg8 arg9 arg10 arg11 d0 v43 := rfl

theorem k1_part21_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v96 : BitVec 32) (v585 : BitVec 32) (v586 : BitVec 32) (v587 : BitVec 1) (v588 : BitVec 1) (c0_i32_554 : BitVec 32) :
    k1_part21_skel (F := F) arg0 harg0 arg1 harg1 arg2 harg2 arg3 harg3 arg4 harg4 arg5 harg5 arg6 arg7 arg8 arg9 arg10 arg11 d0 v43 v70 v96 v585 v586 v587 v588 c0_i32_554 = k0_part21_skel (F := F) arg0 harg0 arg2 harg2 arg3 harg3 arg4 harg4 arg5 harg5 arg6 arg7 arg8 arg9 arg10 arg11 d0 v43 v70 v96 v585 v586 v587 v588 c0_i32_554 := rfl

theorem k1_part22_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v618 : BitVec 32) :
    k1_part22_skel (F := F) arg0 harg0 arg1 harg1 arg2 harg2 arg3 harg3 arg4 harg4 arg5 harg5 arg6 arg7 arg8 arg9 arg10 arg11 d0 v43 v70 v618 = k0_part22_skel (F := F) arg0 harg0 arg2 harg2 arg3 harg3 arg4 harg4 arg5 harg5 arg6 arg7 arg8 arg9 arg10 arg11 d0 v43 v70 v618 := rfl

theorem k1_part23_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v96 : BitVec 32) (v642 : BitVec 32) (v643 : BitVec 32) (v644 : BitVec 1) :
    k1_part23_skel (F := F) arg0 harg0 arg1 harg1 arg2 harg2 arg3 harg3 arg4 harg4 arg5 harg5 arg6 arg7 arg8 arg9 arg10 arg11 d0 v96 v642 v643 v644 = k0_part23_skel (F := F) arg0 harg0 arg2 harg2 arg3 harg3 arg4 harg4 arg5 harg5 arg6 arg7 arg8 arg9 arg10 arg11 d0 v96 v642 v643 v644 := rfl

theorem k1_part24_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) :
    k1_part24_skel (F := F) arg0 harg0 arg1 harg1 arg2 harg2 arg3 harg3 arg4 harg4 arg5 harg5 arg6 arg7 arg8 arg9 arg10 arg11 d0 v43 = k0_part24_skel (F := F) arg0 harg0 arg2 harg2 arg3 harg3 arg4 harg4 arg5 harg5 arg6 arg7 arg8 arg9 arg10 arg11 d0 v43 := rfl

theorem k1_part25_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v96 : BitVec 32) (v705 : BitVec 32) (c128_i32_668 : BitVec 32) :
    k1_part25_skel (F := F) arg0 harg0 arg1 harg1 arg2 harg2 arg3 harg3 arg4 harg4 arg5 harg5 arg6 arg7 arg8 arg9 arg10 arg11 d0 v43 v70 v96 v705 c128_i32_668 = k0_part25_skel (F := F) arg0 harg0 arg2 harg2 arg3 harg3 arg4 harg4 arg5 harg5 arg6 arg7 arg8 arg9 arg10 arg11 d0 v43 v70 v96 v705 c128_i32_668 := rfl

theorem k1_part26_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) :
    k1_part26_skel (F := F) arg0 harg0 arg1 harg1 arg2 harg2 arg3 harg3 arg4 harg4 arg5 harg5 arg6 arg7 arg8 arg9 arg10 arg11 d0 v43 v70 = k0_part26_skel (F := F) arg0 harg0 arg2 harg2 arg3 harg3 arg4 harg4 arg5 harg5 arg6 arg7 arg8 arg9 arg10 arg11 d0 v43 v70 := rfl

theorem k1_part27_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) (v754 : BitVec 32) (v755 : BitVec 32) (v760 : BitVec 1) :
    k1_part27_skel (F := F) arg0 harg0 arg1 harg1 arg2 harg2 arg3 harg3 arg4 harg4 arg5 harg5 arg6 arg7 arg8 arg9 arg10 arg11 d0 v43 v96 v754 v755 v760 = k0_part27_skel (F := F) arg0 harg0 arg2 harg2 arg3 harg3 arg4 harg4 arg5 harg5 arg6 arg7 arg8 arg9 arg10 arg11 d0 v43 v96 v754 v755 v760 := rfl

theorem k1_part28_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v786 : BitVec 32) :
    k1_part28_skel (F := F) arg0 harg0 arg1 harg1 arg2 harg2 arg3 harg3 arg4 harg4 arg5 harg5 arg6 arg7 arg8 arg9 arg10 arg11 d0 v43 v786 = k0_part28_skel (F := F) arg0 harg0 arg2 harg2 arg3 harg3 arg4 harg4 arg5 harg5 arg6 arg7 arg8 arg9 arg10 arg11 d0 v43 v786 := rfl

theorem k1_part29_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v96 : BitVec 32) :
    k1_part29_skel (F := F) arg0 harg0 arg1 harg1 arg2 harg2 arg3 harg3 arg4 harg4 arg5 harg5 arg6 arg7 arg8 arg9 arg10 arg11 d0 v43 v70 v96 = k0_part29_skel (F := F) arg0 harg0 arg2 harg2 arg3 harg3 arg4 harg4 arg5 harg5 arg6 arg7 arg8 arg9 arg10 arg11 d0 v43 v70 v96 := rfl

theorem k1_part30_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) :
    k1_part30_skel (F := F) arg0 harg0 arg1 harg1 arg2 harg2 arg3 harg3 arg4 harg4 arg5 harg5 arg6 arg7 arg8 arg9 arg10 arg11 d0 v43 v70 = k0_part30_skel (F := F) arg0 harg0 arg2 harg2 arg3 harg3 arg4 harg4 arg5 harg5 arg6 arg7 arg8 arg9 arg10 arg11 d0 v43 v70 := rfl

theorem k1_part31_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) (v876 : BitVec 32) :
    k1_part31_skel (F := F) arg0 harg0 arg1 harg1 arg2 harg2 arg3 harg3 arg4 harg4 arg5 harg5 arg6 arg7 arg8 arg9 arg10 arg11 d0 v43 v96 v876 = k0_part31_skel (F := F) arg0 harg0 arg2 harg2 arg3 harg3 arg4 harg4 arg5 harg5 arg6 arg7 arg8 arg9 arg10 arg11 d0 v43 v96 v876 := rfl

theorem k1_part32_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v900 : BitVec 32) (v901 : BitVec 32) :
    k1_part32_skel (F := F) arg0 harg0 arg1 harg1 arg2 harg2 arg3 harg3 arg4 harg4 arg5 harg5 arg6 arg7 arg8 arg9 arg10 arg11 d0 v43 v900 v901 = k0_part32_skel (F := F) arg0 harg0 arg2 harg2 arg3 harg3 arg4 harg4 arg5 harg5 arg6 arg7 arg8 arg9 arg10 arg11 d0 v43 v900 v901 := rfl

theorem k1_part33_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) (v932 : BitVec 32) (v933 : BitVec 32) (v934 : BitVec 1) (v935 : BitVec 1) (c0_i32_900 : BitVec 32) :
    k1_part33_skel (F := F) arg0 harg0 arg1 harg1 arg2 harg2 arg3 harg3 arg4 harg4 arg5 harg5 arg6 arg7 arg8 arg9 arg10 arg11 d0 v19 v109 v929 v932 v933 v934 v935 c0_i32_900 = k0_part33_skel (F := F) arg0 harg0 arg2 harg2 arg3 harg3 arg4 harg4 arg5 harg5 arg6 arg7 arg8 arg9 arg10 arg11 d0 v19 v109 v929 v932 v933 v934 v935 c0_i32_900 := rfl

theorem k1_part34_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v122 : BitVec 32) (v940 : BitVec 32) (v967 : BitVec 32) (v968 : BitVec 32) (c0_i32_926 : BitVec 32) :
    k1_part34_skel (F := F) arg0 harg0 arg1 harg1 arg2 harg2 arg3 harg3 arg4 harg4 arg5 harg5 arg6 arg7 arg8 arg9 arg10 arg11 d0 v122 v940 v967 v968 c0_i32_926 = k0_part34_skel (F := F) arg0 harg0 arg2 harg2 arg3 harg3 arg4 harg4 arg5 harg5 arg6 arg7 arg8 arg9 arg10 arg11 d0 v122 v940 v967 v968 c0_i32_926 := rfl

theorem k1_part35_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) (c1_i32_959 : BitVec 32) :
    k1_part35_skel (F := F) arg0 harg0 arg1 harg1 arg2 harg2 arg3 harg3 arg4 harg4 arg5 harg5 arg6 arg7 arg8 arg9 arg10 arg11 d0 v19 v109 v929 c1_i32_959 = k0_part35_skel (F := F) arg0 harg0 arg2 harg2 arg3 harg3 arg4 harg4 arg5 harg5 arg6 arg7 arg8 arg9 arg10 arg11 d0 v19 v109 v929 c1_i32_959 := rfl

theorem k1_part36_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v122 : BitVec 32) (v940 : BitVec 32) :
    k1_part36_skel (F := F) arg0 harg0 arg1 harg1 arg2 harg2 arg3 harg3 arg4 harg4 arg5 harg5 arg6 arg7 arg8 arg9 arg10 arg11 d0 v19 v122 v940 = k0_part36_skel (F := F) arg0 harg0 arg2 harg2 arg3 harg3 arg4 harg4 arg5 harg5 arg6 arg7 arg8 arg9 arg10 arg11 d0 v19 v122 v940 := rfl

theorem k1_part37_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) (v1052 : BitVec 32) (v1055 : FVec F S32x1024 .f32) :
    k1_part37_skel (F := F) arg0 harg0 arg1 harg1 arg2 harg2 arg3 harg3 arg4 harg4 arg5 harg5 arg6 arg7 arg8 arg9 arg10 arg11 d0 v19 v109 v929 v1052 v1055 = k0_part37_skel (F := F) arg0 harg0 arg2 harg2 arg3 harg3 arg4 harg4 arg5 harg5 arg6 arg7 arg8 arg9 arg10 arg11 d0 v19 v109 v929 v1052 v1055 := rfl

theorem k1_part38_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v122 : BitVec 32) (v940 : BitVec 32) (v1085 : BitVec 32) (c4_i32_1041 : BitVec 32) :
    k1_part38_skel (F := F) arg0 harg0 arg1 harg1 arg2 harg2 arg3 harg3 arg4 harg4 arg5 harg5 arg6 arg7 arg8 arg9 arg10 arg11 d0 v122 v940 v1085 c4_i32_1041 = k0_part38_skel (F := F) arg0 harg0 arg2 harg2 arg3 harg3 arg4 harg4 arg5 harg5 arg6 arg7 arg8 arg9 arg10 arg11 d0 v122 v940 v1085 c4_i32_1041 := rfl

theorem k1_part39_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) :
    k1_part39_skel (F := F) arg0 harg0 arg1 harg1 arg2 harg2 arg3 harg3 arg4 harg4 arg5 harg5 arg6 arg7 arg8 arg9 arg10 arg11 d0 v19 v109 v929 = k0_part39_skel (F := F) arg0 harg0 arg2 harg2 arg3 harg3 arg4 harg4 arg5 harg5 arg6 arg7 arg8 arg9 arg10 arg11 d0 v19 v109 v929 := rfl

theorem k1_part40_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v122 : BitVec 32) (v940 : BitVec 32) :
    k1_part40_skel (F := F) arg0 harg0 arg1 harg1 arg2 harg2 arg3 harg3 arg4 harg4 arg5 harg5 arg6 arg7 arg8 arg9 arg10 arg11 d0 v19 v122 v940 = k0_part40_skel (F := F) arg0 harg0 arg2 harg2 arg3 harg3 arg4 harg4 arg5 harg5 arg6 arg7 arg8 arg9 arg10 arg11 d0 v19 v122 v940 := rfl

theorem k1_part41_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) (v1168 : BitVec 32) (v1170 : BitVec 32) (c32_i32_1130 : BitVec 32) :
    k1_part41_skel (F := F) arg0 harg0 arg1 harg1 arg2 harg2 arg3 harg3 arg4 harg4 arg5 harg5 arg6 arg7 arg8 arg9 arg10 arg11 d0 v19 v109 v929 v1168 v1170 c32_i32_1130 = k0_part41_skel (F := F) arg0 harg0 arg2 harg2 arg3 harg3 arg4 harg4 arg5 harg5 arg6 arg7 arg8 arg9 arg10 arg11 d0 v19 v109 v929 v1168 v1170 c32_i32_1130 := rfl

theorem k1_part42_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v122 : BitVec 32) (v940 : BitVec 32) :
    k1_part42_skel (F := F) arg0 harg0 arg1 harg1 arg2 harg2 arg3 harg3 arg4 harg4 arg5 harg5 arg6 arg7 arg8 arg9 arg10 arg11 d0 v19 v122 v940 = k0_part42_skel (F := F) arg0 harg0 arg2 harg2 arg3 harg3 arg4 harg4 arg5 harg5 arg6 arg7 arg8 arg9 arg10 arg11 d0 v19 v122 v940 := rfl

theorem k1_part43_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) :
    k1_part43_skel (F := F) arg0 harg0 arg1 harg1 arg2 harg2 arg3 harg3 arg4 harg4 arg5 harg5 arg6 arg7 arg8 arg9 arg10 arg11 d0 v19 v109 v929 = k0_part43_skel (F := F) arg0 harg0 arg2 harg2 arg3 harg3 arg4 harg4 arg5 harg5 arg6 arg7 arg8 arg9 arg10 arg11 d0 v19 v109 v929 := rfl

theorem k1_part44_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v122 : BitVec 32) (v1256 : BitVec 32) (v1259 : FVec F S32x1024 .f32) (v1260 : Vec F S1x1x32x1024 .f32) :
    k1_part44_skel (F := F) arg0 harg0 arg1 harg1 arg2 harg2 arg3 harg3 arg4 harg4 arg5 harg5 arg6 arg7 arg8 arg9 arg10 arg11 d0 v19 v122 v1256 v1259 v1260 = k0_part44_skel (F := F) arg0 harg0 arg2 harg2 arg3 harg3 arg4 harg4 arg5 harg5 arg6 arg7 arg8 arg9 arg10 arg11 d0 v19 v122 v1256 v1259 v1260 := rfl

theorem k1_part45_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) (v940 : BitVec 32) (v1281 : BitVec 32) (v1286 : BitVec 1) (v1287 : BitVec 32) :
    k1_part45_skel (F := F) arg0 harg0 arg1 harg1 arg2 harg2 arg3 harg3 arg4 harg4 arg5 harg5 arg6 arg7 arg8 arg9 arg10 arg11 d0 v19 v109 v929 v940 v1281 v1286 v1287 = k0_part45_skel (F := F) arg0 harg0 arg2 harg2 arg3 harg3 arg4 harg4 arg5 harg5 arg6 arg7 arg8 arg9 arg10 arg11 d0 v19 v109 v929 v940 v1281 v1286 v1287 := rfl

theorem k1_part46_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v122 : BitVec 32) (v940 : BitVec 32) :
    k1_part46_skel (F := F) arg0 harg0 arg1 harg1 arg2 harg2 arg3 harg3 arg4 harg4 arg5 harg5 arg6 arg7 arg8 arg9 arg10 arg11 d0 v19 v122 v940 = k0_part46_skel (F := F) arg0 harg0 arg2 harg2 arg3 harg3 arg4 harg4 arg5 harg5 arg6 arg7 arg8 arg9 arg10 arg11 d0 v19 v122 v940 := rfl

theorem k1_part47_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) :
    k1_part47_skel (F := F) arg0 harg0 arg1 harg1 arg2 harg2 arg3 harg3 arg4 harg4 arg5 harg5 arg6 arg7 arg8 arg9 arg10 arg11 d0 v19 v109 v929 = k0_part47_skel (F := F) arg0 harg0 arg2 harg2 arg3 harg3 arg4 harg4 arg5 harg5 arg6 arg7 arg8 arg9 arg10 arg11 d0 v19 v109 v929 := rfl

theorem k1_part48_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v122 : BitVec 32) (v1377 : BitVec 32) :
    k1_part48_skel (F := F) arg0 harg0 arg1 harg1 arg2 harg2 arg3 harg3 arg4 harg4 arg5 harg5 arg6 arg7 arg8 arg9 arg10 arg11 d0 v19 v122 v1377 = k0_part48_skel (F := F) arg0 harg0 arg2 harg2 arg3 harg3 arg4 harg4 arg5 harg5 arg6 arg7 arg8 arg9 arg10 arg11 d0 v19 v122 v1377 := rfl

theorem k1_part49_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) (v940 : BitVec 32) (v1396 : BitVec 32) (v1397 : BitVec 32) (v1402 : BitVec 1) :
    k1_part49_skel (F := F) arg0 harg0 arg1 harg1 arg2 harg2 arg3 harg3 arg4 harg4 arg5 harg5 arg6 arg7 arg8 arg9 arg10 arg11 d0 v19 v109 v929 v940 v1396 v1397 v1402 = k0_part49_skel (F := F) arg0 harg0 arg2 harg2 arg3 harg3 arg4 harg4 arg5 harg5 arg6 arg7 arg8 arg9 arg10 arg11 d0 v19 v109 v929 v940 v1396 v1397 v1402 := rfl

theorem k1_part50_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v122 : BitVec 32) (v940 : BitVec 32) :
    k1_part50_skel (F := F) arg0 harg0 arg1 harg1 arg2 harg2 arg3 harg3 arg4 harg4 arg5 harg5 arg6 arg7 arg8 arg9 arg10 arg11 d0 v19 v122 v940 = k0_part50_skel (F := F) arg0 harg0 arg2 harg2 arg3 harg3 arg4 harg4 arg5 harg5 arg6 arg7 arg8 arg9 arg10 arg11 d0 v19 v122 v940 := rfl

theorem k1_part51_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) :
    k1_part51_skel (F := F) arg0 harg0 arg1 harg1 arg2 harg2 arg3 harg3 arg4 harg4 arg5 harg5 arg6 arg7 arg8 arg9 arg10 arg11 d0 v19 v109 v929 = k0_part51_skel (F := F) arg0 harg0 arg2 harg2 arg3 harg3 arg4 harg4 arg5 harg5 arg6 arg7 arg8 arg9 arg10 arg11 d0 v19 v109 v929 := rfl

theorem k1_part52_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v122 : BitVec 32) (v940 : BitVec 32) (v1489 : BitVec 32) (v1490 : Vec F S1x1x32x1024 .f32) :
    k1_part52_skel (F := F) arg0 harg0 arg1 harg1 arg2 harg2 arg3 harg3 arg4 harg4 arg5 harg5 arg6 arg7 arg8 arg9 arg10 arg11 d0 v19 v122 v940 v1489 v1490 = k0_part52_skel (F := F) arg0 harg0 arg2 harg2 arg3 harg3 arg4 harg4 arg5 harg5 arg6 arg7 arg8 arg9 arg10 arg11 d0 v19 v122 v940 v1489 v1490 := rfl

theorem k1_part53_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) (v1516 : BitVec 32) (v1517 : BitVec 32) :
    k1_part53_skel (F := F) arg0 harg0 arg1 harg1 arg2 harg2 arg3 harg3 arg4 harg4 arg5 harg5 arg6 arg7 arg8 arg9 arg10 arg11 d0 v19 v109 v929 v1516 v1517 = k0_part53_skel (F := F) arg0 harg0 arg2 harg2 arg3 harg3 arg4 harg4 arg5 harg5 arg6 arg7 arg8 arg9 arg10 arg11 d0 v19 v109 v929 v1516 v1517 := rfl

theorem k1_part54_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v122 : BitVec 32) (v940 : BitVec 32) :
    k1_part54_skel (F := F) arg0 harg0 arg1 harg1 arg2 harg2 arg3 harg3 arg4 harg4 arg5 harg5 arg6 arg7 arg8 arg9 arg10 arg11 d0 v19 v122 v940 = k0_part54_skel (F := F) arg0 harg0 arg2 harg2 arg3 harg3 arg4 harg4 arg5 harg5 arg6 arg7 arg8 arg9 arg10 arg11 d0 v19 v122 v940 := rfl

theorem k1_part55_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v109 : BitVec 32) (v929 : BitVec 32) :
    k1_part55_skel (F := F) arg0 harg0 arg1 harg1 arg2 harg2 arg3 harg3 arg4 harg4 arg5 harg5 arg6 arg7 arg8 arg9 arg10 arg11 d0 v19 v109 v929 = k0_part55_skel (F := F) arg0 harg0 arg2 harg2 arg3 harg3 arg4 harg4 arg5 harg5 arg6 arg7 arg8 arg9 arg10 arg11 d0 v19 v109 v929 := rfl

theorem k1_part56_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v19 : BitVec 32) (v122 : BitVec 32) (v940 : BitVec 32) (v1603 : FVec F S32x1024 .f32) :
    k1_part56_skel (F := F) arg0 harg0 arg1 harg1 arg2 harg2 arg3 harg3 arg4 harg4 arg5 harg5 arg6 arg7 arg8 arg9 arg10 arg11 d0 v19 v122 v940 v1603 = k0_part56_skel (F := F) arg0 harg0 arg2 harg2 arg3 harg3 arg4 harg4 arg5 harg5 arg6 arg7 arg8 arg9 arg10 arg11 d0 v19 v122 v940 v1603 := rfl

theorem k1_part57_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v1630 : BitVec 32) (v1631 : BitVec 32) :
    k1_part57_skel (F := F) arg0 harg0 arg1 harg1 arg2 harg2 arg3 harg3 arg4 harg4 arg5 harg5 arg6 arg7 arg8 arg9 arg10 arg11 d0 v43 v70 v1630 v1631 = k0_part57_skel (F := F) arg0 harg0 arg2 harg2 arg3 harg3 arg4 harg4 arg5 harg5 arg6 arg7 arg8 arg9 arg10 arg11 d0 v43 v70 v1630 v1631 := rfl

theorem k1_part58_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v96 : BitVec 32) (v1661 : BitVec 32) :
    k1_part58_skel (F := F) arg0 harg0 arg1 harg1 arg2 harg2 arg3 harg3 arg4 harg4 arg5 harg5 arg6 arg7 arg8 arg9 arg10 arg11 d0 v96 v1661 = k0_part58_skel (F := F) arg0 harg0 arg2 harg2 arg3 harg3 arg4 harg4 arg5 harg5 arg6 arg7 arg8 arg9 arg10 arg11 d0 v96 v1661 := rfl

theorem k1_part59_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) :
    k1_part59_skel (F := F) arg0 harg0 arg1 harg1 arg2 harg2 arg3 harg3 arg4 harg4 arg5 harg5 arg6 arg7 arg8 arg9 arg10 arg11 d0 v43 v70 = k0_part59_skel (F := F) arg0 harg0 arg2 harg2 arg3 harg3 arg4 harg4 arg5 harg5 arg6 arg7 arg8 arg9 arg10 arg11 d0 v43 v70 := rfl

theorem k1_part60_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) :
    k1_part60_skel (F := F) arg0 harg0 arg1 harg1 arg2 harg2 arg3 harg3 arg4 harg4 arg5 harg5 arg6 arg7 arg8 arg9 arg10 arg11 d0 v43 v96 = k0_part60_skel (F := F) arg0 harg0 arg2 harg2 arg3 harg3 arg4 harg4 arg5 harg5 arg6 arg7 arg8 arg9 arg10 arg11 d0 v43 v96 := rfl

theorem k1_part61_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v1742 : BitVec 32) (c8_i32_1717 : BitVec 32) :
    k1_part61_skel (F := F) arg0 harg0 arg1 harg1 arg2 harg2 arg3 harg3 arg4 harg4 arg5 harg5 arg6 arg7 arg8 arg9 arg10 arg11 d0 v43 v70 v1742 c8_i32_1717 = k0_part61_skel (F := F) arg0 harg0 arg2 harg2 arg3 harg3 arg4 harg4 arg5 harg5 arg6 arg7 arg8 arg9 arg10 arg11 d0 v43 v70 v1742 c8_i32_1717 := rfl

theorem k1_part62_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v70 : BitVec 32) (v96 : BitVec 32) (v1775 : BitVec 32) :
    k1_part62_skel (F := F) arg0 harg0 arg1 harg1 arg2 harg2 arg3 harg3 arg4 harg4 arg5 harg5 arg6 arg7 arg8 arg9 arg10 arg11 d0 v70 v96 v1775 = k0_part62_skel (F := F) arg0 harg0 arg2 harg2 arg3 harg3 arg4 harg4 arg5 harg5 arg6 arg7 arg8 arg9 arg10 arg11 d0 v70 v96 v1775 := rfl

theorem k1_part63_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) :
    k1_part63_skel (F := F) arg0 harg0 arg1 harg1 arg2 harg2 arg3 harg3 arg4 harg4 arg5 harg5 arg6 arg7 arg8 arg9 arg10 arg11 d0 v43 v96 = k0_part63_skel (F := F) arg0 harg0 arg2 harg2 arg3 harg3 arg4 harg4 arg5 harg5 arg6 arg7 arg8 arg9 arg10 arg11 d0 v43 v96 := rfl

theorem k1_part64_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) :
    k1_part64_skel (F := F) arg0 harg0 arg1 harg1 arg2 harg2 arg3 harg3 arg4 harg4 arg5 harg5 arg6 arg7 arg8 arg9 arg10 arg11 d0 v43 = k0_part64_skel (F := F) arg0 harg0 arg2 harg2 arg3 harg3 arg4 harg4 arg5 harg5 arg6 arg7 arg8 arg9 arg10 arg11 d0 v43 := rfl

theorem k1_part65_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v96 : BitVec 32) (v1856 : BitVec 32) (c128_i32_1835 : BitVec 32) :
    k1_part65_skel (F := F) arg0 harg0 arg1 harg1 arg2 harg2 arg3 harg3 arg4 harg4 arg5 harg5 arg6 arg7 arg8 arg9 arg10 arg11 d0 v43 v70 v96 v1856 c128_i32_1835 = k0_part65_skel (F := F) arg0 harg0 arg2 harg2 arg3 harg3 arg4 harg4 arg5 harg5 arg6 arg7 arg8 arg9 arg10 arg11 d0 v43 v70 v96 v1856 c128_i32_1835 := rfl

theorem k1_part66_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) :
    k1_part66_skel (F := F) arg0 harg0 arg1 harg1 arg2 harg2 arg3 harg3 arg4 harg4 arg5 harg5 arg6 arg7 arg8 arg9 arg10 arg11 d0 v43 v70 = k0_part66_skel (F := F) arg0 harg0 arg2 harg2 arg3 harg3 arg4 harg4 arg5 harg5 arg6 arg7 arg8 arg9 arg10 arg11 d0 v43 v70 := rfl

theorem k1_part67_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) (v1905 : BitVec 32) (v1906 : BitVec 32) (v1911 : BitVec 1) :
    k1_part67_skel (F := F) arg0 harg0 arg1 harg1 arg2 harg2 arg3 harg3 arg4 harg4 arg5 harg5 arg6 arg7 arg8 arg9 arg10 arg11 d0 v43 v96 v1905 v1906 v1911 = k0_part67_skel (F := F) arg0 harg0 arg2 harg2 arg3 harg3 arg4 harg4 arg5 harg5 arg6 arg7 arg8 arg9 arg10 arg11 d0 v43 v96 v1905 v1906 v1911 := rfl

theorem k1_part68_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v1934 : BitVec 32) (v1935 : BitVec 32) (c0_i32_1929 : BitVec 32) :
    k1_part68_skel (F := F) arg0 harg0 arg1 harg1 arg2 harg2 arg3 harg3 arg4 harg4 arg5 harg5 arg6 arg7 arg8 arg9 arg10 arg11 d0 v43 v70 v1934 v1935 c0_i32_1929 = k0_part68_skel (F := F) arg0 harg0 arg2 harg2 arg3 harg3 arg4 harg4 arg5 harg5 arg6 arg7 arg8 arg9 arg10 arg11 d0 v43 v70 v1934 v1935 c0_i32_1929 := rfl

theorem k1_part69_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) :
    k1_part69_skel (F := F) arg0 harg0 arg1 harg1 arg2 harg2 arg3 harg3 arg4 harg4 arg5 harg5 arg6 arg7 arg8 arg9 arg10 arg11 d0 v43 v96 = k0_part69_skel (F := F) arg0 harg0 arg2 harg2 arg3 harg3 arg4 harg4 arg5 harg5 arg6 arg7 arg8 arg9 arg10 arg11 d0 v43 v96 := rfl

theorem k1_part70_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) :
    k1_part70_skel (F := F) arg0 harg0 arg1 harg1 arg2 harg2 arg3 harg3 arg4 harg4 arg5 harg5 arg6 arg7 arg8 arg9 arg10 arg11 d0 v43 v70 = k0_part70_skel (F := F) arg0 harg0 arg2 harg2 arg3 harg3 arg4 harg4 arg5 harg5 arg6 arg7 arg8 arg9 arg10 arg11 d0 v43 v70 := rfl

theorem k1_part71_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) :
    k1_part71_skel (F := F) arg0 harg0 arg1 harg1 arg2 harg2 arg3 harg3 arg4 harg4 arg5 harg5 arg6 arg7 arg8 arg9 arg10 arg11 d0 v43 v96 = k0_part71_skel (F := F) arg0 harg0 arg2 harg2 arg3 harg3 arg4 harg4 arg5 harg5 arg6 arg7 arg8 arg9 arg10 arg11 d0 v43 v96 := rfl

theorem k1_part72_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v2046 : BitVec 32) (v2048 : FVec F S128x1024 .f32) (c128_i32_2048 : BitVec 32) :
    k1_part72_skel (F := F) arg0 harg0 arg1 harg1 arg2 harg2 arg3 harg3 arg4 harg4 arg5 harg5 arg6 arg7 arg8 arg9 arg10 arg11 d0 v43 v70 v2046 v2048 c128_i32_2048 = k0_part72_skel (F := F) arg0 harg0 arg2 harg2 arg3 harg3 arg4 harg4 arg5 harg5 arg6 arg7 arg8 arg9 arg10 arg11 d0 v43 v70 v2046 v2048 c128_i32_2048 := rfl

theorem k1_part73_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v96 : BitVec 32) (v2077 : BitVec 32) (c8_i32_2074 : BitVec 32) (v2078 : BitVec 1) (c1_i32_2076 : BitVec 32) :
    k1_part73_skel (F := F) arg0 harg0 arg1 harg1 arg2 harg2 arg3 harg3 arg4 harg4 arg5 harg5 arg6 arg7 arg8 arg9 arg10 arg11 d0 v96 v2077 c8_i32_2074 v2078 c1_i32_2076 = k0_part73_skel (F := F) arg0 harg0 arg2 harg2 arg3 harg3 arg4 harg4 arg5 harg5 arg6 arg7 arg8 arg9 arg10 arg11 d0 v96 v2077 c8_i32_2074 v2078 c1_i32_2076 := rfl

theorem k1_part74_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (c1_i32_2109 : BitVec 32) :
    k1_part74_skel (F := F) arg0 harg0 arg1 harg1 arg2 harg2 arg3 harg3 arg4 harg4 arg5 harg5 arg6 arg7 arg8 arg9 arg10 arg11 d0 v43 v70 c1_i32_2109 = k0_part74_skel (F := F) arg0 harg0 arg2 harg2 arg3 harg3 arg4 harg4 arg5 harg5 arg6 arg7 arg8 arg9 arg10 arg11 d0 v43 v70 c1_i32_2109 := rfl

theorem k1_part75_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) :
    k1_part75_skel (F := F) arg0 harg0 arg1 harg1 arg2 harg2 arg3 harg3 arg4 harg4 arg5 harg5 arg6 arg7 arg8 arg9 arg10 arg11 d0 v43 v96 = k0_part75_skel (F := F) arg0 harg0 arg2 harg2 arg3 harg3 arg4 harg4 arg5 harg5 arg6 arg7 arg8 arg9 arg10 arg11 d0 v43 v96 := rfl

theorem k1_part76_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v2158 : BitVec 32) (v2160 : BitVec 32) :
    k1_part76_skel (F := F) arg0 harg0 arg1 harg1 arg2 harg2 arg3 harg3 arg4 harg4 arg5 harg5 arg6 arg7 arg8 arg9 arg10 arg11 d0 v43 v70 v2158 v2160 = k0_part76_skel (F := F) arg0 harg0 arg2 harg2 arg3 harg3 arg4 harg4 arg5 harg5 arg6 arg7 arg8 arg9 arg10 arg11 d0 v43 v70 v2158 v2160 := rfl

theorem k1_part77_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v96 : BitVec 32) :
    k1_part77_skel (F := F) arg0 harg0 arg1 harg1 arg2 harg2 arg3 harg3 arg4 harg4 arg5 harg5 arg6 arg7 arg8 arg9 arg10 arg11 d0 v43 v70 v96 = k0_part77_skel (F := F) arg0 harg0 arg2 harg2 arg3 harg3 arg4 harg4 arg5 harg5 arg6 arg7 arg8 arg9 arg10 arg11 d0 v43 v70 v96 := rfl

theorem k1_part78_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v96 : BitVec 32) (v2215 : BitVec 32) (c8_i32_2227 : BitVec 32) (c0_i32_2228 : BitVec 32) :
    k1_part78_skel (F := F) arg0 harg0 arg1 harg1 arg2 harg2 arg3 harg3 arg4 harg4 arg5 harg5 arg6 arg7 arg8 arg9 arg10 arg11 d0 v96 v2215 c8_i32_2227 c0_i32_2228 = k0_part78_skel (F := F) arg0 harg0 arg2 harg2 arg3 harg3 arg4 harg4 arg5 harg5 arg6 arg7 arg8 arg9 arg10 arg11 d0 v96 v2215 c8_i32_2227 c0_i32_2228 := rfl

theorem k1_part79_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) :
    k1_part79_skel (F := F) arg0 harg0 arg1 harg1 arg2 harg2 arg3 harg3 arg4 harg4 arg5 harg5 arg6 arg7 arg8 arg9 arg10 arg11 d0 v43 = k0_part79_skel (F := F) arg0 harg0 arg2 harg2 arg3 harg3 arg4 harg4 arg5 harg5 arg6 arg7 arg8 arg9 arg10 arg11 d0 v43 := rfl

theorem k1_part80_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) (v96 : BitVec 32) :
    k1_part80_skel (F := F) arg0 harg0 arg1 harg1 arg2 harg2 arg3 harg3 arg4 harg4 arg5 harg5 arg6 arg7 arg8 arg9 arg10 arg11 d0 v43 v70 v96 = k0_part80_skel (F := F) arg0 harg0 arg2 harg2 arg3 harg3 arg4 harg4 arg5 harg5 arg6 arg7 arg8 arg9 arg10 arg11 d0 v43 v70 v96 := rfl

theorem k1_part81_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v70 : BitVec 32) :
    k1_part81_skel (F := F) arg0 harg0 arg1 harg1 arg2 harg2 arg3 harg3 arg4 harg4 arg5 harg5 arg6 arg7 arg8 arg9 arg10 arg11 d0 v43 v70 = k0_part81_skel (F := F) arg0 harg0 arg2 harg2 arg3 harg3 arg4 harg4 arg5 harg5 arg6 arg7 arg8 arg9 arg10 arg11 d0 v43 v70 := rfl

theorem k1_part82_same (arg0 : Memref sig .tc .vmem S2048x1024 .f32) (harg0 : arg0.IsWhole) (arg1 : Memref sig .tc .hbm S2048x1024 .f32) (harg1 : arg1.IsWhole) (arg2 : Memref sig .tc .vmem S2048x1024 .f32) (harg2 : arg2.IsWhole) (arg3 : Memref sig .tc .vmem S2x7x128x1024 .f32) (harg3 : arg3.IsWhole) (arg4 : Memref sig .tc .vmem S2x6x32x1024 .f32) (harg4 : arg4.IsWhole) (arg5 : Memref sig .tc .vmem S2x7x128x1024 .f32) (harg5 : arg5.IsWhole) (arg6 : DmaSems sig S2x7) (arg7 : DmaSems sig S2x7) (arg8 : DmaSems sig S2x6) (arg9 : DmaSems sig S2x6) (arg10 : DmaSems sig S2x7) (arg11 : DmaSems sig S2x7) (d0 : Dev nD) (v43 : BitVec 32) (v96 : BitVec 32) (v2329 : BitVec 32) :
    k1_part82_skel (F := F) arg0 harg0 arg1 harg1 arg2 harg2 arg3 harg3 arg4 harg4 arg5 harg5 arg6 arg7 arg8 arg9 arg10 arg11 d0 v43 v96 v2329 = k0_part82_skel (F := F) arg0 harg0 arg2 harg2 arg3 harg3 arg4 harg4 arg5 harg5 arg6 arg7 arg8 arg9 arg10 arg11 d0 v43 v96 v2329 := rfl

set_option maxRecDepth 1000000 in
theorem cc1_body_clean (x : Memref sig .tc .vmem S2048x1024 .f32) (hx : x.IsWhole) (y : Memref sig .tc .hbm S2048x1024 .f32) (hy : y.IsWhole) (out : Memref sig .tc .vmem S2048x1024 .f32) (ho : out.IsWhole)
    (c1 : Memref sig .tc .vmem S2x7x128x1024 .f32) (h1 : c1.IsWhole) (c2 : Memref sig .tc .vmem S2x6x32x1024 .f32) (h2 : c2.IsWhole)
    (c3 : Memref sig .tc .vmem S2x7x128x1024 .f32) (h3 : c3.IsWhole) (s1 r1 : DmaSems sig S2x7) (s2 r2 : DmaSems sig S2x6) (s3 r3 : DmaSems sig S2x7) :
    cc1_body_skel (F := F) x hx y hy out ho c1 h1 c2 h2 c3 h3 s1 r1 s2 r2 s3 r3
      = Prog.lift .deviceId >>= fun d0 => cleanP out c1 c2 c3 s1 r1 s2 r2 s3 r3 d0 (SemArray.scalar (sig.barrier 1 rfl) : Sems sig S_).sem x := by
  simp only [cc1_body_skel, k1_part83_eq_skeleton, k1_part83_skel, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton]
  simp only [k1_part1_same, k1_part2_same, k1_part3_same, k1_part5_same, k1_part6_same, k1_part7_same, k1_part8_same, k1_part9_same, k1_part10_same, k1_part11_same, k1_part12_same, k1_part13_same, k1_part14_same, k1_part15_same, k1_part16_same, k1_part17_same, k1_part18_same, k1_part19_same, k1_part20_same, k1_part21_same, k1_part22_same, k1_part23_same, k1_part24_same, k1_part25_same, k1_part26_same, k1_part27_same, k1_part28_same, k1_part29_same, k1_part30_same, k1_part31_same, k1_part32_same, k1_part33_same, k1_part34_same, k1_part35_same, k1_part36_same, k1_part37_same, k1_part38_same, k1_part39_same, k1_part40_same, k1_part41_same, k1_part42_same, k1_part43_same, k1_part44_same, k1_part45_same, k1_part46_same, k1_part47_same, k1_part48_same, k1_part49_same, k1_part50_same, k1_part51_same, k1_part52_same, k1_part53_same, k1_part54_same, k1_part55_same, k1_part56_same, k1_part57_same, k1_part58_same, k1_part59_same, k1_part60_same, k1_part61_same, k1_part62_same, k1_part63_same, k1_part64_same, k1_part65_same, k1_part66_same, k1_part67_same, k1_part68_same, k1_part69_same, k1_part70_same, k1_part71_same, k1_part72_same, k1_part73_same, k1_part74_same, k1_part75_same, k1_part76_same, k1_part77_same, k1_part78_same, k1_part79_same, k1_part80_same, k1_part81_same, k1_part82_same]
  simp only [k1_part4_ops, k0_part1_ops, k0_part2_ops, k0_part3_ops, k0_part5_ops, k0_part6_ops, k0_part7_ops, k0_part8_ops, k0_part9_ops, k0_part10_ops, k0_part11_ops, k0_part12_ops, k0_part13_ops, k0_part14_ops, k0_part15_ops, k0_part16_ops, k0_part17_ops, k0_part18_ops, k0_part19_ops, k0_part20_ops, k0_part21_ops, k0_part22_ops, k0_part23_ops, k0_part24_ops, k0_part25_ops, k0_part26_ops, k0_part27_ops, k0_part28_ops, k0_part29_ops, k0_part30_ops, k0_part31_ops, k0_part32_ops, k0_part33_ops, k0_part34_ops, k0_part35_ops, k0_part36_ops, k0_part37_ops, k0_part38_ops, k0_part39_ops, k0_part40_ops, k0_part41_ops, k0_part42_ops, k0_part43_ops, k0_part44_ops, k0_part45_ops, k0_part46_ops, k0_part47_ops, k0_part48_ops, k0_part49_ops, k0_part50_ops, k0_part51_ops, k0_part52_ops, k0_part53_ops, k0_part54_ops, k0_part55_ops, k0_part56_ops, k0_part57_ops, k0_part58_ops, k0_part59_ops, k0_part60_ops, k0_part61_ops, k0_part62_ops, k0_part63_ops, k0_part64_ops, k0_part65_ops, k0_part66_ops, k0_part67_ops, k0_part68_ops, k0_part69_ops, k0_part70_ops, k0_part71_ops, k0_part72_ops, k0_part73_ops, k0_part74_ops, k0_part75_ops, k0_part76_ops, k0_part77_ops, k0_part78_ops, k0_part79_ops, k0_part80_ops, k0_part81_ops, k0_part82_ops]
  simp only [bind_assoc, pure_bind]
  simp only [cleanP, headP, step1, step2, step3, step4, addP, putP, bind_assoc]
  rfl

end Cert.KernelIdeal.Pf

end
-- ==== Proof.Step1.lean ====
/-
# 01_k — the second call: one exchange step

From the result at `st (ix s)` on this device, the neighbours' landing slots and the signals' tokens, a step leaves the result at
`st (ix s + 1)`, its own landing slots and its four cells closed.
-/
module

public import proofs.«01_k».proof.Proof.Sched1

@[expose] public section

noncomputable section

namespace Cert.KernelIdeal.Pf1

open Cert.KernelIdeal Cert.KernelIdeal.Gen Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (main_v88 : Ref sig .tc).ty.Contents (Elt F))

abbrev 𝒱₀ : Variants := Variants.none

/-! ## Row sets -/

/-- A block of rows of the result is the indices with row in it. -/
theorem mem_rows {n : Nat} {o : Fin 2 → Nat} {h : ∀ a, o a + (Sh2 n).size a ≤ S2048x1024.size a} (i : S2048x1024.Idx)
    (hi : i ∈ ((rowM oM n o h).view.set : Finset S2048x1024.Idx)) : o 0 ≤ (i 0).val ∧ (i 0).val < o 0 + n := by
  rw [show (rowM oM n o h).view.set = (rowR n o h).set from View.set_slice_whole _ _] at hi
  have := Rect.mem_set_unit.mp hi 0
  exact this

theorem rows_disjoint {n n' : Nat} {o o' : Fin 2 → Nat} {h : ∀ a, o a + (Sh2 n).size a ≤ S2048x1024.size a} {h' : ∀ a, o' a + (Sh2 n').size a ≤ S2048x1024.size a}
    (hd : o 0 + n ≤ o' 0 ∨ o' 0 + n' ≤ o 0) :
    Disjoint ((rowM oM n o h).view.set : Finset S2048x1024.Idx) ((rowM oM n' o' h').view.set : Finset S2048x1024.Idx) := by
  rw [Finset.disjoint_left]
  intro i h1 h2
  have := mem_rows i h1; have := mem_rows i h2
  omega

/-! ## The received block -/

section Generic

variable {k n : Nat} (hp : 0 < (Sh2 n).numel) (hp4 : 0 < (Sh4 n).numel) (h2 : (Sh2 n).ShapeCasts (Sh2 n)) (h4 : (Sh4 n).ShapeCasts (Sh2 n))
  (hq : (Sh4 n).Squeezes (Sh2 n)) (out : Memref sig .tc .vmem S2048x1024 .f32) (cm : Memref sig .tc .vmem (ShC k n) .f32) (i : Fin k) (d : Fin 2)
  (o : Fin 2 → Nat) (h : ∀ a, o a + (Sh2 n).size a ≤ S2048x1024.size a) (c : Dev nD)

omit [FloatOps F] in
theorem slot_set : cm.view.setOn (slotR n d i).toLoadRect.set ⊆ ((slotM cm hq d i).view.set : Finset cm.view.ty.Idx) := by
  have e : ((slotM cm hq d i).view.set : Finset cm.view.ty.Idx) = (cm.view.slice (slotR n d i)).set := View.set_reshape _ _
  rw [e, View.set_slice]
  exact subset_of_eq rfl

omit [FloatOps F] in
theorem slot_read (X : Buf (Elt F) (cm.view.loc (c : Thread nD τ))) :
    shapeCast (Sh2 n) (cm.view.readAt (Elt F) (slotR n d i).toLoadRect X : Vec F (Sh4 n) .f32) h4 = ((slotM cm hq d i).view.read (Elt F) X : Vec F (Sh2 n) .f32) := by
  rfl

theorem wp_addP {α : Type} {Q : α → sProp 𝕄} {K : PUnit → Prog (TpuEff nD τ sig (Elt F) Λ₀ .tc) α} {S : Finset (Idx (out.view.loc (c : Thread nD τ)))}
    (f : Buf (Elt F) (out.view.loc (c : Thread nD τ))) (X : Buf (Elt F) (cm.view.loc (c : Thread nD τ)))
    (hS : (out.access (rowR n o h)).setOn Finset.univ ⊆ S) :
    iprop((out.view.loc (c : Thread nD τ) ↦[S]{fullShare} f) ∗ (cm.view.loc (c : Thread nD τ) ↦[(slotM cm hq d i).view.set]{fullShare} X))
      ⊢ iprop(((out.view.loc (c : Thread nD τ) ↦[S]{fullShare} ((out.access (rowR n o h)).write (Elt F) f
              (addf (shapeCast (Sh2 n) (out.view.readAt (Elt F) (rowR n o h).toLoadRect f : Vec F (Sh2 n) .f32) h2 : FVec F (Sh2 n) .f32)
                ((slotM cm hq d i).view.read (Elt F) X) : FVec F (Sh2 n) .f32) Finset.univ))
            -∗ (cm.view.loc (c : Thread nD τ) ↦[(slotM cm hq d i).view.set]{fullShare} X)
            -∗ wp frame (wpE (defs₀ (F := F)) 𝒱₀ (c : Thread nD τ) none) Set.univ (K ⟨⟩) Q)
          -∗ wp frame (wpE (defs₀ (F := F)) 𝒱₀ (c : Thread nD τ) none) Set.univ (addP hp hp4 h2 h4 out cm i d o h >>= K) Q) := by
  have hL : out.view.setOn (rowR n o h).toLoadRect.set ⊆ S := by
    refine (subset_of_eq ?_).trans hS
    rw [View.setOn_univ]; exact (View.set_slice _ _).symm
  simp only [addP, ldO, ldC, stO, Prog.lift, bind_assoc, Prog.bind_op, Prog.bind_ret]
  iintro ⟨Ho, Hs⟩ Hk
  iapply (wp_load 𝒱₀ (c : Thread nD τ) none Set.univ (m := out) hL) $$ Ho; iintro Ho
  iapply (wp_load 𝒱₀ (c : Thread nD τ) none Set.univ (m := cm) (slot_set hq cm i d)) $$ Hs; iintro Hs
  iapply (wp_load 𝒱₀ (c : Thread nD τ) none Set.univ (m := out) hL) $$ Ho; iintro Ho
  iapply (wp_store 𝒱₀ (c : Thread nD τ) none Set.univ (m := out) (r := rowR n o h) (Mk := Finset.univ) hS) $$ Ho; iintro Ho
  iapply Hk $$ [Ho]
  · iexact Ho
  · iexact Hs

theorem wp_putP {α : Type} {Q : α → sProp 𝕄} {K : PUnit → Prog (TpuEff nD τ sig (Elt F) Λ₀ .tc) α} {S : Finset (Idx (out.view.loc (c : Thread nD τ)))}
    (f : Buf (Elt F) (out.view.loc (c : Thread nD τ))) (X : Buf (Elt F) (cm.view.loc (c : Thread nD τ)))
    (hS : (out.access (rowR n o h)).setOn Finset.univ ⊆ S) :
    iprop((out.view.loc (c : Thread nD τ) ↦[S]{fullShare} f) ∗ (cm.view.loc (c : Thread nD τ) ↦[(slotM cm hq d i).view.set]{fullShare} X))
      ⊢ iprop(((out.view.loc (c : Thread nD τ) ↦[S]{fullShare} ((out.access (rowR n o h)).write (Elt F) f
              ((slotM cm hq d i).view.read (Elt F) X : FVec F (Sh2 n) .f32) Finset.univ))
            -∗ (cm.view.loc (c : Thread nD τ) ↦[(slotM cm hq d i).view.set]{fullShare} X)
            -∗ wp frame (wpE (defs₀ (F := F)) 𝒱₀ (c : Thread nD τ) none) Set.univ (K ⟨⟩) Q)
          -∗ wp frame (wpE (defs₀ (F := F)) 𝒱₀ (c : Thread nD τ) none) Set.univ (putP hp hp4 h4 out cm i d o h >>= K) Q) := by
  have hL : out.view.setOn (rowR n o h).toLoadRect.set ⊆ S := by
    refine (subset_of_eq ?_).trans hS
    rw [View.setOn_univ]; exact (View.set_slice _ _).symm
  simp only [putP, ldO, ldC, stO, Prog.lift, bind_assoc, Prog.bind_op, Prog.bind_ret]
  iintro ⟨Ho, Hs⟩ Hk
  iapply (wp_load 𝒱₀ (c : Thread nD τ) none Set.univ (m := cm) (slot_set hq cm i d)) $$ Hs; iintro Hs
  iapply (wp_load 𝒱₀ (c : Thread nD τ) none Set.univ (m := out) hL) $$ Ho; iintro Ho
  iapply (wp_store 𝒱₀ (c : Thread nD τ) none Set.univ (m := out) (r := rowR n o h) (Mk := Finset.univ) hS) $$ Ho; iintro Ho
  iapply Hk $$ [Ho]
  · iexact Ho
  · iexact Hs

end Generic

/-- The addition or the overwriting, with what happens after it. -/
theorem wp_recv (j : J) (c : Dev nD) {α : Type} {Q : α → sProp 𝕄} {k : PUnit → Prog (TpuEff nD τ sig (Elt F) Λ₀ .tc) α} {S : Finset S2048x1024.Idx} (f : OB F)
    (X : Buf (Elt F) ((slM j).view.loc (c : Thread nD τ)))
    (hS : ((oM.access (rR j c)).setOn Finset.univ : Finset S2048x1024.Idx) ⊆ S) :
    iprop(((oM : Memref sig .tc .vmem S2048x1024 .f32).view.loc (c : Thread nD τ) ↦[S]{fullShare} f)
        ∗ ((slM j).view.loc (c : Thread nD τ) ↦[(slM j).view.set]{fullShare} X))
      ⊢ iprop((((oM : Memref sig .tc .vmem S2048x1024 .f32).view.loc (c : Thread nD τ) ↦[S]{fullShare} updD j c f ((slM j).view.read (Elt F) X))
            -∗ ((slM j).view.loc (c : Thread nD τ) ↦[(slM j).view.set]{fullShare} X)
            -∗ wp frame (wpE (defs₀ (F := F)) 𝒱₀ (c : Thread nD τ) none) Set.univ (k ⟨⟩) Q)
          -∗ wp frame (wpE (defs₀ (F := F)) 𝒱₀ (c : Thread nD τ) none) Set.univ (recvP j c >>= k) Q) := by
  obtain ⟨s, d⟩ := j
  rcases s with i | i | i | i
  · exact wp_addP (hp2 (sA i)) (hp4 (sA i)) (hc2 (sA i)) (hc4 (sA i)) (hq (sA i)) oM (cm (sA i)) (ii (sA i)) d (rOff (sA i, d) c) (rInb (sA i, d) c) c f X hS
  · exact wp_addP (hp2 (sB i)) (hp4 (sB i)) (hc2 (sB i)) (hc4 (sB i)) (hq (sB i)) oM (cm (sB i)) (ii (sB i)) d (rOff (sB i, d) c) (rInb (sB i, d) c) c f X hS
  · exact wp_putP (hp2 (sC i)) (hp4 (sC i)) (hc4 (sC i)) (hq (sC i)) oM (cm (sC i)) (ii (sC i)) d (rOff (sC i, d) c) (rInb (sC i, d) c) c f X hS
  · exact wp_putP (hp2 (sD i)) (hp4 (sD i)) (hc4 (sD i)) (hq (sD i)) oM (cm (sD i)) (ii (sD i)) d (rOff (sD i, d) c) (rInb (sD i, d) c) c f X hS

/-! ## The records -/

/-- A device's cells: the barrier's, and the two of every copy. -/
abbrev CK : Type := Option XK
set_option synthInstance.maxSize 100000 in
instance : DecidableEq CK := inferInstance
set_option synthInstance.maxSize 100000 in
instance : DecidableEq (Dev nD × CK) := inferInstance
def csem : CK → SemLoc sig | none => .reg barS | some x => osem x
abbrev kcell (ck : Dev nD × CK) : GSem nD τ sig := ((ck.1 : Thread nD τ), csem ck.2)

def records (K : Dev nD × CK → ℕ) : sProp 𝕄 :=
  iprop((bigSep Finset.univ fun ck : Dev nD × CK => cellInv ER (Rd A) (K ck) (kcell ck))
    ∗ bigSep Finset.univ fun c : Dev nD => reached ER (barCell c) 0)
instance records_persistent (K : Dev nD × CK → ℕ) : BI.Persistent (records A K) := by unfold records; infer_instance

variable (K : Dev nD × CK → ℕ)

theorem inv_at (ck : Dev nD × CK) : records A K ⊢ cellInv ER (Rd A) (K ck) (kcell ck) := by
  unfold records
  iintro ⟨HI, -⟩
  iapply (show (bigSep Finset.univ fun ck : Dev nD × CK => (cellInv ER (Rd A) (K ck) (kcell ck) : sProp 𝕄)) ⊢ cellInv ER (Rd A) (K ck) (kcell ck) from bigSep_elim (Finset.mem_univ ck)); iexact HI
theorem reached_b (c : Dev nD) : records A K ⊢ reached ER (barCell c) 0 := by
  unfold records
  iintro ⟨-, HR⟩
  iapply (show (bigSep Finset.univ fun c : Dev nD => (reached ER (barCell c) 0 : sProp 𝕄)) ⊢ reached ER (barCell c) 0 from bigSep_elim (Finset.mem_univ c)); iexact HR

theorem inv_s (j : J) (c : Dev nD) : records A K ⊢ cellInv ER (Rd A) (K (c, some (j, false))) (sCell j c) := inv_at A K (c, some (j, false))
theorem inv_r (j : J) (c : Dev nD) : records A K ⊢ cellInv ER (Rd A) (K (c, some (j, true))) (rCell j c) := inv_at A K (c, some (j, true))
theorem inv_b (c : Dev nD) : records A K ⊢ cellInv ER (Rd A) (K (c, none)) (barCell c) := inv_at A K (c, none)

/-! ## The effects of a step -/

section Effects

variable (j : J) (c : Dev nD) {α : Type} {k : PUnit → Prog (TpuEff nD τ sig (Elt F) Λ₀ .tc) α}

theorem land (X : Buf (Elt F) ((slM j).view.loc (dst j c : Thread nD τ))) :
    ((slM j).view.loc (dst j c : Thread nD τ) ↦[(slM j).view.set]{fullShare}
        ((slM j).view.write (Elt F) X ((sM j c).view.read (Elt F) (st A (ix j.1) c)) Finset.univ) : sProp 𝕄)
      ⊢ recvPay A j (dst j c) := by
  unfold recvPay
  rw [src_dst]
  iintro H
  iexists ((slM j).view.write (Elt F) X ((sM j c).view.read (Elt F) (st A (ix j.1) c)) Finset.univ)
  isplitr
  · ipureintro; exact View.read_write_univ _ _
  · iexact H

theorem wp_sendJ {Q : α → sProp 𝕄} (O : CellTallies nD τ sig Unit) (W : Waits sig Unit) :
    iprop(records A K
        ∗ ((oM : Memref sig .tc .vmem S2048x1024 .f32).view.loc (c : Thread nD τ) ↦[(sM j c).view.set]{fullShare} st A (ix j.1) c)
        ∗ reached ER (sCell j c) 0 ∗ slotD (F := F) j (dst j c)
        ∗ owes (c : Thread nD τ) (O + tallyAt (rCell j (dst j c)) () (N j)) W
        ∗ dutyTok ER (sCell j c) 0 0 ∗ dutyTok ER (rCell j (dst j c)) 0 0)
      ⊢ iprop(((cred (tallyAt (sCell j c) () (N j)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ (sendJ j c >>= k) Q) := by
  unfold slotD slotAny
  iintro ⟨#HR, Hs, #Hrs, ⟨⟨%X, Hd⟩, #Hrd⟩, Ho, Ht, Htd⟩
  simp only [sendJ, sendP, Prog.lift, Prog.bind_op, Prog.bind_ret]
  iapply (Rounds.wp_send_pointsTo 𝒱₀ ER (Rd A) (c : Thread nD τ) none (c' := (dst j c : Thread nD τ)) (src := sM j c) (dst := slM j)
    (κ₁ := K (c, some (j, false))) (κ₂ := K (dst j c, some (j, true)))
    (r₁ := 0) (r₂ := 0) (d₁ := 0) (d₂ := 0) (fs := st A (ix j.1) c) (fd := X)
    (by rw [duties_s]; exact Finset.mem_singleton_self _) (by rw [duties_r]; exact Finset.mem_singleton_self _)
    () () (N j) rfl (amount_s A j c 0) (amount_r A j (dst j c) 0) O rfl (W := W)
    (by rw [payload_s]; exact BI.Entails.refl _)
    (by rw [payload_r]; exact land A j c X))
  isplitr; · iapply (inv_s A K j c); iexact HR
  isplitr; · iapply (inv_r A K j (dst j c)); iexact HR
  isplitl [Hs]; · iexact Hs
  isplitl [Hd]; · iexact Hd
  isplitl [Ho]; · iexact Ho
  isplitl [Ht]; · iexact Ht
  isplitr; · iexact Hrs
  isplitl [Htd]; · iexact Htd
  iexact Hrd

theorem wp_waitSJ {Q : α → sProp 𝕄} (l : List J) (W : Waits sig Unit) :
    iprop(records A K ∗ levAts L lv ∗ cred (tallyAt (sCell j c) () (N j)) ∗ owes (c : Thread nD τ) (Orem c l) W ∗ atPos ER (sCell j c) 0 ∅ 0)
      ⊢ iprop(((∃ W', owes (c : Thread nD τ) (Orem c l) W') -∗ sendPay A j c -∗ semVal (sCell j c) 0
            -∗ wp frame (wpE (defs₀ (F := F)) 𝒱₀ (c : Thread nD τ) none) Set.univ (k ⟨⟩) Q)
          -∗ wp frame (wpE (defs₀ (F := F)) 𝒱₀ (c : Thread nD τ) none) Set.univ (waitSJ j c >>= k) Q) := by
  iintro ⟨#HR, #Hlev, Hc, Ho, Hat⟩ Hk
  have hk : 0 + (sM j c).view.dmaCredit = (Rd A).expect (sCell j c) 0 := by rw [Nat.zero_add, expect_s]; exact N_send j c
  simp only [waitSJ, waitSP, Prog.lift, Prog.bind_op, Prog.bind_ret]
  iapply (Rounds.wp_wait_rest_token 𝒱₀ ER (Rd A) (c : Thread nD τ) none (κ := K (c, some (j, false))) (sm := .dma (sSem j))
      (wpE_waitDma2_eq 𝒱₀ (c : Thread nD τ) none Set.univ) (Set.mem_univ _) () (O := Orem c l) (W := W) (R := 0) (m := 0) (T := ∅)
      hk) $$ [Hc Ho Hat]
  · isplitr; · iapply (inv_s A K j c); iexact HR
    isplitl [Hc]; · rw [N_send j c]; iexact Hc
    isplitl [Ho]; · iexact Ho
    isplitr; · iapply (mayWait_rem (F := F) c (.dma (sSem j)) l 0 (le_of_eq (lv_s j c ())) (by omega) (fun j' _ => by omega)); iexact Hlev
    iexact Hat
  iintro ⟨Ho, Hat, -, Hpay⟩
  imod (Rounds.cell_close ER (Rd A) (Set.mem_univ (K (c, some (j, false)))) (fun h => h) (R := 0 + 1) (duties_later A (sCell j c))) $$ [Hat] with Hz
  · isplitr; · iapply (inv_s A K j c); iexact HR
    iexact Hat
  ihave Hp := (Entails.of_eq (rest_s A j c)) $$ Hpay
  iapply Hk $$ [Ho] [Hp] [Hz]
  · iexists _; iexact Ho
  · iexact Hp
  · iexact Hz

theorem wp_waitRJ {Q : α → sProp 𝕄} (l : List J) (hl : ∀ j' ∈ l, ix j.1 < ix j'.1) (W : Waits sig Unit) :
    iprop(records A K ∗ levAts L lv ∗ cred (tallyAt (rCell j c) () (N j)) ∗ owes (c : Thread nD τ) (Orem c l) W ∗ atPos ER (rCell j c) 0 ∅ 0)
      ⊢ iprop(((∃ W', owes (c : Thread nD τ) (Orem c l) W') -∗ recvPay A j c -∗ semVal (rCell j c) 0
            -∗ wp frame (wpE (defs₀ (F := F)) 𝒱₀ (c : Thread nD τ) none) Set.univ (k ⟨⟩) Q)
          -∗ wp frame (wpE (defs₀ (F := F)) 𝒱₀ (c : Thread nD τ) none) Set.univ (waitRJ j c >>= k) Q) := by
  iintro ⟨#HR, #Hlev, Hc, Ho, Hat⟩ Hk
  simp only [waitRJ, waitRP, Prog.lift, Prog.bind_op, Prog.bind_ret]
  iapply (Rounds.wp_wait_rest_token 𝒱₀ ER (Rd A) (c : Thread nD τ) none (κ := K (c, some (j, true))) (sm := .dma (rSem j))
      (wpE_waitDma2_eq 𝒱₀ (c : Thread nD τ) none Set.univ) (Set.mem_univ _) () (O := Orem c l) (W := W) (R := 0) (m := 0) (T := ∅)
      (by rw [Nat.zero_add, expect_r]; rfl)) $$ [Hc Ho Hat]
  · isplitr; · iapply (inv_r A K j c); iexact HR
    isplitl [Hc]; · iexact Hc
    isplitl [Ho]; · iexact Ho
    isplitr; · iapply (mayWait_rem (F := F) c (.dma (rSem j)) l (ix j.1 + 2 + base) (le_of_eq (lv_r j c ())) (by have := ix_lt j.1; omega) (fun j' hj' => by have := hl j' hj'; omega)); iexact Hlev
    iexact Hat
  iintro ⟨Ho, Hat, -, Hpay⟩
  imod (Rounds.cell_close ER (Rd A) (Set.mem_univ (K (c, some (j, true)))) (fun h => h) (R := 0 + 1) (duties_later A (rCell j c))) $$ [Hat] with Hz
  · isplitr; · iapply (inv_r A K j c); iexact HR
    iexact Hat
  ihave Hp := (Entails.of_eq (rest_r A j c)) $$ Hpay
  iapply Hk $$ [Ho] [Hp] [Hz]
  · iexists _; iexact Ho
  · iexact Hp
  · iexact Hz

end Effects

/-! ## The step -/

/-- What a device holds for one copy before its step, and after. -/
def tok (c : Dev nD) (j : J) : sProp 𝕄 :=
  iprop(atPos ER (sCell j c) 0 ∅ 0 ∗ atPos ER (rCell j c) 0 ∅ 0 ∗ dutyTok ER (sCell j c) 0 0 ∗ dutyTok ER (rCell j (dst j c)) 0 0
    ∗ cred (tallyAt (rCell j c) () (N j)) ∗ reached ER (sCell j c) 0 ∗ slotD j (dst j c))
def done (c : Dev nD) (j : J) : sProp 𝕄 := iprop(slotAny j c ∗ semVal (sCell j c) 0 ∗ semVal (rCell j c) 0)

/-- A copy's landing rows. -/
abbrev rM (j : J) (c : Dev nD) : Memref sig .tc .vmem (Sh2 (nn j.1)) .f32 := rowM oM (nn j.1) (rOff j c) (rInb j c)
abbrev rSet (j : J) (c : Dev nD) : Finset S2048x1024.Idx := (oM.access (rR j c)).setOn Finset.univ

theorem disj_ss (s : Step) (c : Dev nD) : Disjoint ((sM (s, 0) c).view.set : Finset S2048x1024.Idx) (sM (s, 1) c).view.set :=
  rows_disjoint (n := nn s) (n' := nn s) (o := sOff (s, 0) c) (o' := sOff (s, 1) c) (h := sInb (s, 0) c) (h' := sInb (s, 1) c) (Or.inl (by
    have a := (half_s (s, 0) c).2; have b := (half_s (s, 1) c).1; exact a.trans b))
theorem disj_rs (s : Step) (c : Dev nD) : Disjoint (rSet (s, 0) c) ((sM (s, 1) c).view.set : Finset S2048x1024.Idx) :=
  rows_disjoint (n := nn s) (n' := nn s) (o := rOff (s, 0) c) (o' := sOff (s, 1) c) (h := rInb (s, 0) c) (h' := sInb (s, 1) c) (Or.inl (by
    have a := (half_r (s, 0) c).2; have b := (half_s (s, 1) c).1; exact a.trans b))
theorem sub_ss (s : Step) (c : Dev nD) : ((sM (s, 1) c).view.set : Finset S2048x1024.Idx) ⊆ Finset.univ \ ((sM (s, 0) c).view.set : Finset S2048x1024.Idx) :=
  fun i hi => Finset.mem_sdiff.mpr ⟨Finset.mem_univ _, fun h => Finset.disjoint_left.mp (disj_ss s c) h hi⟩
theorem sub_rs (s : Step) (c : Dev nD) : rSet (s, 0) c ⊆ Finset.univ \ ((sM (s, 1) c).view.set : Finset S2048x1024.Idx) :=
  fun i hi => Finset.mem_sdiff.mpr ⟨Finset.mem_univ _, fun h => Finset.disjoint_left.mp (disj_rs s c) hi h⟩

theorem write_join (j : J) (c : Dev nD) {I S : Finset S2048x1024.Idx} (f : OB F) (w : FVec F (Sh2 (nn j.1)) .f32) (hI : I ⊆ S)
    (hd : Disjoint I ((oM.access (rR j c)).setOn Finset.univ : Finset S2048x1024.Idx)) :
    iprop(((oM : Memref sig .tc .vmem S2048x1024 .f32).view.loc (c : Thread nD τ) ↦[I]{fullShare} f)
        ∗ ((oM : Memref sig .tc .vmem S2048x1024 .f32).view.loc (c : Thread nD τ) ↦[S \ I]{fullShare} updD j c f w))
      ⊢ ((oM : Memref sig .tc .vmem S2048x1024 .f32).view.loc (c : Thread nD τ) ↦[S]{fullShare} updD j c f w : sProp 𝕄) := by
  have e : ((oM : Memref sig .tc .vmem S2048x1024 .f32).view.loc (c : Thread nD τ) ↦[I]{fullShare} f : sProp 𝕄)
      = ((oM : Memref sig .tc .vmem S2048x1024 .f32).view.loc (c : Thread nD τ) ↦[I]{fullShare} updD j c f w) := by
    refine pointsTo_congr fun i hi => ?_
    exact (View.write_of_not_mem _ _ _ fun h => Finset.disjoint_left.mp hd hi h).symm
  rw [e]
  exact (pointsTo_split_subset hI).2

theorem rejoin (c : Dev nD) {I I' : Finset S2048x1024.Idx} (hd : Disjoint I I') (f : OB F) :
    iprop(((oM : Memref sig .tc .vmem S2048x1024 .f32).view.loc (c : Thread nD τ) ↦[I]{fullShare} f)
        ∗ ((oM : Memref sig .tc .vmem S2048x1024 .f32).view.loc (c : Thread nD τ) ↦[(Finset.univ \ I) \ I']{fullShare} f))
      ⊢ ((oM : Memref sig .tc .vmem S2048x1024 .f32).view.loc (c : Thread nD τ) ↦[Finset.univ \ I']{fullShare} f : sProp 𝕄) := by
  rw [sdiff_right_comm]
  exact (pointsTo_split_subset fun i hi => Finset.mem_sdiff.mpr ⟨Finset.mem_univ _, Finset.disjoint_left.mp hd hi⟩).2

variable {α : Type} {k : PUnit → Prog (TpuEff nD τ sig (Elt F) Λ₀ .tc) α}

theorem wp_step {Q : α → sProp 𝕄} (s : Step) (c : Dev nD) (l : List Step) (hl : ∀ s' ∈ l, ix s < ix s') (W : Waits sig Unit) :
    iprop(records A K ∗ levAts L lv ∗ outPts c (st A (ix s) c) ∗ tok c (s, 0) ∗ tok c (s, 1) ∗ owes (c : Thread nD τ) (Orem c (copies (s :: l))) W)
      ⊢ iprop((outPts c (st A (ix s + 1) c) -∗ done (F := F) c (s, 0) -∗ done (F := F) c (s, 1) -∗ (∃ W', owes (c : Thread nD τ) (Orem c (copies l)) W')
            -∗ wp frame (wpE (defs₀ (F := F)) 𝒱₀ (c : Thread nD τ) none) Set.univ (k ⟨⟩) Q)
          -∗ wp frame (wpE (defs₀ (F := F)) 𝒱₀ (c : Thread nD τ) none) Set.univ (stepP s c >>= k) Q) := by
  have hl' : ∀ j' ∈ copies l, ix s < ix j'.1 := fun j' hj' => hl _ (mem_copies hj')
  have hs01 := sub_ss s c
  have hr0 := sub_rs s c
  simp only [stepP, bind_assoc]
  unfold outPts tok done
  iintro ⟨#HR, #Hlev, Ho, ⟨HaS0, HaR0, HtS0, HtR0, HcR0, Hrs0, Hsl0⟩, ⟨HaS1, HaR1, HtS1, HtR1, HcR1, Hrs1, Hsl1⟩, HO⟩ Hk
  -- the two blocks to be sent are taken out of the result
  ihave Hsp := (pointsTo_split_subset (Finset.subset_univ ((sM (s, 0) c).view.set : Finset S2048x1024.Idx))).1 $$ Ho
  icases Hsp with ⟨Hs0, Ho⟩
  ihave Hsp := (pointsTo_split_subset hs01).1 $$ Ho
  icases Hsp with ⟨Hs1, Ho⟩
  simp only [copies, Orem]
  iapply (wp_sendJ A K (s, 0) c (Orem c (copies l) + tallyAt (rCell (s, 1) (dst (s, 1) c)) () (N (s, 1))) W) $$ [Hs0 Hrs0 Hsl0 HO HtS0 HtR0]
  · isplitr; · iexact HR
    isplitl [Hs0]; · iexact Hs0
    isplitl [Hrs0]; · iexact Hrs0
    isplitl [Hsl0]; · iexact Hsl0
    isplitl [HO]; · iexact HO
    isplitl [HtS0]; · iexact HtS0
    iexact HtR0
  iintro ⟨HcS0, HO⟩
  iapply (wp_sendJ A K (s, 1) c (Orem c (copies l)) W) $$ [Hs1 Hrs1 Hsl1 HO HtS1 HtR1]
  · isplitr; · iexact HR
    isplitl [Hs1]; · iexact Hs1
    isplitl [Hrs1]; · iexact Hrs1
    isplitl [Hsl1]; · iexact Hsl1
    isplitl [HO]; · iexact HO
    isplitl [HtS1]; · iexact HtS1
    iexact HtR1
  iintro ⟨HcS1, HO⟩
  -- direction 0
  iapply (wp_waitSJ A K (s, 0) c (copies l) W) $$ [HcS0 HO HaS0]
  · isplitr; · iexact HR
    isplitr; · iexact Hlev
    isplitl [HcS0]; · iexact HcS0
    isplitl [HO]; · iexact HO
    iexact HaS0
  iintro ⟨%W1, HO⟩ Hs0 HzS0
  iapply (wp_waitRJ A K (s, 0) c (copies l) hl' W1) $$ [HcR0 HO HaR0]
  · isplitr; · iexact HR
    isplitr; · iexact Hlev
    isplitl [HcR0]; · iexact HcR0
    isplitl [HO]; · iexact HO
    iexact HaR0
  iintro ⟨%W2, HO⟩ Hr0 HzR0
  unfold recvPay
  icases Hr0 with ⟨%X0, %hX0, Hr0⟩
  unfold sendPay
  ihave Ho := (rejoin c (disj_ss s c) (st A (ix s) c)) $$ [Hs0 Ho]
  · isplitl [Hs0]; · iexact Hs0
    iexact Ho
  iapply (wp_recv (s, 0) c (st A (ix s) c) X0 hr0) $$ [Ho Hr0]
  · isplitl [Ho]; · iexact Ho
    iexact Hr0
  rw [hX0]
  iintro Ho Hr0
  -- direction 1
  iapply (wp_waitSJ A K (s, 1) c (copies l) W2) $$ [HcS1 HO HaS1]
  · isplitr; · iexact HR
    isplitr; · iexact Hlev
    isplitl [HcS1]; · iexact HcS1
    isplitl [HO]; · iexact HO
    iexact HaS1
  iintro ⟨%W3, HO⟩ Hs1 HzS1
  iapply (wp_waitRJ A K (s, 1) c (copies l) hl' W3) $$ [HcR1 HO HaR1]
  · isplitr; · iexact HR
    isplitr; · iexact Hlev
    isplitl [HcR1]; · iexact HcR1
    isplitl [HO]; · iexact HO
    iexact HaR1
  iintro ⟨%W4, HO⟩ Hr1 HzR1
  unfold recvPay
  icases Hr1 with ⟨%X1, %hX1, Hr1⟩
  unfold sendPay
  ihave Ho := (write_join (s, 0) c (st A (ix s) c) (inc (s, 0) (src (s, 0) c) (st A (ix s) (src (s, 0) c)))
    (Finset.subset_univ ((sM (s, 1) c).view.set : Finset S2048x1024.Idx)) (disj_rs s c).symm) $$ [Hs1 Ho]
  · isplitl [Hs1]; · iexact Hs1
    iexact Ho
  iapply (wp_recv (s, 1) c (stM A s c) X1 (Finset.subset_univ _)) $$ [Ho Hr1]
  · isplitl [Ho]; · iexact Ho
    iexact Hr1
  rw [hX1, st_succ]
  iintro Ho Hr1
  iapply Hk $$ [Ho] [Hr0 HzS0 HzR0] [Hr1 HzS1 HzR1] [HO]
  · iexact Ho
  · isplitl [Hr0]
    · unfold slotAny; iexists X0; iexact Hr0
    isplitl [HzS0]; · iexact HzS0
    iexact HzR0
  · isplitl [Hr1]
    · unfold slotAny; iexists X1; iexact Hr1
    isplitl [HzS1]; · iexact HzS1
    iexact HzR1
  · iexists _; iexact HO

end Cert.KernelIdeal.Pf1

end
-- ==== Proof.Body1.lean ====
module

public import proofs.«01_k».proof.Proof.Parts
public import proofs.«01_k».proof.Proof.Step1
public import Idealize.ShloMosaic.Lib.Pipeline.BigSepL

@[expose] public section

noncomputable section

namespace Cert.KernelIdeal.Pf1

open Cert.KernelIdeal Cert.KernelIdeal.Gen Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (main_v88 : Ref sig .tc).ty.Contents (Elt F))

/-! ## The steps in a row -/

/-- The steps `l` one after another. -/
def stepsP (c : Dev nD) : List Step → Prog (TpuEff nD τ sig (Elt F) Λ₀ .tc) PUnit
  | [] => pure ⟨⟩
  | s :: l => stepP s c >>= fun _ => stepsP c l

theorem cleanP_eq (c : Dev nD) :
    cleanP (F := F) oM c1M c2M c3M cc1_scratch3 cc1_scratch4 cc1_scratch5 cc1_scratch6 cc1_scratch7 cc1_scratch8 c barS xM
      = headP oM c barS xM >>= fun _ => stepsP c allS := by
  obtain ⟨e5, e6, e7, e8, e9, e10, e11, e12, e13, e14, e15, e16, e17, e18, e19, e20, e21, e22, e23, e24, e25, e26, e27, e28, e29, e30,
    e31, e32, e33, e34, e35, e36, e37, e38, e39, e40, e41, e42, e43, e44⟩ := devs1 c
  unfold cleanP
  rw [step1_eq c _ _ 0 e5 e6, step1_eq c _ _ 1 e7 e8, step1_eq c _ _ 2 e9 e10, step1_eq c _ _ 3 e11 e12, step1_eq c _ _ 4 e13 e14,
    step1_eq c _ _ 5 e15 e16, step1_eq c _ _ 6 e17 e18, step2_eq c _ _ 0 e19 e20, step2_eq c _ _ 1 e21 e22, step2_eq c _ _ 2 e23 e24,
    step3_eq c _ _ 0 e25 e26, step3_eq c _ _ 1 e27 e28, step3_eq c _ _ 2 e29 e30, step4_eq c _ _ 0 e31 e32, step4_eq c _ _ 1 e33 e34,
    step4_eq c _ _ 2 e35 e36, step4_eq c _ _ 3 e37 e38, step4_eq c _ _ 4 e39 e40, step4_eq c _ _ 5 e41 e42, step4_eq c _ _ 6 e43 e44]
  simp only [allS, stepsP]
  rw [bind_pure_unit]

/-- `l` are the steps from number `t` on. -/
def Path : Nat → List Step → Prop
  | t, [] => t = 20
  | t, s :: l => ix s = t ∧ Path (t + 1) l
theorem Path.lt : ∀ {l : List Step} {t : Nat}, Path t l → ∀ s ∈ l, t ≤ ix s
  | [], _, _, s, hs => absurd hs (List.not_mem_nil)
  | a :: l, t, h, s, hs => by
    rcases List.mem_cons.mp hs with rfl | hs
    · exact h.1.ge
    · exact (Nat.le_succ t).trans (h.2.lt s hs)
theorem path_all : Path 0 allS := by simp only [allS, Path]; decide

variable (K : Dev nD × CK → ℕ)

theorem wp_steps (c : Dev nD) {Q : PUnit → sProp 𝕄} : ∀ (l : List Step) (t : Nat) (_ : Path t l) (W : Waits sig Unit),
    iprop(records A K ∗ levAts L lv ∗ outPts c (st A t c) ∗ bigSepL (copies l) (tok c) ∗ owes (c : Thread nD τ) (Orem c (copies l)) W)
      ⊢ iprop((outPts c (st A 20 c) -∗ bigSepL (copies l) (done (F := F) c) -∗ (∃ W', owes (c : Thread nD τ) (debt c) W') -∗ Q ⟨⟩)
          -∗ wp frame (wpE (defs₀ (F := F)) 𝒱₀ (c : Thread nD τ) none) Set.univ (stepsP c l) Q)
  | [], t, h, W => by
    rw [show t = 20 from h]
    simp only [stepsP, copies, Orem, Prog.pure_eq_ret, wp_ret]
    iintro ⟨#HR, #Hlev, Ho, Ht, HO⟩ Hk
    imodintro
    iapply Hk $$ [Ho] [Ht] [HO]
    · iexact Ho
    · iexact Ht
    · iexists _; iexact HO
  | s :: l, t, h, W => by
    obtain ⟨h1, h2⟩ := h
    subst h1
    have hl : ∀ s' ∈ l, ix s < ix s' := fun s' hs' => h2.lt s' hs'
    simp only [stepsP]
    rw [show copies (s :: l) = (s, 0) :: (s, 1) :: copies l from rfl, bigSepL_cons', bigSepL_cons', bigSepL_cons', bigSepL_cons']
    iintro ⟨#HR, #Hlev, Ho, ⟨Ht0, Ht1, Ht⟩, HO⟩ Hk
    iapply (wp_step A K s c l hl W) $$ [Ho Ht0 Ht1 HO]
    · isplitr; · iexact HR
      isplitr; · iexact Hlev
      isplitl [Ho]; · iexact Ho
      isplitl [Ht0]; · iexact Ht0
      isplitl [Ht1]; · iexact Ht1
      iexact HO
    iintro Ho Hd0 Hd1 ⟨%W', HO⟩
    iapply (wp_steps c l (ix s + 1) h2 W') $$ [Ho Ht HO]
    · isplitr; · iexact HR
      isplitr; · iexact Hlev
      isplitl [Ho]; · iexact Ho
      isplitl [Ht]; · iexact Ht
      iexact HO
    iintro Ho Hd HO
    iapply Hk $$ [Ho] [Hd0 Hd1 Hd] [HO]
    · iexact Ho
    · isplitl [Hd0]; · iexact Hd0
      isplitl [Hd1]; · iexact Hd1
      iexact Hd
    · iexact HO

/-! ## The handshake and the copy -/

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A device's slots, by the neighbour that writes them. -/
theorem slots_out (c : Dev nD) :
    bigSep Finset.univ (fun j : J => slotD (F := F) j c) = iprop(barPay 0 (nb 0 c) ∗ barPay 1 (nb 1 c) ∗ barPay 2 (nb 2 c) ∗ barPay 3 (nb 3 c)) := by
  have h : (Finset.univ : Finset J) = Finset.univ.biUnion fun k : Fin 4 => Finset.univ.filter fun j : J => dir j = opp k := by decide +kernel
  rw [h, BI.bigSep_biUnion_eq _ _ _ fun k _ k' _ hne => Finset.disjoint_filter.mpr fun j _ e e' => hne (by
    rw [← opp_opp k, ← opp_opp k', ← e, ← e']), bigSep_four]
  simp only [barPay, nb_opp]

/-- The tokens of the signals a device gives. -/
def barToks (c : Dev nD) : sProp 𝕄 :=
  iprop(dutyTok ER (barCell (nb 0 c)) 0 0 ∗ dutyTok ER (barCell (nb 1 c)) 0 1 ∗ dutyTok ER (barCell (nb 2 c)) 0 2 ∗ dutyTok ER (barCell (nb 3 c)) 0 3)

theorem hz2 : (![0, 0] : Fin 2 → Nat) = fun _ => 0 := funext fun a => by fin_cases a <;> rfl

abbrev r0 : Rect S2048x1024 := Rect.unit (s := S2048x1024) ![0, 0] S2048x1024.size inb_S2048x1024_S2048x1024_0_0
theorem read_x (f : (cc1_stg0_0 : Ref sig .tc).ty.Contents (Elt F)) : (xM : Memref sig .tc .vmem S2048x1024 .f32).view.readAt (Elt F) r0.toLoadRect f = f :=
  Memref.readAt_unit_zero (Elt F) cc1_stg0_0 hz2 _ f
theorem write_o (f w : OB F) : ((oM : Memref sig .tc .vmem S2048x1024 .f32).access r0 : View sig .tc _ _ _).write (Elt F) f w Finset.univ = w :=
  Memref.write_access_unit_zero_univ (Elt F) cc1_stg1_0 hz2 _ f w

theorem O₀_eq (c : Dev nD) : O₀ c = Orem c (copies allS) + tallyAt (barCell (nb 3 c)) () 1 + tallyAt (barCell (nb 2 c)) () 1 + tallyAt (barCell (nb 1 c)) () 1
    + tallyAt (barCell (nb 0 c)) () 1 := rfl

theorem wp_sig {Q : PUnit → sProp 𝕄} {k : PUnit → Prog (TpuEff nD τ sig (Elt F) Λ₀ .tc) PUnit} (i : Fin 4) (c p : Dev nD) (hp : p = nb i c)
    (O : CellTallies nD τ sig Unit) (W : Waits sig Unit) :
    iprop(records A K ∗ owes (c : Thread nD τ) (O + tallyAt (barCell (nb i c)) () 1) W ∗ dutyTok ER (barCell (nb i c)) 0 i ∗ barPay (F := F) i (nb i c))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (semSignalWord p barS 1#32 >>= k) Q) := by
  subst hp
  simp only [semSignalWord, Prog.lift, Prog.bind_op, Prog.bind_ret]
  iintro ⟨#HR, HO, Ht, Hp⟩
  iapply (Rounds.wp_signal 𝒱₀ ER (Rd A) (c : Thread nD τ) none (dst := (nb i c : Thread nD τ)) (κ := K (nb i c, none))
      (d := i) (by rw [duties_bar]; exact Finset.mem_univ _) ((amount_bar A (nb i c) i).trans (by decide)) () O rfl)
  isplitr; · iapply (inv_b A K (nb i c)); iexact HR
  isplitl [HO]; · iexact HO
  isplitl [Ht]; · iexact Ht
  isplitl [Hp]; · rw [payload_bar]; iexact Hp
  iapply (reached_b A K (nb i c)); iexact HR

theorem wp_bar {Q : PUnit → sProp 𝕄} {k : PUnit → Prog (TpuEff nD τ sig (Elt F) Λ₀ .tc) PUnit} (c : Dev nD) (W : Waits sig Unit) :
    iprop(records A K ∗ levAts L lv ∗ cred (tallyAt (barCell c) () 4) ∗ owes (c : Thread nD τ) (Orem c (copies allS)) W ∗ atPos ER (barCell c) 0 ∅ 0)
      ⊢ iprop(((∃ W', owes (c : Thread nD τ) (Orem c (copies allS)) W') -∗ (bigSep Finset.univ fun j : J => slotD (F := F) j (dst j c)) -∗ semVal (barCell c) 0
            -∗ wp frame (wpE (defs₀ (F := F)) 𝒱₀ (c : Thread nD τ) none) Set.univ (k ⟨⟩) Q)
          -∗ wp frame (wpE (defs₀ (F := F)) 𝒱₀ (c : Thread nD τ) none) Set.univ (semWaitWord barS 4#32 >>= k) Q) := by
  simp only [semWaitWord, Prog.lift, Prog.bind_op, Prog.bind_ret]
  iintro ⟨#HR, #Hlev, Hc, HO, Hat⟩ Hk
  iapply (Rounds.wp_wait_rest_token 𝒱₀ ER (Rd A) (c : Thread nD τ) none (κ := K (c, none))
      (wpE_semWait_eq 𝒱₀ (c : Thread nD τ) none Set.univ) (Set.mem_univ _) () (O := Orem c (copies allS)) (W := W) (R := 0) (m := 0) (T := ∅)
      (by rw [expect_bar]; decide)) $$ [Hc HO Hat]
  · isplitr; · iapply (inv_b A K c); iexact HR
    isplitl [Hc]; · iexact Hc
    isplitl [HO]; · iexact HO
    isplitr; · iapply (mayWait_rem (F := F) c (.reg barS) (copies allS) (1 + base) (le_of_eq (lv_bar c ())) (by omega) (fun j _ => by omega)); iexact Hlev
    iexact Hat
  iintro ⟨HO, Hat, -, Hpay⟩
  imod (Rounds.cell_close ER (Rd A) (Set.mem_univ (K (c, none))) (fun h => h) (R := 0 + 1) (duties_later A (barCell c))) $$ [Hat] with Hz
  · isplitr; · iapply (inv_b A K c); iexact HR
    iexact Hat
  ihave Hp := (rest_bar A c) $$ Hpay
  iapply Hk $$ [HO] [Hp] [Hz]
  · iexists _; iexact HO
  · iexact Hp
  · iexact Hz

theorem wp_head (c : Dev nD) {Q : PUnit → sProp 𝕄} {k : PUnit → Prog (TpuEff nD τ sig (Elt F) Λ₀ .tc) PUnit} (f : OB F) (W : Waits sig Unit) :
    iprop(records A K ∗ levAts L lv ∗ cred (tallyAt (barCell c) () 4) ∗ owes (c : Thread nD τ) (O₀ c) W ∗ atPos ER (barCell c) 0 ∅ 0 ∗ barToks (F := F) c
        ∗ (bigSep Finset.univ fun j : J => slotD (F := F) j c) ∗ (((c : Thread nD τ).loc cc1_stg0_0) ↦{fullShare} xstg A c) ∗ (((c : Thread nD τ).loc cc1_stg1_0) ↦{fullShare} f))
      ⊢ iprop(((∃ W', owes (c : Thread nD τ) (Orem c (copies allS)) W') -∗ (bigSep Finset.univ fun j : J => slotD (F := F) j (dst j c)) -∗ semVal (barCell c) 0
            -∗ (((c : Thread nD τ).loc cc1_stg0_0) ↦{fullShare} xstg A c) -∗ outPts c (st A 0 c)
            -∗ wp frame (wpE (defs₀ (F := F)) 𝒱₀ (c : Thread nD τ) none) Set.univ (k ⟨⟩) Q)
          -∗ wp frame (wpE (defs₀ (F := F)) 𝒱₀ (c : Thread nD τ) none) Set.univ (headP oM c barS xM >>= k) Q) := by
  obtain ⟨e1, e2, e3, e4⟩ := devs0 c
  simp only [headP, bind_assoc]
  unfold barToks
  rw [slots_out, O₀_eq]
  iintro ⟨#HR, #Hlev, Hc, HO, Hat, ⟨Ht0, Ht1, Ht2, Ht3⟩, ⟨Hp0, Hp1, Hp2, Hp3⟩, Hx, Hout⟩ Hk
  iapply (wp_sig A K 0 c _ e1 _ W) $$ [HO Ht0 Hp0]
  · isplitr; · iexact HR
    isplitl [HO]; · iexact HO
    isplitl [Ht0]; · iexact Ht0
    iexact Hp0
  iintro HO
  iapply (wp_sig A K 1 c _ e2 _ W) $$ [HO Ht1 Hp1]
  · isplitr; · iexact HR
    isplitl [HO]; · iexact HO
    isplitl [Ht1]; · iexact Ht1
    iexact Hp1
  iintro HO
  iapply (wp_sig A K 2 c _ e3 _ W) $$ [HO Ht2 Hp2]
  · isplitr; · iexact HR
    isplitl [HO]; · iexact HO
    isplitl [Ht2]; · iexact Ht2
    iexact Hp2
  iintro HO
  iapply (wp_sig A K 3 c _ e4 _ W) $$ [HO Ht3 Hp3]
  · isplitr; · iexact HR
    isplitl [HO]; · iexact HO
    isplitl [Ht3]; · iexact Ht3
    iexact Hp3
  iintro HO
  iapply (wp_bar A K c W) $$ [Hc HO Hat]
  · isplitr; · iexact HR
    isplitr; · iexact Hlev
    isplitl [Hc]; · iexact Hc
    isplitl [HO]; · iexact HO
    iexact Hat
  iintro HO Hsl Hz
  rw [st]
  simp only [Prog.lift, Prog.bind_op, Prog.bind_ret]
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_o]
  iapply Hk $$ [HO] [Hsl] [Hz] [Hx] [Hout]
  · iexact HO
  · iexact Hsl
  · iexact Hz
  · iexact Hx
  · unfold outPts
    iexact Hout

end Cert.KernelIdeal.Pf1

end
-- ==== Proof.Slots1.lean ====
module

public import proofs.«01_k».proof.Proof.Step1

@[expose] public section

noncomputable section

namespace Cert.KernelIdeal.Pf1

open Cert.KernelIdeal Cert.KernelIdeal.Gen Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (main_v88 : Ref sig .tc).ty.Contents (Elt F))

/-! ## The landing buffers slot by slot -/

theorem bigSep_J (Φ : J → sProp 𝕄) :
    bigSep Finset.univ Φ = iprop((bigSep Finset.univ fun x : Fin 7 × Fin 2 => Φ (sA x.1, x.2))
      ∗ (bigSep Finset.univ fun x : (Fin 3 ⊕ Fin 3) × Fin 2 => Φ (match x.1 with | .inl i => sB i | .inr i => sC i, x.2))
      ∗ bigSep Finset.univ fun x : Fin 7 × Fin 2 => Φ (sD x.1, x.2)) := by
  rw [bigSep_univ_prod, bigSep_univ_prod, bigSep_univ_prod, bigSep_univ_prod, bigSep_univ_sum, bigSep_univ_sum, bigSep_univ_sum, bigSep_univ_sum]
  exact congrArg (BI.sep _) (equiv_iff.mp ⟨BI.sep_assoc', BI.sep_assoc⟩)

theorem mem_slot {k n : Nat} (d : Fin 2) (i : Fin k) (x : (ShC k n).Idx) : Iff (x ∈ (slotR n d i).set) ((x 0).val = d.val ∧ (x 1).val = i.val) := by
  refine Rect.mem_set_unit.trans ⟨fun h => ?_, fun h a => ?_⟩
  · have h0 : d.val ≤ (x 0).val ∧ (x 0).val < d.val + 1 := h 0
    have h1 : i.val ≤ (x 1).val ∧ (x 1).val < i.val + 1 := h 1
    omega
  · fin_cases a
    · show d.val ≤ (x 0).val ∧ (x 0).val < d.val + 1; omega
    · show i.val ≤ (x 1).val ∧ (x 1).val < i.val + 1; omega
    · exact ⟨Nat.zero_le _, by have := (x 2).isLt; show (x 2).val < 0 + n; rw [Nat.zero_add]; exact this⟩
    · exact ⟨Nat.zero_le _, by have := (x 3).isLt; show (x 3).val < 0 + 1024; rw [Nat.zero_add]; exact this⟩

theorem slots_apart {k n : Nat} (x x' : Fin k × Fin 2) (h : x ≠ x') : Disjoint (slotR n x.2 x.1).set (slotR n x'.2 x'.1).set := by
  rw [Finset.disjoint_left]
  intro y h1 h2
  rw [mem_slot] at h1 h2
  exact h (Prod.ext (Fin.ext (h1.2.symm.trans h2.2)) (Fin.ext (h1.1.symm.trans h2.1)))
theorem slots_cover {k n : Nat} : (Finset.univ : Finset (Fin k × Fin 2)).biUnion (fun x => (slotR n x.2 x.1).set) = Finset.univ := by
  ext y
  simp only [Finset.mem_biUnion, Finset.mem_univ, true_and, iff_true]
  exact ⟨(⟨(y 1).val, (y 1).isLt⟩, ⟨(y 0).val, (y 0).isLt⟩), (mem_slot _ _ _).mpr ⟨rfl, rfl⟩⟩

def six : Fin 3 ⊕ Fin 3 → Fin 6 | .inl i => i.castLE (by decide) | .inr i => i.natAdd 3
theorem six_inj : Function.Injective six := by decide
theorem six_surj : Function.Surjective six := by decide

theorem set_A (i : Fin 7) (d : Fin 2) : ((slM (sA i, d)).view.set : Finset (ShC 7 128).Idx) = (slotR 128 d i).set := by
  have e : ((slM (sA i, d)).view.set : Finset (ShC 7 128).Idx) = (c1M.view.slice (slotR 128 d i)).set := View.set_reshape _ _
  rw [e]; exact View.set_slice_whole _ _
theorem set_D (i : Fin 7) (d : Fin 2) : ((slM (sD i, d)).view.set : Finset (ShC 7 128).Idx) = (slotR 128 d i).set := by
  have e : ((slM (sD i, d)).view.set : Finset (ShC 7 128).Idx) = (c3M.view.slice (slotR 128 d i)).set := View.set_reshape _ _
  rw [e]; exact View.set_slice_whole _ _
theorem set_B (i : Fin 3) (d : Fin 2) : ((slM (sB i, d)).view.set : Finset (ShC 6 32).Idx) = (slotR 32 d (six (.inl i))).set := by
  have e : ((slM (sB i, d)).view.set : Finset (ShC 6 32).Idx) = (c2M.view.slice (slotR 32 d (six (.inl i)))).set := View.set_reshape _ _
  rw [e]; exact View.set_slice_whole _ _
theorem set_C (i : Fin 3) (d : Fin 2) : ((slM (sC i, d)).view.set : Finset (ShC 6 32).Idx) = (slotR 32 d (six (.inr i))).set := by
  have e : ((slM (sC i, d)).view.set : Finset (ShC 6 32).Idx) = (c2M.view.slice (slotR 32 d (six (.inr i)))).set := View.set_reshape _ _
  rw [e]; exact View.set_slice_whole _ _

theorem six_apart (x x' : (Fin 3 ⊕ Fin 3) × Fin 2) (h : x ≠ x') : Disjoint (slotR 32 x.2 (six x.1)).set (slotR 32 x'.2 (six x'.1)).set :=
  slots_apart (six x.1, x.2) (six x'.1, x'.2) fun e => h (Prod.ext (six_inj (congrArg (fun y : Fin 6 × Fin 2 => y.1) e)) (congrArg (fun y : Fin 6 × Fin 2 => y.2) e))
theorem six_cover : (Finset.univ : Finset ((Fin 3 ⊕ Fin 3) × Fin 2)).biUnion (fun x => (slotR 32 x.2 (six x.1)).set) = Finset.univ := by
  ext y
  simp only [Finset.mem_biUnion, Finset.mem_univ, true_and, iff_true]
  obtain ⟨a, ha⟩ := six_surj ⟨(y 1).val, (y 1).isLt⟩
  exact ⟨(a, ⟨(y 0).val, (y 0).isLt⟩), (mem_slot _ _ _).mpr ⟨rfl, by rw [ha]⟩⟩

/-- An index of the result. -/
def e0 : S2048x1024.Idx := fun a => ⟨0, by fin_cases a <;> decide⟩

/-- A buffer at some contents. -/
abbrev anyBuf (c : Dev nD) (b : Ref sig .tc) : sProp 𝕄 := iprop(∃ f : Buf (Elt F) ((c : Thread nD τ).loc b), ((c : Thread nD τ).loc b) ↦{fullShare} f)

theorem any_blocks {ℓ : Loc nD τ sig} {B : Type} [Fintype B] [DecidableEq B] (I : B → Finset (Idx ℓ))
    (hd : ∀ b b', b ≠ b' → Disjoint (I b) (I b')) (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  iintro ⟨%f, H⟩
  ihave H := (Entails.of_eq (Ring.pointsTo_blocks I hd hc f)) $$ H
  iapply (show (bigSep Finset.univ fun b => (ℓ ↦[I b]{fullShare} f : sProp 𝕄)) ⊢ bigSep Finset.univ fun b => iprop(∃ f : Buf (Elt F) ℓ, ℓ ↦[I b]{fullShare} f) from
    bigSep_mono fun b _ => (show (ℓ ↦[I b]{fullShare} f : sProp 𝕄) ⊢ iprop(∃ f : Buf (Elt F) ℓ, ℓ ↦[I b]{fullShare} f) from by iintro H; iexists f; iexact H))
  iexact H

/-- The slots of the three buffers. -/
theorem slot_A (c : Dev nD) (x : Fin 7 × Fin 2) :
    slotAny (F := F) (sA x.1, x.2) c = iprop(∃ f : Buf (Elt F) ((c : Thread nD τ).loc cc1_scratch0), ((c : Thread nD τ).loc cc1_scratch0) ↦[((slotR 128 x.2 x.1).set : Finset (ShC 7 128).Idx)]{fullShare} f) := by
  rw [← set_A]; rfl
theorem slot_D (c : Dev nD) (x : Fin 7 × Fin 2) :
    slotAny (F := F) (sD x.1, x.2) c = iprop(∃ f : Buf (Elt F) ((c : Thread nD τ).loc cc1_scratch2), ((c : Thread nD τ).loc cc1_scratch2) ↦[((slotR 128 x.2 x.1).set : Finset (ShC 7 128).Idx)]{fullShare} f) := by
  rw [← set_D]; rfl
theorem slot_BC (c : Dev nD) (x : (Fin 3 ⊕ Fin 3) × Fin 2) :
    slotAny (F := F) (match x.1 with | .inl i => sB i | .inr i => sC i, x.2) c
      = iprop(∃ f : Buf (Elt F) ((c : Thread nD τ).loc cc1_scratch1), ((c : Thread nD τ).loc cc1_scratch1) ↦[((slotR 32 x.2 (six x.1)).set : Finset (ShC 6 32).Idx)]{fullShare} f) := by
  obtain ⟨i | i, d⟩ := x
  · show slotAny (F := F) (sB i, d) c = _
    rw [← set_B]; rfl
  · show slotAny (F := F) (sC i, d) c = _
    rw [← set_C]; rfl

theorem slots_of_bufs (c : Dev nD) :
    iprop(anyBuf (F := F) c cc1_scratch0 ∗ anyBuf (F := F) c cc1_scratch1 ∗ anyBuf (F := F) c cc1_scratch2) ⊢ bigSep Finset.univ fun j : J => slotAny (F := F) j c := by
  rw [bigSep_J, bigSep_congr fun x _ => slot_A c x, bigSep_congr fun x _ => slot_BC c x, bigSep_congr fun x _ => slot_D c x]
  iintro ⟨H0, H1, H2⟩
  isplitl [H0]
  · iapply (any_blocks (ℓ := (c : Thread nD τ).loc cc1_scratch0) (fun x : Fin 7 × Fin 2 => ((slotR 128 x.2 x.1).set : Finset (ShC 7 128).Idx)) slots_apart slots_cover); iexact H0
  isplitl [H1]
  · iapply (any_blocks (ℓ := (c : Thread nD τ).loc cc1_scratch1) (fun x : (Fin 3 ⊕ Fin 3) × Fin 2 => ((slotR 32 x.2 (six x.1)).set : Finset (ShC 6 32).Idx)) six_apart six_cover); iexact H1
  · iapply (any_blocks (ℓ := (c : Thread nD τ).loc cc1_scratch2) (fun x : Fin 7 × Fin 2 => ((slotR 128 x.2 x.1).set : Finset (ShC 7 128).Idx)) slots_apart slots_cover); iexact H2

include A in
theorem bufs_of_slots (c : Dev nD) :
    (bigSep Finset.univ fun j : J => slotAny (F := F) j c) ⊢ iprop(anyBuf (F := F) c cc1_scratch0 ∗ anyBuf (F := F) c cc1_scratch1 ∗ anyBuf (F := F) c cc1_scratch2) := by
  rw [bigSep_J, bigSep_congr fun x _ => slot_A c x, bigSep_congr fun x _ => slot_BC c x, bigSep_congr fun x _ => slot_D c x]
  iintro ⟨H0, H1, H2⟩
  isplitl [H0]
  · iapply (Ring.pointsTo_blocks_join_exists (ℓ := (c : Thread nD τ).loc cc1_scratch0) (fun x : Fin 7 × Fin 2 => ((slotR 128 x.2 x.1).set : Finset (ShC 7 128).Idx)) slots_apart slots_cover
      (fun _ => (A c : S2048x1024.Idx → F .f32) e0)); iexact H0
  isplitl [H1]
  · iapply (Ring.pointsTo_blocks_join_exists (ℓ := (c : Thread nD τ).loc cc1_scratch1) (fun x : (Fin 3 ⊕ Fin 3) × Fin 2 => ((slotR 32 x.2 (six x.1)).set : Finset (ShC 6 32).Idx)) six_apart six_cover
      (fun _ => (A c : S2048x1024.Idx → F .f32) e0)); iexact H1
  · iapply (Ring.pointsTo_blocks_join_exists (ℓ := (c : Thread nD τ).loc cc1_scratch2) (fun x : Fin 7 × Fin 2 => ((slotR 128 x.2 x.1).set : Finset (ShC 7 128).Idx)) slots_apart slots_cover
      (fun _ => (A c : S2048x1024.Idx → F .f32) e0)); iexact H2

end Cert.KernelIdeal.Pf1

end
-- ==== Proof.Oblig1.lean ====
module

public import proofs.«01_k».proof.Proof.Parts1
public import proofs.«01_k».proof.Proof.Body1
public import proofs.«01_k».proof.Proof.Slots1

@[expose] public section

noncomputable section

namespace Cert.KernelIdeal.Pf1

open Cert.KernelIdeal Cert.KernelIdeal.Gen Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (main_v88 : Ref sig .tc).ty.Contents (Elt F)) (B : Dev nD → (main_v89 : Ref sig .tc).ty.Contents (Elt F))

/-! ## What a device starts from and ends with -/

/-- What belongs to one copy and its device alone. -/
def lin (c : Dev nD) (j : J) : sProp 𝕄 :=
  iprop(atPos ER (sCell j c) 0 ∅ 0 ∗ atPos ER (rCell j c) 0 ∅ 0 ∗ dutyTok ER (sCell j c) 0 0 ∗ dutyTok ER (rCell j (dst j c)) 0 0 ∗ reached ER (sCell j c) 0)
def linear (c : Dev nD) : sProp 𝕄 := iprop(atPos ER (barCell c) 0 ∅ 0 ∗ barToks c ∗ (bigSep Finset.univ (lin c)) ∗ bigSep Finset.univ fun j : J => reached ER (rCell j c) 0)
/-- What belongs to the device and the call does not touch: the generator register and the other call's buffers. -/
def rest (c : Dev nD) : sProp 𝕄 :=
  iprop((∃ r, prngReg c r) ∗ anyBuf c cc0_stg0_0 ∗ anyBuf c cc0_stg1_0 ∗ anyBuf c cc0_scratch0 ∗ anyBuf c cc0_scratch1 ∗ anyBuf c cc0_scratch2)
def start (c : Dev nD) : sProp 𝕄 :=
  iprop((∃ K, records A K ∗ linear (F := F) c) ∗ cred (tallyAt (barCell c) () 4) ∗ (bigSep Finset.univ fun j : J => cred (tallyAt (rCell j c) () (N j))) ∗ levAts L lv)
def Φ₀ (c : Dev nD) : sProp 𝕄 := iprop(start A c ∗ (bigSep Finset.univ fun j : J => slotAny j c) ∗ rest c)
def Φ₁ (c : Dev nD) : sProp 𝕄 := iprop((bigSep Finset.univ (done c)) ∗ semVal (barCell c) 0 ∗ rest c)

theorem toks_of (c : Dev nD) :
    iprop((bigSep Finset.univ (lin (F := F) c)) ∗ (bigSep Finset.univ fun j : J => cred (tallyAt (rCell j c) () (N j))) ∗ bigSep Finset.univ fun j : J => slotD j (dst j c))
      ⊢ bigSepL (copies allS) (tok (F := F) c) := by
  rw [← bigSep_univ_eq_bigSepL (copies allS) (by decide +kernel) (by decide +kernel) (tok (F := F) c), ← bigSep_sep', ← bigSep_sep']
  refine bigSep_mono fun j _ => show iprop(lin (F := F) c j ∗ cred (tallyAt (rCell j c) () (N j)) ∗ slotD j (dst j c)) ⊢ tok c j from ?_
  unfold lin tok
  iintro ⟨⟨H1, H2, H3, H4, H7⟩, H5, H6⟩
  isplitl [H1]; · iexact H1
  isplitl [H2]; · iexact H2
  isplitl [H3]; · iexact H3
  isplitl [H4]; · iexact H4
  isplitl [H5]; · iexact H5
  isplitl [H7] <;> iassumption

def dat (c : Dev nD) : Dat τ (Elt F) Unit ℕ UU ℕ cfg1 c where
  A w := match w with
    | ⟨0, _⟩ => A c
    | ⟨1, _⟩ => B c
  after w _ := match w with
    | ⟨0, _⟩ => xstg A c
    | ⟨1, _⟩ => st A 20 c
  Φ t := match t with
    | ⟨0, _⟩ => Φ₀ A c
    | ⟨_ + 1, _⟩ => Φ₁ c
  q _ := fullShare
  owed t := match t with
    | ⟨0, _⟩ => O₀ c
    | ⟨_ + 1, _⟩ => debt c

theorem cfg1_N : cfg1.N = 1 := by decide
def t₀ : Fin cfg1.N := ⟨0, by rw [cfg1_N]; decide⟩
theorem fin_N (t : Fin cfg1.N) : t = t₀ := by
  obtain ⟨t, ht⟩ := t; have := cfg1_N; exact Fin.ext (by simp only [t₀]; omega)

theorem bigSep_W (Φ : Fin cfg1.W → sProp 𝕄) : bigSep Finset.univ Φ = iprop(Φ (0 : Fin 2) ∗ Φ (1 : Fin 2)) := bigSep_W1 Φ
theorem fetch_0 (t : Fin cfg1.N) : (cfg1.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer's hold as the body meets it. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ A c ∗ (dat A B c).owesAt () t₀.castSucc
    ∗ (∃ d, held c cc1_stg0_0 ((dat A B c).before (0 : Fin 2) t₀ d))
    ∗ (∃ d, held c cc1_stg1_0 ((dat A B c).before (1 : Fin 2) t₀ d)))
def bodyPost (c : Dev nD) : sProp 𝕄 :=
  iprop(Φ₁ (F := F) c ∗ (dat A B c).owesAt () t₀.succ ∗ held c cc1_stg0_0 (xstg A c) ∗ held c cc1_stg1_0 (st A 20 c))

abbrev bodyProg : Prog (TpuEff nD τ sig (Elt F) Λ₀ .tc) PUnit :=
  cc1_body (Memref.whole cc1_stg0_0) (Memref.isWhole_whole _) (Memref.whole main_v53) (Memref.isWhole_whole _) (Memref.whole cc1_stg1_0) (Memref.isWhole_whole _)
    (Memref.whole cc1_scratch0) (Memref.isWhole_whole _) (Memref.whole cc1_scratch1) (Memref.isWhole_whole _) (Memref.whole cc1_scratch2) (Memref.isWhole_whole _)
    cc1_scratch3 cc1_scratch4 cc1_scratch5 cc1_scratch6 cc1_scratch7 cc1_scratch8

theorem sound_body (c : Dev nD) :
    bodyPre A B c ⊢ wp frame (wpE (defs₀ (F := F)) 𝒱₀ (c : Thread nD τ) none) Set.univ bodyProg (fun _ => bodyPost A B c) := by
  unfold bodyProg
  rw [cc1_body_eq_skeleton, cc1_body_clean]
  simp only [Prog.lift, Prog.bind_op, Prog.bind_ret, wp_deviceId]
  rw [cleanP_eq]
  unfold bodyPre Φ₀ start linear
  iintro ⟨⟨⟨⟨%K, ⟨#HR, HatB, HtB, Hlin, Hrr⟩⟩, HcB, HcV, #Hlev⟩, Hsl, Hrest⟩, Ho, ⟨%d0, %g0, %hg0, Hx⟩, ⟨%d1, %g1, %hg1, Hout⟩⟩
  have hx : g0 = xstg A c := by rw [hg0]; unfold Dat.before; rw [if_pos (fetch_0 t₀)]; rfl
  subst hx
  unfold Dat.owesAt Pipeline.owesWithin
  icases Ho with ⟨%W, %hW, HO⟩
  rw [show (dat A B c).owed t₀.castSucc = O₀ c from rfl]
  ihave Hsl := (show iprop((bigSep Finset.univ fun j : J => slotAny (F := F) j c) ∗ bigSep Finset.univ fun j : J => reached ER (rCell j c) 0)
      ⊢ (bigSep Finset.univ fun j : J => slotD (F := F) j c) from by rw [← bigSep_sep']; exact BI.Entails.refl _) $$ [Hsl Hrr]
  · isplitl [Hsl] <;> iassumption
  iapply (wp_head A K c g1 W) $$ [HcB HO HatB HtB Hsl Hx Hout]
  · isplitr; · iexact HR
    isplitr; · iexact Hlev
    isplitl [HcB]; · iexact HcB
    isplitl [HO]; · iexact HO
    isplitl [HatB]; · iexact HatB
    isplitl [HtB]; · iexact HtB
    isplitl [Hsl]; · iexact Hsl
    isplitl [Hx]; · iexact Hx
    iexact Hout
  iintro ⟨%W', HO⟩ Hsl HzB Hx Hout
  ihave Ht := (toks_of (F := F) c) $$ [Hlin HcV Hsl]
  · isplitl [Hlin]; · iexact Hlin
    isplitl [HcV]; · iexact HcV
    iexact Hsl
  iapply (wp_steps A K c allS 0 path_all W') $$ [Hout Ht HO]
  · isplitr; · iexact HR
    isplitr; · iexact Hlev
    isplitl [Hout]; · iexact Hout
    isplitl [Ht]; · iexact Ht
    iexact HO
  iintro Hout Hd ⟨%W'', HO⟩
  ihave Hd := (Entails.of_eq (bigSep_univ_eq_bigSepL (copies allS) (by decide +kernel) (by decide +kernel) (done (F := F) c)).symm) $$ Hd
  unfold bodyPost Φ₁ Dat.owesAt Pipeline.owesWithin
  rw [show (dat A B c).owed t₀.succ = debt c from rfl]
  isplitl [Hd HzB Hrest]
  · isplitl [Hd]; · iexact Hd
    isplitl [HzB]; · iexact HzB
    iexact Hrest
  isplitl [HO]
  · iexists W''
    isplitr; · ipureintro; exact fun _ _ => Or.inl trivial
    iexact HO
  isplitl [Hx]
  · iexists _; isplitr; · (ipureintro; rfl)
    iexact Hx
  iexists _; isplitr; · (ipureintro; rfl)
  unfold outPts
  iexact Hout

theorem defs₀_body : defs₀ (F := F) Proc.tc 1 (t₀, cfg1.slots t₀) = bodyProg := rfl

attribute [local irreducible] st cc1_body in
set_option maxRecDepth 8000 in
theorem body_obligation (c : Dev nD) : BodyObligation (dat (F := F) A B c) (defs₀ (F := F)) 𝒱₀ () Set.univ := fun t => by
  rw [fin_N t]
  rw [bigSep_W, bigSep_W]
  simp only [owns_whole_eq]
  rw [defs₀_body]
  show bodyPre A B c ⊢ wp frame (wpE (defs₀ (F := F)) 𝒱₀ (c : Thread nD τ) none) Set.univ bodyProg (fun _ => bodyPost A B c)
  exact sound_body A B c

end Cert.KernelIdeal.Pf1

end
-- ==== Proof.Cells1.lean ====
/-
# 01_k — the second call: the call's cells from the launch to the call

At the launch every device's barrier cell is opened and all other cells are set aside shut. On entering the call its own counters
open them. The launch's debt pays for the barrier and the receive cells.
-/
module

public import proofs.«01_k».proof.Proof.Oblig1
public import Idealize.ShloMosaic.Lib.Pipeline.RegionTalk

@[expose] public section

noncomputable section

namespace Cert.KernelIdeal.Pf1

open Cert.KernelIdeal Cert.KernelIdeal.Gen Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Dev nD → (main_v88 : Ref sig .tc).ty.Contents (Elt F)) (B : Dev nD → (main_v89 : Ref sig .tc).ty.Contents (Elt F))

/-! ## The exchange's cells and tokens at launch -/

set_option synthInstance.maxSize 100000 in
theorem ownSemFacts : Pipeline.OwnSemFacts cfg1.spec osem where
  isScoped x := by revert x; decide +kernel
  inj := osem_inj
  disj x w s h := by
    rw [osem_num] at h
    have h1 := congrArg Fin.val (SemLoc.dma.inj h)
    have h2 := osem_pos x
    have h3 : ∀ w : Fin cfg1.W, ∀ s : Fin (cfg1.spec w).nbuf, ((cfg1.spec w).sem s).val < 84 := by decide
    have h4 := h3 w s
    simp only at h1
    omega

theorem csem_inj : Function.Injective csem := by
  rintro (_ | x) (_ | y) h
  · rfl
  · exact absurd h.symm (osem_ne_bar y)
  · exact absurd h (osem_ne_bar x)
  · exact congrArg some (osem_inj h)
theorem kcell_injective : Function.Injective (kcell : Dev nD × CK → GSem nD τ sig) := by
  rintro ⟨c, k⟩ ⟨c', k'⟩ h
  have h1 : c = c' := congrArg (fun g : GSem nD τ sig => g.1.1) h
  exact Prod.ext h1 (csem_inj (congrArg Prod.snd h))
/-- The barrier cells. -/
def barEmb : Dev nD ↪ GSem nD τ sig := ⟨fun c => kcell (c, none), fun _ _ h => congrArg Prod.fst (kcell_injective h)⟩
/-- The send and receive cells. -/
def xEmb : Dev nD × XK ↪ GSem nD τ sig :=
  ⟨fun x => kcell (x.1, some x.2), fun a b h => by
    have := Prod.mk.inj (kcell_injective h)
    exact Prod.ext this.1 (Option.some.inj this.2)⟩
def barCells : Finset (GSem nD τ sig) := Finset.univ.map barEmb
def xCells : Finset (GSem nD τ sig) := Finset.univ.map xEmb
theorem cells_apart : Disjoint barCells xCells := by
  rw [Finset.disjoint_left]
  intro g h1 h2
  obtain ⟨c, -, rfl⟩ := Finset.mem_map.mp h1
  obtain ⟨x, -, h⟩ := Finset.mem_map.mp h2
  have := kcell_injective (a₁ := (x.1, some x.2)) (a₂ := (c, none)) h
  cases this

/-- The duty tokens as minted: four of a barrier cell, one of every other cell. -/
def tokOf (x : Dev nD × (Fin 4 ⊕ XK)) : GSem nD τ sig × ℕ × Fin 4 := match x.2 with
  | .inl k => (kcell (x.1, none), 0, k)
  | .inr y => (kcell (x.1, some y), 0, 0)
theorem tokOf_injective : Function.Injective tokOf := by
  rintro ⟨c, a⟩ ⟨c', b⟩ h
  rcases a with k | y <;> rcases b with k' | y'
  · have h1 : c = c' := congrArg (fun g : GSem nD τ sig × ℕ × Fin 4 => g.1.1.1) h
    have h2 : k = k' := congrArg (fun g : GSem nD τ sig × ℕ × Fin 4 => g.2.2) h
    rw [h1, h2]
  · have := kcell_injective (congrArg Prod.fst h); cases this
  · have := kcell_injective (congrArg Prod.fst h); cases this
  · have := kcell_injective (congrArg Prod.fst h); cases this; rfl
def xToks : Finset (GSem nD τ sig × ℕ × Fin 4) := Finset.univ.map ⟨tokOf, tokOf_injective⟩

/-- The tokens of a device's own cells. -/
def toks (c : Dev nD) : sProp 𝕄 :=
  iprop((bigSep Finset.univ fun k : Fin 4 => dutyTok ER (barCell c) 0 k) ∗ bigSep Finset.univ fun x : XK => dutyTok ER (kcell (c, some x)) 0 0)

theorem bigSep_option {X : Type} [Fintype X] (Φ : Option X → sProp 𝕄) :
    bigSep Finset.univ Φ = iprop(Φ none ∗ bigSep Finset.univ fun x : X => Φ (some x)) := by
  rw [bigSep_univ_equiv (Equiv.optionEquivSumPUnit.{0, 0} X).symm Φ, bigSep_univ_sum,
    bigSep_univ_of_subsingleton (I := PUnit.{1}) PUnit.unit]
  exact equiv_iff.mp ⟨BI.sep_comm, BI.sep_comm⟩
theorem bigSep_XK (Φ : XK → sProp 𝕄) :
    bigSep Finset.univ Φ = iprop((bigSep Finset.univ fun j : J => Φ (j, false)) ∗ bigSep Finset.univ fun j : J => Φ (j, true)) := by
  rw [bigSep_univ_prod, ← bigSep_sep']
  exact bigSep_congr fun j _ => bigSep_univ_eq_bigSepL [false, true] (by decide) (by decide) _

/-! ## The tokens go to those who pay -/

theorem around {I : Type} [Fintype I] (e : I → Dev nD ≃ Dev nD) (Φ : I → Dev nD → sProp 𝕄) :
    (bigSep Finset.univ fun c : Dev nD => bigSep Finset.univ fun i : I => Φ i c) = bigSep Finset.univ fun c : Dev nD => bigSep Finset.univ fun i : I => Φ i (e i c) := by
  rw [bigSep_univ_comm, bigSep_univ_comm (fun (c : Dev nD) (i : I) => Φ i (e i c))]
  exact bigSep_congr fun i _ => bigSep_univ_equiv (e i) _

/-- The tokens a device pays with. -/
def payToks (c : Dev nD) : sProp 𝕄 :=
  iprop(barToks (F := F) c ∗ bigSep Finset.univ fun j : J => iprop(dutyTok ER (sCell j c) 0 0 ∗ dutyTok ER (rCell j (dst j c)) 0 0))

theorem toks_around : (bigSep Finset.univ fun c : Dev nD => (toks c : sProp 𝕄)) ⊢ bigSep Finset.univ fun c : Dev nD => payToks c := by
  have hb : (bigSep Finset.univ fun c : Dev nD => bigSep Finset.univ fun k : Fin 4 => (dutyTok ER (barCell c) 0 k : sProp 𝕄))
      = bigSep Finset.univ fun c : Dev nD => barToks (F := F) c := by
    rw [around nbE (fun k c => dutyTok ER (barCell c) 0 k)]
    exact bigSep_congr fun c _ => by rw [bigSep_four]; rfl
  have hr : (bigSep Finset.univ fun c : Dev nD => bigSep Finset.univ fun j : J => (dutyTok ER (kcell (c, some (j, true))) 0 0 : sProp 𝕄))
      = bigSep Finset.univ fun c : Dev nD => bigSep Finset.univ fun j : J => (dutyTok ER (rCell j (dst j c)) 0 0 : sProp 𝕄) :=
    around (fun j : J => nbE (dir j)) (fun j c => dutyTok ER (kcell (c, some (j, true))) 0 0)
  unfold toks payToks
  rw [bigSep_sep', bigSep_sep', hb, bigSep_congr fun (c : Dev nD) _ => bigSep_XK fun x => (dutyTok ER (kcell (c, some x)) 0 0 : sProp 𝕄), bigSep_sep', hr,
    bigSep_congr fun (c : Dev nD) _ => bigSep_sep' Finset.univ (fun j : J => (dutyTok ER (sCell j c) 0 0 : sProp 𝕄)) (fun j => dutyTok ER (rCell j (dst j c)) 0 0), bigSep_sep']
  exact BI.Entails.refl _

/-- What belongs to one copy and its device alone, before the call. -/
def lin₀ (c : Dev nD) (j : J) : sProp 𝕄 :=
  iprop(openTok ER (sCell j c) ∗ openTok ER (rCell j c) ∗ dutyTok ER (sCell j c) 0 0 ∗ dutyTok ER (rCell j (dst j c)) 0 0)
def linear₀ (c : Dev nD) : sProp 𝕄 := iprop(atPos ER (barCell c) 0 ∅ 0 ∗ barToks c ∗ bigSep Finset.univ (lin₀ c))

theorem linear₀_intro (c : Dev nD) :
    iprop(atPos ER (barCell c) 0 ∅ 0 ∗ (bigSep Finset.univ fun x : XK => openTok ER (kcell (c, some x))) ∗ payToks c) ⊢ linear₀ (F := F) c := by
  unfold payToks linear₀
  rw [bigSep_XK]
  iintro ⟨HB, ⟨HS, HR⟩, HtB, Ht⟩
  isplitl [HB]; · iexact HB
  isplitl [HtB]; · iexact HtB
  iapply (show iprop((bigSep Finset.univ fun j : J => (openTok ER (sCell j c) : sProp 𝕄)) ∗ (bigSep Finset.univ fun j : J => (openTok ER (rCell j c) : sProp 𝕄))
      ∗ bigSep Finset.univ fun j : J => iprop(dutyTok ER (sCell j c) 0 0 ∗ dutyTok ER (rCell j (dst j c)) 0 0)) ⊢ bigSep Finset.univ (lin₀ (F := F) c) from by
    rw [← bigSep_sep', ← bigSep_sep']
    refine bigSep_mono fun j _ => ?_
    unfold lin₀; exact BI.Entails.refl _)
  isplitl [HS]; · iexact HS
  isplitl [HR]; · iexact HR
  iexact Ht

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a device keeps of the exchange until the call. -/
def G' (c : Dev nD) : sProp 𝕄 := iprop(∃ K, records A K ∗ linear₀ (F := F) c)

theorem deal :
    iprop((bigSep Finset.univ fun c : Dev nD => semVal (barCell c) 0) ∗ BI.own (ER (launchOf barCells xCells xToks)))
      ⊢ (|={Set.univ}=> bigSep Finset.univ (G' A) : sProp 𝕄) := by
  have hB (Φ : GSem nD τ sig → sProp 𝕄) : bigSep barCells Φ = bigSep Finset.univ fun c : Dev nD => Φ (barCell c) := by
    unfold barCells; rw [bigSep_map]; rfl
  have hX (Φ : GSem nD τ sig → sProp 𝕄) : bigSep xCells Φ = bigSep Finset.univ fun c : Dev nD => bigSep Finset.univ fun x : XK => Φ (kcell (c, some x)) := by
    unfold xCells; rw [bigSep_map, bigSep_univ_prod]; rfl
  have hA (Φ : GSem nD τ sig → sProp 𝕄) : bigSep (barCells ∪ xCells) Φ = bigSep Finset.univ fun ck : Dev nD × CK => Φ (kcell ck) := by
    rw [bigSep_union cells_apart, hB, hX, bigSep_univ_prod]
    show iprop((bigSep Finset.univ fun c : Dev nD => Φ (barCell c)) ∗ bigSep Finset.univ fun c : Dev nD => bigSep Finset.univ fun x : XK => Φ (kcell (c, some x))) = _
    rw [← bigSep_sep']
    exact bigSep_congr fun c _ => (bigSep_option fun k : CK => Φ (kcell (c, k))).symm
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_sum]; rfl
  iintro ⟨Hv, Hu⟩
  ihave Hv := (Entails.of_eq (hB fun g => semVal g 0).symm) $$ Hv
  imod (Rounds.fund_launch ER (Rd A) cells_apart (fun g _ h => h) xToks) $$ [Hv Hu] with ⟨%κ, -, HI, Hr, Hat, Hop, Htok⟩
  · isplitl [Hv] <;> iassumption
  imodintro
  ihave HI := (Entails.of_eq (hA fun g => cellInv ER (Rd A) (κ g) g)) $$ HI
  ihave Hr := (Entails.of_eq (hB fun g => reached ER g 0)) $$ Hr
  ihave Hat := (Entails.of_eq (hB fun g => atPos ER g 0 ∅ 0)) $$ Hat
  ihave Hop := (Entails.of_eq (hX fun g => openTok ER g)) $$ Hop
  ihave Htok := (Entails.of_eq hT) $$ Htok
  ihave Htk := (toks_around (F := F)) $$ Htok
  iapply (bigSep_with_persistent (R := records A fun ck => κ (kcell ck)) (Φ := linear₀ (F := F)) (Ψ := G' A) fun c _ => by
    unfold G'; iintro ⟨H1, H2⟩; iexists (fun ck => κ (kcell ck)); isplitl [H1] <;> iassumption)
  isplitl [HI Hr]
  · unfold records; isplitl [HI]; · iexact HI
    iexact Hr
  · iapply (show iprop((bigSep Finset.univ fun c : Dev nD => (atPos ER (barCell c) 0 ∅ 0 : sProp 𝕄)) ∗ (bigSep Finset.univ fun c : Dev nD => bigSep Finset.univ fun x : XK => (openTok ER (kcell (c, some x)) : sProp 𝕄))
        ∗ bigSep Finset.univ payToks) ⊢ bigSep Finset.univ (linear₀ (F := F)) from by
      rw [← bigSep_sep', ← bigSep_sep']
      exact bigSep_mono fun c _ => linear₀_intro c)
    isplitl [Hat]; · iexact Hat
    isplitl [Hop]; · iexact Hop
    iexact Htk

/-! ## Entering the call -/

/-- What a device keeps for the call. -/
def keep (c : Dev nD) : sProp 𝕄 :=
  iprop(G' A c ∗ cred (tallyAt (barCell c) () 4) ∗ bigSep Finset.univ fun j : J => cred (tallyAt (rCell j c) () (N j)))

theorem open_all (K : Dev nD × CK → ℕ) (c : Dev nD) :
    iprop(records A K ∗ (bigSep Finset.univ fun x : XK => openTok ER (kcell (c, some x))) ∗ bigSep Finset.univ fun x : XK => semVal (kcell (c, some x)) 0)
      ⊢ (|={Set.univ}=> bigSep Finset.univ fun x : XK => iprop(atPos ER (kcell (c, some x)) 0 ∅ 0 ∗ reached ER (kcell (c, some x)) 0) : sProp 𝕄) := by
  rw [← bigSep_sep']
  refine (bigSep_with_persistent (R := records A K) (Φ := fun x : XK => iprop(openTok ER (kcell (c, some x)) ∗ semVal (kcell (c, some x)) 0))
    (Ψ := fun x : XK => iprop(|={Set.univ}=> (atPos ER (kcell (c, some x)) 0 ∅ 0 ∗ reached ER (kcell (c, some x)) 0))) fun x _ => ?_).trans (bigSep_fupd _ _)
  unfold records
  iintro ⟨⟨HI, -⟩, Ho, Hv⟩
  ihave H1 := (show (bigSep Finset.univ fun ck : Dev nD × CK => cellInv ER (Rd A) (K ck) (kcell ck)) ⊢ (cellInv ER (Rd A) (K (c, some x)) (kcell (c, some x)) : sProp 𝕄) from
    bigSep_elim (Finset.mem_univ (c, some x))) $$ HI
  imod (Rounds.cell_open ER (Rd A) (g := kcell (c, some x)) (Set.mem_univ (K (c, some x)))) $$ [H1 Ho Hv] with ⟨Ha, Hr⟩
  · isplitl [H1]; · iexact H1
    isplitl [Ho] <;> iassumption
  imodintro
  isplitl [Ha] <;> iassumption

theorem hopen (c : Dev nD) : iprop(keep A c ∗ Pipeline.ownSems0 osem c ∗ levAts L lv) ⊢ (|={Set.univ}=> start A c : sProp 𝕄) := by
  unfold keep G' linear₀ Pipeline.ownSems0
  rw [show (lin₀ (F := F) c) = fun j => iprop(openTok ER (sCell j c) ∗ openTok ER (rCell j c) ∗ dutyTok ER (sCell j c) 0 0 ∗ dutyTok ER (rCell j (dst j c)) 0 0) from rfl,
    bigSep_sep', bigSep_sep']
  iintro ⟨⟨⟨%K, #HK, HatB, HtB, HoS, HoR, Ht⟩, HcB, HcV⟩, Hv, Hlev⟩
  imod (open_all A K c) $$ [HoS HoR Hv] with Hx
  · isplitr; · iexact HK
    isplitl [HoS HoR]
    · iapply (Entails.of_eq (bigSep_XK fun x : XK => (openTok ER (kcell (c, some x)) : sProp 𝕄)).symm)
      isplitl [HoS]; · iexact HoS
      iexact HoR
    · iexact Hv
  imodintro
  ihave Hx := (Entails.of_eq (bigSep_sep' Finset.univ (fun x : XK => (atPos ER (kcell (c, some x)) 0 ∅ 0 : sProp 𝕄)) fun x => reached ER (kcell (c, some x)) 0)) $$ Hx
  icases Hx with ⟨Ha, Hr⟩
  ihave Ha := (Entails.of_eq (bigSep_XK fun x : XK => (atPos ER (kcell (c, some x)) 0 ∅ 0 : sProp 𝕄))) $$ Ha
  ihave Hr := (Entails.of_eq (bigSep_XK fun x : XK => (reached ER (kcell (c, some x)) 0 : sProp 𝕄))) $$ Hr
  icases Ha with ⟨HaS, HaR⟩
  icases Hr with ⟨HrS, HrR⟩
  unfold start linear
  isplitl [HatB HtB Ht HaS HaR HrS HrR]
  · iexists K
    isplitr; · iexact HK
    isplitl [HatB]; · iexact HatB
    isplitl [HtB]; · iexact HtB
    isplitr [HrR]
    · iapply (show iprop((bigSep Finset.univ fun j : J => (atPos ER (sCell j c) 0 ∅ 0 : sProp 𝕄)) ∗ (bigSep Finset.univ fun j : J => (atPos ER (rCell j c) 0 ∅ 0 : sProp 𝕄))
          ∗ (bigSep Finset.univ fun j : J => iprop(dutyTok ER (sCell j c) 0 0 ∗ dutyTok ER (rCell j (dst j c)) 0 0)) ∗ bigSep Finset.univ fun j : J => (reached ER (sCell j c) 0 : sProp 𝕄))
          ⊢ bigSep Finset.univ (lin (F := F) c) from by
        rw [← bigSep_sep', ← bigSep_sep', ← bigSep_sep']
        refine bigSep_mono fun j _ => show iprop(atPos ER (sCell j c) 0 ∅ 0 ∗ atPos ER (rCell j c) 0 ∅ 0 ∗ (dutyTok ER (sCell j c) 0 0 ∗ dutyTok ER (rCell j (dst j c)) 0 0) ∗ reached ER (sCell j c) 0) ⊢ lin (F := F) c j from ?_
        unfold lin
        iintro ⟨H1, H2, ⟨H3, H4⟩, H5⟩
        isplitl [H1]; · iexact H1
        isplitl [H2]; · iexact H2
        isplitl [H3]; · iexact H3
        isplitl [H4] <;> iassumption)
      isplitl [HaS]; · iexact HaS
      isplitl [HaR]; · iexact HaR
      isplitl [Ht]
      · iexact Ht
      iexact HrS
    · iexact HrR
  isplitl [HcB]; · iexact HcB
  isplitl [HcV]; · iexact HcV
  iexact Hlev

theorem hin (W : Dev nD → Valuation τ sig (Elt F)) (c : Dev nD) :
    iprop(Pipeline.scopedRest cfg1.spec c ∗ (∃ r, prngReg c r) ∗ StableHlo.held (c.tc : Thread nD τ) ∅ (W c) ∗ start A c) ⊢ Φ₀ A c := by
  unfold Φ₀ rest
  rw [scopedRest1_eq]
  iintro ⟨⟨R0, R1, R2, R3, R4, S0, S1, S2⟩, Hp, -, Hs⟩
  isplitl [Hs]; · iexact Hs
  isplitl [S0 S1 S2]
  · iapply (slots_of_bufs (F := F) c)
    isplitl [S0]; · iexact S0
    isplitl [S1]; · iexact S1
    iexact S2
  isplitl [Hp]; · iexact Hp
  isplitl [R0]; · iexact R0
  isplitl [R1]; · iexact R1
  isplitl [R2]; · iexact R2
  isplitl [R3]; · iexact R3
  iexact R4

include A in
theorem hout (W : Dev nD → Valuation τ sig (Elt F)) (c : Dev nD) :
    Φ₁ c ⊢ (iprop(Pipeline.scopedRest cfg1.spec c ∗ (∃ r, prngReg c r) ∗ StableHlo.held (c.tc : Thread nD τ) ∅ (W c) ∗ Pipeline.ownSems0 osem c ∗ semVal (barCell c) 0) : sProp 𝕄) := by
  unfold Φ₁ rest Pipeline.ownSems0
  rw [scopedRest1_eq, bigSep_XK, show (done (F := F) c) = fun j => iprop(slotAny j c ∗ semVal (sCell j c) 0 ∗ semVal (rCell j c) 0) from rfl, bigSep_sep', bigSep_sep']
  iintro ⟨⟨Hsl, HzS, HzR⟩, HzB, Hp, R0, R1, R2, R3, R4⟩
  ihave Hsl := (bufs_of_slots A c) $$ Hsl
  icases Hsl with ⟨S0, S1, S2⟩
  isplitl [S0 S1 S2 R0 R1 R2 R3 R4]
  · isplitl [R0]; · iexact R0
    isplitl [R1]; · iexact R1
    isplitl [R2]; · iexact R2
    isplitl [R3]; · iexact R3
    isplitl [R4]; · iexact R4
    isplitl [S0]; · iexact S0
    isplitl [S1]; · iexact S1
    iexact S2
  isplitl [Hp]; · iexact Hp
  isplitr
  · unfold StableHlo.held; rw [bigSep_empty]; iempintro
  isplitl [HzS HzR]
  · isplitl [HzS]; · iexact HzS
    iexact HzR
  iexact HzB

/-! ## The launch credit -/

theorem bar_eq_iff {a b : Dev nD} : Iff (barCell a = barCell b) (a = b) := ⟨fun h => congrArg (fun g : GSem nD τ sig => g.1.1) h, fun h => h ▸ rfl⟩
theorem r_eq {j j' : J} {a b : Dev nD} (h : rCell j a = rCell j' b) : j = j' ∧ a = b := by
  have := kcell_injective (a₁ := (a, some (j, true))) (a₂ := (b, some (j', true))) h
  cases this; exact ⟨rfl, rfl⟩
theorem r_ne_bar (j : J) (a b : Dev nD) : rCell j a ≠ barCell b := fun h => dma_ne_bar _ (congrArg Prod.snd h)

theorem debt_bar (d c : Dev nD) : debt d (barCell c) () = 0 := by
  by_contra h
  have := (debt_ok d _ () (Nat.pos_of_ne_zero h)).2
  rw [lv_bar] at this
  omega
theorem debt_r (d c : Dev nD) (j : J) : debt d (rCell j c) () = 0 := by
  by_contra h
  have := (debt_ok d _ () (Nat.pos_of_ne_zero h)).2
  rw [lv_r] at this
  have := ix_lt j.1
  omega

theorem Orem_bar (d c : Dev nD) : ∀ l : List J, Orem d l (barCell c) () = 0
  | [] => debt_bar d c
  | j :: l => by
    rw [Orem, Pi.add_apply, Finsupp.add_apply, Orem_bar d c l, tallyAt_ne_cell (fun h => r_ne_bar _ _ _ h.symm), Finsupp.zero_apply, Nat.add_zero]
local instance memJ (j : J) (l : List J) : Decidable (j ∈ l) := @List.instDecidableMemOfLawfulBEq _ instBEqOfDecidableEq _ _ _
theorem Orem_r (d c : Dev nD) (j : J) : ∀ l : List J, l.Nodup → Orem d l (rCell j c) () = if j ∈ l ∧ d = src j c then N j else 0
  | [], _ => by rw [if_neg (fun h => absurd h.1 List.not_mem_nil)]; exact debt_r d c j
  | j' :: l, hn => by
    rw [Orem, Pi.add_apply, Finsupp.add_apply, Orem_r d c j l (List.nodup_cons.mp hn).2, tallyAt_apply]
    by_cases hj : j = j'
    · subst hj
      rw [if_neg (fun h => (List.nodup_cons.mp hn).1 h.1), Nat.zero_add]
      by_cases hd : d = src j c
      · rw [if_pos ⟨by rw [hd, dst_src], rfl⟩, if_pos ⟨List.mem_cons_self, hd⟩]
      · rw [if_neg fun h => hd (by rw [(r_eq h.1).2, src_dst]), if_neg fun h => hd h.2]
    · rw [show (if (rCell j c = rCell j' (dst j' d) ∧ () = ()) then N j' else 0) = 0 from if_neg fun h => hj (r_eq h.1).1, Nat.add_zero]
      simp only [List.mem_cons, hj, false_or]

set_option synthInstance.maxSize 100000 in
theorem owed_r (d c : Dev nD) (j : J) : O₀ d (rCell j c) () = if d = src j c then N j else 0 := by
  unfold O₀ O₁
  rw [Pi.add_apply, Finsupp.add_apply, Pi.add_apply, Finsupp.add_apply, Pi.add_apply, Finsupp.add_apply, Pi.add_apply, Finsupp.add_apply,
    tallyAt_ne_cell (r_ne_bar _ _ _), tallyAt_ne_cell (r_ne_bar _ _ _), tallyAt_ne_cell (r_ne_bar _ _ _), tallyAt_ne_cell (r_ne_bar _ _ _),
    Finsupp.zero_apply, Nat.add_zero, Nat.add_zero, Nat.add_zero, Nat.add_zero, Orem_r d c j _ (by decide +kernel)]
  have h : ∀ j : J, j ∈ copies allS := by decide +kernel
  simp only [h j, _root_.true_and]

theorem one_bar (d c : Dev nD) (k : Fin 4) : (tallyAt (barCell (nb k d)) () 1 : CellTallies nD τ sig Unit) (barCell c) () = if d = nb (opp k) c then 1 else 0 := by
  rw [tallyAt_apply]
  by_cases h : d = nb (opp k) c
  · rw [if_pos ⟨by rw [h, nb_opp'], rfl⟩, if_pos h]
  · rw [if_neg (fun h' => h (by rw [bar_eq_iff.mp h'.1, nb_opp])), if_neg h]

/-- A cell outside the call is owed only what is owed beyond the call. -/
theorem Orem_far (d : Dev nD) (g : GSem nD τ sig) (h : ∀ j c, g ≠ rCell j c) : ∀ l : List J, Orem d l g () = debt d g ()
  | [] => rfl
  | j :: l => by
    rw [Orem, Pi.add_apply, Finsupp.add_apply, Orem_far d g h l, tallyAt_ne_cell (h _ _), Finsupp.zero_apply, Nat.add_zero]
theorem O₀_far (d : Dev nD) (g : GSem nD τ sig) (hb : ∀ c, g ≠ barCell c) (h : ∀ j c, g ≠ rCell j c) : O₀ d g () = debt d g () := by
  unfold O₀ O₁
  rw [Pi.add_apply, Finsupp.add_apply, Pi.add_apply, Finsupp.add_apply, Pi.add_apply, Finsupp.add_apply, Pi.add_apply, Finsupp.add_apply,
    tallyAt_ne_cell (hb _), tallyAt_ne_cell (hb _), tallyAt_ne_cell (hb _), tallyAt_ne_cell (hb _),
    Finsupp.zero_apply, Nat.add_zero, Nat.add_zero, Nat.add_zero, Nat.add_zero, Orem_far d g h]

theorem Orem_split (c : Dev nD) : ∀ l : List J, ∃ u, Orem c l = debt c + u
  | [] => ⟨0, (add_zero _).symm⟩
  | j :: l => by
    obtain ⟨u, h⟩ := Orem_split c l
    exact ⟨u + tallyAt (rCell j (dst j c)) () (N j), by rw [Orem, h, add_assoc]⟩
theorem O₀_split (c : Dev nD) : ∃ u, O₀ c = debt c + u := by
  obtain ⟨u, h⟩ := Orem_split c (copies allS)
  unfold O₀ O₁
  rw [h]
  exact ⟨_, by rw [add_assoc, add_assoc, add_assoc, add_assoc]⟩
/-- What is owed for the call alone. -/
def due (c : Dev nD) : CellTallies nD τ sig Unit := (O₀_split c).choose
theorem O₀_due (c : Dev nD) : O₀ c = debt c + due c := (O₀_split c).choose_spec

variable (T : Dev nD → CellTallies nD τ sig Unit)

theorem launch_bar (hT : ∀ d c : Dev nD, T d (barCell c) () = O₀ d (barCell c) ()) (c : Dev nD) :
    tallyOn (barCell c) (launchCredit (Pipeline.owing T) 0 (barCell c)) = (tallyAt (barCell c) () 4 : CellTallies nD τ sig Unit) := by
  unfold tallyAt; refine congrArg _ (Finsupp.ext fun u => ?_); cases u
  have e (d : Dev nD) : T d (barCell c) () = (((if d = nb (opp 3) c then 1 else 0) + (if d = nb (opp 2) c then 1 else 0)) + (if d = nb (opp 1) c then 1 else 0)) + (if d = nb (opp 0) c then 1 else 0) := by
    rw [hT]; unfold O₀ O₁
    rw [Pi.add_apply, Finsupp.add_apply, Pi.add_apply, Finsupp.add_apply, Pi.add_apply, Finsupp.add_apply, Pi.add_apply, Finsupp.add_apply,
      one_bar, one_bar, one_bar, one_bar, Orem_bar, Nat.zero_add]
  rw [Pipeline.launchCredit_owing, Finsupp.single_eq_same, Finset.sum_congr rfl fun d _ => e d, Finset.sum_add_distrib, Finset.sum_add_distrib, Finset.sum_add_distrib,
    Finset.sum_ite_eq' Finset.univ _ fun _ => 1, Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _), if_pos (Finset.mem_univ _)]

theorem launch_r (hT : ∀ (d c : Dev nD) (j : J), T d (rCell j c) () = O₀ d (rCell j c) ()) (c : Dev nD) (j : J) :
    tallyOn (rCell j c) (launchCredit (Pipeline.owing T) 0 (rCell j c)) = (tallyAt (rCell j c) () (N j) : CellTallies nD τ sig Unit) := by
  unfold tallyAt; refine congrArg _ (Finsupp.ext fun u => ?_); cases u
  rw [Pipeline.launchCredit_owing, Finsupp.single_eq_same, Finset.sum_congr rfl fun d _ => (hT d c j).trans (owed_r d c j), Finset.sum_ite_eq' Finset.univ (src j c) fun _ => N j,
    if_pos (Finset.mem_univ _)]

end Cert.KernelIdeal.Pf1

end
-- ==== Proof.Run.lean ====
/-
# 01_k — the run

The host's operations, the first call, the host's operations, the second call, the host's operations: from any memory with zero
counters the run ends, the arguments are unchanged, all counters are at zero and the result is what the operations and the calls
make of the arguments.
-/
module

public import proofs.«01_k».proof.Proof.Cells
public import proofs.«01_k».proof.Proof.Cells1
public import proofs.«01_k».proof.Proof.Gen.KernelIdeal.Regions
public import Idealize.ShloMosaic.Lib.Pipeline.CollectiveSegs

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ UU ℕ

variable (m : (ℓ : Loc nD τ sig) → Buf (Elt F) ℓ) (ρ : Dev nD → PrngReg)

/-! ## What the calls leave -/

/-- The arrays as the calls leave them, from the two results. -/
def mkOuts (a : Dev nD → (main_v53 : Ref sig .tc).ty.Contents (Elt F)) (b : Dev nD → (main_v89 : Ref sig .tc).ty.Contents (Elt F)) : Outs (F := F) :=
  fun _ r c => if h : r = main_v53 then (by subst h; exact a c) else if h : r = main_v89 then (by subst h; exact b c) else m _
theorem mkOuts_53 (a b) (n : ℕ) (c : Dev nD) : mkOuts m a b n main_v53 c = a c := dif_pos rfl
theorem mkOuts_89 (a b) (n : ℕ) (c : Dev nD) : mkOuts m a b n main_v89 c = b c := (dif_neg (by decide)).trans (dif_pos rfl)

/-- The first call's operand and what its result's array held. -/
def X0 (c : Dev nD) : (main_v52 : Ref sig .tc).ty.Contents (Elt F) := V3 m c main_v52
def B0 (c : Dev nD) : (main_v53 : Ref sig .tc).ty.Contents (Elt F) := V3 m c main_v53
/-- The first call's result. -/
def res0 (c : Dev nD) : (main_v53 : Ref sig .tc).ty.Contents (Elt F) := (dat (X0 m) (B0 m) c).arrAt (1 : Fin 2) cfg0.N
def outs0 : Outs (F := F) := mkOuts m (res0 m) (fun c => m ((c : Thread nD τ).loc main_v89))
def X1 (c : Dev nD) : (main_v88 : Ref sig .tc).ty.Contents (Elt F) := V7 m (outs0 m) c main_v88
def B1 (c : Dev nD) : (main_v89 : Ref sig .tc).ty.Contents (Elt F) := V7 m (outs0 m) c main_v89
/-- The second call's result. -/
def res1 (c : Dev nD) : (main_v89 : Ref sig .tc).ty.Contents (Elt F) := (Pf1.dat (X1 m) (B1 m) c).arrAt (1 : Fin 2) cfg1.N
def outs : Outs (F := F) := mkOuts m (res0 m) (res1 m)

theorem V4_outs (c : Dev nD) : V4 m (outs m) c = V4 m (outs0 m) c := by
  unfold V4 outs outs0; rw [mkOuts_53, mkOuts_53]
theorem V7_outs (c : Dev nD) : V7 m (outs m) c = V7 m (outs0 m) c := by
  unfold V7 V6 V5; rw [V4_outs]
theorem V4_res (c : Dev nD) : V4 m (outs m) c main_v53 = res0 m c := by
  unfold V4; rw [Function.update_self]; exact mkOuts_53 m _ _ _ c
theorem V7_res (c : Dev nD) : V7 m (outs m) c main_v53 = res0 m c :=
  (V7_of m (outs m) c main_v53 (by decide)).trans <| (V6_of m (outs m) c main_v53 (by decide)).trans <| (V5_of m (outs m) c main_v53 (by decide)).trans (V4_res m c)
theorem V8_res0 (c : Dev nD) : V8 m (outs m) c main_v53 = res0 m c := by
  unfold V8; rw [Function.update_self]; exact mkOuts_53 m _ _ _ c
theorem V8_res (c : Dev nD) : V8 m (outs m) c main_v89 = res1 m c := by
  unfold V8
  rw [Function.update_of_ne (StableHlo.devRef_ne_of_ne (by decide) : (Proc.devRef .tc main_v89 : DevRef τ sig) ≠ Proc.devRef .tc main_v53), Function.update_self]
  exact mkOuts_89 m _ _ _ c

/-! ## The two regions -/

def pdats : (p : Fin 2) → (c : Dev nD) → Dat τ (Elt F) Unit ℕ UU ℕ (cfgs p) c := fun p => match p with
  | ⟨0, _⟩ => dat (X0 m) (B0 m)
  | ⟨1, _⟩ => Pf1.dat (X1 m) (B1 m)

theorem share0 (c : Dev nD) (w : Fin 2) : (pdats m 0 c).share w = fullShare := by unfold Dat.share; split <;> rfl
theorem share1 (c : Dev nD) (w : Fin 2) : (pdats m 1 c).share w = fullShare := by unfold Dat.share; split <;> rfl

theorem cut0 : Pipeline.LevelCutOwed (pcfgs (F := F)) adm (pdats m) () L lv 0 (fun _ => 0) where
  hι c w s := by rw [L_tc]; exact Finset.mem_singleton_self _
  hιb c w s := le_of_eq (lv_stage c _ (Or.inl (by
    have h : ∀ w : Fin cfg0.W, ∀ s : Fin (cfg0.spec w).nbuf, ((cfg0.spec w).sem s).val < 2 := by decide
    exact h w s)) ())
  hD c t g i h := by
    rcases t with ⟨_ | t, ht⟩
    · have := O₀_ok c g i h; exact ⟨this.1, lt_of_lt_of_le (by decide) this.2⟩
    · have := debt_ok c g i h; exact ⟨this.1, lt_of_lt_of_le (by decide) this.2⟩
theorem cut1 : Pipeline.LevelCutOwed (pcfgs (F := F)) adm (pdats m) () L lv 1 (fun _ => 0) where
  hι c w s := by rw [L_tc]; exact Finset.mem_singleton_self _
  hιb c w s := le_of_eq (lv_stage c _ (Or.inr (by
    have h : ∀ w : Fin cfg1.W, ∀ s : Fin (cfg1.spec w).nbuf, 82 ≤ ((cfg1.spec w).sem s).val ∧ ((cfg1.spec w).sem s).val < 84 := by decide
    exact h w s)) ())
  hD c t g i h := by
    rcases t with ⟨_ | t, ht⟩
    · have := Pf1.O₀_ok c g i h; exact ⟨this.1, lt_of_lt_of_le (by decide) this.2⟩
    · have := Pf1.debt_ok c g i h; exact ⟨this.1, lt_of_lt_of_le (by decide) this.2⟩

abbrev R0s : Finset (DevRef τ sig) := Pipeline.arrRefs (τ := τ) spec0
abbrev R1s : Finset (DevRef τ sig) := Pipeline.arrRefs (τ := τ) spec1
theorem R0s_sub : R0s ⊆ Pipeline.ucRefs τ sig := Pipeline.arrRefs_sub_ucRefs spec0 (by decide)
theorem R1s_sub : R1s ⊆ Pipeline.ucRefs τ sig := Pipeline.arrRefs_sub_ucRefs spec1 (by decide)
theorem v53_mem : (Proc.devRef .tc main_v53 : DevRef τ sig) ∈ R0s :=
  Finset.mem_map.mpr ⟨main_v53, Finset.mem_image.mpr ⟨(1 : Fin 2), Finset.mem_univ _, rfl⟩, rfl⟩
theorem v89_mem : (Proc.devRef .tc main_v89 : DevRef τ sig) ∈ R1s :=
  Finset.mem_map.mpr ⟨main_v89, Finset.mem_image.mpr ⟨(1 : Fin 2), Finset.mem_univ _, rfl⟩, rfl⟩

theorem off0 (c : Dev nD) (b : DevRef τ sig) (hb : b ∈ (Pipeline.ucRefs τ sig \ R0s) \ ∅) : V4 m (outs m) c b = V3 m c b := by
  unfold V4
  refine Function.update_of_ne (fun h => ?_) _ _
  rw [Finset.sdiff_empty, Finset.mem_sdiff] at hb
  exact hb.2 (h ▸ v53_mem)
theorem off1 (c : Dev nD) (b : DevRef τ sig) (hb : b ∈ (Pipeline.ucRefs τ sig \ R1s) \ ∅) : V8 m (outs m) c b = V7 m (outs m) c b := by
  by_cases h : b = Proc.devRef .tc main_v53
  · subst h; rw [V8_res0, V7_res]
  · unfold V8
    rw [Function.update_of_ne h]
    refine Function.update_of_ne (fun h => ?_) _ _
    rw [Finset.sdiff_empty, Finset.mem_sdiff] at hb
    exact hb.2 (h ▸ v89_mem)

theorem ent0 (c : Dev nD) (w : Fin 2) : (pdats m 0 c).arrAt w 0 = V3 m c (Proc.devRef .tc (Pipeline.arrRef spec0 w)) := by fin_cases w <;> rfl
theorem ent1 (c : Dev nD) (w : Fin 2) : (pdats m 1 c).arrAt w 0 = V7 m (outs m) c (Proc.devRef .tc (Pipeline.arrRef spec1 w)) := by
  rw [V7_outs]; fin_cases w <;> rfl
theorem exi0 (c : Dev nD) (w : Fin 2) : (pdats m 0 c).arrAt w cfg0.N = V4 m (outs m) c (Proc.devRef .tc (Pipeline.arrRef spec0 w)) := by
  fin_cases w
  · exact ((pdats m 0 c).arrAt_in (0 : Fin 2) rfl _).trans (V4_of m (outs m) c main_v52 (by decide)).symm
  · exact (V4_res m c).symm
theorem exi1 (c : Dev nD) (w : Fin 2) : (pdats m 1 c).arrAt w cfg1.N = V8 m (outs m) c (Proc.devRef .tc (Pipeline.arrRef spec1 w)) := by
  fin_cases w
  · exact ((pdats m 1 c).arrAt_in (0 : Fin 2) rfl _).trans ((V8_of m (outs m) c main_v88 (by decide)).trans (congrFun (V7_outs m c) _)).symm
  · exact (V8_res m c).symm

/-- What rides along between the operations: before the first call, between the calls, and at the end. -/
def E (i : Fin 3) (c : Dev nD) : sProp 𝕄 := match i with
  | ⟨0, _⟩ => iprop((∃ r, prngReg c r) ∗ keep (X0 m) c ∗ Pf1.keep (X1 m) c ∗ ∃ W, owes (c : Thread nD τ) (O₀ c) W)
  | ⟨1, _⟩ => iprop((∃ r, prngReg c r) ∗ semVal (barCell c) 0 ∗ Pf1.keep (X1 m) c ∗ ∃ W, owes (c : Thread nD τ) (debt c) W)
  | ⟨_ + 2, _⟩ => iprop((∃ r, prngReg c r) ∗ semVal (barCell c) 0 ∗ semVal (Pf1.barCell c) 0 ∗ ∃ W, owes (c : Thread nD τ) (0 : CellTallies nD τ sig Unit) W)

set_option backward.isDefEq.respectTransparency.types false in
def reg0 : RegionSeg (pcfgs (F := F)) adm (pdats m) () defs₀ 𝒱₀ L lv 0 :=
  Pipeline.RegionSeg.ofTalk (pcfgs (F := F)) adm (pdats m) () defs₀ 𝒱₀ L lv 0 osem ownSemFacts
    ∅ (Pipeline.ucRefs τ sig \ R0s) (Finset.empty_subset _) launch0.toP rfl (fun c => (body_obligation (X0 m) (B0 m) c).loose)
    debt due (fun c => O₀_due c) (fun _ => rfl) (fun _ => rfl) (share0 m)
    (V3 m) (V4 m (outs m)) (off0 m)
    (keep (X0 m)) (fun c => semVal (barCell c) 0) (start (X0 m)) (fun c => semVal (barCell c) 0) (hopen (X0 m)) (hin (X0 m) (V3 m)) (hout (X0 m) (V4 m (outs m)))
    (fun c => by iintro H; imodintro; iexact H)
    (fun _ => 0) (cut0 m) (Pf1.keep (X1 m)) (ent0 m) (exi0 m)

set_option backward.isDefEq.respectTransparency.types false in
def reg1 : RegionSeg (pcfgs (F := F)) adm (pdats m) () defs₀ 𝒱₀ L lv 1 :=
  Pipeline.RegionSeg.ofTalk (pcfgs (F := F)) adm (pdats m) () defs₀ 𝒱₀ L lv 1 Pf1.osem Pf1.ownSemFacts
    ∅ (Pipeline.ucRefs τ sig \ R1s) (Finset.empty_subset _) launch1.toP rfl (fun c => (Pf1.body_obligation (X1 m) (B1 m) c).loose)
    Pf1.debt Pf1.due (fun c => Pf1.O₀_due c) (fun _ => rfl) (fun _ => rfl) (share1 m)
    (V7 m (outs m)) (V8 m (outs m)) (off1 m)
    (Pf1.keep (X1 m)) (fun c => semVal (Pf1.barCell c) 0) (Pf1.start (X1 m)) (fun c => semVal (Pf1.barCell c) 0) (Pf1.hopen (X1 m)) (Pf1.hin (X1 m) (V7 m (outs m)))
    (Pf1.hout (X1 m) (V8 m (outs m)))
    (fun c => by iintro H; imodintro; iexact H)
    (fun _ => 0) (cut1 m) (fun c => semVal (barCell c) 0) (ent1 m) (exi1 m)

theorem reg0_pre (c : Dev nD) : iprop(StableHlo.held (c : Thread nD τ) (Pipeline.ucRefs τ sig) (V3 m c) ∗ E m 0 c) ⊢ (reg0 m).pre c := by
  show _ ⊢ iprop(StableHlo.held (c.tc : Thread nD τ) R0s (V3 m c) ∗ (∃ r, prngReg c r)
    ∗ (StableHlo.held (c.tc : Thread nD τ) (Pipeline.ucRefs τ sig \ R0s) (V3 m c) ∗ Pf1.keep (X1 m) c) ∗ keep (X0 m) c ∗ ∃ Wd, owes (c : Thread nD τ) (debt c + due c) Wd)
  rw [← O₀_due, StableHlo.held_sub_split (c.tc : Thread nD τ) R0s_sub (V3 m c)]
  show iprop((_ ∗ _) ∗ ((∃ r, prngReg c r) ∗ keep (X0 m) c ∗ Pf1.keep (X1 m) c ∗ ∃ W, owes (c : Thread nD τ) (O₀ c) W)) ⊢ _
  iintro ⟨⟨H1, H2⟩, Hp, Hk, Hk1, HO⟩
  isplitl [H1]; · iexact H1
  isplitl [Hp]; · iexact Hp
  isplitl [H2 Hk1]
  · isplitl [H2]; · iexact H2
    iexact Hk1
  isplitl [Hk]; · iexact Hk
  iexact HO

theorem reg0_post (c : Dev nD) : (reg0 m).post c ⊢ iprop(StableHlo.held (c : Thread nD τ) (Pipeline.ucRefs τ sig) (V4 m (outs m) c) ∗ E m 1 c) := by
  show iprop(StableHlo.held (c.tc : Thread nD τ) R0s (V4 m (outs m) c) ∗ (∃ r, prngReg c r)
    ∗ (StableHlo.held (c.tc : Thread nD τ) (Pipeline.ucRefs τ sig \ R0s) (V4 m (outs m) c) ∗ Pf1.keep (X1 m) c) ∗ semVal (barCell c) 0 ∗ ∃ Wd, owes (c : Thread nD τ) (debt c) Wd) ⊢ _
  rw [StableHlo.held_sub_split (c.tc : Thread nD τ) R0s_sub (V4 m (outs m) c)]
  show _ ⊢ iprop((StableHlo.held (c.tc : Thread nD τ) R0s (V4 m (outs m) c) ∗ StableHlo.held (c.tc : Thread nD τ) (Pipeline.ucRefs τ sig \ R0s) (V4 m (outs m) c)) ∗ ((∃ r, prngReg c r) ∗ semVal (barCell c) 0 ∗ Pf1.keep (X1 m) c ∗ ∃ W, owes (c : Thread nD τ) (debt c) W))
  iintro ⟨H1, Hp, ⟨H2, Hk1⟩, Hb, HO⟩
  isplitl [H1 H2]
  · isplitl [H1] <;> iassumption
  isplitl [Hp]; · iexact Hp
  isplitl [Hb]; · iexact Hb
  isplitl [Hk1]; · iexact Hk1
  iexact HO

theorem reg1_pre (c : Dev nD) : iprop(StableHlo.held (c : Thread nD τ) (Pipeline.ucRefs τ sig) (V7 m (outs m) c) ∗ E m 1 c) ⊢ (reg1 m).pre c := by
  show _ ⊢ iprop(StableHlo.held (c.tc : Thread nD τ) R1s (V7 m (outs m) c) ∗ (∃ r, prngReg c r)
    ∗ (StableHlo.held (c.tc : Thread nD τ) (Pipeline.ucRefs τ sig \ R1s) (V7 m (outs m) c) ∗ semVal (barCell c) 0) ∗ Pf1.keep (X1 m) c ∗ ∃ Wd, owes (c : Thread nD τ) (Pf1.debt c + Pf1.due c) Wd)
  rw [← Pf1.O₀_due, StableHlo.held_sub_split (c.tc : Thread nD τ) R1s_sub (V7 m (outs m) c)]
  show iprop((_ ∗ _) ∗ ((∃ r, prngReg c r) ∗ semVal (barCell c) 0 ∗ Pf1.keep (X1 m) c ∗ ∃ W, owes (c : Thread nD τ) (debt c) W)) ⊢ _
  iintro ⟨⟨H1, H2⟩, Hp, Hb, Hk1, HO⟩
  isplitl [H1]; · iexact H1
  isplitl [Hp]; · iexact Hp
  isplitl [H2 Hb]
  · isplitl [H2]; · iexact H2
    iexact Hb
  isplitl [Hk1]; · iexact Hk1
  iexact HO

theorem reg1_post (c : Dev nD) : (reg1 m).post c ⊢ iprop(StableHlo.held (c : Thread nD τ) (Pipeline.ucRefs τ sig) (V8 m (outs m) c) ∗ E m 2 c) := by
  show iprop(StableHlo.held (c.tc : Thread nD τ) R1s (V8 m (outs m) c) ∗ (∃ r, prngReg c r)
    ∗ (StableHlo.held (c.tc : Thread nD τ) (Pipeline.ucRefs τ sig \ R1s) (V8 m (outs m) c) ∗ semVal (barCell c) 0) ∗ semVal (Pf1.barCell c) 0 ∗ ∃ Wd, owes (c : Thread nD τ) (0 : CellTallies nD τ sig Unit) Wd) ⊢ _
  rw [StableHlo.held_sub_split (c.tc : Thread nD τ) R1s_sub (V8 m (outs m) c)]
  show _ ⊢ iprop((StableHlo.held (c.tc : Thread nD τ) R1s (V8 m (outs m) c) ∗ StableHlo.held (c.tc : Thread nD τ) (Pipeline.ucRefs τ sig \ R1s) (V8 m (outs m) c)) ∗ ((∃ r, prngReg c r) ∗ semVal (barCell c) 0 ∗ semVal (Pf1.barCell c) 0 ∗ ∃ W, owes (c : Thread nD τ) (0 : CellTallies nD τ sig Unit) W))
  iintro ⟨H1, Hp, ⟨H2, Hb⟩, Hb1, HO⟩
  isplitl [H1 H2]
  · isplitl [H1] <;> iassumption
  isplitl [Hp]; · iexact Hp
  isplitl [Hb]; · iexact Hb
  isplitl [Hb1]; · iexact Hb1
  iexact HO

/-! ## The launch -/

def u₀ : UU :=
  (initOf (Pipeline.cells cfgs cellOf_inj) (Pipeline.launchToks cfgs cellOf_inj), (launchOf barCells xCells xToks, launchOf Pf1.barCells Pf1.xCells Pf1.xToks))

/-- The calls' launch elements, kept by device 0 until they are dealt. -/
def G (c : Dev nD) : sProp 𝕄 :=
  if c = 0 then iprop(BI.own (ER (launchOf barCells xCells xToks)) ∗ BI.own (Pf1.ER (launchOf Pf1.barCells Pf1.xCells Pf1.xToks))) else BI.emp
theorem G_all : bigSep Finset.univ (G (F := F)) = iprop(BI.own (ER (launchOf barCells xCells xToks)) ∗ BI.own (Pf1.ER (launchOf Pf1.barCells Pf1.xCells Pf1.xToks))) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)], BI.bigSep_emp_const]
  unfold G; rw [if_pos rfl]
  exact BI.equiv_iff.mp sep_emp

theorem split_pair (a b : UB) : BI.own (EX (a, b)) ⊢ (iprop(BI.own (ER a) ∗ BI.own (Pf1.ER b)) : sProp 𝕄) :=
  BI.own_op_elim ((EX (F := F)).op_of_mem (Prod.mk_mem_op (URA.mem_op_one a) (URA.mem_one_op b)))

theorem unscopedSems0_eq (c : Dev nD) : (unscopedSems0 c : sProp 𝕄) = iprop(semVal (barCell c) 0 ∗ semVal (Pf1.barCell c) 0) := by
  unfold unscopedSems0; rw [bigSep_eq_bigSepL_of_eq [SemLoc.reg barS, SemLoc.reg Pf1.barS] (by decide +kernel) (by decide)]; rfl

theorem far_bar (a b : Dev nD) : Pf1.barCell a ≠ barCell b := fun h => bars_ne (congrArg Prod.snd h)
theorem far_bar_r (a b : Dev nD) (j : J) : Pf1.barCell a ≠ rCell j b := fun h => Pf1.dma_ne_bar _ (congrArg Prod.snd h).symm
theorem far_r_bar (a b : Dev nD) (j : J) : Pf1.rCell j a ≠ barCell b := fun h => dma_ne_bar _ (congrArg Prod.snd h)
theorem far_r (a b : Dev nD) (j i : J) : Pf1.rCell j a ≠ rCell i b := fun h => by
  have e : dec (.dma (Pf1.rSem j)) = none := dec_other (j, true)
  rw [show (SemLoc.dma (Pf1.rSem j) : SemLoc sig) = .dma (rSem i) from congrArg Prod.snd h, dec_r] at e
  cases e

theorem due1_bar (d c : Dev nD) : O₀ d (Pf1.barCell c) () = Pf1.O₀ d (Pf1.barCell c) () :=
  O₀_far d _ (fun b => far_bar c b) (fun j b => far_bar_r c b j)
theorem due1_r (d c : Dev nD) (j : J) : O₀ d (Pf1.rCell j c) () = Pf1.O₀ d (Pf1.rCell j c) () :=
  O₀_far d _ (fun b => far_r_bar c b j) (fun i b => far_r c b j i)

def credSem : Option J ⊕ Option J → SemLoc sig
  | .inl none => .reg barS
  | .inl (some j) => .dma (rSem j)
  | .inr none => .reg Pf1.barS
  | .inr (some j) => .dma (Pf1.rSem j)
theorem credSem_inj : Function.Injective credSem := by
  have z : (0 : Dev nD) = 0 := rfl
  rintro ((_ | x) | (_ | x)) ((_ | y) | (_ | y)) h
  · rfl
  · exact absurd h.symm (dma_ne_bar _)
  · exact absurd h.symm bars_ne
  · exact absurd h.symm (dma_ne_bar _)
  · exact absurd h (dma_ne_bar _)
  · exact congrArg (fun z => Sum.inl (some z)) (r_eq (a := 0) (b := 0) (congrArg (fun s => (((0 : Dev nD) : Thread nD τ), s)) h)).1
  · exact absurd h (Pf1.dma_ne_bar _)
  · exact absurd (congrArg (fun s => (((0 : Dev nD) : Thread nD τ), s)) h).symm (far_r 0 0 y x)
  · exact absurd h bars_ne
  · exact absurd h.symm (Pf1.dma_ne_bar _)
  · rfl
  · exact absurd h.symm (Pf1.dma_ne_bar _)
  · exact absurd h (dma_ne_bar _)
  · exact absurd (congrArg (fun s => (((0 : Dev nD) : Thread nD τ), s)) h) (far_r 0 0 x y)
  · exact absurd h (Pf1.dma_ne_bar _)
  · exact congrArg (fun z => Sum.inr (some z)) (Pf1.r_eq (a := 0) (b := 0) (congrArg (fun s => (((0 : Dev nD) : Thread nD τ), s)) h)).1

theorem creds (c : Dev nD) :
    (Pipeline.launchCred O₀ c : sProp 𝕄) ⊢ iprop((cred (tallyAt (barCell c) () 4) ∗ bigSep Finset.univ fun j : J => cred (tallyAt (rCell j c) () (N j)))
      ∗ cred (tallyAt (Pf1.barCell c) () 4) ∗ bigSep Finset.univ fun j : J => cred (tallyAt (Pf1.rCell j c) () (Pf1.N j))) := by
  unfold Pipeline.launchCred
  refine (show _ ⊢ bigSep (Finset.univ.map ⟨credSem, credSem_inj⟩) (fun s => (cred (tallyOn ((c.tc : Thread nD τ), s) (launchCredit (Pipeline.owing O₀) 0 ((c.tc : Thread nD τ), s))) : sProp 𝕄)) from
    bigSep_subset (Finset.subset_univ _)).trans ?_
  rw [bigSep_map, bigSep_univ_sum, bigSep_option, bigSep_option]
  refine Entails.of_eq ?_
  rw [← launch_bar O₀ (fun _ _ => rfl) c, bigSep_congr fun j _ => congrArg cred (launch_r O₀ (fun _ _ _ => rfl) c j).symm,
    ← Pf1.launch_bar O₀ due1_bar c, bigSep_congr fun j _ => congrArg cred (Pf1.launch_r O₀ due1_r c j).symm]
  rfl

theorem init :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  simp only [bigSep_sep']
  rw [G_all, bigSep_congr (s := Finset.univ) fun (c : Dev nD) _ => unscopedSems0_eq (F := F) c, bigSep_sep']
  iintro ⟨⟨⟨Hv, Hv1⟩, HO, Hcr, Hp, Hu, Hu1⟩, -⟩
  imod (deal (X0 m)) $$ [Hv Hu] with HG
  · isplitl [Hv] <;> iassumption
  imod (Pf1.deal (X1 m)) $$ [Hv1 Hu1] with HG1
  · isplitl [Hv1] <;> iassumption
  imodintro
  iapply (show iprop((bigSep Finset.univ fun c : Dev nD => owes (c : Thread nD τ) (O₀ c) ∅) ∗ (bigSep Finset.univ fun c : Dev nD => Pipeline.launchCred O₀ c)
      ∗ (bigSep Finset.univ fun c : Dev nD => prngReg c (ρ c)) ∗ bigSep Finset.univ (G' (X0 m)) ∗ bigSep Finset.univ (Pf1.G' (X1 m))) ⊢ (bigSep Finset.univ (E m 0) : sProp 𝕄) from by
    rw [← bigSep_sep', ← bigSep_sep', ← bigSep_sep', ← bigSep_sep']
    refine bigSep_mono fun c _ => show iprop(owes (c : Thread nD τ) (O₀ c) ∅ ∗ Pipeline.launchCred O₀ c ∗ prngReg c (ρ c) ∗ G' (X0 m) c ∗ Pf1.G' (X1 m) c)
      ⊢ iprop((∃ r, prngReg c r) ∗ keep (X0 m) c ∗ Pf1.keep (X1 m) c ∗ ∃ W, owes (c : Thread nD τ) (O₀ c) W) from ?_
    unfold keep Pf1.keep
    iintro ⟨HO, Hcr, Hp, HG, HG1⟩
    ihave Hc := (creds (F := F) c) $$ Hcr
    icases Hc with ⟨Hc, Hc1⟩
    isplitl [Hp]; · iexists (ρ c); iexact Hp
    isplitl [HG Hc]
    · isplitl [HG] <;> iassumption
    isplitl [HG1 Hc1]
    · isplitl [HG1] <;> iassumption
    iexists ∅; iexact HO)
  isplitl [HO]; · iexact HO
  isplitl [Hcr]; · iexact Hcr
  isplitl [Hp]; · iexact Hp
  isplitl [HG]; · iexact HG
  iexact HG1

/-! ## The run -/

/-- What is known at the end: the unscoped buffers hold the last contents. -/
def QC : PUnit × MemSt nD τ sig (Elt F) → Prop := fun r =>
  (∀ c : Dev nD, ∀ b ∈ Pipeline.ucRefs τ sig, r.2.mem (((c : Dev nD) : Thread nD τ).1, b) = V9 m (outs m) c b) ∧ r.2.sem = fun _ => 0

set_option maxRecDepth 100000 in
set_option backward.isDefEq.respectTransparency.types false in
theorem run_main : θ_run defs (onTc (τ := τ) (main (F := F))) ⟨m, fun _ => 0, ρ⟩ (QC m) := by
  refine Pipeline.θ_run_regions_kit_dev_sems (pcfgs (F := F)) adm (pdats m) () cellOf_inj EP defs₀ 𝒱₀ L lv m ρ main
    (segs m (outs m) 𝒱₀ L lv (E m) () (pdats m) (reg0 m) (reg1 m))
    (fun c Q => by
      rewrite [main_chain c, Seg.run_eq_chain,
        show (segs m (outs m) 𝒱₀ L lv (E m) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ L_of_ne G u₀
    (by
      unfold u₀
      iintro Hu
      ihave H := (ownU_pair _ _) $$ Hu
      icases H with ⟨HP, HX⟩
      imodintro
      isplitl [HP]; · iexact HP
      rw [G_all]
      iapply (split_pair (F := F) _ _); iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V9 m (outs m) c) ∗ unscopedSems0 c))
    (hch := fun c => ⟨.rfl, .rfl, .rfl, reg0_pre m c, reg0_post m c, .rfl, .rfl, reg1_pre m c, reg1_post m c, ?_⟩)
    (hinit := ?_)
    (QY := fun c s => (∀ b ∈ Pipeline.ucRefs τ sig, s.mem (((c : Dev nD) : Thread nD τ).1, b) = V9 m (outs m) c b)
      ∧ ∀ sm : SemLoc sig, sm.isScoped .tc = false → s.sem ((c.tc : Thread nD τ), sm) = 0)
    (hfin := fun c s' => ?_) (hQ := fun s h hs => ⟨fun c => (h c).1, sem_eq_zero hs fun c => (h c).2⟩)
  · show iprop(StableHlo.held (c : Thread nD τ) (Pipeline.ucRefs τ sig) (V9 m (outs m) c) ∗ ((∃ r, prngReg c r) ∗ semVal (barCell c) 0 ∗ semVal (Pf1.barCell c) 0
        ∗ ∃ W, owes (c : Thread nD τ) (0 : CellTallies nD τ sig Unit) W))
      ⊢ iprop((StableHlo.held (c : Thread nD τ) (Pipeline.ucRefs τ sig) (V9 m (outs m) c) ∗ unscopedSems0 c) ∗ ∃ W, owes (c : Thread nD τ) (0 : CellTallies nD τ sig Unit) W)
    rw [unscopedSems0_eq]
    iintro ⟨Hh, Hp, Hb, Hb1, HO⟩
    isplitr [HO]
    · isplitl [Hh]; · iexact Hh
      isplitl [Hb] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hu⟩, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imod (Pipeline.unscopedSems0_read (X := unscopedSems0 c) (c := c) fupd_intro s') $$ [Hu HSI] with ⟨%h2, HSI⟩
    · isplitl [Hu] <;> iassumption
    imodintro
    isplitr
    · ipureintro
      exact ⟨h, h2⟩
    · iexact HSI

end Cert.KernelIdeal.Pf

end
-- ==== Proof.Same.lean ====
module

public import proofs.«01_k».proof.Proof.Run

@[expose] public section

noncomputable section

namespace Cert.KernelIdeal.Pf

open Cert.KernelIdeal Cert.KernelIdeal.Gen
open Idealize.ShloMosaic Idealize.ShloMosaic.TcCoe Idealize.SL.Sem

variable {F : FTy → Type} [FloatOps F]

theorem inc_same (j : J) (p : Dev nD) (f : OB F) : Pf1.inc j p f = inc j p f := rfl
theorem comb_same (s : Step) (a b : FVec F (Sh2 (nn s)) .f32) : Pf1.comb s a b = comb s a b := by rcases s with i | i | i | i <;> rfl
theorem updD_same (j : J) (c : Dev nD) (f : OB F) (w : FVec F (Sh2 (nn j.1)) .f32) : Pf1.updD j c f w = updD j c f w := by
  unfold Pf1.updD updD
  rw [comb_same]
  rfl
theorem st_zero_same (A : Dev nD → (main_v52 : Ref sig .tc).ty.Contents (Elt F)) (c : Dev nD) : Pf1.st A 0 c = st A 0 c := rfl
theorem st_same (A : Dev nD → (main_v52 : Ref sig .tc).ty.Contents (Elt F)) : ∀ (t : Nat) (c : Dev nD), Pf1.st A t c = st A t c
  | 0, c => st_zero_same A c
  | t + 1, c => by
    rw [Pf1.st, st, st_same A t c, st_same A t, st_same A t, inc_same, inc_same, updD_same, updD_same]

end Cert.KernelIdeal.Pf

end
-- ==== Proof.Sum.lean ====
module

public import proofs.«01_k».proof.Proof.Value
public import proofs.«01_k».proof.Proof.Same
public import Idealize.ShloMosaic.Lib.Pipeline.ValueKit

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (A : Dev nD → (main_v52 : Ref sig .tc).ty.Contents (Elt Ideal))

/-! ## The sum over a set of devices -/

/-- The sum of the terms whose device's bit `a` has. -/
def S (x : Dev nD → EReal) (a : Nat) : EReal := ∑ d : Dev nD, if a.testBit d.val then x d else 0

theorem S_or (x : Dev nD → EReal) (a b : Nat) (h : a &&& b = 0) : S x (a ||| b) = S x a + S x b := by
  unfold S
  rw [← Finset.sum_add_distrib]
  refine Finset.sum_congr rfl fun d _ => ?_
  have h2 : (a.testBit d.val && b.testBit d.val) = false := by rw [← Nat.testBit_and, h, Nat.zero_testBit]
  rw [Nat.testBit_or]
  cases ha : a.testBit d.val <;> cases hb : b.testBit d.val <;> simp_all

theorem bit_self : ∀ c d : Dev nD, (1 <<< c.val).testBit d.val = decide (d = c) := by decide +kernel
theorem bit_full : ∀ d : Dev nD, full.testBit d.val = true := by decide +kernel

theorem S_self (x : Dev nD → EReal) (c : Dev nD) : S x (1 <<< c.val) = x c := by
  unfold S
  simp only [bit_self, decide_eq_true_eq]
  rw [Finset.sum_ite_eq']
  exact if_pos (Finset.mem_univ _)

theorem S_full (x : Dev nD → EReal) : S x full = ∑ d : Dev nD, x d := by
  unfold S
  exact Finset.sum_congr rfl fun d _ => if_pos (bit_full d)

theorem join_some {o₁ o₂ : Option Nat} {a : Nat} (h : join o₁ o₂ = some a) :
    ∃ a₁ a₂, o₁ = some a₁ ∧ o₂ = some a₂ ∧ a₁ &&& a₂ = 0 ∧ a₁ ||| a₂ = a := by
  rcases o₁ with _ | a₁
  · cases h
  rcases o₂ with _ | a₂
  · cases h
  by_cases hd : a₁ &&& a₂ = 0
  · refine ⟨a₁, a₂, rfl, rfl, hd, ?_⟩
    have : (if a₁ &&& a₂ = 0 then some (a₁ ||| a₂) else none) = some a := h
    rw [if_pos hd] at this
    exact Option.some.inj this
  · have : (if a₁ &&& a₂ = 0 then some (a₁ ||| a₂) else none) = some a := h
    rw [if_neg hd] at this
    cases this

/-- The device's result at an element, as an extended real. -/
def V (t : Nat) (c : Dev nD) (e : S2048x1024.Idx) : EReal := st A t c e

theorem V_step (t : Nat) (c : Dev nD) (e : S2048x1024.Idx) :
    V A (t + 1) c e = if hit t (rowOf e / 32) c then
        (if adds (stepAt t) then V A t c e + V A t (src (stepAt t, half (rowOf e / 32)) c) e
          else V A t (src (stepAt t, half (rowOf e / 32)) c) e)
      else V A t c e := st_step A t c e

/-- What the evaluation says a device holds is what it holds. -/
theorem ev_sound (b : Nat → Option Nat) (t₀ : Nat) (e : S2048x1024.Idx) (x : Dev nD → EReal)
    (hb : ∀ c : Dev nD, ∀ a, b c.val = some a → V A t₀ c e = S x a) :
    ∀ (i : Nat) (c : Dev nD) (a : Nat), ev b t₀ (rowOf e / 32) i c = some a → V A (t₀ + i) c e = S x a
  | 0, c, a, h => hb c a h
  | i + 1, c, a, h => by
    have ih := ev_sound b t₀ e x hb i
    rw [← Nat.add_assoc, V_step]
    rw [ev] at h
    by_cases hh : hit (t₀ + i) (rowOf e / 32) c = true
    · rw [if_pos hh] at h ⊢
      by_cases ha : adds (stepAt (t₀ + i)) = true
      · rw [if_pos ha] at h ⊢
        obtain ⟨a₁, a₂, h₁, h₂, hd, rfl⟩ := join_some h
        rw [ih _ _ h₁, ih _ _ h₂, S_or x _ _ hd]
      · rw [if_neg ha] at h ⊢
        exact ih _ _ h
    · rw [if_neg hh] at h ⊢
      exact ih _ _ h

/-- After the last step every device holds the sum over all devices. -/
theorem V_end (c : Dev nD) (e : S2048x1024.Idx) : V A 20 c e = ∑ d : Dev nD, V A 0 d e := by
  have hlt : rowOf e < 2048 := (e 0).isLt
  have hg : rowOf e / 32 < 64 := by omega
  rw [← S_full]
  have hA (c : Dev nD) (a : Nat) (h : bB (rowOf e / 32) c.val = some a) : V A (0 + 7) c e = S (fun d => V A 0 d e) a := by
    refine ev_sound A bA 0 e _ (fun c a h => ?_) 7 c a ?_
    · rw [← Option.some.inj h, S_self]
    · have k := all_okA ⟨_, hg⟩ c
      by_cases hc : c.val % 8 = pOf (qEnd (rowOf e / 32))
      · unfold okA at k
        rw [if_pos hc] at k
        exact (eq_of_beq k).trans h
      · unfold bB at h
        rw [if_neg hc] at h
        cases h
  have hB (c : Dev nD) (a : Nat) (h : bC (rowOf e / 32) c.val = some a) : V A (7 + 3) c e = S (fun d => V A 0 d e) a := by
    refine ev_sound A (bB (rowOf e / 32)) 7 e _ hA 3 c a ?_
    have k := all_okB ⟨_, hg⟩ c
    unfold bC at h
    by_cases hc : c.val = zEnd (rowOf e / 32) * 8 + pOf (qEnd (rowOf e / 32))
    · unfold okB at k
      rw [if_pos hc] at k h
      exact (eq_of_beq k).trans h
    · rw [if_neg hc] at h
      cases h
  have hC (c : Dev nD) (a : Nat) (h : bD (rowOf e / 32) c.val = some a) : V A (10 + 3) c e = S (fun d => V A 0 d e) a := by
    refine ev_sound A (bC (rowOf e / 32)) 10 e _ hB 3 c a ?_
    have k := all_okC ⟨_, hg⟩ c
    unfold bD at h
    by_cases hc : c.val % 8 = pOf (qEnd (rowOf e / 32))
    · unfold okC at k
      rw [if_pos hc] at k h
      exact (eq_of_beq k).trans h
    · rw [if_neg hc] at h
      cases h
  exact ev_sound A (bD (rowOf e / 32)) 13 e _ hC 7 c full (eq_of_beq (all_okD ⟨_, hg⟩ c))

/-! ## The arrays -/

/-- A device's result starts as its block of the operand. -/
theorem V_zero (c : Dev nD) (e : S2048x1024.Idx) : V A 0 c e = A c e := by
  refine (congrFun (shapeCast_self (xstg A c : FVec Ideal S2048x1024 .f32) shapeCasts_S2048x1024_S2048x1024) e).trans ?_
  refine congrArg (fun i => A c i) (?_ : (win0_0.blk (0 : Fin 1)).view.emb e = e)
  funext a
  refine Fin.ext ?_
  fin_cases a
  · exact (Nat.zero_add _).trans (Nat.one_mul _)
  · exact (Nat.zero_add _).trans (Nat.one_mul _)

/-- After the exchange every device holds the sum of all devices' operands. -/
theorem st_sum (c : Dev nD) : st A 20 c = (fun e => ∑ d : Dev nD, A d e : S2048x1024.Idx → EReal) :=
  funext fun e => (V_end A c e).trans (Finset.sum_congr rfl fun d _ => V_zero A d e)

theorem whole_out : Pipeline.Window.WholeAt (cfg0.win (1 : Fin 2)) t0_0 := ⟨by decide +kernel, fun t _ => fin_N0 t, fun a => ⟨rfl, rfl⟩⟩
theorem whole_out1 : Pipeline.Window.WholeAt (cfg1.win (1 : Fin 2)) t1_0 := ⟨by decide +kernel, fun t _ => fin_N1 t, fun a => ⟨rfl, rfl⟩⟩

section
attribute [local irreducible] st Pf1.st

theorem after_out (B : Dev nD → (main_v53 : Ref sig .tc).ty.Contents (Elt Ideal)) (c : Dev nD) (t : Fin cfg0.N) : (dat A B c).after (1 : Fin 2) t = st A 20 c := rfl

/-- The result array ends as what the last step left. -/
theorem dat_out (B : Dev nD → (main_v53 : Ref sig .tc).ty.Contents (Elt Ideal)) (c : Dev nD) : (dat A B c).arrAt (1 : Fin 2) cfg0.N = st A 20 c := by
  refine (dat A B c).arrAt_eq_of_after_last (1 : Fin 2) t0_0 whole_out (st A 20 c) (fun j => ?_)
  rw [after_out]
  rfl

theorem after_out1 (A : Dev nD → (main_v88 : Ref sig .tc).ty.Contents (Elt Ideal)) (B : Dev nD → (main_v89 : Ref sig .tc).ty.Contents (Elt Ideal)) (c : Dev nD) (t : Fin cfg1.N) :
    (Pf1.dat A B c).after (1 : Fin 2) t = Pf1.st A 20 c := rfl
theorem dat_out1 (A : Dev nD → (main_v88 : Ref sig .tc).ty.Contents (Elt Ideal)) (B : Dev nD → (main_v89 : Ref sig .tc).ty.Contents (Elt Ideal)) (c : Dev nD) :
    (Pf1.dat A B c).arrAt (1 : Fin 2) cfg1.N = Pf1.st A 20 c := by
  refine (Pf1.dat A B c).arrAt_eq_of_after_last (1 : Fin 2) t1_0 whole_out1 (Pf1.st A 20 c) (fun j => ?_)
  rw [after_out1]
  rfl

end

variable (m : (ℓ : Loc nD τ sig) → Buf (Elt Ideal) ℓ)

/-- The first call's result on every device is the sum of all devices' operands. -/
theorem res0_sum (c : Dev nD) : res0 m c = (fun e => ∑ d : Dev nD, (V3 m d main_v52 : S2048x1024.Idx → EReal) e : S2048x1024.Idx → EReal) := by
  unfold res0
  rw [dat_out]
  exact st_sum (X0 m) c
/-- So is the second call's. -/
theorem res1_sum (c : Dev nD) : res1 m c = (fun e => ∑ d : Dev nD, (V7 m (outs m) d main_v88 : S2048x1024.Idx → EReal) e : S2048x1024.Idx → EReal) := by
  unfold res1
  rw [dat_out1, st_same, st_sum (X1 m) c]
  refine funext fun e => Finset.sum_congr rfl fun d _ => ?_
  rw [V7_outs]; rfl

end Cert.KernelIdeal.Pf

end
-- ==== Proof.Host.lean ====
module

public import proofs.«01_k».proof.Proof.Sum
public import Idealize.ShloMosaic.Lib.StableHlo.Run

@[expose] public section

set_option Elab.async false

noncomputable section

namespace Cert.KernelIdeal.Pf

open Cert.KernelIdeal Cert.KernelIdeal.Gen

open Idealize.ShloMosaic
open Idealize.ShloMosaic.TcCoe
open Idealize.ShloMosaic.StableHlo

/-! What the host's stretches around the two calls leave, as functions of the arrays they read. -/

variable {F : FTy → Type} [FloatOps F]

/-- The mean of each row, kept as a column. -/
def meanCol (x : FVec F S2x1024x1024 .f32) : FVec F S2x1024x1 .f32 :=
  Host.divf (broadcastInDim S2x1024x1 ![0, 1] bcast_S2x1024_S2x1024x1_0_1 (Host.reduceAdd x (constant S_ .f32 0x00000000#32) reducesTo_S2x1024x1024_S2x1024_d2 h_S_)) (broadcastInDim S2x1024x1 ![] bcast_S_S2x1024x1 (constant S_ .f32 0x44800000#32))

/-- A row less its mean. -/
def dev (x : FVec F S2x1024x1024 .f32) : FVec F S2x1024x1024 .f32 :=
  subf x (broadcastInDim S2x1024x1024 ![0, 1, 2] bcast_S2x1024x1_S2x1024x1024_0_1_2 (meanCol x))

/-- The number a variance divides by: the row's length less no correction. -/
def cnt : FVec F S_ .f32 := subf (constant S_ .f32 0x44800000#32) (sitofp .f32 (constantI S_ 32 0#32))

/-- The variance of each row, kept as a column. -/
def varCol (x : FVec F S2x1024x1024 .f32) : FVec F S2x1024x1 .f32 :=
  select (broadcastInDim S2x1024x1 ![] bcast_S_S2x1024x1 (cmpf .ogt (cnt (F := F)) (constant S_ .f32 0x00000000#32)))
    (Host.divf (broadcastInDim S2x1024x1 ![0, 1] bcast_S2x1024_S2x1024x1_0_1 (Host.reduceAdd (mulf (dev x) (dev x)) (constant S_ .f32 0x00000000#32) reducesTo_S2x1024x1024_S2x1024_d2 h_S_)) (broadcastInDim S2x1024x1 ![] bcast_S_S2x1024x1 (cnt (F := F))))
    (broadcastInDim S2x1024x1 ![] bcast_S_S2x1024x1 (id (constant S_ .f32 0x7FC00000#32)))

/-- The variance with the small number added. -/
def varEps (x : FVec F S2x1024x1024 .f32) : FVec F S2x1024x1 .f32 :=
  addf (varCol x) (broadcastInDim S2x1024x1 ![] bcast_S_S2x1024x1 (constant S_ .f32 0x3727C5AC#32))

/-- The normalised rows, by the reciprocal root. -/
def normK (x : FVec F S2x1024x1024 .f32) : FVec F S2x1024x1024 .f32 :=
  mulf (dev x) (broadcastInDim S2x1024x1024 ![0, 1, 2] bcast_S2x1024x1_S2x1024x1024_0_1_2 (Host.rsqrt (varEps x)))

/-- A row of 1024 numbers per batch entry, repeated over the sequence. -/
def rep (v : FVec F S2x1024 .f32) : FVec F S2x1024x1024 .f32 :=
  broadcastInDim S2x1024x1024 ![0, 1, 2] bcast_S2x1x1024_S2x1024x1024_0_1_2 (broadcastInDim S2x1x1024 ![0, 2] bcast_S2x1024_S2x1x1024_0_2 v)

/-- A normalised array, scaled by one plus `s` and shifted by `t`. -/
def modu (n : FVec F S2x1024x1024 .f32) (s t : FVec F S2x1024 .f32) : FVec F S2x1024x1024 .f32 :=
  addf (mulf n (broadcastInDim S2x1024x1024 ![0, 1, 2] bcast_S2x1x1024_S2x1024x1024_0_1_2 (addf (broadcastInDim S2x1x1024 ![] bcast_S_S2x1x1024 (constant S_ .f32 0x3F800000#32)) (broadcastInDim S2x1x1024 ![0, 2] bcast_S2x1024_S2x1x1024_0_2 s)))) (rep t)

/-- The six modulation vectors, side by side. -/
def modv (t : FVec F S2x128 .f32) (w : FVec F S128x6144 .f32) : FVec F S2x6144 .f32 :=
  Host.dotGeneral dot_S2x128_S128x6144_S2x6144_1_0_0_1_n_n none t w

/-- A device's projection, its columns as eight heads of 128. -/
def proj (xm : FVec F S2x1024x1024 .f32) (w : FVec F S1024x1024 .f32) : FVec F S2x1024x8x128 .f32 :=
  shapeCast _ (Host.dotGeneral dot_S2x1024x1024_S1024x1024_S2x1024x1024_2_0_01_1_n_n none xm w) shapeCasts_S2x1024x1024_S2x1024x8x128

/-- A device's scaled scores. -/
def scoreK (xm : FVec F S2x1024x1024 .f32) (wq wk : FVec F S1024x1024 .f32) : FVec F S2x8x1024x1024 .f32 :=
  mulf (Host.dotGeneral dot_S2x1024x8x128_S2x1024x8x128_S2x8x1024x1024_3_3_1_1_02_02 none (proj xm wq) (proj xm wk)) (broadcastInDim S2x8x1024x1024 ![] bcast_S_S2x8x1024x1024 (constant S_ .f32 0x3DB504F3#32))

/-- The exponentials of a device's scores less their row's largest. -/
def expK (s : FVec F S2x8x1024x1024 .f32) : FVec F S2x8x1024x1024 .f32 :=
  Host.exp (subf s (broadcastInDim S2x8x1024x1024 ![0, 1, 2, 3] bcast_S2x8x1024x1_S2x8x1024x1024_0_1_2_3 (broadcastInDim S2x8x1024x1 ![0, 1, 2] bcast_S2x8x1024_S2x8x1024x1_0_1_2 (maximumf (broadcastInDim S2x8x1024 ![] bcast_S_S2x8x1024 (constant S_ .f32 0xFF800000#32)) (Host.reduce FloatOps.maximumf s (constant S_ .f32 0xFF800000#32) reducesTo_S2x8x1024x1024_S2x8x1024_d3 h_S_)))))

/-- The weights: the exponentials over their row's sum. -/
def wgtK (e : FVec F S2x8x1024x1024 .f32) : FVec F S2x8x1024x1024 .f32 :=
  Host.divf e (broadcastInDim S2x8x1024x1024 ![0, 1, 2, 3] bcast_S2x8x1024x1_S2x8x1024x1024_0_1_2_3 (broadcastInDim S2x8x1024x1 ![0, 1, 2] bcast_S2x8x1024_S2x8x1024x1_0_1_2 (Host.reduceAdd e (constant S_ .f32 0x00000000#32) reducesTo_S2x8x1024x1024_S2x8x1024_d3 h_S_)))

/-- A device's heads, side by side. -/
def headsK (xm : FVec F S2x1024x1024 .f32) (wq wk wv : FVec F S1024x1024 .f32) : FVec F S2x1024x1024 .f32 :=
  shapeCast _ (transpose S2x1024x8x128 [0, 3, 1, 2] (Host.dotGeneral dot_S2x1024x8x128_S2x8x1024x1024_S2x8x128x1024_1_3_3_2_02_01 none (proj xm wv) (wgtK (expK (scoreK xm wq wk)))) transposes_S2x8x128x1024_S2x1024x8x128_0_3_1_2) shapeCasts_S2x1024x8x128_S2x1024x1024

/-- A device's part of the attention's output. -/
def attnK (xm : FVec F S2x1024x1024 .f32) (wq wk wv wo : FVec F S1024x1024 .f32) : FVec F S2x1024x1024 .f32 :=
  Host.dotGeneral dot_S2x1024x1024_S1024x1024_S2x1024x1024_2_0_01_1_n_n none (headsK xm wq wk wv) wo

/-- A device's hidden layer before its activation. -/
def hidK (xm : FVec F S2x1024x1024 .f32) (w : FVec F S1024x128 .f32) : FVec F S2x1024x128 .f32 :=
  Host.dotGeneral dot_S2x1024x1024_S1024x128_S2x1024x128_2_0_01_1_n_n none xm w

/-- The activation: a number times its sigmoid. -/
def actK (h : FVec F S2x1024x128 .f32) : FVec F S2x1024x128 .f32 :=
  mulf h (Host.divf (broadcastInDim S2x1024x128 ![] bcast_S_S2x1024x128 (constant S_ .f32 0x3F800000#32)) (addf (broadcastInDim S2x1024x128 ![] bcast_S_S2x1024x128 (constant S_ .f32 0x3F800000#32)) (Host.exp (Host.negf h))))

/-- A device's part of the second layer's output. -/
def ffnK (xm : FVec F S2x1024x1024 .f32) (w1 : FVec F S1024x128 .f32) (w2 : FVec F S128x1024 .f32) : FVec F S2x1024x1024 .f32 :=
  Host.dotGeneral dot_S2x1024x128_S128x1024_S2x1024x1024_2_0_01_1_n_n none (actK (hidK xm w1)) w2

/-! ## The stretches -/

variable (W : Valuation τ sig (Elt F))

set_option maxRecDepth 8192
set_option maxHeartbeats 2000000

theorem a0_v2 : after hostOps0 W main_v2 = extractStridedSlice S2x1024 ![0, 0] (modv (W main_arg5) (W main_arg6)) slices_S2x6144_S2x1024_0_0 := by
  simp only [hostOps0]
  after_results_simp
  all_goals rfl
theorem a0_v3 : after hostOps0 W main_v3 = extractStridedSlice S2x1024 ![0, 1024] (modv (W main_arg5) (W main_arg6)) slices_S2x6144_S2x1024_0_1024 := by
  simp only [hostOps0]
  after_results_simp
  all_goals rfl
theorem a0_v4 : after hostOps0 W main_v4 = extractStridedSlice S2x1024 ![0, 2048] (modv (W main_arg5) (W main_arg6)) slices_S2x6144_S2x1024_0_2048 := by
  simp only [hostOps0]
  after_results_simp
  all_goals rfl
theorem a0_v5 : after hostOps0 W main_v5 = extractStridedSlice S2x1024 ![0, 3072] (modv (W main_arg5) (W main_arg6)) slices_S2x6144_S2x1024_0_3072 := by
  simp only [hostOps0]
  after_results_simp
  all_goals rfl
theorem a0_v6 : after hostOps0 W main_v6 = extractStridedSlice S2x1024 ![0, 4096] (modv (W main_arg5) (W main_arg6)) slices_S2x6144_S2x1024_0_4096 := by
  simp only [hostOps0]
  after_results_simp
  all_goals rfl
theorem a0_v7 : after hostOps0 W main_v7 = extractStridedSlice S2x1024 ![0, 5120] (modv (W main_arg5) (W main_arg6)) slices_S2x6144_S2x1024_0_5120 := by
  simp only [hostOps0]
  after_results_simp
  all_goals rfl
theorem a0_v11 : after hostOps0 W main_v11 = meanCol (W main_arg0) := by
  simp only [hostOps0]
  after_results_simp
  all_goals rfl
theorem a0_c : after hostOps0 W main_c = constantI S_ 32 0#32 := by
  simp only [hostOps0]
  after_results_simp
  all_goals rfl
theorem a1_v12 (hc : W main_c = constantI S_ 32 0#32) : after hostOps0_1 W main_v12 = varCol (W main_arg0) := by
  simp only [hostOps0_1, TRef.binary, TRef.nullary, TRef.ternary, TRef.unary, TRef.toBuf, TRef.ofBuf, cast_eq]
  after_results_simp
  rw [hc]
  all_goals rfl
theorem a2_v52 (h11 : W main_v11 = meanCol (W main_arg0)) (h12 : W main_v12 = varCol (W main_arg0)) :
    after hostOps0_2 W main_v52 = shapeCast S2048x1024 (attnK (modu (normK (W main_arg0)) (W main_v2) (W main_v3)) (W main_arg1) (W main_arg2) (W main_arg3) (W main_arg4)) shapeCasts_S2x1024x1024_S2048x1024 := by
  simp only [hostOps0_2]
  after_results_simp
  rw [h11, h12]
  all_goals rfl

/-- The first residual sum. -/
def resid (x : FVec F S2x1024x1024 .f32) (g : FVec F S2x1024 .f32) (a : FVec F S2048x1024 .f32) : FVec F S2x1024x1024 .f32 :=
  addf x (mulf (rep g) (shapeCast S2x1024x1024 a shapeCasts_S2048x1024_S2x1024x1024))

theorem b0_v58 : after hostOps1 W main_v58 = resid (W main_arg0) (W main_v4) (W main_v53) := by
  simp only [hostOps1]
  after_results_simp
  all_goals rfl
theorem b0_v62 : after hostOps1 W main_v62 = meanCol (resid (W main_arg0) (W main_v4) (W main_v53)) := by
  simp only [hostOps1]
  after_results_simp
  all_goals rfl
theorem b0_c : after hostOps1 W main_c_9 = constantI S_ 32 0#32 := by
  simp only [hostOps1]
  after_results_simp
  all_goals rfl
theorem b1_v63 (hc : W main_c_9 = constantI S_ 32 0#32) : after hostOps1_1 W main_v63 = varCol (W main_v58) := by
  simp only [hostOps1_1, TRef.binary, TRef.nullary, TRef.ternary, TRef.unary, TRef.toBuf, TRef.ofBuf, cast_eq]
  after_results_simp
  rw [hc]
  all_goals rfl
theorem b2_v88 (h62 : W main_v62 = meanCol (W main_v58)) (h63 : W main_v63 = varCol (W main_v58)) :
    after hostOps1_2 W main_v88 = shapeCast S2048x1024 (ffnK (modu (normK (W main_v58)) (W main_v5) (W main_v6)) (W main_arg7) (W main_arg8)) shapeCasts_S2x1024x1024_S2048x1024 := by
  simp only [hostOps1_2]
  after_results_simp
  rw [h62, h63]
  all_goals rfl
theorem c0_v94 : after hostOps2 W main_v94 = resid (W main_v58) (W main_v7) (W main_v89) := by
  simp only [hostOps2]
  after_results_simp
  all_goals rfl

end Cert.KernelIdeal.Pf

end
-- ==== Proof.Norm.lean ====
module

public import proofs.«01_k».proof.Proof.Host
public import Idealize.ShloMosaic.Lib.IdealHost
public import Idealize.ShloMosaic.Lib.Pointwise

@[expose] public section

set_option Elab.async false

noncomputable section

namespace Cert.KernelIdeal.Pf

open Cert.KernelIdeal Cert.KernelIdeal.Gen

open Idealize.ShloMosaic

/-! The reciprocal root and the quotient by a root agree on a variance with a positive number added; so do the two ways to write the activation. -/

theorem len_eq : Ideal.ofBits .f32 0x44800000#32 = ((1024 : ℝ) : EReal) := by
  simp [Ideal.ofBits, Ideal.ieee, -EReal.coe_mul]; norm_num

theorem len_cnt : Ideal.ofBits .f32 0x44800000#32 - FloatOps.sitofp (F := Ideal) .f32 (0#32) = ((1024 : ℝ) : EReal) := by
  rw [len_eq]
  show ((1024 : ℝ) : EReal) - (((0#32).toInt : ℝ) : EReal) = _
  rw [← EReal.coe_sub]
  simp

theorem eps_pos : (0 : EReal) < Ideal.ofBits .f32 0x3727C5AC#32 := by
  have h : Ideal.ofBits .f32 0x3727C5AC#32 = (((11 : ℝ) * (2 : ℝ) ^ (-20 : ℤ) * (2 ^ 23 + 2606508 : ℕ) / (11 * 2 ^ 20 : ℕ) : ℝ) : EReal) := by
    simp [Ideal.ofBits, Ideal.ieee, -EReal.coe_mul]; norm_num
  rw [h]
  exact EReal.coe_pos.mpr (by positivity)

theorem div_nonneg {x : EReal} (hx : 0 ≤ x) : 0 ≤ Ideal.div x ((1024 : ℝ) : EReal) := by
  unfold Ideal.div
  rw [if_neg (by norm_num)]
  exact mul_nonneg hx (EReal.inv_nonneg_of_nonneg (EReal.coe_nonneg.mpr (by norm_num)))

theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem varEps_pos (x : FVec Ideal S2x1024x1024 .f32) (j : S2x1024x1.Idx) : (0 : EReal) < varEps x j := by
  pointwise [varEps, varCol, cnt]
  rw [len_cnt, if_pos (EReal.coe_pos.mpr (by norm_num))]
  exact lt_of_lt_of_le eps_pos (le_add_of_nonneg_left (div_nonneg (Finset.sum_nonneg fun k _ => sq_nonneg' _)))

/-- A product with the reciprocal root is the quotient by the root, at a positive number. -/
theorem mul_rsqrt {a y : EReal} (hy : 0 < y) : a * Ideal.rsqrt y = Ideal.div a (Ideal.sqrt y) := by
  induction y using EReal.rec with
  | bot => exact absurd hy (by simp)
  | top =>
    show a * 0 = Ideal.div a ⊤
    unfold Ideal.div
    rw [if_neg (by simp), EReal.inv_top]
  | coe r =>
    have hr : 0 < r := EReal.coe_pos.mp hy
    have hs : 0 < Real.sqrt r := Real.sqrt_pos.mpr hr
    show a * (if r < 0 then ⊥ else if r = 0 then ⊤ else (((Real.sqrt r)⁻¹ : ℝ) : EReal)) = Ideal.div a (if r < 0 then ⊥ else ((Real.sqrt r : ℝ) : EReal))
    rw [if_neg (not_lt.mpr hr.le), if_neg hr.ne', if_neg (not_lt.mpr hr.le)]
    unfold Ideal.div
    rw [if_neg (EReal.coe_ne_zero.mpr hs.ne'), EReal.coe_inv]

/-- The normalised rows, by a quotient. -/
theorem norm_quot (x : FVec Ideal S2x1024x1024 .f32) :
    Host.divf (dev x) (broadcastInDim S2x1024x1024 ![0, 1, 2] bcast_S2x1024x1_S2x1024x1024_0_1_2 (Host.sqrt (varEps x))) = normK x := by
  funext j
  pointwise [normK]
  exact (mul_rsqrt (varEps_pos x _)).symm

theorem exp_nonneg (x : EReal) : 0 ≤ Ideal.exp x := by
  induction x using EReal.rec with
  | bot => exact le_refl _
  | top => exact le_top
  | coe r => exact EReal.coe_nonneg.mpr (Real.exp_pos r).le

/-- A number times its sigmoid is the number over one plus the exponential of its negative. -/
theorem act_quot (h : EReal) : h * Ideal.div 1 (1 + Ideal.exp (-h)) = Ideal.div h (1 + Ideal.exp (-h)) :=
  Ideal.mul_one_div (ne_of_gt (lt_of_lt_of_le (by norm_num) (le_add_of_nonneg_right (exp_nonneg _))))

end Cert.KernelIdeal.Pf

end
-- ==== Proof.Max.lean ====
module

public import Idealize.ShloMosaic.Lib.IdealHost
public import Idealize.ShloMosaic.Lib.Pointwise

@[expose] public section

noncomputable section

namespace Cert.Mx

open Idealize.ShloMosaic

/-- The largest along the last of four axes, from an initial number, is a fold over that axis. -/
theorem reduce_max {n0 n1 n2 n3 : Nat} {u : Shape} (h : (⟨4, ![n0, n1, n2, n3]⟩ : Shape).ReducesTo [3] ⟨3, ![n0, n1, n2]⟩) (x : FVec Ideal ⟨4, ![n0, n1, n2, n3]⟩ .f32)
    (init : FVec Ideal u .f32) (hu : 0 < u.numel) (a : Fin n0) (b : Fin n1) (c : Fin n2) :
    Host.reduce (FloatOps.maximumf (F := Ideal) (φ := .f32)) x init h hu (ix3 a b c) = (Finset.univ : Finset (Fin n3)).fold (FloatOps.maximumf (F := Ideal) (φ := .f32)) (init (Shape.Idx.first hu)) (fun k => x (ix4 a b c k)) := by
  rw [Host.reduce_eq_fold, Shape.ReducesTo.fold_fiber_r4_a3 h]
  rfl

end Cert.Mx

end
-- ==== Proof.Heads.lean ====
module

public import proofs.«01_k».proof.Proof.Norm
public import proofs.«01_k».proof.Proof.Max
public import Idealize.ShloMosaic.Lib.IdealHost
public import Idealize.ShloMosaic.Lib.Pointwise

@[expose] public section

set_option Elab.async false

noncomputable section

namespace Cert.KernelIdeal.Pf

open Cert.KernelIdeal Cert.KernelIdeal.Gen

open Idealize.ShloMosaic

/-! ## One head of the attention, from its 128 columns -/

/-- A row of an array times a column. -/
def col (xm : FVec Ideal S2x1024x1024 .f32) (w : Fin 1024 → EReal) (b : Fin 2) (i : Fin 1024) : EReal := ∑ k : Fin 1024, xm (ix3 b i k) * w k

/-- The scaled score of position `i` for position `j`. -/
def score (xm : FVec Ideal S2x1024x1024 .f32) (wq wk : Fin 128 → Fin 1024 → EReal) (b : Fin 2) (i j : Fin 1024) : EReal :=
  (∑ d : Fin 128, col xm (wq d) b i * col xm (wk d) b j) * Ideal.ofBits .f32 0x3DB504F3#32

/-- The largest of 1024 numbers. -/
def biggest (s : Fin 1024 → EReal) : EReal := Finset.univ.fold max (Ideal.ofBits .f32 0xFF800000#32) s

/-- The exponential of a score less the row's largest. -/
def ex (s : Fin 1024 → EReal) (j : Fin 1024) : EReal := Ideal.exp (s j - biggest s)

/-- One output number of a head. -/
def head (xm : FVec Ideal S2x1024x1024 .f32) (wq wk wv : Fin 128 → Fin 1024 → EReal) (b : Fin 2) (i : Fin 1024) (d : Fin 128) : EReal :=
  ∑ j : Fin 1024, col xm (wv d) b j * Ideal.div (ex (score xm wq wk b i) j) (∑ j' : Fin 1024, ex (score xm wq wk b i) j')

theorem projK_read (xm : FVec Ideal S2x1024x1024 .f32) (w : FVec Ideal S1024x1024 .f32) (b : Fin 2) (i : Fin 1024) (h : Fin 8) (d : Fin 128) :
    proj xm w (ix4 b i h d) = col xm (fun k => w (ix2 k ⟨h.val * 128 + d.val, by omega⟩)) b i := by
  pointwise [proj, col]

theorem scoreK_read (xm : FVec Ideal S2x1024x1024 .f32) (wq wk : FVec Ideal S1024x1024 .f32) (b : Fin 2) (h : Fin 8) (i j : Fin 1024) :
    scoreK xm wq wk (ix4 b h i j) = score xm (fun d k => wq (ix2 k ⟨h.val * 128 + d.val, by omega⟩)) (fun d k => wk (ix2 k ⟨h.val * 128 + d.val, by omega⟩)) b i j := by
  pointwise [scoreK, score]
  simp only [projK_read]

theorem biggest_max (s : Fin 1024 → EReal) : max (Ideal.ofBits .f32 0xFF800000#32) (biggest s) = biggest s :=
  max_eq_right (Finset.le_fold_max _ |>.mpr (Or.inl le_rfl))

/-- The exponentials of the scores less a given number per row. -/
def expM (s : FVec Ideal S2x8x1024x1024 .f32) (M : FVec Ideal S2x8x1024 .f32) : FVec Ideal S2x8x1024x1024 .f32 :=
  Host.exp (subf s (broadcastInDim S2x8x1024x1024 ![0, 1, 2, 3] bcast_S2x8x1024x1_S2x8x1024x1024_0_1_2_3 (broadcastInDim S2x8x1024x1 ![0, 1, 2] bcast_S2x8x1024_S2x8x1024x1_0_1_2 (maximumf (broadcastInDim S2x8x1024 ![] bcast_S_S2x8x1024 (constant S_ .f32 0xFF800000#32)) M))))

theorem expM_read (s : FVec Ideal S2x8x1024x1024 .f32) (M : FVec Ideal S2x8x1024 .f32) (b : Fin 2) (h : Fin 8) (i j : Fin 1024) :
    expM s M (ix4 b h i j) = Ideal.exp (s (ix4 b h i j) - max (Ideal.ofBits .f32 0xFF800000#32) (M (ix3 b h i))) := by
  pointwise [expM]

theorem fold_biggest (s : Fin 1024 → EReal) : Finset.fold (FloatOps.maximumf (F := Ideal) (φ := .f32)) ((constant S_ .f32 0xFF800000#32 : FVec Ideal S_ .f32) (Shape.Idx.first h_S_)) s Finset.univ = biggest s := by
  unfold biggest
  rfl

theorem redK_read (s : FVec Ideal S2x8x1024x1024 .f32) (b : Fin 2) (h : Fin 8) (i : Fin 1024) :
    Host.reduce FloatOps.maximumf s (constant S_ .f32 0xFF800000#32) reducesTo_S2x8x1024x1024_S2x8x1024_d3 h_S_ (ix3 b h i) = biggest fun k => s (ix4 b h i k) :=
  (Cert.Mx.reduce_max reducesTo_S2x8x1024x1024_S2x8x1024_d3 s (constant S_ .f32 0xFF800000#32) h_S_ b h i).trans (fold_biggest _)

theorem expK_read (s : FVec Ideal S2x8x1024x1024 .f32) (b : Fin 2) (h : Fin 8) (i j : Fin 1024) :
    expK s (ix4 b h i j) = ex (fun j => s (ix4 b h i j)) j := by
  have h1 : expK s (ix4 b h i j) = Ideal.exp (s (ix4 b h i j) - max (Ideal.ofBits .f32 0xFF800000#32) (biggest fun k => s (ix4 b h i k))) :=
    (expM_read s _ b h i j).trans (congrArg (fun z => Ideal.exp (s (ix4 b h i j) - max (Ideal.ofBits .f32 0xFF800000#32) z)) (redK_read s b h i))
  rw [biggest_max] at h1
  exact h1

theorem headsK_read (xm : FVec Ideal S2x1024x1024 .f32) (wq wk wv : FVec Ideal S1024x1024 .f32) (b : Fin 2) (i : Fin 1024) (n : Fin 1024) :
    headsK xm wq wk wv (ix3 b i n) = head xm (fun d k => wq (ix2 k ⟨n.val / 128 * 128 + d.val, by omega⟩)) (fun d k => wk (ix2 k ⟨n.val / 128 * 128 + d.val, by omega⟩)) (fun d k => wv (ix2 k ⟨n.val / 128 * 128 + d.val, by omega⟩)) b i ⟨n.val % 128, by omega⟩ := by
  pointwise [headsK, wgtK]
  simp only [projK_read, expK_read, scoreK_read]
  rfl

theorem attnK_read (xm : FVec Ideal S2x1024x1024 .f32) (wq wk wv wo : FVec Ideal S1024x1024 .f32) (b : Fin 2) (i : Fin 1024) (n : Fin 1024) :
    attnK xm wq wk wv wo (ix3 b i n) = ∑ x : Fin 1024, headsK xm wq wk wv (ix3 b i x) * wo (ix2 x n) := by
  pointwise [attnK]

/-- A hidden unit after its activation, times nothing else. -/
def act (h : EReal) : EReal := Ideal.div h (1 + Ideal.exp (-h))

theorem ffnK_read (xm : FVec Ideal S2x1024x1024 .f32) (w1 : FVec Ideal S1024x128 .f32) (w2 : FVec Ideal S128x1024 .f32) (b : Fin 2) (i : Fin 1024) (n : Fin 1024) :
    ffnK xm w1 w2 (ix3 b i n) = ∑ x : Fin 128, act (col xm (fun k => w1 (ix2 k x)) b i) * w2 (ix2 x n) := by
  pointwise [ffnK, actK, hidK]
  exact Finset.sum_congr rfl fun x _ => congrArg (· * w2 (ix2 x n)) (act_quot (col xm (fun k => w1 (ix2 k x)) b i))

end Cert.KernelIdeal.Pf

end
-- ==== Proof.Ref.lean ====
module

public import proofs.«01_k».proof.Proof.Heads
public import proofs.«01_k».proof.Proof.Gen.ReferenceIdeal.Run

@[expose] public section

set_option Elab.async false

noncomputable section

namespace Cert.ReferenceIdeal.Pf

open Cert.ReferenceIdeal Cert.ReferenceIdeal.Gen

open Idealize.ShloMosaic Idealize.ShloMosaic.TcCoe Idealize.ShloMosaic.StableHlo
open Cert.KernelIdeal.Pf (col score biggest ex head act modu modv normK dev varEps resid rep norm_quot)

/-! The reference's values at an index: the same heads and the same hidden units, all of them on one device. -/

/-- The projection, its columns as 256 heads of 128. -/
def projR (xm : FVec Ideal S2x1024x1024 .f32) (w : FVec Ideal S1024x32768 .f32) : FVec Ideal S2x1024x256x128 .f32 :=
  shapeCast _ (Host.dotGeneral dot_S2x1024x1024_S1024x32768_S2x1024x32768_2_0_01_1_n_n none xm w) shapeCasts_S2x1024x32768_S2x1024x256x128

/-- The scaled scores. -/
def scoreR (xm : FVec Ideal S2x1024x1024 .f32) (wq wk : FVec Ideal S1024x32768 .f32) : FVec Ideal S2x256x1024x1024 .f32 :=
  mulf (Host.dotGeneral dot_S2x1024x256x128_S2x1024x256x128_S2x256x1024x1024_3_3_1_1_02_02 none (projR xm wq) (projR xm wk)) (broadcastInDim S2x256x1024x1024 ![] bcast_S_S2x256x1024x1024 (constant S_ .f32 0x3DB504F3#32))

/-- The exponentials of the scores less a given number per row. -/
def expN (s : FVec Ideal S2x256x1024x1024 .f32) (M : FVec Ideal S2x256x1024 .f32) : FVec Ideal S2x256x1024x1024 .f32 :=
  Host.exp (subf s (broadcastInDim S2x256x1024x1024 ![0, 1, 2, 3] bcast_S2x256x1024x1_S2x256x1024x1024_0_1_2_3 (broadcastInDim S2x256x1024x1 ![0, 1, 2] bcast_S2x256x1024_S2x256x1024x1_0_1_2 M)))

/-- The exponentials of the scores less their row's largest. -/
def expR (s : FVec Ideal S2x256x1024x1024 .f32) : FVec Ideal S2x256x1024x1024 .f32 :=
  expN s (Host.reduce FloatOps.maximumf s (constant S_ .f32 0xFF800000#32) reducesTo_S2x256x1024x1024_S2x256x1024_d3 h_S_)

/-- The weights: the exponentials over their row's sum. -/
def wgtR (e : FVec Ideal S2x256x1024x1024 .f32) : FVec Ideal S2x256x1024x1024 .f32 :=
  Host.divf e (broadcastInDim S2x256x1024x1024 ![0, 1, 2, 3] bcast_S2x256x1024x1_S2x256x1024x1024_0_1_2_3 (broadcastInDim S2x256x1024x1 ![0, 1, 2] bcast_S2x256x1024_S2x256x1024x1_0_1_2 (Host.reduceAdd e (constant S_ .f32 0x00000000#32) reducesTo_S2x256x1024x1024_S2x256x1024_d3 h_S_)))

/-- The heads, side by side. -/
def headsR (xm : FVec Ideal S2x1024x1024 .f32) (wq wk wv : FVec Ideal S1024x32768 .f32) : FVec Ideal S2x1024x32768 .f32 :=
  shapeCast _ (transpose S2x1024x256x128 [0, 3, 1, 2] (Host.dotGeneral dot_S2x1024x256x128_S2x256x1024x1024_S2x256x128x1024_1_3_3_2_02_01 none (projR xm wv) (wgtR (expR (scoreR xm wq wk)))) transposes_S2x256x128x1024_S2x1024x256x128_0_3_1_2) shapeCasts_S2x1024x256x128_S2x1024x32768

/-- The attention's output. -/
def attnR (xm : FVec Ideal S2x1024x1024 .f32) (wq wk wv : FVec Ideal S1024x32768 .f32) (wo : FVec Ideal S32768x1024 .f32) : FVec Ideal S2x1024x1024 .f32 :=
  Host.dotGeneral dot_S2x1024x32768_S32768x1024_S2x1024x1024_2_0_01_1_n_n none (headsR xm wq wk wv) wo

/-- The hidden layer before its activation. -/
def hidR (xm : FVec Ideal S2x1024x1024 .f32) (w : FVec Ideal S1024x4096 .f32) : FVec Ideal S2x1024x4096 .f32 :=
  Host.dotGeneral dot_S2x1024x1024_S1024x4096_S2x1024x4096_2_0_01_1_n_n none xm w

/-- The second layer's output, from the hidden layer before its activation. -/
def outR (h : FVec Ideal S2x1024x4096 .f32) (w2 : FVec Ideal S4096x1024 .f32) : FVec Ideal S2x1024x1024 .f32 :=
  Host.dotGeneral dot_S2x1024x4096_S4096x1024_S2x1024x1024_2_0_01_1_n_n none (Host.divf h (addf (broadcastInDim S2x1024x4096 ![] bcast_S_S2x1024x4096 (constant S_ .f32 0x3F800000#32)) (Host.exp (Host.negf h)))) w2

theorem projR_read (xm : FVec Ideal S2x1024x1024 .f32) (w : FVec Ideal S1024x32768 .f32) (b : Fin 2) (i : Fin 1024) (h : Fin 256) (d : Fin 128) :
    projR xm w (ix4 b i h d) = col xm (fun k => w (ix2 k ⟨h.val * 128 + d.val, by omega⟩)) b i := by
  pointwise [projR, col]

theorem scoreR_read (xm : FVec Ideal S2x1024x1024 .f32) (wq wk : FVec Ideal S1024x32768 .f32) (b : Fin 2) (h : Fin 256) (i j : Fin 1024) :
    scoreR xm wq wk (ix4 b h i j) = score xm (fun d k => wq (ix2 k ⟨h.val * 128 + d.val, by omega⟩)) (fun d k => wk (ix2 k ⟨h.val * 128 + d.val, by omega⟩)) b i j := by
  pointwise [scoreR, score]
  simp only [projR_read]

theorem expN_read (s : FVec Ideal S2x256x1024x1024 .f32) (M : FVec Ideal S2x256x1024 .f32) (b : Fin 2) (h : Fin 256) (i j : Fin 1024) :
    expN s M (ix4 b h i j) = Ideal.exp (s (ix4 b h i j) - M (ix3 b h i)) := by
  pointwise [expN]

theorem fold_biggest (s : Fin 1024 → EReal) : Finset.fold (FloatOps.maximumf (F := Ideal) (φ := .f32)) ((constant S_ .f32 0xFF800000#32 : FVec Ideal S_ .f32) (Shape.Idx.first h_S_)) s Finset.univ = biggest s := by
  unfold biggest
  rfl

theorem redR_read (s : FVec Ideal S2x256x1024x1024 .f32) (b : Fin 2) (h : Fin 256) (i : Fin 1024) :
    Host.reduce FloatOps.maximumf s (constant S_ .f32 0xFF800000#32) reducesTo_S2x256x1024x1024_S2x256x1024_d3 h_S_ (ix3 b h i) = biggest fun k => s (ix4 b h i k) :=
  (Cert.Mx.reduce_max reducesTo_S2x256x1024x1024_S2x256x1024_d3 s (constant S_ .f32 0xFF800000#32) h_S_ b h i).trans (fold_biggest _)

theorem expR_read (s : FVec Ideal S2x256x1024x1024 .f32) (b : Fin 2) (h : Fin 256) (i j : Fin 1024) :
    expR s (ix4 b h i j) = ex (fun j => s (ix4 b h i j)) j :=
  (expN_read s _ b h i j).trans (congrArg (fun z => Ideal.exp (s (ix4 b h i j) - z)) (redR_read s b h i))

theorem headsR_read (xm : FVec Ideal S2x1024x1024 .f32) (wq wk wv : FVec Ideal S1024x32768 .f32) (b : Fin 2) (i : Fin 1024) (n : Fin 32768) :
    headsR xm wq wk wv (ix3 b i n) = head xm (fun d k => wq (ix2 k ⟨n.val / 128 * 128 + d.val, by omega⟩)) (fun d k => wk (ix2 k ⟨n.val / 128 * 128 + d.val, by omega⟩)) (fun d k => wv (ix2 k ⟨n.val / 128 * 128 + d.val, by omega⟩)) b i ⟨n.val % 128, by omega⟩ := by
  pointwise [headsR, wgtR]
  simp only [projR_read, expR_read, scoreR_read]
  rfl

theorem attnR_read (xm : FVec Ideal S2x1024x1024 .f32) (wq wk wv : FVec Ideal S1024x32768 .f32) (wo : FVec Ideal S32768x1024 .f32) (b : Fin 2) (i : Fin 1024) (n : Fin 1024) :
    attnR xm wq wk wv wo (ix3 b i n) = ∑ x : Fin 32768, headsR xm wq wk wv (ix3 b i x) * wo (ix2 x n) := by
  pointwise [attnR]

theorem outR_read (xm : FVec Ideal S2x1024x1024 .f32) (w1 : FVec Ideal S1024x4096 .f32) (w2 : FVec Ideal S4096x1024 .f32) (b : Fin 2) (i : Fin 1024) (n : Fin 1024) :
    outR (hidR xm w1) w2 (ix3 b i n) = ∑ x : Fin 4096, act (col xm (fun k => w1 (ix2 k x)) b i) * w2 (ix2 x n) := by
  pointwise [outR, hidR]
  rfl

/-! ## The reference's result -/

open Cert.ReferenceIdeal.Value

variable (V : Valuation τ sig (Elt Ideal))

/-- A residual step: an array plus another scaled by a row. -/
def step (x : FVec Ideal S2x1024x1024 .f32) (g : FVec Ideal S2x1024 .f32) (a : FVec Ideal S2x1024x1024 .f32) : FVec Ideal S2x1024x1024 .f32 :=
  addf x (mulf (rep g) a)

/-- The modulation rows. -/
def mods (t : FVec Ideal S2x128 .f32) (w : FVec Ideal S128x6144 .f32) : FVec Ideal S2x6144 .f32 := modv t w

/-- The whole block, from its nine arrays: first the rows after the attention. -/
def mid (x : FVec Ideal S2x1024x1024 .f32) (wq wk wv : FVec Ideal S1024x32768 .f32) (wo : FVec Ideal S32768x1024 .f32) (r : FVec Ideal S2x6144 .f32) : FVec Ideal S2x1024x1024 .f32 :=
  step x (extractStridedSlice S2x1024 ![0, 2048] r slices_S2x6144_S2x1024_0_2048)
    (attnR (modu (normK x) (extractStridedSlice S2x1024 ![0, 0] r slices_S2x6144_S2x1024_0_0) (extractStridedSlice S2x1024 ![0, 1024] r slices_S2x6144_S2x1024_0_1024)) wq wk wv wo)

/-- Then the rows after the two layers. -/
def fin (x : FVec Ideal S2x1024x1024 .f32) (w1 : FVec Ideal S1024x4096 .f32) (w2 : FVec Ideal S4096x1024 .f32) (r : FVec Ideal S2x6144 .f32) : FVec Ideal S2x1024x1024 .f32 :=
  step x (extractStridedSlice S2x1024 ![0, 5120] r slices_S2x6144_S2x1024_0_5120)
    (outR (hidR (modu (normK x) (extractStridedSlice S2x1024 ![0, 3072] r slices_S2x6144_S2x1024_0_3072) (extractStridedSlice S2x1024 ![0, 4096] r slices_S2x6144_S2x1024_0_4096)) w1) w2)

theorem mid_eq : res_main_v52 V = mid (V main_arg0) (V main_arg1) (V main_arg2) (V main_arg3) (V main_arg4) (mods (V main_arg5) (V main_arg6)) := by
  unfold mid
  rw [← norm_quot]
  rfl

theorem fin_eq : step (res_main_v52 V) (extractStridedSlice S2x1024 ![0, 5120] (res_main_v0 V) slices_S2x6144_S2x1024_0_5120) (outR (res_main_v73 V) (V main_arg8))
    = fin (res_main_v52 V) (V main_arg7) (V main_arg8) (mods (V main_arg5) (V main_arg6)) := by
  unfold fin
  rw [← norm_quot]
  rfl

end Cert.ReferenceIdeal.Pf

end
-- ==== Proof.Whole.lean ====
module

public import proofs.«01_k».proof.Proof.Ref
public import Idealize.ShloMosaic.Lib.LayoutAt

@[expose] public section

set_option Elab.async false

noncomputable section

namespace Cert.Whole

open Idealize.ShloMosaic
open Cert.KernelIdeal.Pf Cert.ReferenceIdeal.Pf

/-! The 32 devices' parts together: a sum over devices of sums over a block is the sum over the whole axis. -/

theorem sum_blocks {a b n : Nat} (h : a * b = n) (f : Fin n → EReal) :
    ∑ x : Fin n, f x = ∑ d : Fin a, ∑ y : Fin b, f ⟨b * d.val + y.val, by subst h; exact (finProdFinEquiv (d, y)).isLt.trans_eq' (Nat.add_comm _ _)⟩ := by
  subst h
  rw [← finProdFinEquiv.sum_comp, Fintype.sum_prod_type]
  refine Finset.sum_congr rfl fun d _ => Finset.sum_congr rfl fun y _ => congrArg f (Fin.ext ?_)
  exact Nat.add_comm _ _

/-- Device `d`'s block of columns of a 1024 by 32768 array. -/
theorem block_q (x : (⟨2, ![1024, 32768]⟩ : Shape).Idx → EReal) (d : Fin 32) (k n : Fin 1024) :
    Layout.block ⟨2, ![1024, 1024]⟩ ⟨2, ![1024, 32768]⟩ 1 32 d x (by decide) (ix2 k n) = x (ix2 k ⟨1024 * d.val + n.val, by omega⟩) := by
  shard_ext

/-- Device `d`'s block of rows of a 32768 by 1024 array. -/
theorem block_o (x : (⟨2, ![32768, 1024]⟩ : Shape).Idx → EReal) (d : Fin 32) (k n : Fin 1024) :
    Layout.block ⟨2, ![1024, 1024]⟩ ⟨2, ![32768, 1024]⟩ 0 32 d x (by decide) (ix2 k n) = x (ix2 ⟨1024 * d.val + k.val, by omega⟩ n) := by
  shard_ext

/-- Device `d`'s block of columns of a 1024 by 4096 array. -/
theorem block_1 (x : (⟨2, ![1024, 4096]⟩ : Shape).Idx → EReal) (d : Fin 32) (k : Fin 1024) (n : Fin 128) :
    Layout.block ⟨2, ![1024, 128]⟩ ⟨2, ![1024, 4096]⟩ 1 32 d x (by decide) (ix2 k n) = x (ix2 k ⟨128 * d.val + n.val, by omega⟩) := by
  shard_ext

/-- Device `d`'s block of rows of a 4096 by 1024 array. -/
theorem block_2 (x : (⟨2, ![4096, 1024]⟩ : Shape).Idx → EReal) (d : Fin 32) (k : Fin 128) (n : Fin 1024) :
    Layout.block ⟨2, ![128, 1024]⟩ ⟨2, ![4096, 1024]⟩ 0 32 d x (by decide) (ix2 k n) = x (ix2 ⟨128 * d.val + k.val, by omega⟩ n) := by
  shard_ext

theorem head_eq (xm : FVec Ideal Cert.KernelIdeal.S2x1024x1024 .f32) {f1 f2 f3 g1 g2 g3 : Fin 128 → Fin 1024 → EReal} (h1 : f1 = g1) (h2 : f2 = g2) (h3 : f3 = g3)
    (b : Fin 2) (i : Fin 1024) {u v : Fin 128} (h : u = v) : head xm f1 f2 f3 b i u = head xm g1 g2 g3 b i v := by
  subst h1 h2 h3 h
  rfl

/-- The columns of a head, in a device's block and in the whole array. -/
theorem cols_eq (x : (⟨2, ![1024, 32768]⟩ : Shape).Idx → EReal) (d : Fin 32) (y : Fin 1024) :
    (fun (u : Fin 128) (k : Fin 1024) => Layout.block ⟨2, ![1024, 1024]⟩ ⟨2, ![1024, 32768]⟩ 1 32 d x (by decide) (ix2 k ⟨y.val / 128 * 128 + u.val, by omega⟩))
      = fun u k => x (ix2 k ⟨(1024 * d.val + y.val) / 128 * 128 + u.val, by omega⟩) := by
  funext u k
  rw [block_q]
  exact congrArg (fun z => x (ix2 k z)) (Fin.ext (by show 1024 * d.val + (y.val / 128 * 128 + u.val) = (1024 * d.val + y.val) / 128 * 128 + u.val; omega))

/-- The devices' parts of the attention's output sum to it. -/
theorem attn_total (xm : FVec Ideal Cert.KernelIdeal.S2x1024x1024 .f32) (wq wk wv : FVec Ideal Cert.ReferenceIdeal.S1024x32768 .f32) (wo : FVec Ideal Cert.ReferenceIdeal.S32768x1024 .f32)
    (j : Cert.KernelIdeal.S2x1024x1024.Idx) :
    ∑ d : Fin 32, attnK xm (Layout.block ⟨2, ![1024, 1024]⟩ ⟨2, ![1024, 32768]⟩ 1 32 d wq (by decide)) (Layout.block ⟨2, ![1024, 1024]⟩ ⟨2, ![1024, 32768]⟩ 1 32 d wk (by decide))
      (Layout.block ⟨2, ![1024, 1024]⟩ ⟨2, ![1024, 32768]⟩ 1 32 d wv (by decide)) (Layout.block ⟨2, ![1024, 1024]⟩ ⟨2, ![32768, 1024]⟩ 0 32 d wo (by decide)) j
      = attnR xm wq wk wv wo j := by
  obtain ⟨b, i, n, rfl⟩ : ∃ (b : Fin 2) (i n : Fin 1024), j = ix3 b i n := ⟨j 0, j 1, j 2, eq_ix3 j⟩
  rw [attnR_read, sum_blocks (a := 32) (b := 1024) rfl]
  refine Finset.sum_congr rfl fun d _ => ?_
  rw [attnK_read]
  refine Finset.sum_congr rfl fun y _ => ?_
  rw [block_o, headsK_read, headsR_read]
  refine congrArg (· * wo (ix2 ⟨1024 * d.val + y.val, by omega⟩ n)) ?_
  exact head_eq xm (cols_eq wq d y) (cols_eq wk d y) (cols_eq wv d y) b i (Fin.ext (by show y.val % 128 = (1024 * d.val + y.val) % 128; omega))

/-- The devices' parts of the second layer's output sum to it. -/
theorem ffn_total (xm : FVec Ideal Cert.KernelIdeal.S2x1024x1024 .f32) (w1 : FVec Ideal Cert.ReferenceIdeal.S1024x4096 .f32) (w2 : FVec Ideal Cert.ReferenceIdeal.S4096x1024 .f32)
    (j : Cert.KernelIdeal.S2x1024x1024.Idx) :
    ∑ d : Fin 32, ffnK xm (Layout.block ⟨2, ![1024, 128]⟩ ⟨2, ![1024, 4096]⟩ 1 32 d w1 (by decide)) (Layout.block ⟨2, ![128, 1024]⟩ ⟨2, ![4096, 1024]⟩ 0 32 d w2 (by decide)) j
      = outR (hidR xm w1) w2 j := by
  obtain ⟨b, i, n, rfl⟩ : ∃ (b : Fin 2) (i n : Fin 1024), j = ix3 b i n := ⟨j 0, j 1, j 2, eq_ix3 j⟩
  rw [outR_read, sum_blocks (a := 32) (b := 128) rfl]
  refine Finset.sum_congr rfl fun d _ => ?_
  rw [ffnK_read]
  refine Finset.sum_congr rfl fun y _ => ?_
  simp only [block_1, block_2]

end Cert.Whole

end
-- ==== Proof.Ends.lean ====
module

public import proofs.«01_k».proof.Proof.Host
public import proofs.«01_k».proof.Proof.Sum

@[expose] public section

set_option Elab.async false

noncomputable section

namespace Cert.KernelIdeal.Pf

open Cert.KernelIdeal Cert.KernelIdeal.Gen

open Idealize.ShloMosaic Idealize.ShloMosaic.TcCoe Idealize.ShloMosaic.StableHlo

/-! What each stage of a device's run holds, from the device's nine arrays. -/

variable {F : FTy → Type} [FloatOps F] (m : (ℓ : Loc nD τ sig) → Buf (Elt F) ℓ) (c : Dev nD)

/-- The device's array 0, as launched. -/
def A0 : FVec F S2x1024x1024 .f32 := m ((c : Thread nD τ).loc main_arg0)
/-- The device's array 1, as launched. -/
def A1 : FVec F S1024x1024 .f32 := m ((c : Thread nD τ).loc main_arg1)
/-- The device's array 2, as launched. -/
def A2 : FVec F S1024x1024 .f32 := m ((c : Thread nD τ).loc main_arg2)
/-- The device's array 3, as launched. -/
def A3 : FVec F S1024x1024 .f32 := m ((c : Thread nD τ).loc main_arg3)
/-- The device's array 4, as launched. -/
def A4 : FVec F S1024x1024 .f32 := m ((c : Thread nD τ).loc main_arg4)
/-- The device's array 5, as launched. -/
def A5 : FVec F S2x128 .f32 := m ((c : Thread nD τ).loc main_arg5)
/-- The device's array 6, as launched. -/
def A6 : FVec F S128x6144 .f32 := m ((c : Thread nD τ).loc main_arg6)
/-- The device's array 7, as launched. -/
def A7 : FVec F S1024x128 .f32 := m ((c : Thread nD τ).loc main_arg7)
/-- The device's array 8, as launched. -/
def A8 : FVec F S128x1024 .f32 := m ((c : Thread nD τ).loc main_arg8)

/-- The device's modulation rows. -/
def R : FVec F S2x6144 .f32 := modv (A5 m c) (A6 m c)

/-- The normalised and modulated rows, from an array and the two places its modulation rows start at. -/
def xm0 : FVec F S2x1024x1024 .f32 :=
  modu (normK (A0 m c)) (extractStridedSlice S2x1024 ![0, 0] (R m c) slices_S2x6144_S2x1024_0_0) (extractStridedSlice S2x1024 ![0, 1024] (R m c) slices_S2x6144_S2x1024_0_1024)

theorem at2_arg0 : V2 m c main_arg0 = A0 m c := (V2_of m c main_arg0 (by decide)).trans <| (V1_of m c main_arg0 (by decide))
theorem at2_arg1 : V2 m c main_arg1 = A1 m c := (V2_of m c main_arg1 (by decide)).trans <| (V1_of m c main_arg1 (by decide))
theorem at2_arg2 : V2 m c main_arg2 = A2 m c := (V2_of m c main_arg2 (by decide)).trans <| (V1_of m c main_arg2 (by decide))
theorem at2_arg3 : V2 m c main_arg3 = A3 m c := (V2_of m c main_arg3 (by decide)).trans <| (V1_of m c main_arg3 (by decide))
theorem at2_arg4 : V2 m c main_arg4 = A4 m c := (V2_of m c main_arg4 (by decide)).trans <| (V1_of m c main_arg4 (by decide))
theorem at1_arg0 : V1 m c main_arg0 = A0 m c := (V1_of m c main_arg0 (by decide))
theorem at1_v2 : V1 m c main_v2 = extractStridedSlice S2x1024 ![0, 0] (R m c) slices_S2x6144_S2x1024_0_0 := a0_v2 (V0 m c)
theorem at1_v3 : V1 m c main_v3 = extractStridedSlice S2x1024 ![0, 1024] (R m c) slices_S2x6144_S2x1024_0_1024 := a0_v3 (V0 m c)
theorem at1_v4 : V1 m c main_v4 = extractStridedSlice S2x1024 ![0, 2048] (R m c) slices_S2x6144_S2x1024_0_2048 := a0_v4 (V0 m c)
theorem at1_v5 : V1 m c main_v5 = extractStridedSlice S2x1024 ![0, 3072] (R m c) slices_S2x6144_S2x1024_0_3072 := a0_v5 (V0 m c)
theorem at1_v6 : V1 m c main_v6 = extractStridedSlice S2x1024 ![0, 4096] (R m c) slices_S2x6144_S2x1024_0_4096 := a0_v6 (V0 m c)
theorem at1_v7 : V1 m c main_v7 = extractStridedSlice S2x1024 ![0, 5120] (R m c) slices_S2x6144_S2x1024_0_5120 := a0_v7 (V0 m c)
theorem at2_v11 : V2 m c main_v11 = meanCol (A0 m c) := (V2_of m c main_v11 (by decide)).trans <| a0_v11 (V0 m c)
theorem at2_v12 : V2 m c main_v12 = varCol (A0 m c) := (a1_v12 (V1 m c) (a0_c (V0 m c))).trans (congrArg varCol (at1_arg0 m c))

/-- The first call's operand: the device's part of the attention's output. -/
theorem at3_v52 : V3 m c main_v52 = shapeCast S2048x1024 (attnK (xm0 m c) (A1 m c) (A2 m c) (A3 m c) (A4 m c)) shapeCasts_S2x1024x1024_S2048x1024 := by
  refine (a2_v52 (V2 m c) ((at2_v11 m c).trans (congrArg meanCol (at2_arg0 m c)).symm) ((at2_v12 m c).trans (congrArg varCol (at2_arg0 m c)).symm)).trans ?_
  rw [at2_arg0, at2_arg1, at2_arg2, at2_arg3, at2_arg4, show V2 m c main_v2 = _ from ((V2_of m c main_v2 (by decide))).trans (at1_v2 m c), show V2 m c main_v3 = _ from ((V2_of m c main_v3 (by decide))).trans (at1_v3 m c)]
  rfl

/-- The rows after the attention. -/
def x1 : FVec F S2x1024x1024 .f32 := resid (A0 m c) (extractStridedSlice S2x1024 ![0, 2048] (R m c) slices_S2x6144_S2x1024_0_2048) (res0 m c)

theorem at4_arg0 : V4 m (outs m) c main_arg0 = A0 m c := (V4_of m (outs m) c main_arg0 (by decide)).trans <| (V3_of m c main_arg0 (by decide)).trans <| (V2_of m c main_arg0 (by decide)).trans <| (V1_of m c main_arg0 (by decide))
theorem at4_v4 : V4 m (outs m) c main_v4 = extractStridedSlice S2x1024 ![0, 2048] (R m c) slices_S2x6144_S2x1024_0_2048 := (V4_of m (outs m) c main_v4 (by decide)).trans <| (V3_of m c main_v4 (by decide)).trans <| (V2_of m c main_v4 (by decide)).trans <| at1_v4 m c
theorem res_x1 : resid (V4 m (outs m) c main_arg0) (V4 m (outs m) c main_v4) (V4 m (outs m) c main_v53) = x1 m c := by
  rw [at4_arg0, at4_v4, V4_res]
  rfl
theorem at5_v58 : V5 m (outs m) c main_v58 = x1 m c := (b0_v58 (V4 m (outs m) c)).trans (res_x1 m c)
theorem at5_v62 : V5 m (outs m) c main_v62 = meanCol (x1 m c) := (b0_v62 (V4 m (outs m) c)).trans (congrArg meanCol (res_x1 m c))
theorem at6_v58 : V6 m (outs m) c main_v58 = x1 m c := (V6_of m (outs m) c main_v58 (by decide)).trans <| at5_v58 m c
theorem at6_v62 : V6 m (outs m) c main_v62 = meanCol (x1 m c) := (V6_of m (outs m) c main_v62 (by decide)).trans <| at5_v62 m c
theorem at6_v63 : V6 m (outs m) c main_v63 = varCol (x1 m c) := (b1_v63 (V5 m (outs m) c) (b0_c (V4 m (outs m) c))).trans (congrArg varCol (at5_v58 m c))
theorem at6_arg7 : V6 m (outs m) c main_arg7 = A7 m c := (V6_of m (outs m) c main_arg7 (by decide)).trans <| (V5_of m (outs m) c main_arg7 (by decide)).trans <| (V4_of m (outs m) c main_arg7 (by decide)).trans <| (V3_of m c main_arg7 (by decide)).trans <| (V2_of m c main_arg7 (by decide)).trans <| (V1_of m c main_arg7 (by decide))
theorem at6_arg8 : V6 m (outs m) c main_arg8 = A8 m c := (V6_of m (outs m) c main_arg8 (by decide)).trans <| (V5_of m (outs m) c main_arg8 (by decide)).trans <| (V4_of m (outs m) c main_arg8 (by decide)).trans <| (V3_of m c main_arg8 (by decide)).trans <| (V2_of m c main_arg8 (by decide)).trans <| (V1_of m c main_arg8 (by decide))
theorem at6_v5 : V6 m (outs m) c main_v5 = extractStridedSlice S2x1024 ![0, 3072] (R m c) slices_S2x6144_S2x1024_0_3072 := (V6_of m (outs m) c main_v5 (by decide)).trans <| (V5_of m (outs m) c main_v5 (by decide)).trans <| (V4_of m (outs m) c main_v5 (by decide)).trans <| (V3_of m c main_v5 (by decide)).trans <| (V2_of m c main_v5 (by decide)).trans <| at1_v5 m c
theorem at6_v6 : V6 m (outs m) c main_v6 = extractStridedSlice S2x1024 ![0, 4096] (R m c) slices_S2x6144_S2x1024_0_4096 := (V6_of m (outs m) c main_v6 (by decide)).trans <| (V5_of m (outs m) c main_v6 (by decide)).trans <| (V4_of m (outs m) c main_v6 (by decide)).trans <| (V3_of m c main_v6 (by decide)).trans <| (V2_of m c main_v6 (by decide)).trans <| at1_v6 m c

/-- The rows after the attention, normalised and modulated. -/
def xm1 : FVec F S2x1024x1024 .f32 :=
  modu (normK (x1 m c)) (extractStridedSlice S2x1024 ![0, 3072] (R m c) slices_S2x6144_S2x1024_0_3072) (extractStridedSlice S2x1024 ![0, 4096] (R m c) slices_S2x6144_S2x1024_0_4096)

/-- The second call's operand: the device's part of the two layers' output. -/
theorem at7_v88 : V7 m (outs m) c main_v88 = shapeCast S2048x1024 (ffnK (xm1 m c) (A7 m c) (A8 m c)) shapeCasts_S2x1024x1024_S2048x1024 := by
  refine (b2_v88 (V6 m (outs m) c) ((at6_v62 m c).trans (congrArg meanCol (at6_v58 m c)).symm) ((at6_v63 m c).trans (congrArg varCol (at6_v58 m c)).symm)).trans ?_
  rw [at6_v58, at6_v5, at6_v6, at6_arg7, at6_arg8]
  rfl

theorem at8_v58 : V8 m (outs m) c main_v58 = x1 m c := (V8_of m (outs m) c main_v58 (by decide)).trans <| (V7_of m (outs m) c main_v58 (by decide)).trans <| at6_v58 m c
theorem at8_v7 : V8 m (outs m) c main_v7 = extractStridedSlice S2x1024 ![0, 5120] (R m c) slices_S2x6144_S2x1024_0_5120 := (V8_of m (outs m) c main_v7 (by decide)).trans <| (V7_of m (outs m) c main_v7 (by decide)).trans <| (V6_of m (outs m) c main_v7 (by decide)).trans <| (V5_of m (outs m) c main_v7 (by decide)).trans <| (V4_of m (outs m) c main_v7 (by decide)).trans <| (V3_of m c main_v7 (by decide)).trans <| (V2_of m c main_v7 (by decide)).trans <| at1_v7 m c

/-- The device's result. -/
theorem at9_v94 : V9 m (outs m) c main_v94 = resid (x1 m c) (extractStridedSlice S2x1024 ![0, 5120] (R m c) slices_S2x6144_S2x1024_0_5120) (res1 m c) := by
  refine (c0_v94 (V8 m (outs m) c)).trans ?_
  rw [at8_v58, at8_v7, V8_res]

end Cert.KernelIdeal.Pf

end
-- ==== Proof.Join.lean ====
module

public import proofs.«01_k».proof.Proof.Whole
public import proofs.«01_k».proof.Proof.Ends

@[expose] public section

set_option Elab.async false

noncomputable section

namespace Cert.Whole

open Idealize.ShloMosaic Idealize.ShloMosaic.TcCoe
open Cert.KernelIdeal Cert.KernelIdeal.Gen Cert.KernelIdeal.Pf Cert.ReferenceIdeal.Pf

/-! Every device's result is the reference's. -/

/-- A residual step with the flattened sum of the devices' parts is one with their sum. -/
theorem resid_sum (x : FVec Ideal S2x1024x1024 .f32) (g : FVec Ideal S2x1024 .f32) (y : Dev nD → FVec Ideal S2x1024x1024 .f32) (z : FVec Ideal S2x1024x1024 .f32)
    (h : ∀ j, ∑ d : Fin 32, y d j = z j) (Y : FVec Ideal S2048x1024 .f32)
    (hY : Y = (fun e => ∑ d : Dev nD, (shapeCast S2048x1024 (y d) shapeCasts_S2x1024x1024_S2048x1024 : S2048x1024.Idx → EReal) e : S2048x1024.Idx → EReal)) :
    resid x g Y = step x g z := by
  subst hY
  have e : shapeCast S2x1024x1024 (fun e => ∑ d : Dev nD, (shapeCast S2048x1024 (y d) shapeCasts_S2x1024x1024_S2048x1024 : S2048x1024.Idx → EReal) e : S2048x1024.Idx → EReal) shapeCasts_S2048x1024_S2x1024x1024 = z := by
    funext j
    rw [← h j]
    show ∑ d : Dev nD, shapeCast S2x1024x1024 (shapeCast S2048x1024 (y d) shapeCasts_S2x1024x1024_S2048x1024) shapeCasts_S2048x1024_S2x1024x1024 j = ∑ d : Dev nD, y d j
    refine Finset.sum_congr rfl fun d _ => ?_
    exact congrFun (shapeCast_shapeCast _ _ _) j
  unfold resid step
  rw [e]

variable (m : (ℓ : Loc nD τ sig) → Buf (Elt Ideal) ℓ)
  (X : FVec Ideal S2x1024x1024 .f32) (Wq Wk Wv : FVec Ideal Cert.ReferenceIdeal.S1024x32768 .f32) (Wo : FVec Ideal Cert.ReferenceIdeal.S32768x1024 .f32)
  (T : FVec Ideal S2x128 .f32) (Wt : FVec Ideal S128x6144 .f32) (W1 : FVec Ideal Cert.ReferenceIdeal.S1024x4096 .f32) (W2 : FVec Ideal Cert.ReferenceIdeal.S4096x1024 .f32)

theorem result (h0 : ∀ d, A0 m d = X)
    (h1 : ∀ d, A1 m d = Layout.block ⟨2, ![1024, 1024]⟩ ⟨2, ![1024, 32768]⟩ 1 32 d Wq (by decide))
    (h2 : ∀ d, A2 m d = Layout.block ⟨2, ![1024, 1024]⟩ ⟨2, ![1024, 32768]⟩ 1 32 d Wk (by decide))
    (h3 : ∀ d, A3 m d = Layout.block ⟨2, ![1024, 1024]⟩ ⟨2, ![1024, 32768]⟩ 1 32 d Wv (by decide))
    (h4 : ∀ d, A4 m d = Layout.block ⟨2, ![1024, 1024]⟩ ⟨2, ![32768, 1024]⟩ 0 32 d Wo (by decide))
    (h5 : ∀ d, A5 m d = T) (h6 : ∀ d, A6 m d = Wt)
    (h7 : ∀ d, A7 m d = Layout.block ⟨2, ![1024, 128]⟩ ⟨2, ![1024, 4096]⟩ 1 32 d W1 (by decide))
    (h8 : ∀ d, A8 m d = Layout.block ⟨2, ![128, 1024]⟩ ⟨2, ![4096, 1024]⟩ 0 32 d W2 (by decide)) (c : Dev nD) :
    V9 m (outs m) c main_v94 = fin (mid X Wq Wk Wv Wo (mods T Wt)) W1 W2 (mods T Wt) := by
  have hR : ∀ d, R m d = mods T Wt := fun d => by unfold R; rw [h5, h6]; rfl
  have hx : ∀ d, x1 m d = mid X Wq Wk Wv Wo (mods T Wt) := fun d => by
    unfold x1 mid
    rw [h0, hR]
    refine resid_sum X _ (fun d' => attnK (xm0 m d') (A1 m d') (A2 m d') (A3 m d') (A4 m d')) _ (fun j => ?_) _ ?_
    · refine Eq.trans (Finset.sum_congr rfl fun d' _ => ?_) (attn_total _ Wq Wk Wv Wo j)
      unfold xm0
      rw [h0, hR, h1, h2, h3, h4]
    · refine (res0_sum m d).trans (funext fun e => Finset.sum_congr rfl fun d' _ => ?_)
      rw [at3_v52]
  rw [at9_v94, hx, hR]
  unfold fin
  refine resid_sum _ _ (fun d' => ffnK (xm1 m d') (A7 m d') (A8 m d')) _ (fun j => ?_) _ ?_
  · refine Eq.trans (Finset.sum_congr rfl fun d' _ => ?_) (ffn_total _ W1 W2 j)
    unfold xm1
    rw [hx, hR, h7, h8]
  · refine (res1_sum m c).trans (funext fun e => Finset.sum_congr rfl fun d' _ => ?_)
    rw [at7_v88]

end Cert.Whole

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Join
public import Idealize.ShloMosaic.Adequacy
public import Idealize.ShloMosaic.Init

@[expose] public section

set_option Elab.async false

noncomputable section

namespace Cert.Proof

open Idealize.ShloMosaic Idealize.SL.Sem Idealize.ShloMosaic.TcCoe

section
open Cert.KernelIdeal Cert.KernelIdeal.Gen Cert.KernelIdeal.Pf
variable {F : FTy → Type} [FloatOps F] (m : (ℓ : Loc nD τ sig) → Buf (Elt F) ℓ) (ρ : Dev nD → PrngReg)

/-- A run's end holds its last contents in every array outside the regions. -/
theorem ends {r : PUnit × MemSt nD τ sig (Elt F)} (h : QC m r) (c : Dev nD) (ref : Ref sig .tc) (hs : (Proc.devRef .tc ref : DevRef τ sig) ∈ Pipeline.ucRefs τ sig) :
    r.2.mem ((c.tc : Thread nD τ).loc ref) = V9 m (outs m) c (Proc.devRef .tc ref) := h.1 c _ hs

/-- The nine arguments end as launched. -/
theorem args {r : PUnit × MemSt nD τ sig (Elt F)} (h : QC m r) (c : Dev nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) :=
  ⟨(ends m h c main_arg0 (Finset.mem_filter.mpr ⟨StableHlo.devRef_mem_tcRefs main_arg0, by decide⟩)).trans (V9_main_arg0 m (outs m) c),
    (ends m h c main_arg1 (Finset.mem_filter.mpr ⟨StableHlo.devRef_mem_tcRefs main_arg1, by decide⟩)).trans (V9_main_arg1 m (outs m) c),
    (ends m h c main_arg2 (Finset.mem_filter.mpr ⟨StableHlo.devRef_mem_tcRefs main_arg2, by decide⟩)).trans (V9_main_arg2 m (outs m) c),
    (ends m h c main_arg3 (Finset.mem_filter.mpr ⟨StableHlo.devRef_mem_tcRefs main_arg3, by decide⟩)).trans (V9_main_arg3 m (outs m) c),
    (ends m h c main_arg4 (Finset.mem_filter.mpr ⟨StableHlo.devRef_mem_tcRefs main_arg4, by decide⟩)).trans (V9_main_arg4 m (outs m) c),
    (ends m h c main_arg5 (Finset.mem_filter.mpr ⟨StableHlo.devRef_mem_tcRefs main_arg5, by decide⟩)).trans (V9_main_arg5 m (outs m) c),
    (ends m h c main_arg6 (Finset.mem_filter.mpr ⟨StableHlo.devRef_mem_tcRefs main_arg6, by decide⟩)).trans (V9_main_arg6 m (outs m) c),
    (ends m h c main_arg7 (Finset.mem_filter.mpr ⟨StableHlo.devRef_mem_tcRefs main_arg7, by decide⟩)).trans (V9_main_arg7 m (outs m) c),
    (ends m h c main_arg8 (Finset.mem_filter.mpr ⟨StableHlo.devRef_mem_tcRefs main_arg8, by decide⟩)).trans (V9_main_arg8 m (outs m) c)⟩

theorem frame_any :
    θ_run defs (onTc (τ := τ) (main (F := F))) ⟨m, fun _ => 0, ρ⟩ (fun r => (∀ c : Dev nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0) :=
  (θ_run defs _ _).mono (fun _ h => ⟨fun c => args m h c, h.2⟩) (run_main m ρ)

end

set_option maxRecDepth 100000 in
theorem defs₀_eq {F : FTy → Type} [FloatOps F] : Cert.Kernel.defs₀ (F := F) = Cert.KernelIdeal.defs₀ (F := F) := by
  funext p ℓ a
  rcases p with _ | _ | _
  · rcases ℓ with ⟨_ | _ | n, h⟩
    · obtain ⟨t, s⟩ := a
      rfl
    · obtain ⟨t, s⟩ := a
      rfl
    · exact absurd h (Nat.not_lt.2 (Nat.le_add_left _ _))
  · rfl
  · rfl

set_option maxRecDepth 100000 in
theorem defs_eq {F : FTy → Type} [FloatOps F] : Cert.Kernel.defs (F := F) = Cert.KernelIdeal.defs (F := F) :=
  (congrArg (Pipeline.defs Cert.Kernel.pcfgs) (defs₀_eq (F := F))).trans rfl

set_option maxRecDepth 100000 in
set_option maxHeartbeats 4000000 in
theorem part0_eq {F : FTy → Type} [FloatOps F] : Cert.Kernel.main_part0 (F := F) = Cert.KernelIdeal.main_part0 (F := F) := by
  funext d
  unfold Cert.Kernel.main_part0 Cert.KernelIdeal.main_part0
  rfl

set_option maxRecDepth 100000 in
set_option maxHeartbeats 4000000 in
theorem part1_eq {F : FTy → Type} [FloatOps F] : Cert.Kernel.main_part1 (F := F) = Cert.KernelIdeal.main_part1 (F := F) := by
  funext d
  unfold Cert.Kernel.main_part1 Cert.KernelIdeal.main_part1
  rfl

theorem main_eq {F : FTy → Type} [FloatOps F] : Cert.Kernel.main (F := F) = Cert.KernelIdeal.main (F := F) := by
  funext d
  unfold Cert.Kernel.main Cert.KernelIdeal.main
  rw [part0_eq, part1_eq]

set_option maxRecDepth 100000 in
/-- The kernel at machine floats: the run is proved for any float values, so it is read at these. -/
theorem frame_kernel : Cert.quiescent_Kernel := fun m ρ _ => by
  rw [defs_eq, main_eq]
  exact frame_any (F := Bits) m ρ

theorem frame_kernelIdeal : Cert.quiescent_KernelIdeal := fun m ρ _ => frame_any (F := Ideal) m ρ

theorem frame_reference : Cert.quiescent_ReferenceIdeal := fun m ρ _ =>
  (θ_run Cert.ReferenceIdeal.defs (onTc (τ := Cert.ReferenceIdeal.τ) (Cert.ReferenceIdeal.main (F := Ideal))) ⟨m, fun _ => 0, ρ⟩).mono (Q := fun r => _) (fun r h => ⟨fun c => (h c).2, Idealize.ShloMosaic.sem_eq_zero_of_no_sems (by decide) r.2⟩)
    (Cert.ReferenceIdeal.Value.run (F := Ideal) m ρ)

/-- The reference's result, from its nine arrays. -/
def result (m' : (ℓ : Loc Cert.ReferenceIdeal.nD Cert.ReferenceIdeal.τ Cert.ReferenceIdeal.sig) → Buf (Elt Ideal) ℓ) : FVec Ideal Cert.ReferenceIdeal.S2x1024x1024 .f32 :=
  let a (r : Ref Cert.ReferenceIdeal.sig .tc) := m' ((0 : Dev Cert.ReferenceIdeal.nD).tc.loc r)
  Cert.ReferenceIdeal.Pf.fin (Cert.ReferenceIdeal.Pf.mid (a Cert.ReferenceIdeal.main_arg0) (a Cert.ReferenceIdeal.main_arg1) (a Cert.ReferenceIdeal.main_arg2) (a Cert.ReferenceIdeal.main_arg3) (a Cert.ReferenceIdeal.main_arg4)
      (Cert.ReferenceIdeal.Pf.mods (a Cert.ReferenceIdeal.main_arg5) (a Cert.ReferenceIdeal.main_arg6)))
    (a Cert.ReferenceIdeal.main_arg7) (a Cert.ReferenceIdeal.main_arg8) (Cert.ReferenceIdeal.Pf.mods (a Cert.ReferenceIdeal.main_arg5) (a Cert.ReferenceIdeal.main_arg6))

theorem reference_result (V : Valuation Cert.ReferenceIdeal.τ Cert.ReferenceIdeal.sig (Elt Ideal)) :
    Cert.ReferenceIdeal.Pf.step (Cert.ReferenceIdeal.Value.res_main_v52 V) (extractStridedSlice Cert.ReferenceIdeal.S2x1024 ![0, 5120] (Cert.ReferenceIdeal.Value.res_main_v0 V) Cert.ReferenceIdeal.Gen.slices_S2x6144_S2x1024_0_5120)
        (Cert.ReferenceIdeal.Pf.outR (Cert.ReferenceIdeal.Value.res_main_v73 V) (V Cert.ReferenceIdeal.main_arg8))
      = Cert.ReferenceIdeal.Pf.fin (Cert.ReferenceIdeal.Pf.mid (V Cert.ReferenceIdeal.main_arg0) (V Cert.ReferenceIdeal.main_arg1) (V Cert.ReferenceIdeal.main_arg2) (V Cert.ReferenceIdeal.main_arg3) (V Cert.ReferenceIdeal.main_arg4)
          (Cert.ReferenceIdeal.Pf.mods (V Cert.ReferenceIdeal.main_arg5) (V Cert.ReferenceIdeal.main_arg6)))
        (V Cert.ReferenceIdeal.main_arg7) (V Cert.ReferenceIdeal.main_arg8) (Cert.ReferenceIdeal.Pf.mods (V Cert.ReferenceIdeal.main_arg5) (V Cert.ReferenceIdeal.main_arg6)) := by
  rw [← Cert.ReferenceIdeal.Pf.mid_eq V]
  exact Cert.ReferenceIdeal.Pf.fin_eq V

theorem algebraic : Cert.algebraic_KernelIdeal_ReferenceIdeal := fun m ρ m' ρ' _ hm => by
  refine ⟨result m', ?_, ?_⟩
  · refine (θ_run Cert.KernelIdeal.defs _ _).mono (fun r h c => ⟨?_, args m h c⟩) (Cert.KernelIdeal.Pf.run_main (F := Ideal) m ρ)
    refine (ends m h c Cert.KernelIdeal.main_v94 (Finset.mem_filter.mpr ⟨StableHlo.devRef_mem_tcRefs Cert.KernelIdeal.main_v94, by decide⟩)).trans ?_
    exact Cert.Whole.result m _ _ _ _ _ _ _ _ _ (fun d => (hm d).1) (fun d => (hm d).2.1) (fun d => (hm d).2.2.1) (fun d => (hm d).2.2.2.1) (fun d => (hm d).2.2.2.2.1)
      (fun d => (hm d).2.2.2.2.2.1) (fun d => (hm d).2.2.2.2.2.2.1) (fun d => (hm d).2.2.2.2.2.2.2.1) (fun d => (hm d).2.2.2.2.2.2.2.2) c
  · exact (θ_run Cert.ReferenceIdeal.defs (onTc (τ := Cert.ReferenceIdeal.τ) (Cert.ReferenceIdeal.main (F := Ideal))) ⟨m', fun _ => 0, ρ'⟩).mono (Q := fun r => _)
      (fun r h => ⟨(h 0).1.trans (reference_result (StableHlo.launchContents m' 0)), (h 0).2⟩) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
